-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tables_agree : Cert.Pre_tables_agree.Facts] (m : (ℓ : Loc Cert.Kernel2.nD Cert.Kernel2.τ Cert.Kernel2.sig) → Buf (Elt Bits) ℓ) : Prop :=
  ∀ c : Dev Cert.Kernel2.nD,
    (Cert.Pre_tables_agree.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).1 = (fun _ => 1#1)
    ∧ (Cert.Pre_tables_agree.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.1 = (fun _ => 1#1)
    ∧ (Cert.Pre_tables_agree.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.2.1 = (fun _ => 1#1)
    ∧ (Cert.Pre_tables_agree.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.2.2.1 = (fun _ => 1#1)
    ∧ (Cert.Pre_tables_agree.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.2.2.2 = (fun _ => 1#1)

def Pre_Kernel2Ideal [hPre_tables_agree : Cert.Pre_tables_agree.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_agree.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_tables_agree.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_tables_agree.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_tables_agree.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_tables_agree.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal [hPre_tables_agree : Cert.Pre_tables_agree.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_agree.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_tables_agree.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_tables_agree.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_tables_agree.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_tables_agree.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_qk [hPre_finite_qk : Cert.Pre_finite_qk.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_qk.fn (F := Ideal) (m ((c.tc : Thread Cert.Kernel4Ideal.nD Cert.Kernel4Ideal.τ).loc Cert.Kernel4Ideal.main_arg0))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_qk [hPre_finite_qk : Cert.Pre_finite_qk.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_qk.fn (F := Ideal) (m ((c.tc : Thread Cert.Reference4Ideal.nD Cert.Reference4Ideal.τ).loc Cert.Reference4Ideal.main_arg0))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tables_agree : Cert.Pre_tables_agree.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tables_agree : Cert.Pre_tables_agree.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_tables_agree : Cert.Pre_tables_agree.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Kernel4Ideal_pre_finite_qk [hKernel4Ideal : Cert.Kernel4Ideal.Facts] [hPre_finite_qk : Cert.Pre_finite_qk.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_qk m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Reference4Ideal_pre_finite_qk [hReference4Ideal : Cert.Reference4Ideal.Facts] [hPre_finite_qk : Cert.Pre_finite_qk.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_qk m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_rows_of_tiles [hKernel2Ideal : Cert.Kernel2Ideal.Facts] [hReference2Ideal : Cert.Reference2Ideal.Facts] [hPre_tables_agree : Cert.Pre_tables_agree.Facts] [hOn_rows_of_tiles : Cert.On_rows_of_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![49152, 1024]⟩ : Shape).Idx, (Cert.On_rows_of_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![49152, 1024]⟩ : Shape).Idx, (Cert.On_rows_of_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Reference2Ideal.nD Cert.Reference2Ideal.τ).loc Cert.Reference2Ideal.main_v14) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "mask" .f32 0xF149F2CA#32 ⊥

def algebraic_Kernel4Ideal_Reference4Ideal_pre_finite_qk [hKernel4Ideal : Cert.Kernel4Ideal.Facts] [hReference4Ideal : Cert.Reference4Ideal.Facts] [hPre_finite_qk : Cert.Pre_finite_qk.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_qk m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_rows_in_range : Cert.Pre_rows_in_range.Facts) (hPre_tables_agree : Cert.Pre_tables_agree.Facts) (hPre_finite : Cert.Pre_finite.Facts) (hPre_finite_qk : Cert.Pre_finite_qk.Facts) (hOn_rows_of_tiles : Cert.On_rows_of_tiles.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ quiescent_Reference (hReference := hReference) (hPre_rows_in_range := hPre_rows_in_range)
    ∧ quiescent_Kernel2 (hKernel2 := hKernel2) (hPre_tables_agree := hPre_tables_agree)
    ∧ quiescent_Kernel2Ideal (hKernel2Ideal := hKernel2Ideal) (hPre_tables_agree := hPre_tables_agree)
    ∧ quiescent_Reference2Ideal (hReference2Ideal := hReference2Ideal) (hPre_tables_agree := hPre_tables_agree)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite_qk (hKernel4Ideal := hKernel4Ideal) (hPre_finite_qk := hPre_finite_qk)
    ∧ quiescent_Reference4Ideal (hReference4Ideal := hReference4Ideal)
    ∧ quiescent_Reference4Ideal_pre_finite_qk (hReference4Ideal := hReference4Ideal) (hPre_finite_qk := hPre_finite_qk)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Kernel2_Kernel2Ideal
    ∧ algebraic_Kernel2Ideal_Reference2Ideal_on_rows_of_tiles (hKernel2Ideal := hKernel2Ideal) (hReference2Ideal := hReference2Ideal) (hPre_tables_agree := hPre_tables_agree) (hOn_rows_of_tiles := hOn_rows_of_tiles)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite_qk (hKernel4Ideal := hKernel4Ideal) (hReference4Ideal := hReference4Ideal) (hPre_finite_qk := hPre_finite_qk)
-- ==== On_rows_of_tiles.lean ====
abbrev S8x128 : Shape := ⟨2, ![8, 128]⟩
abbrev S49152x1024 : Shape := ⟨2, ![49152, 1024]⟩
abbrev S32x1024x256 : Shape := ⟨3, ![32, 1024, 256]⟩
abbrev S32x256x1024 : Shape := ⟨3, ![32, 256, 1024]⟩
abbrev S1x96 : Shape := ⟨2, ![1, 96]⟩
abbrev S96 : Shape := ⟨1, ![96]⟩
abbrev S96x512 : Shape := ⟨2, ![96, 512]⟩
abbrev S49152 : Shape := ⟨1, ![49152]⟩
abbrev S_ : Shape := ⟨0, ![]⟩
abbrev S49152x1 : Shape := ⟨2, ![49152, 1]⟩

class Facts : Prop where
  slices_S8x128_S1x96_1_0 : S8x128.Slices ![1, 0] S1x96
  shapeCasts_S1x96_S96 : S1x96.ShapeCasts S96
  bcast_S96_S96x512_0 : S96.BroadcastsInDim S96x512 (![0] : Fin 1 → Fin S96x512.rank)
  shapeCasts_S96x512_S49152 : S96x512.ShapeCasts S49152
  bcast_S_S49152 : S_.BroadcastsInDim S49152 (![] : Fin 0 → Fin S49152.rank)
  bcast_S49152_S49152x1_0 : S49152.BroadcastsInDim S49152x1 (![0] : Fin 1 → Fin S49152x1.rank)
  bcast_S49152x1_S49152x1024_0_1 : S49152x1.BroadcastsInDim S49152x1024 (![0, 1] : Fin 2 → Fin S49152x1024.rank)

variable [Facts]

def fn {F : FTy → Type} [FloatOps F] (main_arg0 : IVec S8x128 32) (main_arg1 : FVec F S49152x1024 .bf16) (main_arg2 : FVec F S32x1024x256 .f32) (main_arg3 : FVec F S32x1024x256 .f32) (main_arg4 : FVec F S32x256x1024 .f32) : IVec S49152x1024 1 :=
  let main_v0 : IVec S1x96 32 := (extractStridedSlice S1x96 ![1, 0] · slices_S8x128_S1x96_1_0) main_arg0
  let main_v1 : IVec S96 32 := shapeCast S96 main_v0 shapeCasts_S1x96_S96
  let main_v2 : IVec S96x512 32 := broadcastInDim S96x512 ![0] bcast_S96_S96x512_0 main_v1
  let main_v3 : IVec S49152 32 := shapeCast S49152 main_v2 shapeCasts_S96x512_S49152
  let main_c : IVec S_ 32 := constantI S_ 32 1#32
  let main_v4 : IVec S49152 32 := broadcastInDim S49152 ![] bcast_S_S49152 main_c
  let main_v5 : IVec S49152 1 := cmpi .eq main_v3 main_v4
  let main_v6 : IVec S49152x1 1 := broadcastInDim S49152x1 ![0] bcast_S49152_S49152x1_0 main_v5
  let main_v7 : IVec S49152x1024 1 := broadcastInDim S49152x1024 ![0, 1] bcast_S49152x1_S49152x1024_0_1 main_v6
  main_v7
-- ==== Pre_finite.lean ====
abbrev S4096x32x128 : Shape := ⟨3, ![4096, 32, 128]⟩
abbrev S16384x1024 : Shape := ⟨2, ![16384, 1024]⟩
abbrev S1x8x2048x256 : Shape := ⟨4, ![1, 8, 2048, 256]⟩
abbrev S8x16384 : Shape := ⟨2, ![8, 16384]⟩
abbrev S1x256x1024 : Shape := ⟨3, ![1, 256, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S1x8x2048x256 : S_.BroadcastsInDim S1x8x2048x256 (![] : Fin 0 → Fin S1x8x2048x256.rank)
  bcast_S_S1x256x1024 : S_.BroadcastsInDim S1x256x1024 (![] : Fin 0 → Fin S1x256x1024.rank)

variable [Facts]

def fn {F : FTy → Type} [FloatOps F] (main_arg0 : IVec S4096x32x128 32) (main_arg1 : FVec F S16384x1024 .f32) (main_arg2 : FVec F S1x8x2048x256 .f32) (main_arg3 : FVec F S8x16384 .f32) (main_arg4 : FVec F S1x256x1024 .f32) (main_arg5 : FVec F S1x1024x1024 .f32) (main_arg6 : FVec F S1x1024 .f32) (main_arg7 : FVec F S1x1024 .f32) : IVec S1x8x2048x256 1 × IVec S1x256x1024 1 :=
  let main_v0 : FVec F S1x8x2048x256 .f32 := Host.absf main_arg2
  let main_cst : FVec F S_ .f32 := constant S_ .f32 0x7F800000#32
  let main_v1 : FVec F S1x8x2048x256 .f32 := broadcastInDim S1x8x2048x256 ![] bcast_S_S1x8x2048x256 main_cst
  let main_v2 : IVec S1x8x2048x256 1 := cmpf .olt main_v0 main_v1
  let main_v3 : FVec F S1x256x1024 .f32 := Host.absf main_arg4
  let main_cst_0 : FVec F S_ .f32 := constant S_ .f32 0x7F800000#32
  let main_v4 : FVec F S1x256x1024 .f32 := broadcastInDim S1x256x1024 ![] bcast_S_S1x256x1024 main_cst_0
  let main_v5 : IVec S1x256x1024 1 := cmpf .olt main_v3 main_v4
  (main_v2, main_v5)
-- ==== Pre_finite_qk.lean ====
abbrev S8x16x128x1536 : Shape := ⟨4, ![8, 16, 128, 1536]⟩
abbrev S8x16x128x1024 : Shape := ⟨4, ![8, 16, 128, 1024]⟩
abbrev S_ : Shape := ⟨0, ![]⟩

class Facts : Prop where
  slices_S8x16x128x1536_S8x16x128x1024_0_0_0_0 : S8x16x128x1536.Slices ![0, 0, 0, 0] S8x16x128x1024
  bitsLt_bf16_f32 : FTy.bits .bf16 < FTy.bits .f32
  bcast_S_S8x16x128x1024 : S_.BroadcastsInDim S8x16x128x1024 (![] : Fin 0 → Fin S8x16x128x1024.rank)

variable [Facts]

def fn {F : FTy → Type} [FloatOps F] (main_arg0 : FVec F S8x16x128x1536 .bf16) : IVec S8x16x128x1024 1 :=
  let main_v0 : FVec F S8x16x128x1024 .bf16 := (extractStridedSlice S8x16x128x1024 ![0, 0, 0, 0] · slices_S8x16x128x1536_S8x16x128x1024_0_0_0_0) main_arg0
  let main_v1 : FVec F S8x16x128x1024 .f32 := (extf .f32 · bitsLt_bf16_f32) main_v0
  let main_v2 : FVec F S8x16x128x1024 .f32 := Host.absf main_v1
  let main_cst : FVec F S_ .f32 := constant S_ .f32 0x7F800000#32
  let main_v3 : FVec F S8x16x128x1024 .f32 := broadcastInDim S8x16x128x1024 ![] bcast_S_S8x16x128x1024 main_cst
  let main_v4 : IVec S8x16x128x1024 1 := cmpf .olt main_v2 main_v3
  main_v4
-- ==== Pre_rows_in_range.lean ====
abbrev S196608x128 : Shape := ⟨2, ![196608, 128]⟩
abbrev S2x65536 : Shape := ⟨2, ![2, 65536]⟩
abbrev S_ : Shape := ⟨0, ![]⟩

class Facts : Prop where
  bcast_S_S2x65536 : S_.BroadcastsInDim S2x65536 (![] : Fin 0 → Fin S2x65536.rank)

variable [Facts]

def fn {F : FTy → Type} [FloatOps F] (main_arg0 : IVec S196608x128 32) (main_arg1 : IVec S2x65536 32) : IVec S2x65536 1 :=
  let main_c : IVec S_ 32 := constantI S_ 32 0#32
  let main_v0 : IVec S2x65536 32 := broadcastInDim S2x65536 ![] bcast_S_S2x65536 main_c
  let main_v1 : IVec S2x65536 1 := cmpi .sge main_arg1 main_v0
  let main_c_0 : IVec S_ 32 := constantI S_ 32 196608#32
  let main_v2 : IVec S2x65536 32 := broadcastInDim S2x65536 ![] bcast_S_S2x65536 main_c_0
  let main_v3 : IVec S2x65536 1 := cmpi .slt main_arg1 main_v2
  let main_v4 : IVec S2x65536 1 := andi main_v1 main_v3
  main_v4
-- ==== Pre_tables_agree.lean ====
abbrev S8x128 : Shape := ⟨2, ![8, 128]⟩
abbrev S49152x1024 : Shape := ⟨2, ![49152, 1024]⟩
abbrev S32x1024x256 : Shape := ⟨3, ![32, 1024, 256]⟩
abbrev S32x256x1024 : Shape := ⟨3, ![32, 256, 1024]⟩
abbrev S1x96 : Shape := ⟨2, ![1, 96]⟩
abbrev S96 : Shape := ⟨1, ![96]⟩
abbrev S95 : Shape := ⟨1, ![95]⟩
abbrev S_ : Shape := ⟨0, ![]⟩
abbrev S1 : Shape := ⟨1, ![1]⟩

class Facts : Prop where
  slices_S8x128_S1x96_0_0 : S8x128.Slices ![0, 0] S1x96
  shapeCasts_S1x96_S96 : S1x96.ShapeCasts S96
  slices_S8x128_S1x96_2_0 : S8x128.Slices ![2, 0] S1x96
  slices_S8x128_S1x96_3_0 : S8x128.Slices ![3, 0] S1x96
  slices_S96_S95_1 : S96.Slices ![1] S95
  slices_S96_S95_0 : S96.Slices ![0] S95
  bcast_S_S96 : S_.BroadcastsInDim S96 (![] : Fin 0 → Fin S96.rank)
  slices_S96_S1_0 : S96.Slices ![0] S1
  bcast_S_S1 : S_.BroadcastsInDim S1 (![] : Fin 0 → Fin S1.rank)
  bcast_S_S95 : S_.BroadcastsInDim S95 (![] : Fin 0 → Fin S95.rank)
  slices_S96_S1_95 : S96.Slices ![95] S1

variable [Facts]

def fn_where {F : FTy → Type} [FloatOps F] (arg0 : IVec S95 1) (arg1 : IVec S95 32) (arg2 : IVec S95 32) : IVec S95 32 :=
  let v0 : IVec S95 32 := select arg0 arg1 arg2
  v0

def fn_part1 {F : FTy → Type} [FloatOps F] (main_v1 : IVec S96 32) (main_v3 : IVec S96 32) (main_v5 : IVec S96 32) (main_v8 : IVec S95 1) (main_v13 : IVec S96 1) (main_v16 : IVec S1 1) (main_v17 : IVec S95 32) (main_v18 : IVec S95 32) (main_v19 : IVec S95 32) : IVec S96 1 × IVec S1 1 × IVec S95 1 × IVec S1 1 × IVec S95 1 :=
  let main_v20 : IVec S95 32 := subi main_v19 main_v18
  let main_v21 : IVec S95 32 := (extractStridedSlice S95 ![0] · slices_S96_S95_0) main_v3
  let main_v22 : IVec S95 32 := fn_where (F := F) main_v8 main_v20 main_v21
  let main_v23 : IVec S95 1 := cmpi .eq main_v17 main_v22
  let main_v24 : IVec S1 32 := (extractStridedSlice S1 ![95] · slices_S96_S1_95) main_v5
  let main_c_3 : IVec S_ 32 := constantI S_ 32 4294967295#32
  let main_v25 : IVec S1 32 := broadcastInDim S1 ![] bcast_S_S1 main_c_3
  let main_v26 : IVec S1 1 := cmpi .eq main_v24 main_v25
  let main_v27 : IVec S95 32 := (extractStridedSlice S95 ![0] · slices_S96_S95_0) main_v5
  let main_v28 : IVec S95 32 := (extractStridedSlice S95 ![1] · slices_S96_S95_1) main_v1
  let main_v29 : IVec S95 32 := (extractStridedSlice S95 ![1] · slices_S96_S95_1) main_v5
  let main_v30 : IVec S95 32 := fn_where (F := F) main_v8 main_v28 main_v29
  let main_v31 : IVec S95 1 := cmpi .eq main_v27 main_v30
  (main_v13, main_v16, main_v23, main_v26, main_v31)

def fn {F : FTy → Type} [FloatOps F] (main_arg0 : IVec S8x128 32) (main_arg1 : FVec F S49152x1024 .bf16) (main_arg2 : FVec F S32x1024x256 .f32) (main_arg3 : FVec F S32x1024x256 .f32) (main_arg4 : FVec F S32x256x1024 .f32) : IVec S96 1 × IVec S1 1 × IVec S95 1 × IVec S1 1 × IVec S95 1 :=
  let main_v0 : IVec S1x96 32 := (extractStridedSlice S1x96 ![0, 0] · slices_S8x128_S1x96_0_0) main_arg0
  let main_v1 : IVec S96 32 := shapeCast S96 main_v0 shapeCasts_S1x96_S96
  let main_v2 : IVec S1x96 32 := (extractStridedSlice S1x96 ![2, 0] · slices_S8x128_S1x96_2_0) main_arg0
  let main_v3 : IVec S96 32 := shapeCast S96 main_v2 shapeCasts_S1x96_S96
  let main_v4 : IVec S1x96 32 := (extractStridedSlice S1x96 ![3, 0] · slices_S8x128_S1x96_3_0) main_arg0
  let main_v5 : IVec S96 32 := shapeCast S96 main_v4 shapeCasts_S1x96_S96
  let main_v6 : IVec S95 32 := (extractStridedSlice S95 ![1] · slices_S96_S95_1) main_v1
  let main_v7 : IVec S95 32 := (extractStridedSlice S95 ![0] · slices_S96_S95_0) main_v1
  let main_v8 : IVec S95 1 := cmpi .ne main_v6 main_v7
  let main_c : IVec S_ 32 := constantI S_ 32 0#32
  let main_v9 : IVec S96 32 := broadcastInDim S96 ![] bcast_S_S96 main_c
  let main_v10 : IVec S96 1 := cmpi .sge main_v1 main_v9
  let main_c_0 : IVec S_ 32 := constantI S_ 32 32#32
  let main_v11 : IVec S96 32 := broadcastInDim S96 ![] bcast_S_S96 main_c_0
  let main_v12 : IVec S96 1 := cmpi .slt main_v1 main_v11
  let main_v13 : IVec S96 1 := andi main_v10 main_v12
  let main_v14 : IVec S1 32 := (extractStridedSlice S1 ![0] · slices_S96_S1_0) main_v3
  let main_c_1 : IVec S_ 32 := constantI S_ 32 0#32
  let main_v15 : IVec S1 32 := broadcastInDim S1 ![] bcast_S_S1 main_c_1
  let main_v16 : IVec S1 1 := cmpi .eq main_v14 main_v15
  let main_v17 : IVec S95 32 := (extractStridedSlice S95 ![1] · slices_S96_S95_1) main_v3
  let main_v18 : IVec S95 32 := (extractStridedSlice S95 ![0] · slices_S96_S95_0) main_v3
  let main_c_2 : IVec S_ 32 := constantI S_ 32 1#32
  let main_v19 : IVec S95 32 := broadcastInDim S95 ![] bcast_S_S95 main_c_2
  fn_part1 (F := F) main_v1 main_v3 main_v5 main_v8 main_v13 main_v16 main_v17 main_v18 main_v19
-- ==== Kernel.lean ====
abbrev S196608x128 : Shape := ⟨2, ![196608, 128]⟩
abbrev S2x65536 : Shape := ⟨2, ![2, 65536]⟩
abbrev S131072 : Shape := ⟨1, ![131072]⟩
abbrev S1024x128 : Shape := ⟨2, ![1024, 128]⟩
abbrev S131072x128 : Shape := ⟨2, ![131072, 128]⟩
abbrev S2 : Shape := ⟨1, ![2]⟩
abbrev S2x2x128 : Shape := ⟨3, ![2, 2, 128]⟩
abbrev S2x256x128 : Shape := ⟨3, ![2, 256, 128]⟩
abbrev S1x2x128 : Shape := ⟨3, ![1, 2, 128]⟩
abbrev S2x128 : Shape := ⟨2, ![2, 128]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S128x128 : Shape := ⟨2, ![128, 128]⟩
abbrev S1x128 : Shape := ⟨2, ![1, 128]⟩
abbrev S128 : Shape := ⟨1, ![128]⟩

abbrev nBuf : Table → Nat
  | .hbm => 5
  | .local .scVector .vmem => 2
  | _ => 0

abbrev bufTy : (tb : Table) → Fin (nBuf tb) → BufTy
  | .hbm, ⟨0, _⟩ => ⟨S196608x128, .i32⟩
  | .hbm, ⟨1, _⟩ => ⟨S2x65536, .i32⟩
  | .hbm, ⟨2, _⟩ => ⟨S131072, .i32⟩
  | .hbm, ⟨3, _⟩ => ⟨S1024x128, .i32⟩
  | .hbm, ⟨4, _⟩ => ⟨S131072x128, .i32⟩
  | .local .scVector .vmem, ⟨0, _⟩ => ⟨S2x2x128, .i32⟩
  | .local .scVector .vmem, ⟨1, _⟩ => ⟨S2x256x128, .i32⟩
  | _, _ => ⟨S196608x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_16_r0 : BitVec 32 := 0#32
  let c0_i32_17_r0 : BitVec 32 := 0#32
  ![v21_r0.toNat, 0, 0]
def k0_off2 (i : grid0.Coords) : Fin 2 → Nat :=
  let c2_i32_15_r0 : BitVec 32 := 2#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c2_i32_15_r0 v7_r0
  let c0_i32_18_r0 : BitVec 32 := 0#32
  ![v22_r0.toNat, 0]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_28_r0 : BitVec 32 := 0#32
  let c16_i32_29_r0 : BitVec 32 := 16#32
  let v32_r0 : BitVec 32 := Scalar.addi c0_i32_28_r0 c16_i32_29_r0
  let c1_i32_30_r0 : BitVec 32 := 1#32
  ⟨c0_i32_28_r0, v32_r0, c1_i32_30_r0⟩
def k0_off4 (arg7_r0 : BitVec 32) : Fin 3 → Nat :=
  let c2_i32_142_r0 : BitVec 32 := 2#32
  let v184_r0 : BitVec 32 := Scalar.remui arg7_r0 c2_i32_142_r0
  let c0_i32_144_r0 : BitVec 32 := 0#32
  let c0_i32_145_r0 : BitVec 32 := 0#32
  ![v184_r0.toNat, 0, 0]
def k0_cond1 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg11_r0 v4
  let true_62_r0 : BitVec 1 := 1#1
  let c1_i32_61_r0 : BitVec 32 := 1#32
  let v72_r0 : BitVec 32 := Scalar.addi arg11_r0 c1_i32_61_r0
  let v73_r0 : BitVec 32 := Scalar.select true_62_r0 v72_r0 arg11_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k0_t1
  let c15_i32_69_r0 : BitVec 32 := 15#32
  let v83_r0 : BitVec 1 := Scalar.cmpi .sge arg6_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k0_off5 (i : grid0.Coords) (arg11_r0 : BitVec 32) : Fin 2 → Nat :=
  let c2_i32_143_r0 : BitVec 32 := 2#32
  let true_62_r0 : BitVec 1 := 1#1
  let c1_i32_61_r0 : BitVec 32 := 1#32
  let v72_r0 : BitVec 32 := Scalar.addi arg11_r0 c1_i32_61_r0
  let v73_r0 : BitVec 32 := Scalar.select true_62_r0 v72_r0 arg11_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v185_r0 : BitVec 32 := Scalar.muli c2_i32_143_r0 v76_r0
  let c0_i32_146_r0 : BitVec 32 := 0#32
  ![v185_r0.toNat, 0]
def k0_off6 (arg7_r0 : BitVec 32) : Fin 1 → Nat :=
  let c2_i32_142_r0 : BitVec 32 := 2#32
  let v184_r0 : BitVec 32 := Scalar.remui arg7_r0 c2_i32_142_r0
  ![v184_r0.toNat]
def k0_off7 (arg8_r0 : BitVec 32) : Fin 3 → Nat :=
  let c2_i32_143_r0 : BitVec 32 := 2#32
  let v185_r0 : BitVec 32 := Scalar.remui arg8_r0 c2_i32_143_r0
  let c0_i32_144_r0 : BitVec 32 := 0#32
  let c0_i32_145_r0 : BitVec 32 := 0#32
  ![v185_r0.toNat, 0, 0]
def k0_cond2 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg11_r0 v4
  let true_58_r0 : BitVec 1 := 1#1
  let c1_i32_57_r0 : BitVec 32 := 1#32
  let v67_r0 : BitVec 32 := Scalar.subi arg11_r0 c1_i32_57_r0
  let v68_r0 : BitVec 32 := Scalar.select true_58_r0 v67_r0 arg11_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k0_t1
  let c0_i32_55_r0 : BitVec 32 := 0#32
  let v64_r0 : BitVec 1 := Scalar.cmpi .eq arg6_r0 c0_i32_55_r0
  let v97_r0 : BitVec 1 := Scalar.ori v96_r0 v64_r0
  let c0_i32_77_r0 : BitVec 32 := 0#32
  let v98_r0 : BitVec 1 := Scalar.cmpi .sge arg6_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k0_off8 (i : grid0.Coords) (arg11_r0 : BitVec 32) : Fin 2 → Nat :=
  let c2_i32_142_r0 : BitVec 32 := 2#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg11_r0 v4
  let v184_r0 : BitVec 32 := Scalar.muli c2_i32_142_r0 v66_r0
  let c0_i32_146_r0 : BitVec 32 := 0#32
  ![v184_r0.toNat, 0]
def k0_off9 (arg8_r0 : BitVec 32) : Fin 1 → Nat :=
  let c2_i32_143_r0 : BitVec 32 := 2#32
  let v185_r0 : BitVec 32 := Scalar.remui arg8_r0 c2_i32_143_r0
  ![v185_r0.toNat]
def k0_off10 (arg9_r0 : BitVec 32) : Fin 3 → Nat :=
  let c2_i32_82_r0 : BitVec 32 := 2#32
  let v109_r0 : BitVec 32 := Scalar.remui arg9_r0 c2_i32_82_r0
  let c0_i32_85_r0 : BitVec 32 := 0#32
  let c0_i32_86_r0 : BitVec 32 := 0#32
  ![v109_r0.toNat, 0, 0]

def k0_chk2 (arg9_r0 : BitVec 32) : Prop :=
  (∀ a, (k0_off10 arg9_r0) a + S1x256x128.size a ≤ S2x256x128.size a)
theorem k0_off10_inb : ∀ (arg9_r0 : BitVec 32) (k0_hw2 : k0_chk2 arg9_r0), ∀ a, (k0_off10 arg9_r0) a + S1x256x128.size a ≤ S2x256x128.size a := fun arg9_r0 k0_hw2 => k0_hw2

def k0_off11 (arg8_r0 : BitVec 32) : Fin 3 → Nat :=
  let c2_i32_81_r0 : BitVec 32 := 2#32
  let v108_r0 : BitVec 32 := Scalar.remui arg8_r0 c2_i32_81_r0
  let c0_i32_89_r0 : BitVec 32 := 0#32
  let c0_i32_90_r0 : BitVec 32 := 0#32
  ![v108_r0.toNat, 0, 0]

def k0_chk3 (arg8_r0 : BitVec 32) : Prop :=
  (∀ a, (k0_off11 arg8_r0) a + S1x2x128.size a ≤ S2x2x128.size a)
theorem k0_off11_inb : ∀ (arg8_r0 : BitVec 32) (k0_hw3 : k0_chk3 arg8_r0), ∀ a, (k0_off11 arg8_r0) a + S1x2x128.size a ≤ S2x2x128.size a := fun arg8_r0 k0_hw3 => k0_hw3

def k0_off12 (arg9_r0 : BitVec 32) : Fin 3 → Nat :=
  let c2_i32_142_r0 : BitVec 32 := 2#32
  let v184_r0 : BitVec 32 := Scalar.remui arg9_r0 c2_i32_142_r0
  let c0_i32_144_r0 : BitVec 32 := 0#32
  let c0_i32_145_r0 : BitVec 32 := 0#32
  ![v184_r0.toNat, 0, 0]
def k0_cond5 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg11_r0 v4
  let true_62_r0 : BitVec 1 := 1#1
  let c1_i32_61_r0 : BitVec 32 := 1#32
  let v72_r0 : BitVec 32 := Scalar.addi arg11_r0 c1_i32_61_r0
  let v73_r0 : BitVec 32 := Scalar.select true_62_r0 v72_r0 arg11_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v155_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k0_t1
  let c15_i32_56_r0 : BitVec 32 := 15#32
  let v65_r0 : BitVec 1 := Scalar.cmpi .eq arg6_r0 c15_i32_56_r0
  let v156_r0 : BitVec 1 := Scalar.ori v155_r0 v65_r0
  let v157_r0 : BitVec 32 := Scalar.extui v156_r0
  let c0_i32_127_r0 : BitVec 32 := 0#32
  let v158_r0 : BitVec 1 := Scalar.cmpi .ne v157_r0 c0_i32_127_r0
  v158_r0

def k0_off13 (i : grid0.Coords) (arg11_r0 : BitVec 32) : Fin 2 → Nat :=
  let c256_i32_143_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg11_r0 v4
  let v185_r0 : BitVec 32 := Scalar.muli c256_i32_143_r0 v66_r0
  let c0_i32_146_r0 : BitVec 32 := 0#32
  ![v185_r0.toNat, 0]
def k0_off14 (arg9_r0 : BitVec 32) : Fin 1 → Nat :=
  let c2_i32_142_r0 : BitVec 32 := 2#32
  let v184_r0 : BitVec 32 := Scalar.remui arg9_r0 c2_i32_142_r0
  ![v184_r0.toNat]
def k0_off15 (arg10_r0 : BitVec 32) : Fin 3 → Nat :=
  let c2_i32_142_r0 : BitVec 32 := 2#32
  let v184_r0 : BitVec 32 := Scalar.remui arg10_r0 c2_i32_142_r0
  let c0_i32_144_r0 : BitVec 32 := 0#32
  let c0_i32_145_r0 : BitVec 32 := 0#32
  ![v184_r0.toNat, 0, 0]
def k0_cond7 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg11_r0 v4
  let true_58_r0 : BitVec 1 := 1#1
  let c1_i32_57_r0 : BitVec 32 := 1#32
  let v67_r0 : BitVec 32 := Scalar.subi arg11_r0 c1_i32_57_r0
  let v68_r0 : BitVec 32 := Scalar.select true_58_r0 v67_r0 arg11_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v168_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k0_t1
  let c0_i32_55_r0 : BitVec 32 := 0#32
  let v64_r0 : BitVec 1 := Scalar.cmpi .eq arg6_r0 c0_i32_55_r0
  let true_133_r0 : BitVec 1 := 1#1
  let v169_r0 : BitVec 1 := Scalar.xori v64_r0 true_133_r0
  let v170_r0 : BitVec 1 := Scalar.andi v168_r0 v169_r0
  let v171_r0 : BitVec 32 := Scalar.extui v170_r0
  let c0_i32_134_r0 : BitVec 32 := 0#32
  let v172_r0 : BitVec 1 := Scalar.cmpi .ne v171_r0 c0_i32_134_r0
  v172_r0

def k0_off16 (i : grid0.Coords) (arg11_r0 : BitVec 32) : Fin 2 → Nat :=
  let c256_i32_143_r0 : BitVec 32 := 256#32
  let true_58_r0 : BitVec 1 := 1#1
  let c1_i32_57_r0 : BitVec 32 := 1#32
  let v67_r0 : BitVec 32 := Scalar.subi arg11_r0 c1_i32_57_r0
  let v68_r0 : BitVec 32 := Scalar.select true_58_r0 v67_r0 arg11_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v185_r0 : BitVec 32 := Scalar.muli c256_i32_143_r0 v71_r0
  let c0_i32_146_r0 : BitVec 32 := 0#32
  ![v185_r0.toNat, 0]
def k0_off17 (arg10_r0 : BitVec 32) : Fin 1 → Nat :=
  let c2_i32_142_r0 : BitVec 32 := 2#32
  let v184_r0 : BitVec 32 := Scalar.remui arg10_r0 c2_i32_142_r0
  ![v184_r0.toNat]

def k0_chk1 (i : grid0.Coords) (k0_t1 : Fin k0_t1_loop.trips) (arg7_r0 : BitVec 32) (arg8_r0 : BitVec 32) (arg9_r0 : BitVec 32) (arg10_r0 : BitVec 32) (arg11_r0 : BitVec 32) : Prop :=
  (∀ (k0_h1 : k0_cond1 i k0_t1 arg11_r0 = 1#1), ∀ a, (k0_off4 arg7_r0) a + S1x2x128.size a ≤ S2x2x128.size a) ∧
  (∀ (k0_h1 : k0_cond1 i k0_t1 arg11_r0 = 1#1), ∀ a, (k0_off5 i arg11_r0) a + S2x128.size a ≤ S1024x128.size a) ∧
  (∀ (k0_h1 : k0_cond1 i k0_t1 arg11_r0 = 1#1), ∀ a, (k0_off6 arg7_r0) a + S1.size a ≤ S2.size a) ∧
  (∀ (k0_h2 : k0_cond2 i k0_t1 arg11_r0 = 1#1), ∀ a, (k0_off7 arg8_r0) a + S1x2x128.size a ≤ S2x2x128.size a) ∧
  (∀ (k0_h2 : k0_cond2 i k0_t1 arg11_r0 = 1#1), ∀ a, (k0_off8 i arg11_r0) a + S2x128.size a ≤ S1024x128.size a) ∧
  (∀ (k0_h2 : k0_cond2 i k0_t1 arg11_r0 = 1#1), ∀ a, (k0_off9 arg8_r0) a + S1.size a ≤ S2.size a) ∧
  (∀ (k0_h5 : k0_cond5 i k0_t1 arg11_r0 = 1#1), ∀ a, (k0_off12 arg9_r0) a + S1x256x128.size a ≤ S2x256x128.size a) ∧
  (∀ (k0_h5 : k0_cond5 i k0_t1 arg11_r0 = 1#1), ∀ a, (k0_off13 i arg11_r0) a + S256x128.size a ≤ S131072x128.size a) ∧
  (∀ (k0_h5 : k0_cond5 i k0_t1 arg11_r0 = 1#1), ∀ a, (k0_off14 arg9_r0) a + S1.size a ≤ S2.size a) ∧
  (∀ (k0_h7 : k0_cond7 i k0_t1 arg11_r0 = 1#1), ∀ a, (k0_off15 arg10_r0) a + S1x256x128.size a ≤ S2x256x128.size a) ∧
  (∀ (k0_h7 : k0_cond7 i k0_t1 arg11_r0 = 1#1), ∀ a, (k0_off16 i arg11_r0) a + S256x128.size a ≤ S131072x128.size a) ∧
  (∀ (k0_h7 : k0_cond7 i k0_t1 arg11_r0 = 1#1), ∀ a, (k0_off17 arg10_r0) a + S1.size a ≤ S2.size a)
theorem k0_off4_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off4 arg7_r0) a + S1x2x128.size a ≤ S2x2x128.size a := fun i k0_t1 arg7_r0 arg8_r0 arg9_r0 arg10_r0 arg11_r0 k0_hw1 k0_h1 => k0_hw1.1 k0_h1
theorem k0_off5_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off5 i arg11_r0) a + S2x128.size a ≤ S1024x128.size a := fun i k0_t1 arg7_r0 arg8_r0 arg9_r0 arg10_r0 arg11_r0 k0_hw1 k0_h1 => k0_hw1.2.1 k0_h1
theorem k0_off6_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off6 arg7_r0) a + S1.size a ≤ S2.size a := fun i k0_t1 arg7_r0 arg8_r0 arg9_r0 arg10_r0 arg11_r0 k0_hw1 k0_h1 => k0_hw1.2.2.1 k0_h1
theorem k0_off7_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off7 arg8_r0) a + S1x2x128.size a ≤ S2x2x128.size a := fun i k0_t1 arg7_r0 arg8_r0 arg9_r0 arg10_r0 arg11_r0 k0_hw1 k0_h2 => k0_hw1.2.2.2.1 k0_h2
theorem k0_off8_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off8 i arg11_r0) a + S2x128.size a ≤ S1024x128.size a := fun i k0_t1 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off9 arg8_r0) a + S1.size a ≤ S2.size a := fun i k0_t1 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off12 arg9_r0) a + S1x256x128.size a ≤ S2x256x128.size a := fun i k0_t1 arg7_r0 arg8_r0 arg9_r0 arg10_r0 arg11_r0 k0_hw1 k0_h5 => k0_hw1.2.2.2.2.2.2.1 k0_h5
theorem k0_off13_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off13 i arg11_r0) a + S256x128.size a ≤ S131072x128.size a := fun i k0_t1 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off14 arg9_r0) a + S1.size a ≤ S2.size a := fun i k0_t1 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off15 arg10_r0) a + S1x256x128.size a ≤ S2x256x128.size a := fun i k0_t1 arg7_r0 arg8_r0 arg9_r0 arg10_r0 arg11_r0 k0_hw1 k0_h7 => k0_hw1.2.2.2.2.2.2.2.2.2.1 k0_h7
theorem k0_off16_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off16 i arg11_r0) a + S256x128.size a ≤ S131072x128.size a := fun i k0_t1 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off17 arg10_r0) a + S1.size a ≤ S2.size a := fun i k0_t1 arg7_r0 arg8_r0 arg9_r0 arg10_r0 arg11_r0 k0_hw1 k0_h7 => k0_hw1.2.2.2.2.2.2.2.2.2.2.2 k0_h7

def k0_off18 (v33_3_r0 : BitVec 32) : Fin 3 → Nat :=
  let c2_i32_48_r0 : BitVec 32 := 2#32
  let v54_r0 : BitVec 32 := Scalar.remui v33_3_r0 c2_i32_48_r0
  let c0_i32_49_r0 : BitVec 32 := 0#32
  let c0_i32_50_r0 : BitVec 32 := 0#32
  ![v54_r0.toNat, 0, 0]

def k0_off19 (i : grid0.Coords) (v33_4_r0 : BitVec 32) : Fin 2 → Nat :=
  let c256_i32_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c15_i32_35_r0 : BitVec 32 := 15#32
  let v37_r0 : BitVec 32 := Scalar.select v36_r0 c15_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c256_i32_r0 v38_r0
  let c0_i32_51_r0 : BitVec 32 := 0#32
  ![v55_r0.toNat, 0]

def k0_chk5 (i : grid0.Coords) (v33_4_r0 : BitVec 32) : Prop :=
  (∀ a, (k0_off19 i v33_4_r0) a + S256x128.size a ≤ S131072x128.size a)
theorem k0_off19_inb : ∀ (i : grid0.Coords) (v33_4_r0 : BitVec 32) (k0_hw5 : k0_chk5 i v33_4_r0), ∀ a, (k0_off19 i v33_4_r0) a + S256x128.size a ≤ S131072x128.size a := fun i v33_4_r0 k0_hw5 => k0_hw5

def k0_off20 (v33_3_r0 : BitVec 32) : Fin 1 → Nat :=
  let c2_i32_48_r0 : BitVec 32 := 2#32
  let v54_r0 : BitVec 32 := Scalar.remui v33_3_r0 c2_i32_48_r0
  ![v54_r0.toNat]
def k0_off21 (v33_3_r0 : BitVec 32) : Fin 3 → Nat :=
  let c2_i32_48_r0 : BitVec 32 := 2#32
  let v54_r0 : BitVec 32 := Scalar.remui v33_3_r0 c2_i32_48_r0
  let c0_i32_53_r0 : BitVec 32 := 0#32
  let c0_i32_54_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S196608x128 : Shape := ⟨2, ![196608, 128]⟩
abbrev S2x65536 : Shape := ⟨2, ![2, 65536]⟩
abbrev S131072 : Shape := ⟨1, ![131072]⟩
abbrev S_ : Shape := ⟨0, ![]⟩
abbrev S131072x1 : Shape := ⟨2, ![131072, 1]⟩
abbrev S131072x128 : Shape := ⟨2, ![131072, 128]⟩

abbrev nBuf : Space → Nat
  | .hbm => 12
  | .vmem => 0
  | .smem => 0
  | _ => 0

abbrev bufTy : (tb : Table) → Fin (tcTables nBuf tb) → BufTy
  | .hbm, ⟨0, _⟩ => ⟨S196608x128, .i32⟩
  | .hbm, ⟨1, _⟩ => ⟨S2x65536, .i32⟩
  | .hbm, ⟨2, _⟩ => ⟨S131072, .i32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S131072x128, .i32⟩
  | _, _ => ⟨S196608x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S8x128 : Shape := ⟨2, ![8, 128]⟩
abbrev S49152x1024 : Shape := ⟨2, ![49152, 1024]⟩
abbrev S32x1024x256 : Shape := ⟨3, ![32, 1024, 256]⟩
abbrev S32x256x1024 : Shape := ⟨3, ![32, 256, 1024]⟩
abbrev S3x512x1024 : Shape := ⟨3, ![3, 512, 1024]⟩
abbrev S2x512x1024 : Shape := ⟨3, ![2, 512, 1024]⟩
abbrev S2x1024x256 : Shape := ⟨3, ![2, 1024, 256]⟩
abbrev S2x256x1024 : Shape := ⟨3, ![2, 256, 1024]⟩
abbrev S1024x256 : Shape := ⟨2, ![1024, 256]⟩
abbrev S256x1024 : Shape := ⟨2, ![256, 1024]⟩
abbrev S3 : Shape := ⟨1, ![3]⟩
abbrev S2 : Shape := ⟨1, ![2]⟩
abbrev S2x3 : Shape := ⟨2, ![2, 3]⟩
abbrev S1x128 : Shape := ⟨2, ![1, 128]⟩
abbrev S128 : Shape := ⟨1, ![128]⟩
abbrev S1 : Shape := ⟨1, ![1]⟩
abbrev S1x1 : Shape := ⟨2, ![1, 1]⟩
abbrev S_ : Shape := ⟨0, ![]⟩
abbrev S1x1024x256 : Shape := ⟨3, ![1, 1024, 256]⟩
abbrev S1x256x1024 : Shape := ⟨3, ![1, 256, 1024]⟩
abbrev S1x512x1024 : Shape := ⟨3, ![1, 512, 1024]⟩
abbrev S512x1024 : Shape := ⟨2, ![512, 1024]⟩
abbrev S512x256 : Shape := ⟨2, ![512, 256]⟩

abbrev nBuf : Space → Nat
  | .hbm => 5
  | .vmem => 8
  | .smem => 1
  | _ => 0

abbrev bufTy : (tb : Table) → Fin (tcTables nBuf tb) → BufTy
  | .hbm, ⟨0, _⟩ => ⟨S49152x1024, .bf16⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S49152x1024, .bf16⟩
  | .local _ .vmem, ⟨0, _⟩ => ⟨S3x512x1024, .bf16⟩
  | .local _ .vmem, ⟨1, _⟩ => ⟨S2x512x1024, .bf16⟩
  | .local _ .vmem, ⟨2, _⟩ => ⟨S2x1024x256, .f32⟩
  | .local _ .vmem, ⟨3, _⟩ => ⟨S2x1024x256, .f32⟩
  | .local _ .vmem, ⟨4, _⟩ => ⟨S2x256x1024, .f32⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .smem, ⟨0, _⟩ => ⟨S8x128, .i32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_off1 (v56 : BitVec 32) : Fin 3 → Nat :=
  let c0_i32_37 : BitVec 32 := 0#32
  let c0_i32_38 : BitVec 32 := 0#32
  ![v56.toNat, 0, 0]

def k0_off2 (v56 : BitVec 32) : Fin 3 → Nat :=
  let c0_i32_51 : BitVec 32 := 0#32
  let c0_i32_52 : BitVec 32 := 0#32
  ![v56.toNat, 0, 0]

def k0_chk1 (i : grid0.Coords) (v56 : BitVec 32) : Prop :=
  (∀ (k0_h1 : k0_cond1 i = 1#1), ∀ a, (k0_off1 v56) a + S1x1024x256.size a ≤ S32x1024x256.size a) ∧
  (∀ (k0_h1 : k0_cond1 i = 1#1), ∀ a, (k0_off2 v56) a + S1x256x1024.size a ≤ S32x256x1024.size a)
theorem k0_off1_inb : ∀ (i : grid0.Coords) (v56 : BitVec 32) (k0_hw1 : k0_chk1 i v56), ∀ (k0_h1 : k0_cond1 i = 1#1), ∀ a, (k0_off1 v56) a + S1x1024x256.size a ≤ S32x1024x256.size a := fun i v56 k0_hw1 k0_h1 => k0_hw1.1 k0_h1
theorem k0_off2_inb : ∀ (i : grid0.Coords) (v56 : BitVec 32) (k0_hw1 : k0_chk1 i v56), ∀ (k0_h1 : k0_cond1 i = 1#1), ∀ a, (k0_off2 v56) a + S1x256x1024.size a ≤ S32x256x1024.size a := fun i v56 k0_hw1 k0_h1 => k0_hw1.2 k0_h1

def k0_off3 (i : grid0.Coords) : Fin 1 → Nat :=
  let arg0 : BitVec 32 := BitVec.ofNat 32 (i 0).val
  let c2_i32 : BitVec 32 := 2#32
  let v3 : BitVec 32 := Scalar.addi arg0 c2_i32
  let c95_i32 : BitVec 32 := 95#32
  let v5 : BitVec 32 := Scalar.minsi v3 c95_i32
  let v8 : Index := Scalar.indexCast v5
  ![v8.toNat]
def k0_off4 (i : grid0.Coords) : Fin 1 → Nat :=
  let arg0 : BitVec 32 := BitVec.ofNat 32 (i 0).val
  let c2_i32 : BitVec 32 := 2#32
  let v3 : BitVec 32 := Scalar.addi arg0 c2_i32
  let c3_i32_37 : BitVec 32 := 3#32
  let c0_i32_38 : BitVec 32 := 0#32
  let v65 : BitVec 1 := Scalar.cmpi .eq c3_i32_37 c0_i32_38
  let c1_i32_39 : BitVec 32 := 1#32
  let v66 : BitVec 32 := Scalar.select v65 c1_i32_39 c3_i32_37
  let v67 : BitVec 32 := Scalar.remsi v3 v66
  let c0_i32_41 : BitVec 32 := 0#32
  let v69 : BitVec 1 := Scalar.cmpi .slt v67 c0_i32_41
  let c0_i32_42 : BitVec 32 := 0#32
  let v70 : BitVec 1 := Scalar.cmpi .slt v66 c0_i32_42
  let v71 : BitVec 1 := Scalar.xori v69 v70
  let c0_i32_40 : BitVec 32 := 0#32
  let v68 : BitVec 1 := Scalar.cmpi .ne v67 c0_i32_40
  let v72 : BitVec 1 := Scalar.andi v71 v68
  let v73 : BitVec 32 := Scalar.addi v67 v66
  let v74 : BitVec 32 := Scalar.select v72 v73 v67
  ![v74.toNat]
def k0_off5 (i : grid0.Coords) : Fin 3 → Nat :=
  let arg0 : BitVec 32 := BitVec.ofNat 32 (i 0).val
  let c2_i32 : BitVec 32 := 2#32
  let v3 : BitVec 32 := Scalar.addi arg0 c2_i32
  let c3_i32_31 : BitVec 32 := 3#32
  let c0_i32_32 : BitVec 32 := 0#32
  let v55 : BitVec 1 := Scalar.cmpi .eq c3_i32_31 c0_i32_32
  let c1_i32_33 : BitVec 32 := 1#32
  let v56 : BitVec 32 := Scalar.select v55 c1_i32_33 c3_i32_31
  let v57 : BitVec 32 := Scalar.remsi v3 v56
  let c0_i32_35 : BitVec 32 := 0#32
  let v59 : BitVec 1 := Scalar.cmpi .slt v57 c0_i32_35
  let c0_i32_36 : BitVec 32 := 0#32
  let v60 : BitVec 1 := Scalar.cmpi .slt v56 c0_i32_36
  let v61 : BitVec 1 := Scalar.xori v59 v60
  let c0_i32_34 : BitVec 32 := 0#32
  let v58 : BitVec 1 := Scalar.cmpi .ne v57 c0_i32_34
  let v62 : BitVec 1 := Scalar.andi v61 v58
  let v63 : BitVec 32 := Scalar.addi v57 v56
  let v64 : BitVec 32 := Scalar.select v62 v63 v57
  let c0_i32_43 : BitVec 32 := 0#32
  let c0_i32_44 : BitVec 32 := 0#32
  ![v64.toNat, 0, 0]
def k0_off6 (i : grid0.Coords) : Fin 2 → Nat :=
  let arg0 : BitVec 32 := BitVec.ofNat 32 (i 0).val
  let c2_i32 : BitVec 32 := 2#32
  let v3 : BitVec 32 := Scalar.addi arg0 c2_i32
  let c512_i32 : BitVec 32 := 512#32
  let v54 : BitVec 32 := Scalar.muli v3 c512_i32
  let c0_i32_45 : BitVec 32 := 0#32
  ![v54.toNat, 0]
def k0_cond4 (i : grid0.Coords) (v9 : BitVec 32) : BitVec 1 :=
  let arg0 : BitVec 32 := BitVec.ofNat 32 (i 0).val
  let c2_i32 : BitVec 32 := 2#32
  let v3 : BitVec 32 := Scalar.addi arg0 c2_i32
  let c96_i32 : BitVec 32 := 96#32
  let v4 : BitVec 1 := Scalar.cmpi .slt v3 c96_i32
  let c1_i32_4 : BitVec 32 := 1#32
  let v10 : BitVec 1 := Scalar.cmpi .eq v9 c1_i32_4
  let v11 : BitVec 1 := Scalar.andi v4 v10
  let v12 : BitVec 32 := Scalar.extui v11
  let c0_i32_5 : BitVec 32 := 0#32
  let v13 : BitVec 1 := Scalar.cmpi .ne v12 c0_i32_5
  v13

def k0_chk2 (i : grid0.Coords) (v9 : BitVec 32) : Prop :=
  (∀ (k0_h4 : k0_cond4 i v9 = 1#1), ∀ a, (k0_off6 i) a + S512x1024.size a ≤ S49152x1024.size a) ∧
  (∀ (k0_h4 : k0_cond4 i v9 = 1#1), ∀ (hinb : ∀ a, (k0_off6 i) a + S512x1024.size a ≤ S49152x1024.size a), (Rect.unit (s := S49152x1024) (k0_off6 i) S512x1024.size hinb).WholeWords (EltTy.packing .bf16))
theorem k0_off6_inb : ∀ (i : grid0.Coords) (v9 : BitVec 32) (k0_hw2 : k0_chk2 i v9), ∀ (k0_h4 : k0_cond4 i v9 = 1#1), ∀ a, (k0_off6 i) a + S512x1024.size a ≤ S49152x1024.size a := fun i v9 k0_hw2 k0_h4 => k0_hw2.1 k0_h4
theorem k0_off6_wordsbf16 : ∀ (i : grid0.Coords) (v9 : BitVec 32) (k0_hw2 : k0_chk2 i v9), ∀ (k0_h4 : k0_cond4 i v9 = 1#1), (Rect.unit (s := S49152x1024) (k0_off6 i) S512x1024.size (k0_off6_inb i v9 k0_hw2 k0_h4)).WholeWords (EltTy.packing .bf16) := fun i v9 k0_hw2 k0_h4 => k0_hw2.2 k0_h4 (k0_off6_inb i v9 k0_hw2 k0_h4)

def k0_off7 (i : grid0.Coords) : Fin 1 → Nat :=
  let arg0 : BitVec 32 := BitVec.ofNat 32 (i 0).val
  let v16 : Index := Scalar.indexCast arg0
  ![v16.toNat]
def k0_off8 (i : grid0.Coords) : Fin 1 → Nat :=
  let arg0 : BitVec 32 := BitVec.ofNat 32 (i 0).val
  let c1_i32_11 : BitVec 32 := 1#32
  let v23 : BitVec 32 := Scalar.subi arg0 c1_i32_11
  let c0_i32_12 : BitVec 32 := 0#32
  let v24 : BitVec 32 := Scalar.maxsi v23 c0_i32_12
  let v27 : Index := Scalar.indexCast v24
  ![v27.toNat]
def k0_off9 (i : grid0.Coords) : Fin 1 → Nat :=
  let arg0 : BitVec 32 := BitVec.ofNat 32 (i 0).val
  let v56 : Index := Scalar.indexCast arg0
  ![v56.toNat]
def k0_off10 (i : grid0.Coords) : Fin 1 → Nat :=
  let arg0 : BitVec 32 := BitVec.ofNat 32 (i 0).val
  let v106 : Index := Scalar.indexCast arg0
  ![v106.toNat]
def k0_off11 (v17 : BitVec 32) : Fin 2 → Nat :=
  let c1_i32_62 : BitVec 32 := 1#32
  let v108 : BitVec 32 := Scalar.subi c1_i32_62 v17
  let c0_i32_63 : BitVec 32 := 0#32
  ![v108.toNat, 0]
def k0_cond5 (i : grid0.Coords) (v22 : BitVec 32) (v28 : BitVec 32) : BitVec 1 :=
  let arg0 : BitVec 32 := BitVec.ofNat 32 (i 0).val
  let c0_i32_8 : BitVec 32 := 0#32
  let v18 : BitVec 1 := Scalar.cmpi .eq arg0 c0_i32_8
  let v29 : BitVec 1 := Scalar.cmpi .ne v22 v28
  let v30 : BitVec 1 := Scalar.ori v18 v29
  let v31 : BitVec 32 := Scalar.extui v30
  let c0_i32_16 : BitVec 32 := 0#32
  let v32 : BitVec 1 := Scalar.cmpi .ne v31 c0_i32_16
  v32

def k0_cond6 (v57 : BitVec 32) : BitVec 1 :=
  let c0_i32_32 : BitVec 32 := 0#32
  let v58 : BitVec 1 := Scalar.cmpi .sge v57 c0_i32_32
  let v59 : BitVec 32 := Scalar.extui v58
  let c0_i32_33 : BitVec 32 := 0#32
  let v60 : BitVec 1 := Scalar.cmpi .ne v59 c0_i32_33
  v60

def k0_off12 (v17 : BitVec 32) : Fin 3 → Nat :=
  let c1_i32_62 : BitVec 32 := 1#32
  let v108 : BitVec 32 := Scalar.subi c1_i32_62 v17
  let c0_i32_64 : BitVec 32 := 0#32
  let c0_i32_65 : BitVec 32 := 0#32
  ![v108.toNat, 0, 0]
def k0_off13 (v107 : BitVec 32) : Fin 3 → Nat :=
  let c0_i32_66 : BitVec 32 := 0#32
  let c0_i32_67 : BitVec 32 := 0#32
  ![v107.toNat, 0, 0]

def k0_off14 (v17 : BitVec 32) : Fin 2 → Nat :=
  let c1_i32_62 : BitVec 32 := 1#32
  let v108 : BitVec 32 := Scalar.subi c1_i32_62 v17
  let c1_i32_68 : BitVec 32 := 1#32
  ![v108.toNat, 1]
def k0_off15 (v17 : BitVec 32) : Fin 3 → Nat :=
  let c1_i32_62 : BitVec 32 := 1#32
  let v108 : BitVec 32 := Scalar.subi c1_i32_62 v17
  let c0_i32_69 : BitVec 32 := 0#32
  let c0_i32_70 : BitVec 32 := 0#32
  ![v108.toNat, 0, 0]
def k0_off16 (v17 : BitVec 32) : Fin 2 → Nat :=
  let c1_i32_62 : BitVec 32 := 1#32
  let v108 : BitVec 32 := Scalar.subi c1_i32_62 v17
  let c2_i32_73 : BitVec 32 := 2#32
  ![v108.toNat, 2]
def k0_off17 (v17 : BitVec 32) : Fin 3 → Nat :=
  let c1_i32_62 : BitVec 32 := 1#32
  let v108 : BitVec 32 := Scalar.subi c1_i32_62 v17
  let c0_i32_74 : BitVec 32 := 0#32
  let c0_i32_75 : BitVec 32 := 0#32
  ![v108.toNat, 0, 0]

def k0_chk3 (i : grid0.Coords) (v17 : BitVec 32) (v22 : BitVec 32) (v28 : BitVec 32) (v57 : BitVec 32) : Prop :=
  (∀ (k0_h5 : k0_cond5 i v22 v28 = 1#1), ∀ (k0_h6 : k0_cond6 v57 = 1#1), ∀ a, (k0_off11 v17) a + S1x1.size a ≤ S2x3.size a) ∧
  (∀ (k0_h5 : k0_cond5 i v22 v28 = 1#1), ∀ (k0_h6 : k0_cond6 v57 = 1#1), ∀ a, (k0_off12 v17) a + S1x1024x256.size a ≤ S2x1024x256.size a) ∧
  (∀ (k0_h5 : k0_cond5 i v22 v28 = 1#1), ∀ (k0_h6 : k0_cond6 v57 = 1#1), ∀ a, (k0_off14 v17) a + S1x1.size a ≤ S2x3.size a) ∧
  (∀ (k0_h5 : k0_cond5 i v22 v28 = 1#1), ∀ (k0_h6 : k0_cond6 v57 = 1#1), ∀ a, (k0_off15 v17) a + S1x1024x256.size a ≤ S2x1024x256.size a) ∧
  (∀ (k0_h5 : k0_cond5 i v22 v28 = 1#1), ∀ (k0_h6 : k0_cond6 v57 = 1#1), ∀ a, (k0_off16 v17) a + S1x1.size a ≤ S2x3.size a) ∧
  (∀ (k0_h5 : k0_cond5 i v22 v28 = 1#1), ∀ (k0_h6 : k0_cond6 v57 = 1#1), ∀ a, (k0_off17 v17) a + S1x256x1024.size a ≤ S2x256x1024.size a)
theorem k0_off11_inb : ∀ (i : grid0.Coords) (v17 : BitVec 32) (v22 : BitVec 32) (v28 : BitVec 32) (v57 : BitVec 32) (k0_hw3 : k0_chk3 i v17 v22 v28 v57), ∀ (k0_h5 : k0_cond5 i v22 v28 = 1#1), ∀ (k0_h6 : k0_cond6 v57 = 1#1), ∀ a, (k0_off11 v17) a + S1x1.size a ≤ S2x3.size a := fun i v17 v22 v28 v57 k0_hw3 k0_h5 k0_h6 => k0_hw3.1 k0_h5 k0_h6
theorem k0_off12_inb : ∀ (i : grid0.Coords) (v17 : BitVec 32) (v22 : BitVec 32) (v28 : BitVec 32) (v57 : BitVec 32) (k0_hw3 : k0_chk3 i v17 v22 v28 v57), ∀ (k0_h5 : k0_cond5 i v22 v28 = 1#1), ∀ (k0_h6 : k0_cond6 v57 = 1#1), ∀ a, (k0_off12 v17) a + S1x1024x256.size a ≤ S2x1024x256.size a := fun i v17 v22 v28 v57 k0_hw3 k0_h5 k0_h6 => k0_hw3.2.1 k0_h5 k0_h6
theorem k0_off14_inb : ∀ (i : grid0.Coords) (v17 : BitVec 32) (v22 : BitVec 32) (v28 : BitVec 32) (v57 : BitVec 32) (k0_hw3 : k0_chk3 i v17 v22 v28 v57), ∀ (k0_h5 : k0_cond5 i v22 v28 = 1#1), ∀ (k0_h6 : k0_cond6 v57 = 1#1), ∀ a, (k0_off14 v17) a + S1x1.size a ≤ S2x3.size a := fun i v17 v22 v28 v57 k0_hw3 k0_h5 k0_h6 => k0_hw3.2.2.1 k0_h5 k0_h6
theorem k0_off15_inb : ∀ (i : grid0.Coords) (v17 : BitVec 32) (v22 : BitVec 32) (v28 : BitVec 32) (v57 : BitVec 32) (k0_hw3 : k0_chk3 i v17 v22 v28 v57), ∀ (k0_h5 : k0_cond5 i v22 v28 = 1#1), ∀ (k0_h6 : k0_cond6 v57 = 1#1), ∀ a, (k0_off15 v17) a + S1x1024x256.size a ≤ S2x1024x256.size a := fun i v17 v22 v28 v57 k0_hw3 k0_h5 k0_h6 => k0_hw3.2.2.2.1 k0_h5 k0_h6
theorem k0_off16_inb : ∀ (i : grid0.Coords) (v17 : BitVec 32) (v22 : BitVec 32) (v28 : BitVec 32) (v57 : BitVec 32) (k0_hw3 : k0_chk3 i v17 v22 v28 v57), ∀ (k0_h5 : k0_cond5 i v22 v28 = 1#1), ∀ (k0_h6 : k0_cond6 v57 = 1#1), ∀ a, (k0_off16 v17) a + S1x1.size a ≤ S2x3.size a := fun i v17 v22 v28 v57 k0_hw3 k0_h5 k0_h6 => k0_hw3.2.2.2.2.1 k0_h5 k0_h6
theorem k0_off17_inb : ∀ (i : grid0.Coords) (v17 : BitVec 32) (v22 : BitVec 32) (v28 : BitVec 32) (v57 : BitVec 32) (k0_hw3 : k0_chk3 i v17 v22 v28 v57), ∀ (k0_h5 : k0_cond5 i v22 v28 = 1#1), ∀ (k0_h6 : k0_cond6 v57 = 1#1), ∀ a, (k0_off17 v17) a + S1x256x1024.size a ≤ S2x256x1024.size a := fun i v17 v22 v28 v57 k0_hw3 k0_h5 k0_h6 => k0_hw3.2.2.2.2.2 k0_h5 k0_h6

def k0_off18 (v107 : BitVec 32) : Fin 3 → Nat :=
  let c0_i32_76 : BitVec 32 := 0#32
  let c0_i32_77 : BitVec 32 := 0#32
  ![v107.toNat, 0, 0]

def k0_chk4 (i : grid0.Coords) (v22 : BitVec 32) (v28 : BitVec 32) (v57 : BitVec 32) (v107 : BitVec 32) : Prop :=
  (∀ (k0_h5 : k0_cond5 i v22 v28 = 1#1), ∀ (k0_h6 : k0_cond6 v57 = 1#1), ∀ a, (k0_off13 v107) a + S1x1024x256.size a ≤ S32x1024x256.size a) ∧
  (∀ (k0_h5 : k0_cond5 i v22 v28 = 1#1), ∀ (k0_h6 : k0_cond6 v57 = 1#1), ∀ a, (k0_off18 v107) a + S1x256x1024.size a ≤ S32x256x1024.size a)
theorem k0_off13_inb : ∀ (i : grid0.Coords) (v22 : BitVec 32) (v28 : BitVec 32) (v57 : BitVec 32) (v107 : BitVec 32) (k0_hw4 : k0_chk4 i v22 v28 v57 v107), ∀ (k0_h5 : k0_cond5 i v22 v28 = 1#1), ∀ (k0_h6 : k0_cond6 v57 = 1#1), ∀ a, (k0_off13 v107) a + S1x1024x256.size a ≤ S32x1024x256.size a := fun i v22 v28 v57 v107 k0_hw4 k0_h5 k0_h6 => k0_hw4.1 k0_h5 k0_h6
theorem k0_off18_inb : ∀ (i : grid0.Coords) (v22 : BitVec 32) (v28 : BitVec 32) (v57 : BitVec 32) (v107 : BitVec 32) (k0_hw4 : k0_chk4 i v22 v28 v57 v107), ∀ (k0_h5 : k0_cond5 i v22 v28 = 1#1), ∀ (k0_h6 : k0_cond6 v57 = 1#1), ∀ a, (k0_off18 v107) a + S1x256x1024.size a ≤ S32x256x1024.size a := fun i v22 v28 v57 v107 k0_hw4 k0_h5 k0_h6 => k0_hw4.2 k0_h5 k0_h6

def k0_off19 (i : grid0.Coords) : Fin 1 → Nat :=
  let arg0 : BitVec 32 := BitVec.ofNat 32 (i 0).val
  let v63 : Index := Scalar.indexCast arg0
  ![v63.toNat]
def k0_off20 (v17 : BitVec 32) : Fin 2 → Nat :=
  let c0_i32_35 : BitVec 32 := 0#32
  ![v17.toNat, 0]

def k0_off21 (v17 : BitVec 32) : Fin 3 → Nat :=
  let c0_i32_36 : BitVec 32 := 0#32
  let c0_i32_37 : BitVec 32 := 0#32
  ![v17.toNat, 0, 0]
def k0_off22 (v64 : BitVec 32) : Fin 3 → Nat :=
  let c0_i32_38 : BitVec 32 := 0#32
  let c0_i32_39 : BitVec 32 := 0#32
  ![v64.toNat, 0, 0]

def k0_off23 (v17 : BitVec 32) : Fin 2 → Nat :=
  let c1_i32_40 : BitVec 32 := 1#32
  ![v17.toNat, 1]
def k0_off24 (v17 : BitVec 32) : Fin 3 → Nat :=
  let c0_i32_41 : BitVec 32 := 0#32
  let c0_i32_42 : BitVec 32 := 0#32
  ![v17.toNat, 0, 0]
def k0_off25 (v17 : BitVec 32) : Fin 2 → Nat :=
  let c2_i32_45 : BitVec 32 := 2#32
  ![v17.toNat, 2]
def k0_off26 (v17 : BitVec 32) : Fin 3 → Nat :=
  let c0_i32_46 : BitVec 32 := 0#32
  let c0_i32_47 : BitVec 32 := 0#32
  ![v17.toNat, 0, 0]
def k0_off27 (v64 : BitVec 32) : Fin 3 → Nat :=
  let c0_i32_48 : BitVec 32 := 0#32
  let c0_i32_49 : BitVec 32 := 0#32
  ![v64.toNat, 0, 0]

def k0_chk6 (i : grid0.Coords) (v22 : BitVec 32) (v28 : BitVec 32) (v64 : BitVec 32) : Prop :=
  (∀ (k0_h5 : k0_cond5 i v22 v28 = 1#1), ∀ a, (k0_off22 v64) a + S1x1024x256.size a ≤ S32x1024x256.size a) ∧
  (∀ (k0_h5 : k0_cond5 i v22 v28 = 1#1), ∀ a, (k0_off27 v64) a + S1x256x1024.size a ≤ S32x256x1024.size a)
theorem k0_off22_inb : ∀ (i : grid0.Coords) (v22 : BitVec 32) (v28 : BitVec 32) (v64 : BitVec 32) (k0_hw6 : k0_chk6 i v22 v28 v64), ∀ (k0_h5 : k0_cond5 i v22 v28 = 1#1), ∀ a, (k0_off22 v64) a + S1x1024x256.size a ≤ S32x1024x256.size a := fun i v22 v28 v64 k0_hw6 k0_h5 => k0_hw6.1 k0_h5
theorem k0_off27_inb : ∀ (i : grid0.Coords) (v22 : BitVec 32) (v28 : BitVec 32) (v64 : BitVec 32) (k0_hw6 : k0_chk6 i v22 v28 v64), ∀ (k0_h5 : k0_cond5 i v22 v28 = 1#1), ∀ a, (k0_off27 v64) a + S1x256x1024.size a ≤ S32x256x1024.size a := fun i v22 v28 v64 k0_hw6 k0_h5 => k0_hw6.2 k0_h5

def k0_off28 (v17 : BitVec 32) : Fin 3 → Nat :=
  let v83 : Index := Scalar.indexCast v17
  let c0 : Index := 0#32
  let c0_50 : Index := 0#32
  ![v83.toNat, 0, 0]
def k0_off29 (v17 : BitVec 32) : Fin 3 → Nat :=
  let v97 : Index := Scalar.indexCast v17
  let c0_57 : Index := 0#32
  let c0_58 : Index := 0#32
  ![v97.toNat, 0, 0]

def k0_chk5 (i : grid0.Coords) (v17 : BitVec 32) (v22 : BitVec 32) (v28 : BitVec 32) : Prop :=
  (∀ (k0_h5 : k0_cond5 i v22 v28 = 1#1), ∀ a, (k0_off20 v17) a + S1x1.size a ≤ S2x3.size a) ∧
  (∀ (k0_h5 : k0_cond5 i v22 v28 = 1#1), ∀ a, (k0_off21 v17) a + S1x1024x256.size a ≤ S2x1024x256.size a) ∧
  (∀ (k0_h5 : k0_cond5 i v22 v28 = 1#1), ∀ a, (k0_off23 v17) a + S1x1.size a ≤ S2x3.size a) ∧
  (∀ (k0_h5 : k0_cond5 i v22 v28 = 1#1), ∀ a, (k0_off24 v17) a + S1x1024x256.size a ≤ S2x1024x256.size a) ∧
  (∀ (k0_h5 : k0_cond5 i v22 v28 = 1#1), ∀ a, (k0_off25 v17) a + S1x1.size a ≤ S2x3.size a) ∧
  (∀ (k0_h5 : k0_cond5 i v22 v28 = 1#1), ∀ a, (k0_off26 v17) a + S1x256x1024.size a ≤ S2x256x1024.size a) ∧
  (∀ (k0_h5 : k0_cond5 i v22 v28 = 1#1), ∀ a, (k0_off28 v17) a + S1x1024x256.size a ≤ S2x1024x256.size a) ∧
  (∀ (k0_h5 : k0_cond5 i v22 v28 = 1#1), ∀ a, (k0_off29 v17) a + S1x256x1024.size a ≤ S2x256x1024.size a)
theorem k0_off20_inb : ∀ (i : grid0.Coords) (v17 : BitVec 32) (v22 : BitVec 32) (v28 : BitVec 32) (k0_hw5 : k0_chk5 i v17 v22 v28), ∀ (k0_h5 : k0_cond5 i v22 v28 = 1#1), ∀ a, (k0_off20 v17) a + S1x1.size a ≤ S2x3.size a := fun i v17 v22 v28 k0_hw5 k0_h5 => k0_hw5.1 k0_h5
theorem k0_off21_inb : ∀ (i : grid0.Coords) (v17 : BitVec 32) (v22 : BitVec 32) (v28 : BitVec 32) (k0_hw5 : k0_chk5 i v17 v22 v28), ∀ (k0_h5 : k0_cond5 i v22 v28 = 1#1), ∀ a, (k0_off21 v17) a + S1x1024x256.size a ≤ S2x1024x256.size a := fun i v17 v22 v28 k0_hw5 k0_h5 => k0_hw5.2.1 k0_h5
theorem k0_off23_inb : ∀ (i : grid0.Coords) (v17 : BitVec 32) (v22 : BitVec 32) (v28 : BitVec 32) (k0_hw5 : k0_chk5 i v17 v22 v28), ∀ (k0_h5 : k0_cond5 i v22 v28 = 1#1), ∀ a, (k0_off23 v17) a + S1x1.size a ≤ S2x3.size a := fun i v17 v22 v28 k0_hw5 k0_h5 => k0_hw5.2.2.1 k0_h5
theorem k0_off24_inb : ∀ (i : grid0.Coords) (v17 : BitVec 32) (v22 : BitVec 32) (v28 : BitVec 32) (k0_hw5 : k0_chk5 i v17 v22 v28), ∀ (k0_h5 : k0_cond5 i v22 v28 = 1#1), ∀ a, (k0_off24 v17) a + S1x1024x256.size a ≤ S2x1024x256.size a := fun i v17 v22 v28 k0_hw5 k0_h5 => k0_hw5.2.2.2.1 k0_h5
theorem k0_off25_inb : ∀ (i : grid0.Coords) (v17 : BitVec 32) (v22 : BitVec 32) (v28 : BitVec 32) (k0_hw5 : k0_chk5 i v17 v22 v28), ∀ (k0_h5 : k0_cond5 i v22 v28 = 1#1), ∀ a, (k0_off25 v17) a + S1x1.size a ≤ S2x3.size a := fun i v17 v22 v28 k0_hw5 k0_h5 => k0_hw5.2.2.2.2.1 k0_h5
theorem k0_off26_inb : ∀ (i : grid0.Coords) (v17 : BitVec 32) (v22 : BitVec 32) (v28 : BitVec 32) (k0_hw5 : k0_chk5 i v17 v22 v28), ∀ (k0_h5 : k0_cond5 i v22 v28 = 1#1), ∀ a, (k0_off26 v17) a + S1x256x1024.size a ≤ S2x256x1024.size a := fun i v17 v22 v28 k0_hw5 k0_h5 => k0_hw5.2.2.2.2.2.1 k0_h5
theorem k0_off28_inb : ∀ (i : grid0.Coords) (v17 : BitVec 32) (v22 : BitVec 32) (v28 : BitVec 32) (k0_hw5 : k0_chk5 i v17 v22 v28), ∀ (k0_h5 : k0_cond5 i v22 v28 = 1#1), ∀ a, (k0_off28 v17) a + S1x1024x256.size a ≤ S2x1024x256.size a := fun i v17 v22 v28 k0_hw5 k0_h5 => k0_hw5.2.2.2.2.2.2.1 k0_h5
theorem k0_off29_inb : ∀ (i : grid0.Coords) (v17 : BitVec 32) (v22 : BitVec 32) (v28 : BitVec 32) (k0_hw5 : k0_chk5 i v17 v22 v28), ∀ (k0_h5 : k0_cond5 i v22 v28 = 1#1), ∀ a, (k0_off29 v17) a + S1x256x1024.size a ≤ S2x256x1024.size a := fun i v17 v22 v28 k0_hw5 k0_h5 => k0_hw5.2.2.2.2.2.2.2 k0_h5

def k0_off30 (i : grid0.Coords) : Fin 1 → Nat :=
  let arg0 : BitVec 32 := BitVec.ofNat 32 (i 0).val
  let c2_i32_18 : BitVec 32 := 2#32
  let v34 : BitVec 32 := Scalar.subi arg0 c2_i32_18
  let c0_i32_19 : BitVec 32 := 0#32
  let v35 : BitVec 32 := Scalar.maxsi v34 c0_i32_19
  let v38 : Index := Scalar.indexCast v35
  ![v38.toNat]
def k0_off31 (i : grid0.Coords) : Fin 1 → Nat :=
  let arg0 : BitVec 32 := BitVec.ofNat 32 (i 0).val
  let c2_i32_31 : BitVec 32 := 2#32
  let v54 : BitVec 32 := Scalar.subi arg0 c2_i32_31
  let c2_i32_38 : BitVec 32 := 2#32
  let c0_i32_39 : BitVec 32 := 0#32
  let v66 : BitVec 1 := Scalar.cmpi .eq c2_i32_38 c0_i32_39
  let c1_i32_40 : BitVec 32 := 1#32
  let v67 : BitVec 32 := Scalar.select v66 c1_i32_40 c2_i32_38
  let v68 : BitVec 32 := Scalar.remsi v54 v67
  let c0_i32_42 : BitVec 32 := 0#32
  let v70 : BitVec 1 := Scalar.cmpi .slt v68 c0_i32_42
  let c0_i32_43 : BitVec 32 := 0#32
  let v71 : BitVec 1 := Scalar.cmpi .slt v67 c0_i32_43
  let v72 : BitVec 1 := Scalar.xori v70 v71
  let c0_i32_41 : BitVec 32 := 0#32
  let v69 : BitVec 1 := Scalar.cmpi .ne v68 c0_i32_41
  let v73 : BitVec 1 := Scalar.andi v72 v69
  let v74 : BitVec 32 := Scalar.addi v68 v67
  let v75 : BitVec 32 := Scalar.select v73 v74 v68
  ![v75.toNat]
def k0_off32 (i : grid0.Coords) : Fin 2 → Nat :=
  let arg0 : BitVec 32 := BitVec.ofNat 32 (i 0).val
  let c2_i32_31 : BitVec 32 := 2#32
  let v54 : BitVec 32 := Scalar.subi arg0 c2_i32_31
  let c512_i32 : BitVec 32 := 512#32
  let v65 : BitVec 32 := Scalar.muli v54 c512_i32
  let c0_i32_44 : BitVec 32 := 0#32
  ![v65.toNat, 0]
def k0_cond7 (i : grid0.Coords) (v39 : BitVec 32) : BitVec 1 :=
  let arg0 : BitVec 32 := BitVec.ofNat 32 (i 0).val
  let c2_i32_17 : BitVec 32 := 2#32
  let v33 : BitVec 1 := Scalar.cmpi .sge arg0 c2_i32_17
  let c1_i32_22 : BitVec 32 := 1#32
  let v40 : BitVec 1 := Scalar.cmpi .eq v39 c1_i32_22
  let v41 : BitVec 1 := Scalar.andi v33 v40
  let v42 : BitVec 32 := Scalar.extui v41
  let c0_i32_23 : BitVec 32 := 0#32
  let v43 : BitVec 1 := Scalar.cmpi .ne v42 c0_i32_23
  v43

def k0_off33 (i : grid0.Coords) : Fin 3 → Nat :=
  let arg0 : BitVec 32 := BitVec.ofNat 32 (i 0).val
  let c2_i32_31 : BitVec 32 := 2#32
  let v54 : BitVec 32 := Scalar.subi arg0 c2_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c0_i32_45 : BitVec 32 := 0#32
  let c0_i32_46 : BitVec 32 := 0#32
  ![v64.toNat, 0, 0]

def k0_chk7 (i : grid0.Coords) (v39 : BitVec 32) : Prop :=
  (∀ (k0_h7 : k0_cond7 i v39 = 1#1), ∀ a, (k0_off32 i) a + S512x1024.size a ≤ S49152x1024.size a) ∧
  (∀ (k0_h7 : k0_cond7 i v39 = 1#1), ∀ (hinb : ∀ a, (k0_off32 i) a + S512x1024.size a ≤ S49152x1024.size a), (Rect.unit (s := S49152x1024) (k0_off32 i) S512x1024.size hinb).WholeWords (EltTy.packing .bf16))
theorem k0_off32_inb : ∀ (i : grid0.Coords) (v39 : BitVec 32) (k0_hw7 : k0_chk7 i v39), ∀ (k0_h7 : k0_cond7 i v39 = 1#1), ∀ a, (k0_off32 i) a + S512x1024.size a ≤ S49152x1024.size a := fun i v39 k0_hw7 k0_h7 => k0_hw7.1 k0_h7
theorem k0_off32_wordsbf16 : ∀ (i : grid0.Coords) (v39 : BitVec 32) (k0_hw7 : k0_chk7 i v39), ∀ (k0_h7 : k0_cond7 i v39 = 1#1), (Rect.unit (s := S49152x1024) (k0_off32 i) S512x1024.size (k0_off32_inb i v39 k0_hw7 k0_h7)).WholeWords (EltTy.packing .bf16) := fun i v39 k0_hw7 k0_h7 => k0_hw7.2 k0_h7 (k0_off32_inb i v39 k0_hw7 k0_h7)

def k0_off34 (i : grid0.Coords) : Fin 1 → Nat :=
  let arg0 : BitVec 32 := BitVec.ofNat 32 (i 0).val
  let v46 : Index := Scalar.indexCast arg0
  ![v46.toNat]
def k0_off35 (i : grid0.Coords) : Fin 1 → Nat :=
  let arg0 : BitVec 32 := BitVec.ofNat 32 (i 0).val
  let c3_i32_37 : BitVec 32 := 3#32
  let c0_i32_38 : BitVec 32 := 0#32
  let v65 : BitVec 1 := Scalar.cmpi .eq c3_i32_37 c0_i32_38
  let c1_i32_39 : BitVec 32 := 1#32
  let v66 : BitVec 32 := Scalar.select v65 c1_i32_39 c3_i32_37
  let v67 : BitVec 32 := Scalar.remsi arg0 v66
  let c0_i32_41 : BitVec 32 := 0#32
  let v69 : BitVec 1 := Scalar.cmpi .slt v67 c0_i32_41
  let c0_i32_42 : BitVec 32 := 0#32
  let v70 : BitVec 1 := Scalar.cmpi .slt v66 c0_i32_42
  let v71 : BitVec 1 := Scalar.xori v69 v70
  let c0_i32_40 : BitVec 32 := 0#32
  let v68 : BitVec 1 := Scalar.cmpi .ne v67 c0_i32_40
  let v72 : BitVec 1 := Scalar.andi v71 v68
  let v73 : BitVec 32 := Scalar.addi v67 v66
  let v74 : BitVec 32 := Scalar.select v72 v73 v67
  ![v74.toNat]
def k0_off36 (i : grid0.Coords) : Fin 3 → Nat :=
  let arg0 : BitVec 32 := BitVec.ofNat 32 (i 0).val
  let c3_i32_31 : BitVec 32 := 3#32
  let c0_i32_32 : BitVec 32 := 0#32
  let v55 : BitVec 1 := Scalar.cmpi .eq c3_i32_31 c0_i32_32
  let c1_i32_33 : BitVec 32 := 1#32
  let v56 : BitVec 32 := Scalar.select v55 c1_i32_33 c3_i32_31
  let v57 : BitVec 32 := Scalar.remsi arg0 v56
  let c0_i32_35 : BitVec 32 := 0#32
  let v59 : BitVec 1 := Scalar.cmpi .slt v57 c0_i32_35
  let c0_i32_36 : BitVec 32 := 0#32
  let v60 : BitVec 1 := Scalar.cmpi .slt v56 c0_i32_36
  let v61 : BitVec 1 := Scalar.xori v59 v60
  let c0_i32_34 : BitVec 32 := 0#32
  let v58 : BitVec 1 := Scalar.cmpi .ne v57 c0_i32_34
  let v62 : BitVec 1 := Scalar.andi v61 v58
  let v63 : BitVec 32 := Scalar.addi v57 v56
  let v64 : BitVec 32 := Scalar.select v62 v63 v57
  let c0_i32_43 : BitVec 32 := 0#32
  let c0_i32_44 : BitVec 32 := 0#32
  ![v64.toNat, 0, 0]
def k0_off37 (i : grid0.Coords) : Fin 2 → Nat :=
  let arg0 : BitVec 32 := BitVec.ofNat 32 (i 0).val
  let c512_i32 : BitVec 32 := 512#32
  let v54 : BitVec 32 := Scalar.muli arg0 c512_i32
  let c0_i32_45 : BitVec 32 := 0#32
  ![v54.toNat, 0]
def k0_off38 (i : grid0.Coords) : Fin 3 → Nat :=
  let arg0 : BitVec 32 := BitVec.ofNat 32 (i 0).val
  let c3_i32_46 : BitVec 32 := 3#32
  let c0_i32_47 : BitVec 32 := 0#32
  let v80 : BitVec 1 := Scalar.cmpi .eq c3_i32_46 c0_i32_47
  let c1_i32_48 : BitVec 32 := 1#32
  let v81 : BitVec 32 := Scalar.select v80 c1_i32_48 c3_i32_46
  let v82 : BitVec 32 := Scalar.remsi arg0 v81
  let c0_i32_50 : BitVec 32 := 0#32
  let v84 : BitVec 1 := Scalar.cmpi .slt v82 c0_i32_50
  let c0_i32_51 : BitVec 32 := 0#32
  let v85 : BitVec 1 := Scalar.cmpi .slt v81 c0_i32_51
  let v86 : BitVec 1 := Scalar.xori v84 v85
  let c0_i32_49 : BitVec 32 := 0#32
  let v83 : BitVec 1 := Scalar.cmpi .ne v82 c0_i32_49
  let v87 : BitVec 1 := Scalar.andi v86 v83
  let v88 : BitVec 32 := Scalar.addi v82 v81
  let v89 : BitVec 32 := Scalar.select v87 v88 v82
  let v90 : Index := Scalar.indexCast v89
  let c0 : Index := 0#32
  let c0_52 : Index := 0#32
  ![v90.toNat, 0, 0]
def k0_off39 (i : grid0.Coords) : Fin 3 → Nat :=
  let arg0 : BitVec 32 := BitVec.ofNat 32 (i 0).val
  let c2_i32_64 : BitVec 32 := 2#32
  let c0_i32_65 : BitVec 32 := 0#32
  let v110 : BitVec 1 := Scalar.cmpi .eq c2_i32_64 c0_i32_65
  let c1_i32_66 : BitVec 32 := 1#32
  let v111 : BitVec 32 := Scalar.select v110 c1_i32_66 c2_i32_64
  let v112 : BitVec 32 := Scalar.remsi arg0 v111
  let c0_i32_68 : BitVec 32 := 0#32
  let v114 : BitVec 1 := Scalar.cmpi .slt v112 c0_i32_68
  let c0_i32_69 : BitVec 32 := 0#32
  let v115 : BitVec 1 := Scalar.cmpi .slt v111 c0_i32_69
  let v116 : BitVec 1 := Scalar.xori v114 v115
  let c0_i32_67 : BitVec 32 := 0#32
  let v113 : BitVec 1 := Scalar.cmpi .ne v112 c0_i32_67
  let v117 : BitVec 1 := Scalar.andi v116 v113
  let v118 : BitVec 32 := Scalar.addi v112 v111
  let v119 : BitVec 32 := Scalar.select v117 v118 v112
  let v120 : Index := Scalar.indexCast v119
  let c0_70 : Index := 0#32
  let c0_71 : Index := 0#32
  ![v120.toNat, 0, 0]
def k0_off40 (i : grid0.Coords) : Fin 1 → Nat :=
  let arg0 : BitVec 32 := BitVec.ofNat 32 (i 0).val
  let c2_i32_79 : BitVec 32 := 2#32
  let c0_i32_80 : BitVec 32 := 0#32
  let v135 : BitVec 1 := Scalar.cmpi .eq c2_i32_79 c0_i32_80
  let c1_i32_81 : BitVec 32 := 1#32
  let v136 : BitVec 32 := Scalar.select v135 c1_i32_81 c2_i32_79
  let v137 : BitVec 32 := Scalar.remsi arg0 v136
  let c0_i32_83 : BitVec 32 := 0#32
  let v139 : BitVec 1 := Scalar.cmpi .slt v137 c0_i32_83
  let c0_i32_84 : BitVec 32 := 0#32
  let v140 : BitVec 1 := Scalar.cmpi .slt v136 c0_i32_84
  let v141 : BitVec 1 := Scalar.xori v139 v140
  let c0_i32_82 : BitVec 32 := 0#32
  let v138 : BitVec 1 := Scalar.cmpi .ne v137 c0_i32_82
  let v142 : BitVec 1 := Scalar.andi v141 v138
  let v143 : BitVec 32 := Scalar.addi v137 v136
  let v144 : BitVec 32 := Scalar.select v142 v143 v137
  ![v144.toNat]
def k0_off41 (i : grid0.Coords) : Fin 3 → Nat :=
  let arg0 : BitVec 32 := BitVec.ofNat 32 (i 0).val
  let c2_i32_72 : BitVec 32 := 2#32
  let c0_i32_73 : BitVec 32 := 0#32
  let v124 : BitVec 1 := Scalar.cmpi .eq c2_i32_72 c0_i32_73
  let c1_i32_74 : BitVec 32 := 1#32
  let v125 : BitVec 32 := Scalar.select v124 c1_i32_74 c2_i32_72
  let v126 : BitVec 32 := Scalar.remsi arg0 v125
  let c0_i32_76 : BitVec 32 := 0#32
  let v128 : BitVec 1 := Scalar.cmpi .slt v126 c0_i32_76
  let c0_i32_77 : BitVec 32 := 0#32
  let v129 : BitVec 1 := Scalar.cmpi .slt v125 c0_i32_77
  let v130 : BitVec 1 := Scalar.xori v128 v129
  let c0_i32_75 : BitVec 32 := 0#32
  let v127 : BitVec 1 := Scalar.cmpi .ne v126 c0_i32_75
  let v131 : BitVec 1 := Scalar.andi v130 v127
  let v132 : BitVec 32 := Scalar.addi v126 v125
  let v133 : BitVec 32 := Scalar.select v131 v132 v126
  let c0_i32_86 : BitVec 32 := 0#32
  let c0_i32_87 : BitVec 32 := 0#32
  ![v133.toNat, 0, 0]
-- ==== Reference2Ideal.lean ====
abbrev S8x128 : Shape := ⟨2, ![8, 128]⟩
abbrev S49152x1024 : Shape := ⟨2, ![49152, 1024]⟩
abbrev S32x1024x256 : Shape := ⟨3, ![32, 1024, 256]⟩
abbrev S32x256x1024 : Shape := ⟨3, ![32, 256, 1024]⟩
abbrev S1x96 : Shape := ⟨2, ![1, 96]⟩
abbrev S96 : Shape := ⟨1, ![96]⟩
abbrev S96x512 : Shape := ⟨2, ![96, 512]⟩
abbrev S49152 : Shape := ⟨1, ![49152]⟩
abbrev S49152x1 : Shape := ⟨2, ![49152, 1]⟩
abbrev S1x32 : Shape := ⟨2, ![1, 32]⟩
abbrev S49152x32 : Shape := ⟨2, ![49152, 32]⟩
abbrev S49152x32x256 : Shape := ⟨3, ![49152, 32, 256]⟩
abbrev S_ : Shape := ⟨0, ![]⟩
abbrev S49152x32x1 : Shape := ⟨3, ![49152, 32, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S49152x1024, .bf16⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S1x96, .i32⟩
  | .hbm, ⟨6, _⟩ => ⟨S96, .i32⟩
  | .hbm, ⟨7, _⟩ => ⟨S96x512, .i32⟩
  | .hbm, ⟨8, _⟩ => ⟨S49152, .i32⟩
  | .hbm, ⟨9, _⟩ => ⟨S49152x1, .i32⟩
  | .hbm, ⟨10, _⟩ => ⟨S1x32, .i32⟩
  | .hbm, ⟨11, _⟩ => ⟨S49152x32, .i32⟩
  | .hbm, ⟨12, _⟩ => ⟨S49152x32, .i32⟩
  | .hbm, ⟨13, _⟩ => ⟨S49152x32, .i1⟩
  | .hbm, ⟨14, _⟩ => ⟨S49152x32, .f32⟩
  | .hbm, ⟨15, _⟩ => ⟨S49152x1024, .f32⟩
  | .hbm, ⟨16, _⟩ => ⟨S49152x32x256, .f32⟩
  | .hbm, ⟨17, _⟩ => ⟨S49152x32x256, .f32⟩
  | .hbm, ⟨18, _⟩ => ⟨S49152x32x256, .f32⟩
  | .hbm, ⟨19, _⟩ => ⟨S_, .f32⟩
  | .hbm, ⟨20, _⟩ => ⟨S49152x32x256, .f32⟩
  | .hbm, ⟨21, _⟩ => ⟨S49152x32x256, .f32⟩
  | .hbm, ⟨22, _⟩ => ⟨S_, .f32⟩
  | .hbm, ⟨23, _⟩ => ⟨S49152x32x256, .f32⟩
  | .hbm, ⟨24, _⟩ => ⟨S49152x32x256, .f32⟩
  | .hbm, ⟨25, _⟩ => ⟨S49152x32x256, .f32⟩
  | .hbm, ⟨26, _⟩ => ⟨S49152x32x256, .f32⟩
  | .hbm, ⟨27, _⟩ => ⟨S49152x32x256, .f32⟩
  | .hbm, ⟨28, _⟩ => ⟨S49152x32x1, .f32⟩
  | .hbm, ⟨29, _⟩ => ⟨S49152x32x256, .f32⟩
  | .hbm, ⟨30, _⟩ => ⟨S49152x32x256, .f32⟩
  | .hbm, ⟨31, _⟩ => ⟨S49152x1024, .f32⟩
  | .hbm, ⟨32, _⟩ => ⟨S49152x1024, .bf16⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== Kernel3.lean ====
abbrev S4096x32x128 : Shape := ⟨3, ![4096, 32, 128]⟩
abbrev S16384x1024 : Shape := ⟨2, ![16384, 1024]⟩
abbrev S1x8x2048x256 : Shape := ⟨4, ![1, 8, 2048, 256]⟩
abbrev S8x16384 : Shape := ⟨2, ![8, 16384]⟩
abbrev S1x256x1024 : Shape := ⟨3, ![1, 256, 1024]⟩
abbrev S1x1024x1024 : Shape := ⟨3, ![1, 1024, 1024]⟩
abbrev S1x1024 : Shape := ⟨2, ![1, 1024]⟩
abbrev S8x2048x256 : Shape := ⟨3, ![8, 2048, 256]⟩
abbrev S16384x256 : Shape := ⟨2, ![16384, 256]⟩
abbrev S256x1024 : Shape := ⟨2, ![256, 1024]⟩
abbrev S_ : Shape := ⟨0, ![]⟩
abbrev S1024x1024 : Shape := ⟨2, ![1024, 1024]⟩
abbrev S128x32x128 : Shape := ⟨3, ![128, 32, 128]⟩
abbrev S1024x256 : Shape := ⟨2, ![1024, 256]⟩
abbrev S8x1024 : Shape := ⟨2, ![8, 1024]⟩
abbrev S1024x8 : Shape := ⟨2, ![1024, 8]⟩
abbrev S256x256 : Shape := ⟨2, ![256, 256]⟩
abbrev S256x1 : Shape := ⟨2, ![256, 1]⟩
abbrev S32x32x128 : Shape := ⟨3, ![32, 32, 128]⟩
abbrev S32x8x128 : Shape := ⟨3, ![32, 8, 128]⟩
abbrev S256x128 : Shape := ⟨2, ![256, 128]⟩
abbrev S256 : Shape := ⟨1, ![256]⟩

abbrev nBuf : Space → Nat
  | .hbm => 21
  | .vmem => 16
  | .smem => 0
  | _ => 0

abbrev bufTy : (tb : Table) → Fin (tcTables nBuf tb) → BufTy
  | .hbm, ⟨0, _⟩ => ⟨S4096x32x128, .i32⟩
  | .hbm, ⟨1, _⟩ => ⟨S16384x1024, .f32⟩
  | .hbm, ⟨2, _⟩ => ⟨S1x8x2048x256, .f32⟩
  | .hbm, ⟨3, _⟩ => ⟨S8x16384, .f32⟩
  | .hbm, ⟨4, _⟩ => ⟨S1x256x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S8x2048x256, .f32⟩
  | .hbm, ⟨9, _⟩ => ⟨S16384x256, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .bf16⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S16384x1024, .f32⟩
  | .local _ .vmem, ⟨0, _⟩ => ⟨S128x32x128, .i32⟩
  | .local _ .vmem, ⟨1, _⟩ => ⟨S128x32x128, .i32⟩
  | .local _ .vmem, ⟨2, _⟩ => ⟨S128x32x128, .i32⟩
  | .local _ .vmem, ⟨3, _⟩ => ⟨S128x32x128, .i32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S8x1024, .f32⟩
  | .local _ .vmem, ⟨9, _⟩ => ⟨S8x1024, .f32⟩
  | .local _ .vmem, ⟨10, _⟩ => ⟨S256x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S4096x32x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4096x32x128 : Shape := ⟨3, ![4096, 32, 128]⟩
abbrev S16384x1024 : Shape := ⟨2, ![16384, 1024]⟩
abbrev S1x8x2048x256 : Shape := ⟨4, ![1, 8, 2048, 256]⟩
abbrev S8x16384 : Shape := ⟨2, ![8, 16384]⟩
abbrev S1x256x1024 : Shape := ⟨3, ![1, 256, 1024]⟩
abbrev S1x1024x1024 : Shape := ⟨3, ![1, 1024, 1024]⟩
abbrev S1x1024 : Shape := ⟨2, ![1, 1024]⟩
abbrev S4096x4x8x128 : Shape := ⟨4, ![4096, 4, 8, 128]⟩
abbrev S4096x8x4x128 : Shape := ⟨4, ![4096, 8, 4, 128]⟩
abbrev S2x16384x512 : Shape := ⟨3, ![2, 16384, 512]⟩
abbrev S_ : Shape := ⟨0, ![]⟩
abbrev S2x16384x1024 : Shape := ⟨3, ![2, 16384, 1024]⟩
abbrev S1x16384 : Shape := ⟨2, ![1, 16384]⟩
abbrev S16384 : Shape := ⟨1, ![16384]⟩
abbrev S16384x1 : Shape := ⟨2, ![16384, 1]⟩
abbrev S1x16384x1024 : Shape := ⟨3, ![1, 16384, 1024]⟩
abbrev S8x2048x256 : Shape := ⟨3, ![8, 2048, 256]⟩
abbrev S16384x256 : Shape := ⟨2, ![16384, 256]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x32x128, .i32⟩
  | .hbm, ⟨1, _⟩ => ⟨S16384x1024, .f32⟩
  | .hbm, ⟨2, _⟩ => ⟨S1x8x2048x256, .f32⟩
  | .hbm, ⟨3, _⟩ => ⟨S8x16384, .f32⟩
  | .hbm, ⟨4, _⟩ => ⟨S1x256x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S4096x4x8x128, .i32⟩
  | .hbm, ⟨9, _⟩ => ⟨S4096x8x4x128, .i32⟩
  | .hbm, ⟨10, _⟩ => ⟨S2x16384x512, .i32⟩
  | .hbm, ⟨11, _⟩ => ⟨S_, .i32⟩
  | .hbm, ⟨12, _⟩ => ⟨S2x16384x512, .i32⟩
  | .hbm, ⟨13, _⟩ => ⟨S2x16384x512, .i32⟩
  | .hbm, ⟨14, _⟩ => ⟨S2x16384x512, .f32⟩
  | .hbm, ⟨15, _⟩ => ⟨S_, .i32⟩
  | .hbm, ⟨16, _⟩ => ⟨S2x16384x512, .i32⟩
  | .hbm, ⟨17, _⟩ => ⟨S2x16384x512, .i32⟩
  | .hbm, ⟨18, _⟩ => ⟨S2x16384x512, .f32⟩
  | .hbm, ⟨19, _⟩ => ⟨S2x16384x1024, .f32⟩
  | .hbm, ⟨20, _⟩ => ⟨S1x16384, .f32⟩
  | .hbm, ⟨21, _⟩ => ⟨S16384, .f32⟩
  | .hbm, ⟨22, _⟩ => ⟨S16384x1, .f32⟩
  | .hbm, ⟨23, _⟩ => ⟨S1x16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x16384, .f32⟩
  | .hbm, ⟨28, _⟩ => ⟨S16384, .f32⟩
  | .hbm, ⟨29, _⟩ => ⟨S16384x1, .f32⟩
  | .hbm, ⟨30, _⟩ => ⟨S1x16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S8x2048x256, .f32⟩
  | .hbm, ⟨36, _⟩ => ⟨S16384x256, .f32⟩
  | .hbm, ⟨37, _⟩ => ⟨S256x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | _, _ => ⟨S4096x32x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel4.lean ====
abbrev S8x16x128x1536 : Shape := ⟨4, ![8, 16, 128, 1536]⟩
abbrev S8x128x8192 : Shape := ⟨3, ![8, 128, 8192]⟩
abbrev S8x128x2048 : Shape := ⟨3, ![8, 128, 2048]⟩
abbrev S1x8x128x1536 : Shape := ⟨4, ![1, 8, 128, 1536]⟩
abbrev S1x128x4096 : Shape := ⟨3, ![1, 128, 4096]⟩
abbrev S1x128x1024 : Shape := ⟨3, ![1, 128, 1024]⟩
abbrev S128x128 : Shape := ⟨2, ![128, 128]⟩
abbrev S256x128 : Shape := ⟨2, ![256, 128]⟩
abbrev S1x1x128x128 : Shape := ⟨4, ![1, 1, 128, 128]⟩
abbrev S256 : Shape := ⟨1, ![256]⟩
abbrev S256x1 : Shape := ⟨2, ![256, 1]⟩
abbrev S128x1 : Shape := ⟨2, ![128, 1]⟩
abbrev S1x128x128 : Shape := ⟨3, ![1, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x16x128x1536, .bf16⟩
  | .hbm, ⟨1, _⟩ => ⟨S8x128x8192, .bf16⟩
  | .hbm, ⟨2, _⟩ => ⟨S8x128x2048, .f32⟩
  | .local _ .vmem, ⟨0, _⟩ => ⟨S1x8x128x1536, .bf16⟩
  | .local _ .vmem, ⟨1, _⟩ => ⟨S1x8x128x1536, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x128x1024, .f32⟩
  | .local _ .vmem, ⟨5, _⟩ => ⟨S1x128x1024, .f32⟩
  | _, _ => ⟨S8x16x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S8x16x128x1536 : Shape := ⟨4, ![8, 16, 128, 1536]⟩
abbrev S8x16x128x24x64 : Shape := ⟨5, ![8, 16, 128, 24, 64]⟩
abbrev S8x16x128x8x64 : Shape := ⟨5, ![8, 16, 128, 8, 64]⟩
abbrev S8x16x8x128x128 : Shape := ⟨5, ![8, 16, 8, 128, 128]⟩
abbrev S_ : Shape := ⟨0, ![]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S8x16x8x128 : Shape := ⟨4, ![8, 16, 8, 128]⟩
abbrev S8x16x8x128x1 : Shape := ⟨5, ![8, 16, 8, 128, 1]⟩
abbrev S8x16x8x64x128 : Shape := ⟨5, ![8, 16, 8, 64, 128]⟩
abbrev S8x128x16x8x64 : Shape := ⟨5, ![8, 128, 16, 8, 64]⟩
abbrev S8x128x8192 : Shape := ⟨3, ![8, 128, 8192]⟩
abbrev S8x128x16x8x1 : Shape := ⟨5, ![8, 128, 16, 8, 1]⟩
abbrev S8x128x16x8x16 : Shape := ⟨5, ![8, 128, 16, 8, 16]⟩
abbrev S8x128x2048 : Shape := ⟨3, ![8, 128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x16x128x1536, .bf16⟩
  | .hbm, ⟨1, _⟩ => ⟨S8x16x128x1536, .f32⟩
  | .hbm, ⟨2, _⟩ => ⟨S8x16x128x24x64, .f32⟩
  | .hbm, ⟨3, _⟩ => ⟨S8x16x128x8x64, .f32⟩
  | .hbm, ⟨4, _⟩ => ⟨S8x16x128x8x64, .f32⟩
  | .hbm, ⟨5, _⟩ => ⟨S8x16x128x8x64, .f32⟩
  | .hbm, ⟨6, _⟩ => ⟨S8x16x8x128x128, .f32⟩
  | .hbm, ⟨7, _⟩ => ⟨S_, .f32⟩
  | .hbm, ⟨8, _⟩ => ⟨S8x16x8x128x128, .f32⟩
  | .hbm, ⟨9, _⟩ => ⟨S8x16x8x128x128, .f32⟩
  | .hbm, ⟨10, _⟩ => ⟨S128, .i32⟩
  | .hbm, ⟨11, _⟩ => ⟨S1x128, .i32⟩
  | .hbm, ⟨12, _⟩ => ⟨S128, .i32⟩
  | .hbm, ⟨13, _⟩ => ⟨S128x1, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .f32⟩
  | .hbm, ⟨18, _⟩ => ⟨S_, .f32⟩
  | .hbm, ⟨19, _⟩ => ⟨S8x16x8x128x128, .i1⟩
  | .hbm, ⟨20, _⟩ => ⟨S8x16x8x128x128, .f32⟩
  | .hbm, ⟨21, _⟩ => ⟨S8x16x8x128x128, .f32⟩
  | .hbm, ⟨22, _⟩ => ⟨S_, .f32⟩
  | .hbm, ⟨23, _⟩ => ⟨S8x16x8x128, .f32⟩
  | .hbm, ⟨24, _⟩ => ⟨S8x16x8x128x1, .f32⟩
  | .hbm, ⟨25, _⟩ => ⟨S8x16x8x128x128, .f32⟩
  | .hbm, ⟨26, _⟩ => ⟨S8x16x8x128x128, .f32⟩
  | .hbm, ⟨27, _⟩ => ⟨S8x16x8x128x128, .f32⟩
  | .hbm, ⟨28, _⟩ => ⟨S_, .f32⟩
  | .hbm, ⟨29, _⟩ => ⟨S8x16x8x128, .f32⟩
  | .hbm, ⟨30, _⟩ => ⟨S8x16x8x128x1, .f32⟩
  | .hbm, ⟨31, _⟩ => ⟨S8x16x8x128x1, .f32⟩
  | .hbm, ⟨32, _⟩ => ⟨S8x16x8x128x1, .f32⟩
  | .hbm, ⟨33, _⟩ => ⟨S8x16x8x128x128, .f32⟩
  | .hbm, ⟨34, _⟩ => ⟨S8x16x8x128x128, .f32⟩
  | .hbm, ⟨35, _⟩ => ⟨S8x16x8x128x128, .f32⟩
  | .hbm, ⟨36, _⟩ => ⟨S8x16x8x64x128, .f32⟩
  | .hbm, ⟨37, _⟩ => ⟨S8x128x16x8x64, .f32⟩
  | .hbm, ⟨38, _⟩ => ⟨S8x128x8192, .f32⟩
  | .hbm, ⟨39, _⟩ => ⟨S8x128x8192, .bf16⟩
  | .hbm, ⟨40, _⟩ => ⟨S8x128x16x8x1, .f32⟩
  | .hbm, ⟨41, _⟩ => ⟨S8x128x16x8x16, .f32⟩
  | .hbm, ⟨42, _⟩ => ⟨S8x128x2048, .f32⟩
  | _, _ => ⟨S8x16x128x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.Words.lean ====
/-
  The words the gather's pipelined loop carries, trip by trip, and what the kernel's conditions, offsets and checks are at
  them. The loop of sixteen trips carries five words: the number of row-number blocks asked for, the number waited for, the
  number of row blocks sent off, the number of those waited for, and the position inside the tile's share of the grid.
-/
module

public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

/-- What the loop carries before trip `k`. -/
abbrev w7 (k : ℕ) : BitVec 32 := BitVec.ofNat 32 (min (k + 1) 16)
abbrev w8 (k : ℕ) : BitVec 32 := BitVec.ofNat 32 k
abbrev w10 (k : ℕ) : BitVec 32 := BitVec.ofNat 32 (k - 1)
abbrev w11 (k : ℕ) : BitVec 32 := BitVec.ofNat 32 (k % 16)

theorem trips_eq : k0_t1_loop.trips = 16 := by decide

/-- The tile's number. -/
def tile (i : grid0.Coords) : ℕ := (i 1).val + 16 * (i 0).val

/-- The word the kernel computes for the tile's first step. -/
abbrev base (i : grid0.Coords) : BitVec 32 :=
  Scalar.muli (Scalar.addi (Scalar.addi 0#32 (Scalar.muli (BitVec.ofNat 32 (i 1).val) 1#32)) (Scalar.muli (BitVec.ofNat 32 (i 0).val) 16#32)) 16#32

theorem chk3 : ∀ t : Fin k0_t1_loop.trips, k0_chk3 (w8 t.val) := by decide +kernel
theorem chk2 : ∀ t : Fin k0_t1_loop.trips, k0_chk2 (w8 t.val) := by decide +kernel
theorem chk1 : ∀ (i : grid0.Coords) (t : Fin k0_t1_loop.trips), k0_chk1 i t (w7 t.val) (w8 t.val) (w8 t.val) (w10 t.val) (w11 t.val) := by decide +kernel
theorem chk4 : k0_chk4 (w10 16) := by decide +kernel
theorem chk5 : ∀ i : grid0.Coords, k0_chk5 i (w11 16) := by decide +kernel

theorem cond1 : ∀ (i : grid0.Coords) (t : Fin k0_t1_loop.trips), k0_cond1 i t (w11 t.val) = 1#1 ↔ t.val < 15 := by decide +kernel
theorem cond2 : ∀ (i : grid0.Coords) (t : Fin k0_t1_loop.trips), k0_cond2 i t (w11 t.val) = 1#1 := by decide +kernel
theorem cond5 : ∀ (i : grid0.Coords) (t : Fin k0_t1_loop.trips), k0_cond5 i t (w11 t.val) = 1#1 := by decide +kernel
theorem cond7 : ∀ (i : grid0.Coords) (t : Fin k0_t1_loop.trips), k0_cond7 i t (w11 t.val) = 1#1 ↔ 0 < t.val := by decide +kernel

theorem off4 : ∀ t : Fin k0_t1_loop.trips, t.val < 15 → k0_off4 (w7 t.val) = ![(t.val + 1) % 2, 0, 0] := by decide +kernel
theorem off5 : ∀ (i : grid0.Coords) (t : Fin k0_t1_loop.trips), t.val < 15 → k0_off5 i (w11 t.val) = ![2 * ((16 * tile i + (t.val + 1)) % 512), 0] := by decide +kernel
theorem off6 : ∀ t : Fin k0_t1_loop.trips, t.val < 15 → k0_off6 (w7 t.val) = ![(t.val + 1) % 2] := by decide +kernel
theorem off2 : ∀ i : grid0.Coords, k0_off2 i = ![2 * ((16 * tile i + 0) % 512), 0] := by decide +kernel
theorem off7 : ∀ t : Fin k0_t1_loop.trips, k0_off7 (w8 t.val) = ![t.val % 2, 0, 0] := by decide +kernel
theorem off9 : ∀ t : Fin k0_t1_loop.trips, k0_off9 (w8 t.val) = ![t.val % 2] := by decide +kernel
theorem off10 : ∀ t : Fin k0_t1_loop.trips, k0_off10 (w8 t.val) = ![t.val % 2, 0, 0] := by decide +kernel
theorem off11 : ∀ t : Fin k0_t1_loop.trips, k0_off11 (w8 t.val) = ![t.val % 2, 0, 0] := by decide +kernel
theorem off12 : ∀ t : Fin k0_t1_loop.trips, k0_off12 (w8 t.val) = ![t.val % 2, 0, 0] := by decide +kernel
theorem off13 : ∀ (i : grid0.Coords) (t : Fin k0_t1_loop.trips), k0_off13 i (w11 t.val) = ![256 * ((16 * tile i + t.val) % 512), 0] := by decide +kernel
theorem off14 : ∀ t : Fin k0_t1_loop.trips, k0_off14 (w8 t.val) = ![t.val % 2] := by decide +kernel
theorem off17 : ∀ t : Fin k0_t1_loop.trips, 0 < t.val → k0_off17 (w10 t.val) = ![(t.val - 1) % 2] := by decide +kernel
theorem off20 : k0_off20 (w10 16) = ![15 % 2] := by decide +kernel

end Cert.Proof.Gather

end
-- ==== Proof.Views.lean ====
/-
  The gather's memory as its tiles address it: the two index slots and two row slots of a tile's scratch, a step's block
  of row numbers, a step's block of the result, and what each of them reads. A step is one of the 512 blocks of 256 rows
  the result is cut into; tile `w` does steps `16 w … 16 w + 15`.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen
open Idealize.ShloMosaic

variable {F : FTy → Type}

/-! ## Indices of the three arrays -/

def ixT (r : Fin 196608) (c : Fin 128) : S196608x128.Idx :=
  fun | 0 => r | 1 => c | ⟨_ + 2, h⟩ => absurd h (Nat.not_lt.2 (Nat.le_add_left _ _))
def ixI (r : Fin 1024) (c : Fin 128) : S1024x128.Idx :=
  fun | 0 => r | 1 => c | ⟨_ + 2, h⟩ => absurd h (Nat.not_lt.2 (Nat.le_add_left _ _))
def ix2 (r : Fin 2) (c : Fin 128) : S2x128.Idx :=
  fun | 0 => r | 1 => c | ⟨_ + 2, h⟩ => absurd h (Nat.not_lt.2 (Nat.le_add_left _ _))

theorem ext2 {a b : ℕ} {x y : (⟨2, ![a, b]⟩ : Shape).Idx} (h0 : (x 0).val = (y 0).val) (h1 : (x 1).val = (y 1).val) : x = y := by
  funext k
  match k with
  | 0 => exact Fin.ext h0
  | 1 => exact Fin.ext h1

/-- The row of the table a word names. -/
def rowAt (w : BitVec 32) : Fin 196608 := ⟨w.toNat % 196608, Nat.mod_lt _ (by decide)⟩

/-- Where the row number of row `n` of the result stands in the array of row numbers, cut into rows of 128. -/
def numAt (n : Fin 131072) : S1024x128.Idx := ixI ⟨n.val / 128, by have := n.isLt; omega⟩ ⟨n.val % 128, Nat.mod_lt _ (by decide)⟩

/-- The gather's result: row `n` is the table's row whose number is the `n`-th. -/
def gath (tbl : S196608x128.Idx → Elt F .i32) (ix : S1024x128.Idx → Elt F .i32) : S131072x128.Idx → Elt F .i32 :=
  fun j => tbl (ixT (rowAt (ix (numAt (j 0)))) (j 1))

/-! ## The views -/

/-- Step `k` of the tile at `i`. -/
def step (i : grid0.Coords) (k : ℕ) : Fin 512 := ⟨(16 * tile i + k) % 512, Nat.mod_lt _ (by decide)⟩
/-- The slot of step `k`. -/
def slot (k : ℕ) : Fin 2 := ⟨k % 2, Nat.mod_lt _ (by decide)⟩

theorem inA_inb (p : Fin 2) : ∀ a, (![p.val, 0, 0] : Fin 3 → ℕ) a + S1x2x128.size a ≤ S2x2x128.size a := by revert p; decide
theorem rowA_inb (p : Fin 2) : ∀ a, (![p.val, 0, 0] : Fin 3 → ℕ) a + S1x256x128.size a ≤ S2x256x128.size a := by revert p; decide
theorem sem_inb (p : Fin 2) : ∀ a, (![p.val] : Fin 1 → ℕ) a + S1.size a ≤ S2.size a := by revert p; decide
theorem idxA_inb (g : Fin 512) : ∀ a, (![2 * g.val, 0] : Fin 2 → ℕ) a + S2x128.size a ≤ S1024x128.size a := by
  intro a; have := g.isLt
  match a with
  | 0 => show 2 * g.val + 2 ≤ 1024; omega
  | 1 => show 0 + 128 ≤ 128; omega
theorem outA_inb (g : Fin 512) : ∀ a, (![256 * g.val, 0] : Fin 2 → ℕ) a + S256x128.size a ≤ S131072x128.size a := by
  intro a; have := g.isLt
  match a with
  | 0 => show 256 * g.val + 256 ≤ 131072; omega
  | 1 => show 0 + 128 ≤ 128; omega
theorem offA_inb (e : Fin 2) : ∀ a, (![e.val, 0] : Fin 2 → ℕ) a + S1x128.size a ≤ S2x128.size a := by revert e; decide
theorem halfA_inb (e : Fin 2) : ∀ a, (![128 * e.val, 0] : Fin 2 → ℕ) a + S128x128.size a ≤ S256x128.size a := by revert e; decide

abbrev inA (off : Fin 3 → ℕ) (h : ∀ a, off a + S1x2x128.size a ≤ S2x2x128.size a) : Memref sig .scVector .vmem S2x128 .i32 :=
  ((Memref.whole cc0_scoped0 : Memref sig .scVector .vmem S2x2x128 .i32).slice (Rect.unit (s := S2x2x128) off S1x2x128.size h) (fun _ => rfl)).squeeze S2x128 squeezes_S1x2x128_S2x128
abbrev rowA (off : Fin 3 → ℕ) (h : ∀ a, off a + S1x256x128.size a ≤ S2x256x128.size a) : Memref sig .scVector .vmem S256x128 .i32 :=
  ((Memref.whole cc0_scoped2 : Memref sig .scVector .vmem S2x256x128 .i32).slice (Rect.unit (s := S2x256x128) off S1x256x128.size h) (fun _ => rfl)).squeeze S256x128 squeezes_S1x256x128_S256x128
abbrev idxA (off : Fin 2 → ℕ) (h : ∀ a, off a + S2x128.size a ≤ S1024x128.size a) : Memref sig .scVector .hbm S2x128 .i32 :=
  (Memref.whole main_v1_scv : Memref sig .scVector .hbm S1024x128 .i32).slice (Rect.unit (s := S1024x128) off S2x128.size h) (fun _ => rfl)
abbrev outA (off : Fin 2 → ℕ) (h : ∀ a, off a + S256x128.size a ≤ S131072x128.size a) : Memref sig .scVector .hbm S256x128 .i32 :=
  (Memref.whole main_v2_scv : Memref sig .scVector .hbm S131072x128 .i32).slice (Rect.unit (s := S131072x128) off S256x128.size h) (fun _ => rfl)
abbrev semA (s : DmaSems sig S2) (off : Fin 1 → ℕ) (h : ∀ a, off a + S1.size a ≤ S2.size a) : DmaSem sig :=
  ((s.slice (Rect.unit (s := S2) off S1.size h)).squeeze S_ squeezes_S1_S_).sem

/-- Index slot `p`, row slot `p`, block `g` of the row numbers, block `g` of the result, semaphore `p` of a pair. -/
abbrev inM (p : Fin 2) := inA ![p.val, 0, 0] (inA_inb p)
abbrev rowM (p : Fin 2) := rowA ![p.val, 0, 0] (rowA_inb p)
abbrev idxM (g : Fin 512) := idxA ![2 * g.val, 0] (idxA_inb g)
abbrev outM (g : Fin 512) := outA ![256 * g.val, 0] (outA_inb g)
abbrev semM (s : DmaSems sig S2) (p : Fin 2) : DmaSem sig := semA s ![p.val] (sem_inb p)

/-- Row `e` of an index slot, half `e` of a row slot, the table whole. -/
abbrev offM (m : Memref sig .scVector .vmem S2x128 .i32) (e : Fin 2) : Memref sig .scVector .vmem S128 .i32 :=
  (m.slice (Rect.unit (s := S2x128) ![e.val, 0] S1x128.size (offA_inb e)) (fun _ => rfl)).squeeze S128 squeezes_S1x128_S128
abbrev halfM (m : Memref sig .scVector .vmem S256x128 .i32) (e : Fin 2) : Memref sig .scVector .vmem S128x128 .i32 :=
  m.slice (Rect.unit (s := S256x128) ![128 * e.val, 0] S128x128.size (halfA_inb e)) (fun _ => rfl)
abbrev tblM : Memref sig .scVector .hbm S196608x128 .i32 :=
  (Memref.whole main_arg0_scv : Memref sig .scVector .hbm S196608x128 .i32).slice (Rect.unit (s := S196608x128) ![0, 0] S196608x128.size inb_S196608x128_S196608x128_0_0) (fun _ => rfl)

theorem inA_eq {off h} {p : Fin 2} (e : off = ![p.val, 0, 0]) : inA off h = inM p := by subst e; rfl
theorem rowA_eq {off h} {p : Fin 2} (e : off = ![p.val, 0, 0]) : rowA off h = rowM p := by subst e; rfl
theorem idxA_eq {off h} {g : Fin 512} (e : off = ![2 * g.val, 0]) : idxA off h = idxM g := by subst e; rfl
theorem outA_eq {off h} {g : Fin 512} (e : off = ![256 * g.val, 0]) : outA off h = outM g := by subst e; rfl
theorem semA_eq {s off h} {p : Fin 2} (e : off = ![p.val]) : semA s off h = semM s p := by subst e; rfl

/-! ## What they read -/

theorem read_idxM (ix : S1024x128.Idx → Elt F .i32) (g : Fin 512) (x : S2x128.Idx) :
    (idxM g).view.read (Elt F) ix x = ix (ixI ⟨2 * g.val + (x 0).val, by have := g.isLt; have : (x 0).val < 2 := (x 0).isLt; omega⟩ (x 1)) := by
  refine ((View.read_apply _ _).trans (cast_eq _ _)).trans (congrArg ix (ext2 ?_ ?_))
  · show 2 * g.val + 1 * (x 0).val = 2 * g.val + (x 0).val; omega
  · show 0 + 1 * (x 1).val = (x 1).val; omega

theorem read_outM (G : S131072x128.Idx → Elt F .i32) (g : Fin 512) (x : S256x128.Idx) :
    (outM g).view.read (Elt F) G x = G ((outM g).view.emb x) := (View.read_apply _ _).trans (cast_eq _ _)
theorem emb_outM_zero (g : Fin 512) (x : S256x128.Idx) : ((outM g).view.emb x 0).val = 256 * g.val + (x 0).val := by
  show 256 * g.val + 1 * (x 0).val = _; omega
theorem emb_outM_one (g : Fin 512) (x : S256x128.Idx) : (outM g).view.emb x 1 = x 1 :=
  Fin.ext (by show 0 + 1 * (x 1).val = _; omega)

theorem read_tblM (tbl : S196608x128.Idx → Elt F .i32) (x : S196608x128.Idx) : tblM.view.read (Elt F) tbl x = tbl x := by
  refine ((View.read_apply _ _).trans (cast_eq _ _)).trans (congrArg tbl (ext2 ?_ ?_))
  · show 0 + 1 * (x 0).val = (x 0).val; omega
  · show 0 + 1 * (x 1).val = (x 1).val; omega

theorem read_offM (m : Memref sig .scVector .vmem S2x128 .i32) (e : Fin 2) (f : m.view.ty.Contents (Elt F)) (x : S128.Idx) :
    (offM m e).view.read (Elt F) f x = m.view.read (Elt F) f (ix2 e (x 0)) := by
  show m.view.read (Elt F) f ((Rect.unit (s := S2x128) ![e.val, 0] S1x128.size (offA_inb e)).emb (Shape.reshapeEquiv squeezes_S1x128_S128.numel_eq x)) = _
  refine congrArg _ (ext2 ?_ ?_)
  · show e.val + 1 * (Shape.reshapeEquiv squeezes_S1x128_S128.numel_eq x 0).val = e.val
    rw [Shape.reshapeEquiv_cons_one]; show e.val + 1 * 0 = _; omega
  · show 0 + 1 * (Shape.reshapeEquiv squeezes_S1x128_S128.numel_eq x 1).val = (x 0).val
    rw [Shape.reshapeEquiv_cons_one]; show 0 + 1 * (x 0).val = _; omega

/-- An index slot that holds step `g`'s row numbers: each word of its row `e` is the number of a row of half `e` of block `g`. -/
theorem read_off_slot {ix : S1024x128.Idx → Elt F .i32} {m : Memref sig .scVector .vmem S2x128 .i32} {f : m.view.ty.Contents (Elt F)}
    {g : Fin 512} (hf : m.view.read (Elt F) f = (idxM g).view.read (Elt F) ix) (e : Fin 2) (x : S128.Idx) :
    (offM m e).view.read (Elt F) f x
      = ix (ixI ⟨2 * g.val + e.val, by have := g.isLt; have := e.isLt; omega⟩ (x 0)) := by
  rw [read_offM, hf, read_idxM]; rfl

/-- The rows a gather fetches: half `e` of block `g` of the result. -/
theorem payload_eq {tbl : S196608x128.Idx → Elt F .i32} {ix : S1024x128.Idx → Elt F .i32} (hix : ∀ j, (ix j).toNat < 196608)
    {m : Memref sig .scVector .vmem S2x128 .i32} {f : m.view.ty.Contents (Elt F)} {g : Fin 512}
    (hf : m.view.read (Elt F) f = (idxM g).view.read (Elt F) ix) (e : Fin 2)
    (hn : S128.numel = S128x128.size gathers_S196608x128_S128x128.axis')
    (hin : ∀ x, ((offM m e).view.read (Elt F) f x).toNat < S196608x128.size gathers_S196608x128_S128x128.axis) (y : S128x128.Idx) :
    SparseCore.gatherPayload gathers_S196608x128_S128x128 (tblM.view.read (Elt F) tbl)
        (SparseCore.rows ((offM m e).view.read (Elt F) f) hn hin) y
      = gath tbl ix ((outM g).view.emb ((Rect.unit (s := S256x128) ![128 * e.val, 0] S128x128.size (halfA_inb e)).emb y)) := by
  unfold SparseCore.gatherPayload
  rw [read_tblM]
  unfold gath
  have hy0 : (y 0).val < 128 := (y 0).isLt
  have hx : ((S128.rowMajor.symm ((y 0).cast hn.symm)) 0).val = (y 0).val := by
    have h1 := Shape.rowMajor_val_one (d := ![128]) (S128.rowMajor.symm ((y 0).cast hn.symm))
    rw [← h1]
    show (S128.rowMajor (S128.rowMajor.symm ((y 0).cast hn.symm))).val = _
    rw [Equiv.apply_symm_apply]; rfl
  refine congrArg tbl (ext2 ?_ ?_)
  · have e0 : (gathers_S196608x128_S128x128.idx (SparseCore.rows ((offM m e).view.read (Elt F) f) hn hin) y 0).val
        = ((offM m e).view.read (Elt F) f (S128.rowMajor.symm ((y 0).cast hn.symm))).toNat := by
      exact congrArg Fin.val (Shape.Gathers.idx_axis gathers_S196608x128_S128x128 (SparseCore.rows ((offM m e).view.read (Elt F) f) hn hin) y)
    rw [e0, read_off_slot hf]
    show _ = (ix (numAt _)).toNat % 196608
    rw [Nat.mod_eq_of_lt (hix _)]
    congr 2
    unfold numAt
    refine ext2 ?_ ?_
    · show 2 * g.val + e.val = (256 * g.val + 1 * (128 * e.val + 1 * (y 0).val)) / 128
      omega
    · show ((S128.rowMajor.symm ((y 0).cast hn.symm)) 0).val = (256 * g.val + 1 * (128 * e.val + 1 * (y 0).val)) % 128
      rw [hx]; omega
  · have e1 := Shape.Gathers.idx_of_ne gathers_S196608x128_S128x128 (SparseCore.rows ((offM m e).view.read (Elt F) f) hn hin) y (b := 1) (by decide)
    show _ = 0 + 1 * (0 + 1 * (y 1).val)
    rw [show 0 + 1 * (0 + 1 * (y 1).val) = (y 1).val by omega]
    exact e1

theorem half_set (m : Memref sig .scVector .vmem S256x128 .i32) (e : Fin 2) :
    (halfM m e).view.set = (Rect.unit (s := S256x128) ![128 * e.val, 0] S128x128.size (halfA_inb e)).set.map m.view.emb := View.set_slice _ _

/-- The two halves of a row slot: apart, and nothing else. -/
theorem half_disjoint (m : Memref sig .scVector .vmem S256x128 .i32) : Disjoint (halfM m 0).view.set (halfM m 1).view.set := by
  rw [half_set, half_set, Finset.disjoint_map]
  rw [Finset.disjoint_left]
  intro x h0 h1
  have h0 := (Rect.mem_set_unit.mp h0) 0
  have h1 := (Rect.mem_set_unit.mp h1) 0
  have a0 : (x 0).val < 0 + 128 := h0.2
  have a1 : 128 ≤ (x 0).val := h1.1
  omega
theorem half_subset (m : Memref sig .scVector .vmem S256x128 .i32) (e : Fin 2) : (halfM m e).view.set ⊆ m.view.set := View.set_slice_subset _ _
theorem off_subset (m : Memref sig .scVector .vmem S2x128 .i32) (e : Fin 2) : (offM m e).view.set ⊆ m.view.set := by
  show ((m.view.slice _).reshape _ _).set ⊆ _
  rw [View.set_reshape]; exact View.set_slice_subset _ _
theorem half_cover (m : Memref sig .scVector .vmem S256x128 .i32) (i : m.view.ty.Idx) (hi : i ∈ m.view.set)
    (h0 : i ∉ (halfM m 0).view.set) : i ∈ (halfM m 1).view.set := by
  obtain ⟨x, -, rfl⟩ := Finset.mem_map.mp hi
  have key : ∀ e : Fin 2, 128 * e.val ≤ (x 0).val → (x 0).val < 128 * e.val + 128 → m.view.emb x ∈ (halfM m e).view.set := by
    intro e h h'
    rw [half_set]
    refine Finset.mem_map_of_mem _ (Rect.mem_set_unit.mpr fun a => ?_)
    match a with
    | 0 => exact ⟨h, h'⟩
    | 1 => exact ⟨Nat.zero_le _, by show (x 1).val < 0 + 128; have : (x 1).val < 128 := (x 1).isLt; omega⟩
  have hx : (x 0).val < 256 := (x 0).isLt
  by_cases h : (x 0).val < 128
  · exact absurd (key 0 (by simp) (by simpa using h)) h0
  · exact key 1 (by simp; omega) (by simp; omega)

end Cert.Proof.Gather

end
-- ==== Proof.Steps.lean ====
/-
  The gather's transfers, one lemma per operation: fetching a step's row numbers into an index slot and waiting for them,
  gathering the table's rows they name into a row slot and waiting for them, sending the row slot to the step's block of
  the result and waiting for that. A slot's state between the operations is one assertion: free, on its way, or full.
-/
module

public import proofs.«01_k».proof.Proof.Views

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none

/-- The tile's core and subcore, its thread. -/
abbrev cV (L : grid0.Coords) : Fin τ.nSC := (L 0).castLE hcore0
abbrev jV (L : grid0.Coords) : Fin τ.nSub := (L 1).castLE hsub0
abbrev th (d : Dev nD) (L : grid0.Coords) : Thread nD τ := V d (cV L) (jV L)

abbrev tLoc (d : Dev nD) : Loc nD τ sig := (SparseCore.T d).loc main_arg0
abbrev iLoc (d : Dev nD) : Loc nD τ sig := (SparseCore.T d).loc main_v1
abbrev oLoc (d : Dev nD) : Loc nD τ sig := (SparseCore.T d).loc main_v2

section

variable (d : Dev nD) (L : grid0.Coords) (tbl : S196608x128.Idx → Elt F .i32) (ix : S1024x128.Idx → Elt F .i32)
variable (qi qt : Fin 2 → PosShare TreeShare)

/-! ## A slot's states -/

/-- Index slot `p` free: its scratch, its semaphore at zero, and the share of the row numbers it reads through. -/
def InFree (p : Fin 2) : sProp 𝕄 :=
  iprop((∃ f, (inM p).view.loc (th d L) ↦[(inM p).view.set]{fullShare} f) ∗ semVal (th d L, .dma (semM cc0_scoped1 p)) 0 ∗ (iLoc d ↦{qi p} ix))
/-- Index slot `p` holding step `g`'s row numbers. -/
def InFull (p : Fin 2) (g : Fin 512) : sProp 𝕄 :=
  iprop((∃ f, ⌜(inM p).view.read (Elt F) f = (idxM g).view.read (Elt F) ix⌝ ∗ (inM p).view.loc (th d L) ↦[(inM p).view.set]{fullShare} f)
    ∗ semVal (th d L, .dma (semM cc0_scoped1 p)) 0 ∗ (iLoc d ↦{qi p} ix))
/-- Step `g`'s row numbers on their way into index slot `p`. -/
def InFly (p : Fin 2) (g : Fin 512) : sProp 𝕄 :=
  iprop(Transfers.Flight countersEmb (th d L) (.dma (semM cc0_scoped1 p)) (default : HIx 1) (inM p).view.dmaCredit
      iprop((∃ f, ⌜(inM p).view.read (Elt F) f = (idxM g).view.read (Elt F) ix⌝ ∗ (inM p).view.loc (th d L) ↦[(inM p).view.set]{fullShare} f)
        ∗ (idxM g).view.loc (th d L) ↦[(idxM g).view.set]{qi p} ix)
    ∗ iLoc d ↦[Finset.univ \ (idxM g).view.set]{qi p} ix)

/-- Row slot `p` free, its semaphore at zero. -/
def RowFree (p : Fin 2) : sProp 𝕄 :=
  iprop((∃ f, (rowM p).view.loc (th d L) ↦[(rowM p).view.set]{fullShare} f) ∗ semVal (th d L, .dma (semM cc0_scoped3 p)) 0)
/-- Row slot `p` holding step `g`'s rows. -/
def RowFull (p : Fin 2) (g : Fin 512) : sProp 𝕄 :=
  iprop((∃ f, ⌜(rowM p).view.read (Elt F) f = (outM g).view.read (Elt F) (gath tbl ix)⌝ ∗ (rowM p).view.loc (th d L) ↦[(rowM p).view.set]{fullShare} f)
    ∗ semVal (th d L, .dma (semM cc0_scoped3 p)) 0)
/-- Block `g` of the result, at contents `f`. -/
def Blk (g : Fin 512) (f : S131072x128.Idx → Elt F .i32) : sProp 𝕄 := (outM g).view.loc (th d L) ↦[(outM g).view.set]{fullShare} f
/-- Row slot `p` on its way to block `g` of the result. -/
def RowFly (p : Fin 2) (g : Fin 512) : sProp 𝕄 :=
  Transfers.Flight countersEmb (th d L) (.dma (semM cc0_scoped3 p)) (default : HIx 1) (outM g).view.dmaCredit
      iprop(Blk d L g (gath tbl ix) ∗ ∃ f, (rowM p).view.loc (th d L) ↦[(rowM p).view.set]{fullShare} f)

/-- What one of the two gathers reads through: a share of the table, and its semaphore at zero. -/
def Tab (e : Fin 2) : sProp 𝕄 := iprop((tLoc d ↦{qt e} tbl) ∗ semVal (th d L, .dma (semM cc0_scratch0 e)) 0)

/-! ## The row numbers -/

theorem wp_fetch {src : Memref sig .scVector .hbm S2x128 .i32} {dst : Memref sig .scVector .vmem S2x128 .i32} {sem : DmaSem sig}
    {p : Fin 2} {g : Fin 512} (hs : src = idxM g) (hd : dst = inM p) (hq : sem = semM cc0_scoped1 p)
    {h1 : src.view.WordExact} {h2 : dst.view.WordExact} {h3 : (DmaTarget.here dst : DmaTarget nD τ sig (th d L).2 .vmem S2x128 .i32).Typed .hbm (.dma sem)} {α : Type}
    {k : PUnit → Prog (TpuEff nD τ sig (Elt F) Λ₀ (th d L).2) α} {Q : α → sProp 𝕄} :
    InFree d L ix qi p
      ⊢ iprop((InFly d L ix qi p g -∗ wp frame (wpE (defs₀ (F := F)) 𝒱₀ (th d L) none) Set.univ (k ⟨⟩) Q)
          -∗ wp frame (wpE (defs₀ (F := F)) 𝒱₀ (th d L) none) Set.univ (.op (.enqueueDma src (.here dst) (.dma sem) h1 h2 h3) k) Q) := by
  subst hs hd hq
  unfold InFree InFly
  iintro ⟨⟨%f, Hf⟩, Hs, Hi⟩ Hk
  ihave Hi' := (pointsTo_split_subset (q := qi p) (f := ix) (S := Finset.univ) (Finset.subset_univ (idxM g).view.set)).1 $$ Hi
  icases Hi' with ⟨Hi, Hr⟩
  iapply (Transfers.wp_dmaLocal countersEmb 𝒱₀ (th d L) none (default : HIx 1) (inM p).view.dmaCredit rfl (View.dmaCredit_pos _ (by decide)) (Finset.Subset.refl _)) $$ [Hi Hf Hs]
  · isplitl [Hi]; · iexact Hi
    isplitl [Hf]; · iexact Hf
    iexact Hs
  iintro Hfl
  iapply Hk
  isplitl [Hfl]
  · iapply (Transfers.Flight_mono countersEmb (th d L) ?_)
    rotate_left
    · iexact Hfl
    iintro ⟨Hd, Hs⟩
    isplitl [Hd]
    · iexists _
      isplitr
      swap
      · iexact Hd
      ipureintro
      exact View.read_write_univ _ _
    iexact Hs
  iexact Hr

theorem wp_fetched {sp : Space} {s' : Shape} {e' : EltTy} {src : Memref sig .scVector sp s' e'} {dst : Memref sig .scVector .vmem S2x128 .i32} {sem : DmaSem sig}
    {p : Fin 2} {g : Fin 512} (hd : dst = inM p) (hq : sem = semM cc0_scoped1 p)
    {h1 : src.view.WordExact} {h2 : dst.view.WordExact} {α : Type}
    {k : PUnit → Prog (TpuEff nD τ sig (Elt F) Λ₀ (th d L).2) α} {Q : α → sProp 𝕄} {O : CellTallies nD τ sig (HIx 1)} {W : Waits sig (HIx 1)} :
    iprop(InFly d L ix qi p g ∗ owes (th d L) O W ∗ Transfers.MayWaits (th d L) (default : HIx 1) O)
      ⊢ iprop((iprop(InFull d L ix qi p g ∗ owes (th d L) O (insert (SemLoc.dma sem, default) W)) -∗ wp frame (wpE (defs₀ (F := F)) 𝒱₀ (th d L) none) Set.univ (k ⟨⟩) Q)
          -∗ wp frame (wpE (defs₀ (F := F)) 𝒱₀ (th d L) none) Set.univ (.op (.waitDma2 sem src dst h1 h2) k) Q) := by
  subst hd hq
  unfold InFull InFly
  iintro ⟨⟨Hfl, Hr⟩, HO, #Hmw⟩ Hk
  iapply (Transfers.wp_waitLocalO countersEmb 𝒱₀ (th d L) none (default : HIx 1) (rfl : (inM p).view.dmaCredit = _)) $$ [Hfl HO]
  · isplitl [Hfl]; · iexact Hfl
    isplitl [HO]; · iexact HO
    iapply (Transfers.MayWaits.elim (SemLoc.dma (semM cc0_scoped1 p))) $$ Hmw
  iintro ⟨⟨Hd, Hi⟩, Hs, HO⟩
  iapply Hk
  isplitr [HO]
  · isplitl [Hd]; · iexact Hd
    isplitl [Hs]; · iexact Hs
    iapply (pointsTo_split_subset (q := qi p) (f := ix) (S := Finset.univ) (Finset.subset_univ (idxM g).view.set)).2
    isplitl [Hi]; · iexact Hi
    iexact Hr
  iexact HO

/-! ## The rows out -/

theorem wp_send {src : Memref sig .scVector .vmem S256x128 .i32} {dst : Memref sig .scVector .hbm S256x128 .i32} {sem : DmaSem sig}
    {p : Fin 2} {g : Fin 512} (hs : src = rowM p) (hd : dst = outM g) (hq : sem = semM cc0_scoped3 p)
    {h1 : src.view.WordExact} {h2 : dst.view.WordExact} {h3 : (DmaTarget.here dst : DmaTarget nD τ sig (th d L).2 .hbm S256x128 .i32).Typed .vmem (.dma sem)} {α : Type}
    {k : PUnit → Prog (TpuEff nD τ sig (Elt F) Λ₀ (th d L).2) α} {Q : α → sProp 𝕄} {f₀ : S131072x128.Idx → Elt F .i32} :
    iprop(RowFull d L tbl ix p g ∗ Blk d L g f₀)
      ⊢ iprop((RowFly d L tbl ix p g -∗ wp frame (wpE (defs₀ (F := F)) 𝒱₀ (th d L) none) Set.univ (k ⟨⟩) Q)
          -∗ wp frame (wpE (defs₀ (F := F)) 𝒱₀ (th d L) none) Set.univ (.op (.enqueueDma src (.here dst) (.dma sem) h1 h2 h3) k) Q) := by
  subst hs hd hq
  unfold RowFull RowFly Blk
  iintro ⟨⟨⟨%f, %hf, Hf⟩, Hs⟩, Hb⟩ Hk
  iapply (Transfers.wp_dmaLocal countersEmb 𝒱₀ (th d L) none (default : HIx 1) (outM g).view.dmaCredit rfl (View.dmaCredit_pos _ (by decide)) (Finset.Subset.refl _)) $$ [Hf Hb Hs]
  · isplitl [Hf]; · iexact Hf
    isplitl [Hb]; · iexact Hb
    iexact Hs
  iintro Hfl
  iapply Hk
  iapply (Transfers.Flight_mono countersEmb (th d L) ?_)
  rotate_left
  · iexact Hfl
  iintro ⟨Hd, Hs⟩
  isplitl [Hd]
  · iapply (Entails.of_eq (pointsTo_congr ?_))
    rotate_left
    · iexact Hd
    intro i hi
    obtain ⟨x, -, rfl⟩ := Finset.mem_map.mp hi
    rw [View.write_emb_of_mem _ _ (Finset.mem_univ x)]
    show _root_.cast _ ((rowM p).view.read (Elt F) f x) = _
    rw [hf]; rfl
  iexists _; iexact Hs

theorem wp_sent {sp : Space} {s' : Shape} {e' : EltTy} {src : Memref sig .scVector sp s' e'} {dst : Memref sig .scVector .hbm S256x128 .i32} {sem : DmaSem sig}
    {p : Fin 2} {g : Fin 512} (hq : sem = semM cc0_scoped3 p) (hN : dst.view.dmaCredit = (outM g).view.dmaCredit)
    {h1 : src.view.WordExact} {h2 : dst.view.WordExact} {α : Type}
    {k : PUnit → Prog (TpuEff nD τ sig (Elt F) Λ₀ (th d L).2) α} {Q : α → sProp 𝕄} {O : CellTallies nD τ sig (HIx 1)} {W : Waits sig (HIx 1)} :
    iprop(RowFly d L tbl ix p g ∗ owes (th d L) O W ∗ Transfers.MayWaits (th d L) (default : HIx 1) O)
      ⊢ iprop((iprop(RowFree d L p ∗ Blk d L g (gath tbl ix) ∗ owes (th d L) O (insert (SemLoc.dma sem, default) W)) -∗ wp frame (wpE (defs₀ (F := F)) 𝒱₀ (th d L) none) Set.univ (k ⟨⟩) Q)
          -∗ wp frame (wpE (defs₀ (F := F)) 𝒱₀ (th d L) none) Set.univ (.op (.waitDma2 sem src dst h1 h2) k) Q) := by
  subst hq
  unfold RowFree RowFly
  iintro ⟨Hfl, HO, #Hmw⟩ Hk
  iapply (Transfers.wp_waitLocalO countersEmb 𝒱₀ (th d L) none (default : HIx 1) hN) $$ [Hfl HO]
  · isplitl [Hfl]; · iexact Hfl
    isplitl [HO]; · iexact HO
    iapply (Transfers.MayWaits.elim (SemLoc.dma (semM cc0_scoped3 p))) $$ Hmw
  iintro ⟨⟨Hd, Hi⟩, Hs, HO⟩
  iapply Hk
  isplitl [Hi Hs]
  · isplitl [Hi]; · iexact Hi
    iexact Hs
  isplitl [Hd]; · iexact Hd
  iexact HO

end

end Cert.Proof.Gather

end
-- ==== Proof.Streams.lean ====
/-
  The gather proper: a step's two indirect streams, each fetching 128 rows of the table by the 128 row numbers of one row
  of its index slot into one half of its row slot; and the index and row slots taken apart for them and put together after.
-/
module

public import proofs.«01_k».proof.Proof.Steps

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section

variable (d : Dev nD) (L : grid0.Coords) (tbl : S196608x128.Idx → Elt F .i32) (ix : S1024x128.Idx → Elt F .i32)
variable (qi qt : Fin 2 → PosShare TreeShare)

/-- Where half `e` of block `g` of the result is. -/
abbrev halfAt (g : Fin 512) (e : Fin 2) (y : S128x128.Idx) : S131072x128.Idx :=
  (outM g).view.emb ((Rect.unit (s := S256x128) ![128 * e.val, 0] S128x128.size (halfA_inb e)).emb y)

/-- Row `e` of an index slot at contents `f`, held at a share. -/
def Offs (p e : Fin 2) (q : PosShare TreeShare) (f : (inM p).view.ty.Contents (Elt F)) : sProp 𝕄 :=
  (offM (inM p) e).view.loc (th d L) ↦[(offM (inM p) e).view.set]{q} f
/-- What the two streams leave of the index slot. -/
def InRest (p : Fin 2) (f : (inM p).view.ty.Contents (Elt F)) : sProp 𝕄 :=
  iprop(((inM p).view.loc (th d L) ↦[(inM p).view.set \ (offM (inM p) 0).view.set]{fullShare.left} f)
    ∗ ((inM p).view.loc (th d L) ↦[(inM p).view.set \ (offM (inM p) 1).view.set]{fullShare.right} f)
    ∗ semVal (th d L, .dma (semM cc0_scoped1 p)) 0 ∗ (iLoc d ↦{qi p} ix))

theorem in_split (p : Fin 2) (g : Fin 512) :
    InFull d L ix qi p g ⊢ iprop(∃ f, ⌜(inM p).view.read (Elt F) f = (idxM g).view.read (Elt F) ix⌝
      ∗ Offs d L p 0 fullShare.left f ∗ Offs d L p 1 fullShare.right f ∗ InRest d L ix qi p f) := by
  unfold InFull Offs InRest
  iintro ⟨⟨%f, %hf, Hf⟩, Hs, Hi⟩
  iexists f
  isplitr; · ipureintro; exact hf
  ihave H := (pointsTo_share (PosShare.mem_left_op_right fullShare)).1 $$ Hf
  icases H with ⟨Hl, Hr⟩
  ihave H := (pointsTo_split_subset (q := fullShare.left) (f := f) (S := (inM p).view.set) (off_subset (inM p) 0)).1 $$ Hl
  icases H with ⟨H0, Hl⟩
  ihave H := (pointsTo_split_subset (q := fullShare.right) (f := f) (S := (inM p).view.set) (off_subset (inM p) 1)).1 $$ Hr
  icases H with ⟨H1, Hr⟩
  isplitl [H0]; · iexact H0
  isplitl [H1]; · iexact H1
  isplitl [Hl]; · iexact Hl
  isplitl [Hr]; · iexact Hr
  isplitl [Hs]; · iexact Hs
  iexact Hi

theorem in_join (p : Fin 2) (f : (inM p).view.ty.Contents (Elt F)) :
    iprop(Offs d L p 0 fullShare.left f ∗ Offs d L p 1 fullShare.right f ∗ InRest d L ix qi p f) ⊢ InFree d L ix qi p := by
  unfold InFree Offs InRest
  iintro ⟨H0, H1, Hl, Hr, Hs, Hi⟩
  isplitl [H0 H1 Hl Hr]
  · iexists f
    iapply (pointsTo_share (PosShare.mem_left_op_right fullShare)).2
    isplitl [H0 Hl]
    · iapply (pointsTo_split_subset (q := fullShare.left) (f := f) (S := (inM p).view.set) (off_subset (inM p) 0)).2
      isplitl [H0]; · iexact H0
      iexact Hl
    · iapply (pointsTo_split_subset (q := fullShare.right) (f := f) (S := (inM p).view.set) (off_subset (inM p) 1)).2
      isplitl [H1]; · iexact H1
      iexact Hr
  isplitl [Hs]; · iexact Hs
  iexact Hi

/-- Half `e` of a row slot, at some contents; at the rows of half `e` of block `g`. -/
def Half (p e : Fin 2) : sProp 𝕄 :=
  iprop(∃ f, (halfM (rowM p) e).view.loc (th d L) ↦[(halfM (rowM p) e).view.set]{fullShare} f)
def HalfFull (p e : Fin 2) (g : Fin 512) : sProp 𝕄 :=
  iprop(∃ f, ⌜(halfM (rowM p) e).view.read (Elt F) f = fun y => gath tbl ix (halfAt g e y)⌝
    ∗ (halfM (rowM p) e).view.loc (th d L) ↦[(halfM (rowM p) e).view.set]{fullShare} f)

theorem half_rest (p : Fin 2) : (rowM p).view.set \ (halfM (rowM p) 0).view.set = (halfM (rowM p) 1).view.set := by
  ext i
  constructor
  · intro h
    exact half_cover _ i (Finset.mem_sdiff.mp h).1 (Finset.mem_sdiff.mp h).2
  · intro h
    exact Finset.mem_sdiff.mpr ⟨half_subset _ 1 h, fun h0 => Finset.disjoint_left.mp (half_disjoint (rowM p)) h0 h⟩

theorem row_split (p : Fin 2) :
    RowFree d L p ⊢ iprop(Half d L p 0 ∗ Half d L p 1 ∗ semVal (th d L, .dma (semM cc0_scoped3 p)) 0 : sProp 𝕄) := by
  unfold RowFree Half
  iintro ⟨⟨%f, Hf⟩, Hs⟩
  ihave H := (pointsTo_split_subset (q := fullShare) (f := f) (S := (rowM p).view.set) (half_subset (rowM p) 0)).1 $$ Hf
  icases H with ⟨H0, H1⟩
  isplitl [H0]; · iexists f; iexact H0
  isplitl [H1]
  · iexists f
    iapply (Entails.of_eq (show ((rowM p).view.loc (th d L) ↦[(rowM p).view.set \ (halfM (rowM p) 0).view.set]{fullShare} f : sProp 𝕄)
      = (halfM (rowM p) 1).view.loc (th d L) ↦[(halfM (rowM p) 1).view.set]{fullShare} f by rw [half_rest]))
    iexact H1
  iexact Hs

/-- A half at its rows agrees with the whole slot at the block's rows. -/
theorem half_agree {p : Fin 2} (e : Fin 2) {g : Fin 512} {f f₀ : (rowM p).view.ty.Contents (Elt F)}
    (hf : (halfM (rowM p) e).view.read (Elt F) f = fun y => gath tbl ix (halfAt g e y)) :
    ∀ i ∈ (halfM (rowM p) e).view.set, f i = (rowM p).view.write (Elt F) f₀ ((outM g).view.read (Elt F) (gath tbl ix)) Finset.univ i := by
  intro i hi
  obtain ⟨y, -, rfl⟩ := Finset.mem_map.mp hi
  have h := congrFun hf y
  have h' : f ((halfM (rowM p) e).view.emb y) = gath tbl ix (halfAt g e y) := ((View.read_apply _ _).trans (cast_eq _ _)).symm.trans h
  rw [h']
  refine Eq.trans ?_ (View.write_emb_of_mem (v := (rowM p).view) f₀ _ (Finset.mem_univ ((Rect.unit (s := S256x128) ![128 * e.val, 0] S128x128.size (halfA_inb e)).emb y))).symm
  rw [read_outM]; rfl

theorem row_join (p : Fin 2) (g : Fin 512) :
    iprop(HalfFull d L tbl ix p 0 g ∗ HalfFull d L tbl ix p 1 g ∗ semVal (th d L, .dma (semM cc0_scoped3 p)) 0) ⊢ RowFull d L tbl ix p g := by
  unfold RowFull HalfFull
  iintro ⟨⟨%f0, %h0, H0⟩, ⟨%f1, %h1, H1⟩, Hs⟩
  isplitr [Hs]
  · iexists ((rowM p).view.write (Elt F) f0 ((outM g).view.read (Elt F) (gath tbl ix)) Finset.univ)
    isplitr; · ipureintro; exact View.read_write_univ _ _
    iapply (pointsTo_split_subset (q := fullShare) (S := (rowM p).view.set) (half_subset (rowM p) 0)).2
    isplitl [H0]
    · iapply (Entails.of_eq (pointsTo_congr (half_agree tbl ix 0 h0))); iexact H0
    · iapply (Entails.of_eq (show ((halfM (rowM p) 1).view.loc (th d L) ↦[(halfM (rowM p) 1).view.set]{fullShare}
            (rowM p).view.write (Elt F) f0 ((outM g).view.read (Elt F) (gath tbl ix)) Finset.univ : sProp 𝕄)
        = (rowM p).view.loc (th d L) ↦[(rowM p).view.set \ (halfM (rowM p) 0).view.set]{fullShare}
            (rowM p).view.write (Elt F) f0 ((outM g).view.read (Elt F) (gath tbl ix)) Finset.univ by rw [half_rest]))
      iapply (Entails.of_eq (pointsTo_congr (half_agree tbl ix 1 h1))); iexact H1
  iexact Hs

/-- Stream `e` on its way. -/
def Stream (p e : Fin 2) (q : PosShare TreeShare) (f : (inM p).view.ty.Contents (Elt F)) (g : Fin 512) : sProp 𝕄 :=
  iprop(Transfers.Flight countersEmb (th d L) (.dma (semM cc0_scratch0 e)) (default : HIx 1) (halfM (rowM p) e).view.dmaCredit
      iprop(HalfFull d L tbl ix p e g ∗ ((tblM).view.loc (th d L) ↦[(tblM).view.set]{qt e} tbl) ∗ Offs d L p e q f)
    ∗ (tLoc d ↦[Finset.univ \ (tblM).view.set]{qt e} tbl))

set_option maxRecDepth 8192 in
theorem stream_credit : ∀ p e : Fin 2,
    ∑ j, ((halfM (rowM p) e).slice (S128x128.rowRect gathers_S196608x128_S128x128.axis' j) (S128x128.stride_rowRect gathers_S196608x128_S128x128.axis' j)).view.dmaCredit
      = (halfM (rowM p) e).view.dmaCredit := by decide

theorem wp_gather (hix : ∀ j, (ix j).toNat < 196608)
    {src : Memref sig .scVector .hbm S196608x128 .i32} {dst : Memref sig .scVector .vmem S128x128 .i32} {offs : Memref sig .scVector .vmem S128 .i32} {sem : DmaSem sig}
    {p e : Fin 2} {g : Fin 512} {q : PosShare TreeShare} {f : (inM p).view.ty.Contents (Elt F)}
    (hf : (inM p).view.read (Elt F) f = (idxM g).view.read (Elt F) ix)
    (hs : src = tblM) (hd : dst = halfM (rowM p) e) (ho : offs = offM (inM p) e) (hq : sem = semM cc0_scratch0 e)
    {hp : (th d L).2.kind = .scVector} {hn : S128.numel = S128x128.size gathers_S196608x128_S128x128.axis'}
    {hsrc : src.view.WordExact} {he : EltTy.i32.bits = 32} {hsp : Space.hbm = .hbm ∨ Space.hbm = .shared} {hr : S196608x128.StreamRows 0}
    {α : Type} {k : PUnit → Prog (TpuEff nD τ sig (Elt F) Λ₀ (th d L).2) α} {Q : α → sProp 𝕄} :
    iprop(Offs d L p e q f ∗ Half d L p e ∗ Tab d L tbl qt e)
      ⊢ iprop((Stream d L tbl ix qt p e q f g -∗ wp frame (wpE (defs₀ (F := F)) 𝒱₀ (th d L) none) Set.univ (k ⟨⟩) Q)
          -∗ wp frame (wpE (defs₀ (F := F)) 𝒱₀ (th d L) none) Set.univ
              (SparseCore.enqueueIndirectGather hp src dst gathers_S196608x128_S128x128 offs hn sem hsrc he hsp hr >>= k) Q) := by
  subst hs hd ho hq
  unfold Stream Offs Half Tab
  iintro ⟨Ho, ⟨%fr, Hr⟩, Ht, Hs⟩ Hk
  have hin : ∀ x, ((offM (inM p) e).view.read (Elt F) f x).toNat < S196608x128.size gathers_S196608x128_S128x128.axis := by
    intro x; rw [read_off_slot hf]; exact hix _
  ihave H := (pointsTo_split_subset (q := qt e) (f := tbl) (S := Finset.univ) (Finset.subset_univ (tblM).view.set)).1 $$ Ht
  icases H with ⟨Ht, Htr⟩
  iapply (SparseCore.wp_indirectGatherLocal countersEmb 𝒱₀ (th d L) none (hg := gathers_S196608x128_S128x128) (default : HIx 1)
      (halfM (rowM p) e).view.dmaCredit (stream_credit p e) (by decide) hin) $$ [Ht Hr Ho Hs]
  · isplitl [Ht]; · iexact Ht
    isplitl [Hr]; · iexact Hr
    isplitl [Ho]; · iexact Ho
    iexact Hs
  iintro Hfl
  iapply Hk
  isplitl [Hfl]
  · iapply (Transfers.Flight_mono countersEmb (th d L) ?_)
    rotate_left
    · iexact Hfl
    unfold HalfFull
    iintro ⟨Hd, Hs, Ho⟩
    isplitl [Hd]
    · iexists _
      isplitr
      swap
      · iexact Hd
      ipureintro
      refine (View.read_write_univ _ _).trans (funext fun y => ?_)
      exact payload_eq hix hf e hn hin y
    isplitl [Hs]; · iexact Hs
    iexact Ho
  iexact Htr

theorem wp_gathered {sp : Space} {s' : Shape} {e' : EltTy} {src : Memref sig .scVector sp s' e'} {dst : Memref sig .scVector .vmem S128x128 .i32} {sem : DmaSem sig}
    {p e : Fin 2} {g : Fin 512} {q : PosShare TreeShare} {f : (inM p).view.ty.Contents (Elt F)} (hd : dst = halfM (rowM p) e) (hq : sem = semM cc0_scratch0 e)
    {h1 : src.view.WordExact} {h2 : dst.view.WordExact} {α : Type}
    {k : PUnit → Prog (TpuEff nD τ sig (Elt F) Λ₀ (th d L).2) α} {Q : α → sProp 𝕄} {O : CellTallies nD τ sig (HIx 1)} {W : Waits sig (HIx 1)} :
    iprop(Stream d L tbl ix qt p e q f g ∗ owes (th d L) O W ∗ Transfers.MayWaits (th d L) (default : HIx 1) O)
      ⊢ iprop((iprop(HalfFull d L tbl ix p e g ∗ Tab d L tbl qt e ∗ Offs d L p e q f ∗ owes (th d L) O (insert (SemLoc.dma sem, default) W))
            -∗ wp frame (wpE (defs₀ (F := F)) 𝒱₀ (th d L) none) Set.univ (k ⟨⟩) Q)
          -∗ wp frame (wpE (defs₀ (F := F)) 𝒱₀ (th d L) none) Set.univ (.op (.waitDma2 sem src dst h1 h2) k) Q) := by
  subst hd hq
  unfold Stream Tab
  iintro ⟨⟨Hfl, Htr⟩, HO, #Hmw⟩ Hk
  iapply (Transfers.wp_waitLocalO countersEmb 𝒱₀ (th d L) none (default : HIx 1) (rfl : (halfM (rowM p) e).view.dmaCredit = _)) $$ [Hfl HO]
  · isplitl [Hfl]; · iexact Hfl
    isplitl [HO]; · iexact HO
    iapply (Transfers.MayWaits.elim (SemLoc.dma (semM cc0_scratch0 e))) $$ Hmw
  iintro ⟨⟨Hd, Ht, Ho⟩, Hs, HO⟩
  iapply Hk
  isplitl [Hd]; · iexact Hd
  isplitl [Ht Htr Hs]
  · isplitl [Ht Htr]
    · iapply (pointsTo_split_subset (q := qt e) (f := tbl) (S := Finset.univ) (Finset.subset_univ (tblM).view.set)).2
      isplitl [Ht]; · iexact Ht
      iexact Htr
    iexact Hs
  isplitl [Ho]; · iexact Ho
  iexact HO

end

end Cert.Proof.Gather

end
-- ==== Proof.Trip.lean ====
/-
  One trip of the gather's pipelined loop, and the loop: before trip `k` step `k`'s row numbers are on their way, step
  `k - 1`'s rows are on their way out, the blocks before it are done and the blocks from `k` on are untouched.
-/
module

public import proofs.«01_k».proof.Proof.Streams

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section

variable (d : Dev nD) (L : grid0.Coords) (tbl : S196608x128.Idx → Elt F .i32) (ix : S1024x128.Idx → Elt F .i32)
variable (out₀ : S131072x128.Idx → Elt F .i32)
variable (qi qt : Fin 2 → PosShare TreeShare)
variable (O : CellTallies nD τ sig (HIx 1)) (W : Waits sig (HIx 1))

/-! ## The invariant -/

/-- The blocks still to do, the blocks done. -/
def Ahead (k : ℕ) : sProp 𝕄 := bigSep (Finset.Ico k 16) fun j => Blk d L (step L j) out₀
def Behind (n : ℕ) : sProp 𝕄 := bigSep (Finset.range n) fun j => Blk d L (step L j) (gath tbl ix)
def InCur (k : ℕ) : sProp 𝕄 := if k < 16 then InFly d L ix qi (slot k) (step L k) else InFree d L ix qi (slot k)
def RowPrev (k : ℕ) : sProp 𝕄 := if 0 < k then RowFly d L tbl ix (slot (k - 1)) (step L (k - 1)) else RowFree d L (slot (k + 1))
def Owes : sProp 𝕄 := iprop(∃ W', ⌜∀ p ∈ W', p ∈ W ∨ p.2 = none⌝ ∗ owes (th d L) O W')

abbrev Words : Type := BitVec 32 × BitVec 32 × BitVec 32 × BitVec 32 × BitVec 32

def Inv (k : ℕ) (acc : Words) : sProp 𝕄 :=
  iprop(⌜acc = (w7 k, w8 k, w8 k, w10 k, w11 k)⌝ ∗ Transfers.MayWaits (th d L) (default : HIx 1) O
    ∗ InCur d L ix qi k ∗ InFree d L ix qi (slot (k + 1)) ∗ RowFree d L (slot k) ∗ RowPrev d L tbl ix k
    ∗ Tab d L tbl qt 0 ∗ Tab d L tbl qt 1 ∗ Ahead d L out₀ k ∗ Behind d L tbl ix (k - 1) ∗ Owes d L O W)

theorem slot_succ_succ (k : ℕ) : slot (k + 1 + 1) = slot k := Fin.ext (by show (k + 1 + 1) % 2 = k % 2; omega)
theorem slot_pred {k : ℕ} (h : 0 < k) : slot (k - 1) = slot (k + 1) := Fin.ext (by show (k - 1) % 2 = (k + 1) % 2; omega)

omit [FloatOps F] in
theorem ahead_succ {k : ℕ} (h : k < 16) : Ahead d L out₀ k = iprop(Blk d L (step L k) out₀ ∗ Ahead d L out₀ (k + 1)) := by
  unfold Ahead
  rw [show Finset.Ico k 16 = insert k (Finset.Ico (k + 1) 16) by ext x; simp; omega]
  exact SparseCore.bigSep_insert' (by simp)
omit [FloatOps F] in
theorem behind_succ (n : ℕ) : Behind d L tbl ix (n + 1) = iprop(Blk d L (step L n) (gath tbl ix) ∗ Behind d L tbl ix n) := by
  unfold Behind
  rw [Finset.range_add_one]
  exact SparseCore.bigSep_insert' (by simp)

omit [FloatOps F] in
/-- One more wait at the tile's own. -/
theorem owes_more {W' : Waits sig (HIx 1)} {x : SemLoc sig} (h : ∀ p ∈ W', p ∈ W ∨ p.2 = none) :
    (owes (th d L) O (insert (x, (default : HIx 1)) W') : sProp 𝕄) ⊢ Owes d L O W := by
  unfold Owes
  iintro H
  iexists (insert (x, (default : HIx 1)) W')
  isplitr
  · ipureintro
    intro p hp
    rcases Finset.mem_insert.mp hp with rfl | hp
    · exact Or.inr rfl
    · exact h p hp
  · iexact H

omit [FloatOps F] in
theorem out_credit (dst : Memref sig .scVector .hbm S256x128 .i32) (g : Fin 512) : dst.view.dmaCredit = (outM g).view.dmaCredit := rfl

/-- A conditional of the kernel that does something in one arm only. -/
theorem wp_when {c : Prop} [Decidable c] {α : Type} {A : c → Prog (TpuEff nD τ sig (Elt F) Λ₀ (th d L).2) α} {k : Prog (TpuEff nD τ sig (Elt F) Λ₀ (th d L).2) α}
    {P R : sProp 𝕄} {Q : α → sProp 𝕄}
    (hA : ∀ h, P ⊢ iprop((R -∗ wp frame (wpE (defs₀ (F := F)) 𝒱₀ (th d L) none) Set.univ k Q) -∗ wp frame (wpE (defs₀ (F := F)) 𝒱₀ (th d L) none) Set.univ (A h) Q)) (hB : ¬ c → P ⊢ R) :
    P ⊢ iprop((R -∗ wp frame (wpE (defs₀ (F := F)) 𝒱₀ (th d L) none) Set.univ k Q) -∗ wp frame (wpE (defs₀ (F := F)) 𝒱₀ (th d L) none) Set.univ (if h : c then A h else k) Q) := by
  by_cases h : c
  · rw [dif_pos h]; exact hA h
  · rw [dif_neg h]
    iintro HP HK
    iapply HK; iapply (hB h); iexact HP

/-- The same with the rest of the program behind it. -/
theorem wp_when_bind {c : Prop} [Decidable c] {α β : Type} {A : c → Prog (TpuEff nD τ sig (Elt F) Λ₀ (th d L).2) β} {k : Prog (TpuEff nD τ sig (Elt F) Λ₀ (th d L).2) β} {f : β → Prog (TpuEff nD τ sig (Elt F) Λ₀ (th d L).2) α}
    {P R : sProp 𝕄} {Q : α → sProp 𝕄}
    (hA : ∀ h, P ⊢ iprop((R -∗ wp frame (wpE (defs₀ (F := F)) 𝒱₀ (th d L) none) Set.univ (k >>= f) Q) -∗ wp frame (wpE (defs₀ (F := F)) 𝒱₀ (th d L) none) Set.univ (A h >>= f) Q)) (hB : ¬ c → P ⊢ R) :
    P ⊢ iprop((R -∗ wp frame (wpE (defs₀ (F := F)) 𝒱₀ (th d L) none) Set.univ (k >>= f) Q) -∗ wp frame (wpE (defs₀ (F := F)) 𝒱₀ (th d L) none) Set.univ ((if h : c then A h else k) >>= f) Q) := by
  by_cases h : c
  · rw [dif_pos h]; exact hA h
  · rw [dif_neg h]
    iintro HP HK
    iapply HK; iapply (hB h); iexact HP

/-- What the loop carries after a trip. -/
def next (i : grid0.Coords) (t : Fin k0_t1_loop.trips) (a7 a8 a9 a10 a11 : BitVec 32) : Words :=
  let v4 : BitVec 32 := base i
  let a6 : BitVec 32 := Scf.iv 0#32 1#32 t
  let v64 : BitVec 1 := Scalar.cmpi .eq a6 0#32
  let v65 : BitVec 1 := Scalar.cmpi .eq a6 15#32
  let v66 : BitVec 32 := Scalar.addi a11 v4
  let v68 : BitVec 32 := Scalar.select 1#1 (Scalar.subi a11 1#32) a11
  let v71 : BitVec 32 := Scalar.addi (Scalar.select (Scalar.cmpi .eq v68 4294967295#32) 15#32 v68) v4
  let v73 : BitVec 32 := Scalar.select 1#1 (Scalar.addi a11 1#32) a11
  let v76 : BitVec 32 := Scalar.addi (Scalar.select (Scalar.cmpi .eq v73 16#32) 0#32 v73) v4
  let v85 : BitVec 1 := Scalar.andi (Scalar.cmpi .ne v66 v76) (Scalar.xori (Scalar.cmpi .sge a6 15#32) 1#1)
  let v156 : BitVec 1 := Scalar.ori (Scalar.cmpi .ne v66 v76) v65
  let v170 : BitVec 1 := Scalar.andi (Scalar.cmpi .ne v66 v71) (Scalar.xori v64 1#1)
  (Scalar.select (Scalar.andi v85 1#1) (Scalar.addi a7 1#32) a7, Scalar.select v156 (Scalar.addi a8 1#32) a8,
    Scalar.select (Scalar.andi v156 1#1) (Scalar.addi a9 1#32) a9, Scalar.select (Scalar.andi v170 1#1) (Scalar.addi a10 1#32) a10,
    Scalar.select (Scalar.cmpi .eq v73 16#32) 0#32 v73)

theorem next_eq : ∀ (i : grid0.Coords) (t : Fin k0_t1_loop.trips),
    next i t (w7 t.val) (w8 t.val) (w8 t.val) (w10 t.val) (w11 t.val)
      = (w7 (t.val + 1), w8 (t.val + 1), w8 (t.val + 1), w10 (t.val + 1), w11 (t.val + 1)) := by decide +kernel

set_option pp.deepTerms false in
set_option pp.deepTerms.threshold 4 in
set_option maxHeartbeats 2000000 in
theorem trip (hix : ∀ j, (ix j).toNat < 196608) (t : Fin k0_t1_loop.trips) (acc : Words) :
    Inv d L tbl ix out₀ qi qt O W t.val acc
      ⊢ wp frame (wpE (defs₀ (F := F)) 𝒱₀ (th d L) none) Set.univ
          (k0_t1_body L (Memref.whole main_arg0_scv) (Memref.isWhole_whole _) (Memref.whole main_v1_scv) (Memref.isWhole_whole _) (Memref.whole main_v2_scv) (Memref.isWhole_whole _)
            cc0_scratch0 (Memref.whole cc0_scoped0) (Memref.isWhole_whole _) cc0_scoped1 (Memref.whole cc0_scoped2) (Memref.isWhole_whole _) cc0_scoped3 (base L) t acc)
          (Inv d L tbl ix out₀ qi qt O W (t.val + 1)) := by
  unfold Inv
  iintro ⟨%hacc, #Hmw, Hcur, Hnext, Hrow, Hprev, Ht0, Ht1, Hahead, Hbehind, HO⟩
  subst hacc
  have ht : t.val < 16 := t.isLt
  simp only [k0_t1_body, k0_part1_eq_skeleton, k0_part2_eq_skeleton, k0_part3_eq_skeleton]
  unfold k0_part1_skel k0_part2_skel k0_part3_skel
  simp only [Prog.bind_lift, Prog.bind_assoc, Prog.bind_op, ite_self, pure_bind, Prog.bind_ret, Prog.bind_pure]
  iapply (wp_assume _ _ _ _ (chk3 t))
  iapply (wp_assume _ _ _ _ (chk2 t))
  iapply (wp_assume _ _ _ _ (chk1 L t))
  -- the next step's row numbers are asked for
  iapply (wp_when_bind d L (P := InFree d L ix qi (slot (t.val + 1))) (R := InCur d L ix qi (t.val + 1))
    (fun h => ?_) (fun h => ?_)) $$ [Hnext]
  · unfold InCur
    have h15 := (cond1 L t).mp h
    rw [if_pos (by omega)]
    simp only [Prog.bind_op]
    iintro H HK
    iapply (wp_fetch d L ix qi (p := slot (t.val + 1)) (g := step L (t.val + 1)) (idxA_eq (off5 L t h15)) (inA_eq (off4 t h15)) (semA_eq (off6 t h15))) $$ H
    iexact HK
  · unfold InCur
    have h15 : ¬ t.val < 15 := fun h' => h ((cond1 L t).mpr h')
    rw [if_neg (by omega)]
  · iexact Hnext
  iintro Hnext
  simp only [Prog.bind_op, pure_bind, Prog.bind_ret, Prog.bind_assoc]
  -- this step's row numbers are waited for
  iapply (wp_when_bind d L (P := iprop(InCur d L ix qi t.val ∗ Owes d L O W ∗ Transfers.MayWaits (th d L) (default : HIx 1) O))
    (R := iprop(InFull d L ix qi (slot t.val) (step L t.val) ∗ Owes d L O W)) (fun h => ?_) (fun h => ?_)) $$ [Hcur HO]
  · unfold InCur
    rw [if_pos ht]
    unfold Owes
    simp only [Prog.bind_op]
    iintro ⟨H, ⟨%W', %hW', HO⟩, Hmw⟩ HK
    iapply (wp_fetched d L ix qi (p := slot t.val) (g := step L t.val) (inA_eq (off7 t)) (semA_eq (off9 t))) $$ [H HO Hmw]
    · isplitl [H]; · iexact H
      isplitl [HO]; · iexact HO
      iexact Hmw
    iintro ⟨H, HO⟩
    iapply HK
    isplitl [H]; · iexact H
    ihave HO := owes_more d L O W hW' $$ HO
    unfold Owes
    iexact HO
  · exact absurd ((cond2 L t)) h
  · isplitl [Hcur]; · iexact Hcur
    isplitl [HO]; · iexact HO
    iexact Hmw
  iintro ⟨Hcur, HO⟩
  -- the two streams of rows are started
  ihave Hcur := in_split d L ix qi _ _ $$ Hcur
  icases Hcur with ⟨%f, %hf, Ho0, Ho1, Hrest⟩
  ihave Hrow := row_split d L _ $$ Hrow
  icases Hrow with ⟨Hh0, Hh1, Hs3⟩
  simp only [Prog.bind_assoc, pure_bind, Prog.bind_ret]
  iapply (wp_gather d L tbl ix qt (p := slot t.val) (g := step L t.val) (e := 0) hix hf rfl (congrArg (fun m => halfM m 0) (rowA_eq (off10 t)))
    (congrArg (fun m => offM m 0) (inA_eq (off11 t))) rfl) $$ [Ho0 Hh0 Ht0]
  · isplitl [Ho0]; · iexact Ho0
    isplitl [Hh0]; · iexact Hh0
    iexact Ht0
  iintro Hg0
  simp only [Prog.bind_assoc, pure_bind, Prog.bind_ret]
  iapply (wp_gather d L tbl ix qt (p := slot t.val) (g := step L t.val) (e := 1) hix hf rfl (congrArg (fun m => halfM m 1) (rowA_eq (off10 t)))
    (congrArg (fun m => offM m 1) (inA_eq (off11 t))) rfl) $$ [Ho1 Hh1 Ht1]
  · isplitl [Ho1]; · iexact Ho1
    isplitl [Hh1]; · iexact Hh1
    iexact Ht1
  iintro Hg1
  simp only [SparseCore.waitIndirectGather, Prog.bind_op, Prog.bind_assoc, pure_bind, Prog.bind_ret]
  -- and waited for
  unfold Owes
  icases HO with ⟨%W', %hW', HO⟩
  iapply (wp_gathered d L tbl ix qt (p := slot t.val) (g := step L t.val) (e := 0) (congrArg (fun m => halfM m 0) (rowA_eq (off10 t))) rfl) $$ [Hg0 HO]
  · isplitl [Hg0]; · iexact Hg0
    isplitl [HO]; · iexact HO
    iexact Hmw
  iintro ⟨Hh0, Ht0, Ho0, HO⟩
  ihave HO := owes_more d L O W hW' $$ HO
  unfold Owes
  icases HO with ⟨%W₂, %hW₂, HO⟩
  iapply (wp_gathered d L tbl ix qt (p := slot t.val) (g := step L t.val) (e := 1) (congrArg (fun m => halfM m 1) (rowA_eq (off10 t))) rfl) $$ [Hg1 HO]
  · isplitl [Hg1]; · iexact Hg1
    isplitl [HO]; · iexact HO
    iexact Hmw
  iintro ⟨Hh1, Ht1, Ho1, HO⟩
  ihave HO := owes_more d L O W hW₂ $$ HO
  ihave Hfree := in_join d L ix qi _ f $$ [Ho0 Ho1 Hrest]
  · isplitl [Ho0]; · iexact Ho0
    isplitl [Ho1]; · iexact Ho1
    iexact Hrest
  ihave Hrow := row_join d L tbl ix _ _ $$ [Hh0 Hh1 Hs3]
  · isplitl [Hh0]; · iexact Hh0
    isplitl [Hh1]; · iexact Hh1
    iexact Hs3
  -- the rows are sent out
  ihave Hahead := Entails.of_eq (ahead_succ d L out₀ ht) $$ Hahead
  icases Hahead with ⟨Hblk, Hahead⟩
  iapply (wp_when d L (P := iprop(RowFull d L tbl ix (slot t.val) (step L t.val) ∗ Blk d L (step L t.val) out₀))
    (R := RowFly d L tbl ix (slot t.val) (step L t.val)) (fun h => ?_) (fun h => ?_)) $$ [Hrow Hblk]
  · iintro H HK
    iapply (wp_send d L tbl ix (p := slot t.val) (g := step L t.val) (rowA_eq (off12 t)) (outA_eq (off13 L t)) (semA_eq (off14 t))) $$ H
    iexact HK
  · exact absurd (cond5 L t) h
  · isplitl [Hrow]; · iexact Hrow
    iexact Hblk
  iintro Hfly
  -- the previous step's rows are waited for
  iapply (wp_when d L (P := iprop(RowPrev d L tbl ix t.val ∗ Behind d L tbl ix (t.val - 1) ∗ Owes d L O W ∗ Transfers.MayWaits (th d L) (default : HIx 1) O))
    (R := iprop(RowFree d L (slot (t.val + 1)) ∗ Behind d L tbl ix t.val ∗ Owes d L O W)) (fun h => ?_) (fun h => ?_)) $$ [Hprev Hbehind HO]
  · have h0 := (cond7 L t).mp h
    unfold RowPrev
    rw [if_pos h0, ← slot_pred h0]
    have hb := behind_succ d L tbl ix (t.val - 1)
    rw [show t.val - 1 + 1 = t.val by omega] at hb
    rw [hb]
    unfold Owes
    iintro ⟨H, Hb, ⟨%W', %hW', HO⟩, Hmw⟩ HK
    iapply (wp_sent d L tbl ix (p := slot (t.val - 1)) (g := step L (t.val - 1)) (semA_eq (off17 t h0)) (out_credit _ _)) $$ [H HO Hmw]
    · isplitl [H]; · iexact H
      isplitl [HO]; · iexact HO
      iexact Hmw
    iintro ⟨H, Hd, HO⟩
    iapply HK
    isplitl [H]; · iexact H
    isplitl [Hd Hb]
    · isplitl [Hd]; · iexact Hd
      iexact Hb
    ihave HO := owes_more d L O W hW' $$ HO
    unfold Owes
    iexact HO
  · have h0 : ¬ 0 < t.val := fun h' => h ((cond7 L t).mpr h')
    unfold RowPrev
    rw [if_neg h0, show t.val - 1 = t.val by omega]
    iintro ⟨H, Hb, HO, -⟩
    isplitl [H]; · iexact H
    isplitl [Hb]; · iexact Hb
    iexact HO
  · isplitl [Hprev]; · iexact Hprev
    isplitl [Hbehind]; · iexact Hbehind
    isplitl [HO]; · unfold Owes; iexact HO
    iexact Hmw
  iintro ⟨Hrow, Hbehind, HO⟩
  rw [wp_pure]
  imodintro
  isplitr; · ipureintro; exact next_eq L t
  isplitr; · iexact Hmw
  isplitl [Hnext]; · iexact Hnext
  isplitl [Hfree]; · rw [slot_succ_succ]; iexact Hfree
  isplitl [Hrow]; · iexact Hrow
  isplitl [Hfly]; · unfold RowPrev; rw [if_pos (Nat.succ_pos _)]; iexact Hfly
  isplitl [Ht0]; · iexact Ht0
  isplitl [Ht1]; · iexact Ht1
  isplitl [Hahead]; · iexact Hahead
  isplitl [Hbehind]; · iexact Hbehind
  unfold Owes
  iexact HO

end

end Cert.Proof.Gather

end
-- ==== Proof.Slots.lean ====
/-
  Where the pieces of the gather's arrays lie: the two slots of each scratch buffer of a tile make up the buffer, and the
  512 blocks make up the result.
-/
module

public import proofs.«01_k».proof.Proof.Trip

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Slots -/

theorem in_set (p : Fin 2) : (inM p).view.set = (Rect.unit (s := S2x2x128) ![p.val, 0, 0] S1x2x128.size (inA_inb p)).set := by
  show (((View.whole (cc0_scoped0 : Ref sig .scVector)).slice _).reshape _ _).set = _
  rw [View.set_reshape, View.set_slice]; exact Finset.map_refl
theorem row_set (p : Fin 2) : (rowM p).view.set = (Rect.unit (s := S2x256x128) ![p.val, 0, 0] S1x256x128.size (rowA_inb p)).set := by
  show (((View.whole (cc0_scoped2 : Ref sig .scVector)).slice _).reshape _ _).set = _
  rw [View.set_reshape, View.set_slice]; exact Finset.map_refl

theorem mem_in (p : Fin 2) (i : S2x2x128.Idx) : i ∈ (inM p).view.set ↔ (i 0).val = p.val := by
  rw [in_set, Rect.mem_set_unit]
  constructor
  · intro h
    have h0 : p.val ≤ (i 0).val := (h 0).1
    have h1 : (i 0).val < p.val + 1 := (h 0).2
    omega
  · intro h a
    match a with
    | 0 => exact ⟨by show p.val ≤ (i 0).val; omega, by show (i 0).val < p.val + 1; omega⟩
    | 1 => exact ⟨Nat.zero_le _, by have : (i 1).val < 2 := (i 1).isLt; show (i 1).val < 0 + 2; omega⟩
    | 2 => exact ⟨Nat.zero_le _, by have : (i 2).val < 128 := (i 2).isLt; show (i 2).val < 0 + 128; omega⟩
theorem mem_row (p : Fin 2) (i : S2x256x128.Idx) : i ∈ (rowM p).view.set ↔ (i 0).val = p.val := by
  rw [row_set, Rect.mem_set_unit]
  constructor
  · intro h
    have h0 : p.val ≤ (i 0).val := (h 0).1
    have h1 : (i 0).val < p.val + 1 := (h 0).2
    omega
  · intro h a
    match a with
    | 0 => exact ⟨by show p.val ≤ (i 0).val; omega, by show (i 0).val < p.val + 1; omega⟩
    | 1 => exact ⟨Nat.zero_le _, by have : (i 1).val < 256 := (i 1).isLt; show (i 1).val < 0 + 256; omega⟩
    | 2 => exact ⟨Nat.zero_le _, by have : (i 2).val < 128 := (i 2).isLt; show (i 2).val < 0 + 128; omega⟩

theorem in_rest : (Finset.univ : Finset S2x2x128.Idx) \ (inM 0).view.set = (inM 1).view.set := by
  ext i
  have hi : (i 0).val < 2 := (i 0).isLt
  rw [Finset.mem_sdiff, mem_in, mem_in]
  simp only [Finset.mem_univ, true_and]
  show ¬ (i 0).val = 0 ↔ (i 0).val = 1
  omega
theorem rows_rest : (Finset.univ : Finset S2x256x128.Idx) \ (rowM 0).view.set = (rowM 1).view.set := by
  ext i
  have hi : (i 0).val < 2 := (i 0).isLt
  rw [Finset.mem_sdiff, mem_row, mem_row]
  simp only [Finset.mem_univ, true_and]
  show ¬ (i 0).val = 0 ↔ (i 0).val = 1
  omega

/-- Two parts of a buffer, each at some contents, are the buffer at some contents. -/
theorem two_parts {ℓ : Loc nD τ sig} (A : Finset (Idx ℓ)) :
    (iprop((∃ f, ℓ ↦[A]{fullShare} f) ∗ (∃ f, ℓ ↦[Finset.univ \ A]{fullShare} f)) : sProp 𝕄) ⊢ iprop(∃ f, ℓ ↦{fullShare} f) := by
  classical
  iintro ⟨⟨%f, Hf⟩, ⟨%g, Hg⟩⟩
  iexists (fun i => if i ∈ A then f i else g i)
  iapply (pointsTo_split_subset (q := fullShare) (f := fun i => if i ∈ A then f i else g i) (Finset.subset_univ A)).2
  isplitl [Hf]
  · iapply (Entails.of_eq (pointsTo_congr (f := f) (fun i hi => by rw [if_pos hi]))); iexact Hf
  · iapply (Entails.of_eq (pointsTo_congr (f := g) (fun i hi => by rw [if_neg (Finset.mem_sdiff.mp hi).2]))); iexact Hg

/-! ## Blocks -/

theorem out_set (g : Fin 512) : (outM g).view.set = (Rect.unit (s := S131072x128) ![256 * g.val, 0] S256x128.size (outA_inb g)).set := by
  show ((View.whole (main_v2_scv : Ref sig .scVector)).slice _).set = _
  rw [View.set_slice]; exact Finset.map_refl
theorem mem_out (g : Fin 512) (i : S131072x128.Idx) : i ∈ (outM g).view.set ↔ (i 0).val / 256 = g.val := by
  rw [out_set, Rect.mem_set_unit]
  constructor
  · intro h
    have h0 : 256 * g.val ≤ (i 0).val := (h 0).1
    have h1 : (i 0).val < 256 * g.val + 256 := (h 0).2
    omega
  · intro h a
    match a with
    | 0 => exact ⟨by show 256 * g.val ≤ (i 0).val; omega, by show (i 0).val < 256 * g.val + 256; omega⟩
    | 1 => exact ⟨Nat.zero_le _, by have : (i 1).val < 128 := (i 1).isLt; show (i 1).val < 0 + 128; omega⟩

theorem out_disjoint : ∀ g ∈ (Finset.univ : Finset (Fin 512)), ∀ h ∈ (Finset.univ : Finset (Fin 512)), g ≠ h → Disjoint (outM g).view.set (outM h).view.set := by
  intro g _ h _ hne
  rw [Finset.disjoint_left]
  intro i hg hh
  exact hne (Fin.ext (((mem_out g i).mp hg).symm.trans ((mem_out h i).mp hh)))
theorem out_cover : (Finset.univ : Finset (Fin 512)).biUnion (fun g => (outM g).view.set) = (Finset.univ : Finset S131072x128.Idx) := by
  ext i
  have hi : (i 0).val < 131072 := (i 0).isLt
  simp only [Finset.mem_biUnion, Finset.mem_univ, true_and, iff_true]
  exact ⟨⟨(i 0).val / 256, by omega⟩, (mem_out _ i).mpr rfl⟩

/-- The result is its blocks. -/
theorem out_blocks (d : Dev nD) (f : S131072x128.Idx → Elt F .i32) :
    (oLoc d ↦{fullShare} f : sProp 𝕄) = bigSep Finset.univ fun g : Fin 512 => oLoc d ↦[(outM g).view.set]{fullShare} f := by
  rw [← pointsTo_biUnion Finset.univ (ℓ := oLoc d) (fun g : Fin 512 => (outM g).view.set) out_disjoint]
  exact congrArg (fun S => (oLoc d ↦[S]{fullShare} f : sProp 𝕄)) out_cover.symm

end Cert.Proof.Gather

end
-- ==== Proof.Tile.lean ====
/-
  The whole of one tile of the gather: the first step's row numbers are asked for, the loop does the sixteen steps, and
  the last step's rows are waited for.
-/
module

public import proofs.«01_k».proof.Proof.Slots

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section

variable (d : Dev nD) (L : grid0.Coords)

/-! ## The tile's own semaphores and scratch -/

/-- The six semaphores a tile's transfers end on. -/
def cellSem : Fin 6 → DmaSem sig
  | 0 => semM cc0_scratch0 0
  | 1 => semM cc0_scratch0 1
  | 2 => semM cc0_scoped1 0
  | 3 => semM cc0_scoped1 1
  | 4 => semM cc0_scoped3 0
  | 5 => semM cc0_scoped3 1
theorem cellSem_inj : ∀ a b : Fin 6, a ≠ b → cellSem a ≠ cellSem b := by decide
theorem cellSem_scoped : ∀ a : Fin 6, (SemLoc.dma (cellSem a) : SemLoc sig).isScoped .scVector = true := by decide

abbrev cell (a : Fin 6) : GSem nD τ sig := (th d L, .dma (cellSem a))
theorem cell_mem (a : Fin 6) : cell d L a ∈ ownCells (th d L) := mem_ownCells.mpr ⟨rfl, cellSem_scoped a⟩
theorem cell_ne {a b : Fin 6} (h : a ≠ b) : cell d L a ≠ cell d L b := fun e =>
  cellSem_inj a b h (SemLoc.dma.inj (Prod.mk.inj e).2)

def restCells : Finset (GSem nD τ sig) :=
  ((((((ownCells (th d L)).erase (cell d L 0)).erase (cell d L 1)).erase (cell d L 2)).erase (cell d L 3)).erase (cell d L 4)).erase (cell d L 5)

theorem ownSems0_V :
    (ownSems0 (th d L) : sProp 𝕄)
      = iprop(semVal (cell d L 0) 0 ∗ semVal (cell d L 1) 0 ∗ semVal (cell d L 2) 0 ∗ semVal (cell d L 3) 0 ∗ semVal (cell d L 4) 0 ∗ semVal (cell d L 5) 0
          ∗ bigSep (restCells d L) fun g => semVal g 0) := by
  unfold SparseCore.Cfg.ownSems0 restCells
  have m1 := Finset.mem_erase.mpr ⟨cell_ne d L (a := 1) (b := 0) (by decide), cell_mem d L 1⟩
  have m2 := Finset.mem_erase.mpr ⟨cell_ne d L (a := 2) (b := 1) (by decide), Finset.mem_erase.mpr ⟨cell_ne d L (a := 2) (b := 0) (by decide), cell_mem d L 2⟩⟩
  have m3 := Finset.mem_erase.mpr ⟨cell_ne d L (a := 3) (b := 2) (by decide), Finset.mem_erase.mpr ⟨cell_ne d L (a := 3) (b := 1) (by decide),
    Finset.mem_erase.mpr ⟨cell_ne d L (a := 3) (b := 0) (by decide), cell_mem d L 3⟩⟩⟩
  have m4 := Finset.mem_erase.mpr ⟨cell_ne d L (a := 4) (b := 3) (by decide), Finset.mem_erase.mpr ⟨cell_ne d L (a := 4) (b := 2) (by decide),
    Finset.mem_erase.mpr ⟨cell_ne d L (a := 4) (b := 1) (by decide), Finset.mem_erase.mpr ⟨cell_ne d L (a := 4) (b := 0) (by decide), cell_mem d L 4⟩⟩⟩⟩
  have m5 := Finset.mem_erase.mpr ⟨cell_ne d L (a := 5) (b := 4) (by decide), Finset.mem_erase.mpr ⟨cell_ne d L (a := 5) (b := 3) (by decide),
    Finset.mem_erase.mpr ⟨cell_ne d L (a := 5) (b := 2) (by decide), Finset.mem_erase.mpr ⟨cell_ne d L (a := 5) (b := 1) (by decide),
      Finset.mem_erase.mpr ⟨cell_ne d L (a := 5) (b := 0) (by decide), cell_mem d L 5⟩⟩⟩⟩⟩
  rw [SparseCore.bigSep_erase' (cell_mem d L 0), SparseCore.bigSep_erase' m1, SparseCore.bigSep_erase' m2, SparseCore.bigSep_erase' m3,
    SparseCore.bigSep_erase' m4, SparseCore.bigSep_erase' m5]

def restBufs : sProp 𝕄 :=
  bigSep (((ownRefs (τ := τ) (.scVector (cV L) (jV L))).erase ((Proc.scVector (cV L) (jV L)).devRef cc0_scoped0)).erase
    ((Proc.scVector (cV L) (jV L)).devRef cc0_scoped2)) fun b => iprop(∃ f, ((d, b) : Loc nD τ sig) ↦{fullShare} f)

theorem ownBufs_V :
    (ownBufs (th d L) : sProp 𝕄)
      = iprop((∃ f, (th d L).loc cc0_scoped0 ↦{fullShare} f) ∗ (∃ f, (th d L).loc cc0_scoped2 ↦{fullShare} f) ∗ restBufs d L) := by
  unfold SparseCore.Cfg.ownBufs restBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- A scratch buffer as its two slots. -/
theorem in_slots (f : S2x2x128.Idx → Elt F .i32) :
    ((th d L).loc cc0_scoped0 ↦{fullShare} f : sProp 𝕄)
      ⊢ iprop((∃ f, (inM 0).view.loc (th d L) ↦[(inM 0).view.set]{fullShare} f) ∗ (∃ f, (inM 1).view.loc (th d L) ↦[(inM 1).view.set]{fullShare} f)) := by
  iintro H
  ihave H := (pointsTo_split_subset (q := fullShare) (f := f) (Finset.subset_univ (inM 0).view.set)).1 $$ H
  icases H with ⟨H0, H1⟩
  isplitl [H0]; · iexists f; iexact H0
  iexists f
  iapply (Entails.of_eq (congrArg (fun S => ((th d L).loc cc0_scoped0 ↦[S]{fullShare} f : sProp 𝕄)) in_rest)); iexact H1
theorem in_unslots :
    (iprop((∃ f, (inM 0).view.loc (th d L) ↦[(inM 0).view.set]{fullShare} f) ∗ (∃ f, (inM 1).view.loc (th d L) ↦[(inM 1).view.set]{fullShare} f)) : sProp 𝕄)
      ⊢ iprop(∃ f, (th d L).loc cc0_scoped0 ↦{fullShare} f) := by
  iintro ⟨H0, ⟨%f, H1⟩⟩
  iapply (two_parts (ℓ := (th d L).loc cc0_scoped0) (inM 0).view.set)
  isplitl [H0]; · iexact H0
  iexists f
  iapply (Entails.of_eq (congrArg (fun S => ((th d L).loc cc0_scoped0 ↦[S]{fullShare} f : sProp 𝕄)) in_rest.symm)); iexact H1
theorem row_slots (f : S2x256x128.Idx → Elt F .i32) :
    ((th d L).loc cc0_scoped2 ↦{fullShare} f : sProp 𝕄)
      ⊢ iprop((∃ f, (rowM 0).view.loc (th d L) ↦[(rowM 0).view.set]{fullShare} f) ∗ (∃ f, (rowM 1).view.loc (th d L) ↦[(rowM 1).view.set]{fullShare} f)) := by
  iintro H
  ihave H := (pointsTo_split_subset (q := fullShare) (f := f) (Finset.subset_univ (rowM 0).view.set)).1 $$ H
  icases H with ⟨H0, H1⟩
  isplitl [H0]; · iexists f; iexact H0
  iexists f
  iapply (Entails.of_eq (congrArg (fun S => ((th d L).loc cc0_scoped2 ↦[S]{fullShare} f : sProp 𝕄)) rows_rest)); iexact H1
theorem row_unslots :
    (iprop((∃ f, (rowM 0).view.loc (th d L) ↦[(rowM 0).view.set]{fullShare} f) ∗ (∃ f, (rowM 1).view.loc (th d L) ↦[(rowM 1).view.set]{fullShare} f)) : sProp 𝕄)
      ⊢ iprop(∃ f, (th d L).loc cc0_scoped2 ↦{fullShare} f) := by
  iintro ⟨H0, ⟨%f, H1⟩⟩
  iapply (two_parts (ℓ := (th d L).loc cc0_scoped2) (rowM 0).view.set)
  isplitl [H0]; · iexact H0
  iexists f
  iapply (Entails.of_eq (congrArg (fun S => ((th d L).loc cc0_scoped2 ↦[S]{fullShare} f : sProp 𝕄)) rows_rest.symm)); iexact H1

variable [FloatOps F]

/-! ## The tile -/

variable (tbl : S196608x128.Idx → Elt F .i32) (ix : S1024x128.Idx → Elt F .i32)
variable (out₀ : S131072x128.Idx → Elt F .i32)
variable (qi qt : Fin 2 → PosShare TreeShare)

/-- What a tile takes of the arrays and what it brings back: two shares of the row numbers, two of the table, its sixteen
    blocks of the result. -/
def Take : sProp 𝕄 := iprop((iLoc d ↦{qi 0} ix) ∗ (iLoc d ↦{qi 1} ix) ∗ (tLoc d ↦{qt 0} tbl) ∗ (tLoc d ↦{qt 1} tbl) ∗ Ahead d L out₀ 0)
def Bring : sProp 𝕄 := iprop((iLoc d ↦{qi 0} ix) ∗ (iLoc d ↦{qi 1} ix) ∗ (tLoc d ↦{qt 0} tbl) ∗ (tLoc d ↦{qt 1} tbl) ∗ Behind d L tbl ix 16)

theorem off1 : k0_off1 = ![(0 : Fin 2).val, 0, 0] := by decide +kernel
theorem off3 : k0_off3 = ![(0 : Fin 2).val] := by decide +kernel

set_option maxHeartbeats 2000000 in
theorem tile_body (hix : ∀ j, (ix j).toNat < 196608) (O : CellTallies nD τ sig (HIx 1)) (W : Waits sig (HIx 1)) (hO : ∀ g, O g none = 0) :
    iprop(levAts (K (F := F)).L (K (F := F)).lev ∗ emp ∗ Take d L tbl ix out₀ qi qt
        ∗ scopedBufs (th d L) ∗ scopedSems0 (th d L) ∗ owes (th d L) O W)
      ⊢ wp frame (wpE (defs₀ (F := F)) 𝒱₀ (th d L) none) Set.univ
          (cc0_gather L (Memref.whole main_arg0_scv) (Memref.isWhole_whole _) (Memref.whole main_v1_scv) (Memref.isWhole_whole _) (Memref.whole main_v2_scv) (Memref.isWhole_whole _)
            cc0_scratch0 (Memref.whole cc0_scoped0) (Memref.isWhole_whole _) cc0_scoped1 (Memref.whole cc0_scoped2) (Memref.isWhole_whole _) cc0_scoped3)
          fun _ => iprop(Bring d L tbl ix qi qt ∗ scopedBufs (th d L) ∗ scopedSems0 (th d L)
            ∗ ∃ W', ⌜∀ p ∈ W', p ∈ W ∨ p.2 = none⌝ ∗ owes (th d L) O W') := by
  simp only [cc0_gather_eq_skeleton]; unfold cc0_gather_skel
  simp only [k0_part4_eq_skeleton, k0_part5_eq_skeleton]
  unfold k0_part4_skel k0_part5_skel
  rw [(K (F := F)).scopedBufs_V facts d (cV L) (jV L), SparseCore.Cfg.scopedSems0_V (Val := Elt F) d (cV L) (jV L), ownSems0_V, ownBufs_V]
  unfold Take
  iintro ⟨#Hlv, -, ⟨Hi0, Hi1, Ht0, Ht1, Hahead⟩, ⟨⟨%fs, Hs⟩, ⟨%fr, Hr⟩, Hbufs⟩, ⟨Hg0, Hg1, Ha0, Ha1, Hb0, Hb1, Hsems⟩, HO⟩
  ihave Hmw := (show levAts (K (F := F)).L (K (F := F)).lev ⊢ Transfers.MayWaits (th d L) (default : HIx 1) O from
    (K (F := F)).mayWaits_none (thr := th d L) hO) $$ Hlv
  ihave Hs := in_slots d L fs $$ Hs
  icases Hs with ⟨Hs0, Hs1⟩
  ihave Hr := row_slots d L fr $$ Hr
  icases Hr with ⟨Hr0, Hr1⟩
  simp only [Prog.bind_lift, Prog.bind_assoc, Prog.bind_op, pure_bind, Prog.bind_ret]
  ihave Hin0 := (show iprop((∃ f, (inM 0).view.loc (th d L) ↦[(inM 0).view.set]{fullShare} f) ∗ semVal (cell d L 2) 0 ∗ (iLoc d ↦{qi 0} ix))
    ⊢ InFree d L ix qi 0 from .rfl) $$ [Hs0 Ha0 Hi0]
  · isplitl [Hs0]; · iexact Hs0
    isplitl [Ha0]; · iexact Ha0
    iexact Hi0
  ihave Hin1 := (show iprop((∃ f, (inM 1).view.loc (th d L) ↦[(inM 1).view.set]{fullShare} f) ∗ semVal (cell d L 3) 0 ∗ (iLoc d ↦{qi 1} ix))
    ⊢ InFree d L ix qi 1 from .rfl) $$ [Hs1 Ha1 Hi1]
  · isplitl [Hs1]; · iexact Hs1
    isplitl [Ha1]; · iexact Ha1
    iexact Hi1
  iapply (wp_fetch d L ix qi (p := 0) (g := step L 0) (idxA_eq (off2 L)) (inA_eq off1) (semA_eq off3)) $$ Hin0
  iintro Hin0
  iapply (Scf.wp_for_bind frame (wpE (defs₀ (F := F)) 𝒱₀ (th d L) none) Set.univ _ _ _ k0_t1_ok _ _
    (Inv d L tbl ix out₀ qi qt O W) (fun t acc => trip d L tbl ix out₀ qi qt O W hix t acc)) $$ [Hin0 Hin1 Hr0 Hr1 Hb0 Hb1 Hg0 Hg1 Ht0 Ht1 Hahead HO]
  · unfold Inv
    isplitr; · ipureintro; rfl
    isplitr; · iexact Hmw
    isplitl [Hin0]; · unfold InCur; rw [if_pos (by decide)]; iexact Hin0
    isplitl [Hin1]; · iexact Hin1
    isplitl [Hr0 Hb0]
    · unfold RowFree
      isplitl [Hr0]; · iexact Hr0
      iexact Hb0
    isplitl [Hr1 Hb1]
    · unfold RowPrev RowFree
      rw [if_neg (by decide)]
      isplitl [Hr1]; · iexact Hr1
      iexact Hb1
    isplitl [Ht0 Hg0]
    · unfold Tab
      isplitl [Ht0]; · iexact Ht0
      iexact Hg0
    isplitl [Ht1 Hg1]
    · unfold Tab
      isplitl [Ht1]; · iexact Ht1
      iexact Hg1
    isplitl [Hahead]; · iexact Hahead
    isplitr
    · unfold Behind
      rw [show (0 - 1 : ℕ) = 0 from rfl, Finset.range_zero, bigSep_empty]
      iempintro
    unfold Owes
    iexists W
    isplitr
    · ipureintro; exact fun p hp => Or.inl hp
    · iexact HO
  iintro %acc Hinv
  ihave Hinv := Entails.of_eq (congrArg (fun n => Inv d L tbl ix out₀ qi qt O W n acc) trips_eq) $$ Hinv
  unfold Inv
  icases Hinv with ⟨%hacc, -, Hin0, Hin1, Hrow, Hfly, Ht0, Ht1, -, Hbehind, HO⟩
  subst hacc
  simp only [Prog.bind_lift, Prog.bind_assoc, Prog.bind_op, pure_bind, Prog.bind_ret]
  iapply (wp_assume _ _ _ _ (chk5 L))
  iapply (wp_assume _ _ _ _ chk4)
  unfold Owes
  icases HO with ⟨%W', %hW', HO⟩
  ihave Hfly := Entails.of_eq (show RowPrev d L tbl ix 16 = RowFly d L tbl ix (slot 15) (step L 15) by unfold RowPrev; rw [if_pos (by decide)]) $$ Hfly
  iapply (wp_sent d L tbl ix (p := slot 15) (g := step L 15) (semA_eq off20) (out_credit _ _)) $$ [Hfly HO]
  · isplitl [Hfly]; · iexact Hfly
    isplitl [HO]; · iexact HO
    iexact Hmw
  iintro ⟨Hrow', Hlast, HO⟩
  ihave HO := owes_more d L O W hW' $$ HO
  rw [wp_pure]
  imodintro
  ihave Hin0 := Entails.of_eq (show InCur d L ix qi 16 = InFree d L ix qi 0 by unfold InCur; rw [if_neg (by decide)]; rfl) $$ Hin0
  ihave Hin1 := Entails.of_eq (show InFree d L ix qi (slot (16 + 1)) = InFree d L ix qi 1 from rfl) $$ Hin1
  ihave Hrow := Entails.of_eq (show (RowFree d L (slot 16) : sProp 𝕄) = RowFree d L 0 from rfl) $$ Hrow
  ihave Hrow' := Entails.of_eq (show (RowFree d L (slot 15) : sProp 𝕄) = RowFree d L 1 from rfl) $$ Hrow'
  unfold InFree RowFree Tab
  icases Hin0 with ⟨Hs0, Ha0, Hi0⟩
  icases Hin1 with ⟨Hs1, Ha1, Hi1⟩
  icases Hrow with ⟨Hr0, Hb0⟩
  icases Hrow' with ⟨Hr1, Hb1⟩
  icases Ht0 with ⟨Ht0, Hg0⟩
  icases Ht1 with ⟨Ht1, Hg1⟩
  ihave Hs := in_unslots d L $$ [Hs0 Hs1]
  · isplitl [Hs0] <;> iassumption
  ihave Hr := row_unslots d L $$ [Hr0 Hr1]
  · isplitl [Hr0] <;> iassumption
  isplitl [Hi0 Hi1 Ht0 Ht1 Hlast Hbehind]
  · unfold Bring
    isplitl [Hi0]; · iexact Hi0
    isplitl [Hi1]; · iexact Hi1
    isplitl [Ht0]; · iexact Ht0
    isplitl [Ht1]; · iexact Ht1
    iapply (Entails.of_eq (behind_succ d L tbl ix 15).symm)
    isplitl [Hlast]; · iexact Hlast
    iexact Hbehind
  isplitl [Hs Hr Hbufs]
  · isplitl [Hs]; · iexact Hs
    isplitl [Hr]; · iexact Hr
    iexact Hbufs
  isplitl [Hg0 Hg1 Ha0 Ha1 Hb0 Hb1 Hsems]
  · isplitl [Hg0]; · iexact Hg0
    isplitl [Hg1]; · iexact Hg1
    isplitl [Ha0]; · iexact Ha0
    isplitl [Ha1]; · iexact Ha1
    isplitl [Hb0]; · iexact Hb0
    isplitl [Hb1]; · iexact Hb1
    iexact Hsems
  unfold Owes
  iexact HO

end

end Cert.Proof.Gather

end
-- ==== Proof.Launch.lean ====
/-
  The launch of the gather: what the call hands each of the 32 tiles and what they bring back, and how the whole arrays
  are dealt into those pieces and put together again.
-/
module

public import proofs.«01_k».proof.Proof.Tile
public import Idealize.ShloMosaic.Lib.ShareLeaves

@[expose] public section

noncomputable section

namespace Cert.Proof.Gather

open Cert.KernelIdeal Cert.KernelIdeal.Gen

open Idealize.ShloMosaic
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Dealing to the tiles -/

/-- The tile on subcore `s` of core `c`. -/
def at_ (c : Fin (grid0.bound 0)) (s : Fin (grid0.bound 1)) : grid0.Coords :=
  fun | 0 => c | 1 => s | ⟨_ + 2, h⟩ => absurd h (Nat.not_lt.2 (Nat.le_add_left _ _))

/-- Piece `j` of the `n` each tile gets, of `32 n` in all. -/
def piece {n : ℕ} (c : Fin 2) (s : Fin 16) (j : Fin n) : Fin (2 * (16 * n)) :=
  finProdFinEquiv (c, finProdFinEquiv (s, j))
theorem piece_val {n : ℕ} (c : Fin 2) (s : Fin 16) (j : Fin n) : (piece c s j).val = j.val + n * s.val + 16 * n * c.val := rfl

theorem deal {n : ℕ} (Φ : Fin (2 * (16 * n)) → sProp 𝕄) :
    bigSep Finset.univ Φ = bigSep Finset.univ fun c : Fin 2 => bigSep Finset.univ fun s : Fin 16 => bigSep Finset.univ fun j : Fin n => Φ (piece c s j) := by
  rw [bigSep_univ_equiv finProdFinEquiv, bigSep_univ_prod]
  refine bigSep_congr fun c _ => ?_
  rw [bigSep_univ_equiv finProdFinEquiv, bigSep_univ_prod]
  rfl

/-- The share of an array a tile reads through, one of its two. -/
def qs (L : grid0.Coords) (e : Fin 2) : PosShare TreeShare := leaf 6 fullShare (piece (n := 2) (L 0) (L 1) e)

theorem deal_shares {ℓ : Loc nD τ sig} (f : Buf (Elt F) ℓ) :
    (ℓ ↦{fullShare} f : sProp 𝕄) = bigSep Finset.univ fun c : Fin 2 => bigSep Finset.univ fun s : Fin 16 =>
      iprop((ℓ ↦{qs (at_ c s) 0} f) ∗ (ℓ ↦{qs (at_ c s) 1} f)) := by
  rw [pointsTo_leaves Finset.univ f 6 fullShare]
  refine (deal (n := 2) (fun i => (ℓ ↦[Finset.univ]{leaf 6 fullShare i} f : sProp 𝕄))).trans ?_
  refine bigSep_congr fun c _ => bigSep_congr fun s _ => ?_
  exact BI.bigSep_fin_two _

theorem step_piece (c : Fin 2) (s : Fin 16) (j : Fin 16) : (piece (n := 16) c s j : Fin 512) = step (at_ c s) j.val := by
  refine Fin.ext ?_
  have hc := c.isLt; have hs := s.isLt; have hj := j.isLt
  show j.val + 16 * s.val + 16 * 16 * c.val = (16 * (s.val + 16 * c.val) + j.val) % 512
  omega

theorem bigSep_below (n : ℕ) (Φ : ℕ → sProp 𝕄) : bigSep (Finset.univ : Finset (Fin n)) (fun i => Φ i.val) = bigSep (Finset.range n) Φ := by
  have e : Finset.range n = (Finset.univ : Finset (Fin n)).map Fin.valEmbedding := by
    ext i
    simp only [Finset.mem_range, Finset.mem_map, Finset.mem_univ, true_and]
    exact ⟨fun h => ⟨⟨i, h⟩, rfl⟩, fun ⟨j, hj⟩ => hj ▸ j.isLt⟩
  rw [e, BI.bigSep_map]; rfl

theorem deal_blocks (d : Dev nD) (f : S131072x128.Idx → Elt F .i32) :
    (oLoc d ↦{fullShare} f : sProp 𝕄) = bigSep Finset.univ fun c : Fin 2 => bigSep Finset.univ fun s : Fin 16 =>
      bigSep (Finset.range 16) fun j => Blk d (at_ c s) (step (at_ c s) j) f := by
  rw [out_blocks]
  refine (deal (n := 16) (fun g : Fin 512 => (oLoc d ↦[(outM g).view.set]{fullShare} f : sProp 𝕄))).trans ?_
  refine bigSep_congr fun c _ => bigSep_congr fun s _ => ?_
  rw [← bigSep_below 16 (fun j => Blk d (at_ c s) (step (at_ c s) j) f)]
  refine bigSep_congr fun j _ => ?_
  rw [step_piece]; rfl

/-! ## What the call carries -/

section

variable (tbl : Dev nD → S196608x128.Idx → Elt F .i32) (ix : Dev nD → S1024x128.Idx → Elt F .i32) (out₀ : Dev nD → S131072x128.Idx → Elt F .i32)

abbrev Go (d : Dev nD) (c : Fin 2) (s : Fin 16) : sProp 𝕄 := Take d (at_ c s) (tbl d) (ix d) (out₀ d) (qs (at_ c s)) (qs (at_ c s))
abbrev Done (d : Dev nD) (c : Fin 2) (s : Fin 16) : sProp 𝕄 := Bring d (at_ c s) (tbl d) (ix d) (qs (at_ c s)) (qs (at_ c s))

omit tbl ix out₀ in
theorem five_to (A B C D E : sProp 𝕄) : iprop((A ∗ B) ∗ (C ∗ D) ∗ E) ⊢ iprop(A ∗ B ∗ C ∗ D ∗ E) := by
  iintro ⟨⟨H0, H1⟩, ⟨H2, H3⟩, H4⟩
  isplitl [H0]; · iexact H0
  isplitl [H1]; · iexact H1
  isplitl [H2]; · iexact H2
  isplitl [H3]; · iexact H3
  iexact H4
omit tbl ix out₀ in
theorem five_from (A B C D E : sProp 𝕄) : iprop(A ∗ B ∗ C ∗ D ∗ E) ⊢ iprop((A ∗ B) ∗ (C ∗ D) ∗ E) := by
  iintro ⟨H0, H1, H2, H3, H4⟩
  isplitl [H0 H1]
  · isplitl [H0]; · iexact H0
    iexact H1
  isplitl [H2 H3]
  · isplitl [H2]; · iexact H2
    iexact H3
  iexact H4
omit tbl ix out₀ in
theorem five (A B C D E : sProp 𝕄) : iprop((A ∗ B) ∗ (C ∗ D) ∗ E) = iprop(A ∗ B ∗ C ∗ D ∗ E) :=
  BI.Entails.antisymm (five_to A B C D E) (five_from A B C D E)

/-- The three arrays, dealt. -/
theorem deal_take (d : Dev nD) :
    (iprop((iLoc d ↦{fullShare} ix d) ∗ (tLoc d ↦{fullShare} tbl d) ∗ oLoc d ↦{fullShare} out₀ d) : sProp 𝕄)
      ⊢ bigSep Finset.univ fun c : Fin 2 => bigSep Finset.univ fun s : Fin 16 => Go tbl ix out₀ d c s := by
  rw [deal_shares (ℓ := iLoc d) (ix d), deal_shares (ℓ := tLoc d) (tbl d), deal_blocks, ← bigSep_sep', ← bigSep_sep']
  refine Entails.of_eq (bigSep_congr fun c _ => ?_)
  rw [← bigSep_sep', ← bigSep_sep']
  refine bigSep_congr fun s _ => ?_
  unfold Go Take Ahead
  rw [Finset.range_eq_Ico]
  exact five _ _ _ _ _

/-- And put together again, the result at the gather. -/
theorem deal_bring (d : Dev nD) :
    (bigSep Finset.univ fun c : Fin 2 => bigSep Finset.univ fun s : Fin 16 => Done tbl ix d c s)
      ⊢ (iprop((iLoc d ↦{fullShare} ix d) ∗ (tLoc d ↦{fullShare} tbl d) ∗ oLoc d ↦{fullShare} gath (tbl d) (ix d)) : sProp 𝕄) := by
  rw [deal_shares (ℓ := iLoc d) (ix d), deal_shares (ℓ := tLoc d) (tbl d), deal_blocks, ← bigSep_sep', ← bigSep_sep']
  refine Entails.of_eq (bigSep_congr fun c _ => ?_)
  rw [← bigSep_sep', ← bigSep_sep']
  refine bigSep_congr fun s _ => ?_
  unfold Done Bring Behind
  exact (five _ _ _ _ _).symm

instance take_storable (d : Dev nD) (c : Fin 2) (s : Fin 16) : BI.Storable (upEmb : UEmb _ 𝕄) (Go tbl ix out₀ d c s) := by
  unfold Go Take Ahead Blk; infer_instance
instance bring_storable (d : Dev nD) (c : Fin 2) (s : Fin 16) : BI.Storable (upEmb : UEmb _ 𝕄) (Done tbl ix d c s) := by
  unfold Done Bring Behind Blk; infer_instance

/-- The one call takes each tile's pieces and brings them back. -/
def P : (K (F := F)).Pay (nD := nD) (Val := Elt F) (Name := ℕ) (U := UU) where
  st := fun q d c => match q with | 0 => bigSep Finset.univ fun s : Fin 16 => Go tbl ix out₀ d c s
  dn := fun q d c => match q with | 0 => bigSep Finset.univ fun s : Fin 16 => Done tbl ix d c s
  go := fun q d c s => match q with | 0 => Go tbl ix out₀ d c s
  td := fun q d c s => match q with | 0 => Done tbl ix d c s
  x := fun _ _ => iprop(emp)

instance P_storable : (P tbl ix out₀).IsStorable where
  st q d c := match q with
    | 0 => (inferInstance : BI.Storable (upEmb : UEmb _ 𝕄) (bigSep Finset.univ fun s : Fin 16 => Go tbl ix out₀ d c s))
  dn q d c := match q with
    | 0 => (inferInstance : BI.Storable (upEmb : UEmb _ 𝕄) (bigSep Finset.univ fun s : Fin 16 => Done tbl ix d c s))
  go q d c s := match q with
    | 0 => take_storable tbl ix out₀ d c s
  td q d c s := match q with
    | 0 => bring_storable tbl ix d c s

theorem vecSplit : (K (F := F)).VecSplit' (P tbl ix out₀) 0 := by
  intro d c
  show (bigSep Finset.univ fun s : Fin 16 => Go tbl ix out₀ d c s) ⊢ |={Set.univ}=> iprop(
    (bigSep Finset.univ fun s : Fin 16 => Go tbl ix out₀ d c s)
      ∗ ((bigSep Finset.univ fun s : Fin 16 => Done tbl ix d c s) -∗ (bigSep Finset.univ fun s : Fin 16 => Done tbl ix d c s)))
  iintro H; imodintro
  isplitl [H]; · iexact H
  iintro H; iexact H

/-! ## The obligation -/

variable [FloatOps F]

abbrev D : Defs nD τ sig (Elt F) (ΛP (F := F)) := Pipeline.defs pcfgs defs₀
abbrev 𝒱 : Variants := 𝒱₀.lift
abbrev v₀ : 𝒱.V := Sum.inl none

theorem defs₀_vector (c : Fin τ.nSC) (s : Fin τ.nSub) :
    defs₀ (F := F) (.scVector c s) 0 ()
      = SparseCore.onTile hcore0 hsub0 (fun c s => cc0_gather (at_ c s)
          (Memref.whole main_arg0_scv) (Memref.isWhole_whole _) (Memref.whole main_v1_scv) (Memref.isWhole_whole _) (Memref.whole main_v2_scv) (Memref.isWhole_whole _)
          cc0_scratch0 (Memref.whole cc0_scoped0) (Memref.isWhole_whole _) cc0_scoped1 (Memref.whole cc0_scoped2) (Memref.isWhole_whole _) cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hix : ∀ d j, (ix d j).toNat < 196608) : (K (F := F)).TileObl (D (F := F)) 𝒱 (P tbl ix out₀) v₀ 0 := by
  intro d c i O W hO _ _
  simp only [show (P tbl ix out₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at_ ⟨_, hci.1⟩ ⟨_, hci.2⟩) (tbl d) (ix d) (out₀ d) _ _ (hix d) O W hO).trans (wp_mono frame _ _ fun _ => obl_post)

/-! ## The launch element of the ghost state -/

abbrev EH : Emb UH (MT nD τ sig (HIx 1) (Elt F) ℕ UU ℕ) := embL
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tbl ix out₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [show (bigSep Finset.univ fun _ : Dev nD => iprop(emp)) = (iprop(emp) : sProp 𝕄) from bigSep_emp_const _]; iempintro
  rw [show (bigSep Finset.univ fun thr : Thread nD τ => bigSep Finset.univ fun q : Fin 1 => (P tbl ix out₀).x q thr) = (iprop(emp) : sProp 𝕄) from
    (bigSep_congr fun _ _ => bigSep_univ_of_subsingleton (0 : Fin 1)).trans (bigSep_emp_const _)]
  iempintro

end

end Cert.Proof.Gather

end
-- ==== Proof.Run.lean ====
/-
  The run of the whole program: the two reshapes of the row numbers, the call, and what every run ends with.
-/
module

public import proofs.«01_k».proof.Proof.Launch

@[expose] public section

noncomputable section

namespace Cert.Proof.Gather

open Cert.KernelIdeal Cert.KernelIdeal.Gen

open Idealize.ShloMosaic
open Idealize.ShloMosaic.StableHlo (held wp_hlo_within)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The row numbers as the call reads them: flattened, then in 1024 lines of 128. -/
def nums (a : S2x65536.Idx → Elt F .i32) : S1024x128.Idx → Elt F .i32 :=
  shapeCast S1024x128 (shapeCast S131072 a shapeCasts_S2x65536_S131072) shapeCasts_S131072_S1024x128

section

variable (m : (ℓ : Loc nD τ sig) → Buf (Elt F) ℓ) (ρ : Dev nD → PrngReg)

abbrev aLoc (d : Dev nD) : Loc nD τ sig := (SparseCore.T d).loc main_arg1
abbrev flatLoc (d : Dev nD) : Loc nD τ sig := (SparseCore.T d).loc main_v0

def tblOf (d : Dev nD) : S196608x128.Idx → Elt F .i32 := m (tLoc d)
def ixOf (d : Dev nD) : S1024x128.Idx → Elt F .i32 := nums (F := F) (m (aLoc d))
def outOf (d : Dev nD) : S131072x128.Idx → Elt F .i32 := m (oLoc d)

/-- Every row number names a row. -/
def InRange : Prop := ∀ (d : Dev nD) (j : S2x65536.Idx), (m (aLoc d) j : BitVec 32).toNat < 196608

theorem ix_lt (h : InRange m) (d : Dev nD) (j : S1024x128.Idx) : (ixOf m d j).toNat < 196608 := h d _

/-! ## The five arrays of the program -/

abbrev t' : DevRef τ sig := Proc.devRef .tc main_arg0
abbrev a' : DevRef τ sig := Proc.devRef .tc main_arg1
abbrev f' : DevRef τ sig := Proc.devRef .tc main_v0
abbrev i' : DevRef τ sig := Proc.devRef .tc main_v1
abbrev o' : DevRef τ sig := Proc.devRef .tc main_v2

abbrev five' : Finset (DevRef τ sig) := {t', a', f', i', o'}

theorem unscopedBufs_eq (d : Dev nD) (W : (b : Ref sig .tc) → Buf (Elt F) ((d.tc : Thread nD τ).loc b)) :
    (unscopedBufs d W : sProp 𝕄) = iprop((tLoc d ↦{fullShare} W main_arg0) ∗ (aLoc d ↦{fullShare} W main_arg1) ∗ (flatLoc d ↦{fullShare} W main_v0)
      ∗ (iLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem held_five (d : Dev nD) (W : Valuation τ sig (Elt F)) :
    (held (SparseCore.T d) five' W : sProp 𝕄) = iprop((tLoc d ↦{fullShare} W t') ∗ (aLoc d ↦{fullShare} W a') ∗ (flatLoc d ↦{fullShare} W f')
      ∗ (iLoc d ↦{fullShare} W i') ∗ oLoc d ↦{fullShare} W o') := by
  unfold held five'
  rw [SparseCore.bigSep_insert' (by decide), SparseCore.bigSep_insert' (by decide), SparseCore.bigSep_insert' (by decide),
    SparseCore.bigSep_insert' (by decide), bigSep_singleton]

/-- The arrays as the program finds them. -/
def V0 (d : Dev nD) : Valuation τ sig (Elt F) := fun b => m (d, b)

theorem unscoped_held (d : Dev nD) : (unscopedBufs d (fun b => m ((SparseCore.T d).loc b)) : sProp 𝕄) = held (SparseCore.T d) five' (V0 m d) := by
  rw [unscopedBufs_eq, held_five]; rfl

abbrev opFlat : HloOp τ sig (Elt F) := StableHlo.reshape main_arg1 main_v0 (rfl : (.i32 : EltTy) = .i32) shapeCasts_S2x65536_S131072
abbrev opLines : HloOp τ sig (Elt F) := StableHlo.reshape main_v0 main_v1 (rfl : (.i32 : EltTy) = .i32) shapeCasts_S131072_S1024x128

theorem flat_sub : (opFlat (F := F)).bufs ⊆ five' := by
  rw [StableHlo.reshape_bufs]; decide
theorem lines_sub : (opLines (F := F)).bufs ⊆ five' := by
  rw [StableHlo.reshape_bufs]; decide

def V1 (d : Dev nD) : Valuation τ sig (Elt F) := (opFlat (F := F)).result (V0 m d)
abbrev V2 (d : Dev nD) : Valuation τ sig (Elt F) := (opLines (F := F)).result (V1 m d)

theorem V2_t (d : Dev nD) : V2 m d t' = m (tLoc d) := by
  unfold V2 V1
  rw [StableHlo.reshape_result_ne' _ _ _ _ _ (by decide), StableHlo.reshape_result_ne' _ _ _ _ _ (by decide)]; rfl
theorem V2_a (d : Dev nD) : V2 m d a' = m (aLoc d) := by
  unfold V2 V1
  rw [StableHlo.reshape_result_ne' _ _ _ _ _ (by decide), StableHlo.reshape_result_ne' _ _ _ _ _ (by decide)]; rfl
theorem V2_o (d : Dev nD) : V2 m d o' = m (oLoc d) := by
  unfold V2 V1
  rw [StableHlo.reshape_result_ne' _ _ _ _ _ (by decide), StableHlo.reshape_result_ne' _ _ _ _ _ (by decide)]; rfl
theorem V2_i (d : Dev nD) : V2 m d i' = ixOf m d := by
  unfold V2 V1
  rw [StableHlo.reshape_result', StableHlo.reshape_result']; rfl

theorem held_two (d : Dev nD) :
    (held (SparseCore.T d) five' (V2 m d) : sProp 𝕄) = iprop((tLoc d ↦{fullShare} tblOf m d) ∗ (aLoc d ↦{fullShare} m (aLoc d)) ∗ (flatLoc d ↦{fullShare} V2 m d f')
      ∗ (iLoc d ↦{fullShare} ixOf m d) ∗ oLoc d ↦{fullShare} outOf m d) := by
  rw [held_five, V2_t, V2_a, V2_o, V2_i]; rfl

/-! ## The program on the TensorCore -/

variable [FloatOps F]

abbrev Pm : (K (F := F)).Pay (nD := nD) (Val := Elt F) (Name := ℕ) (U := UU) := P (tblOf m) (ixOf m) (outOf m)

/-- What the program leaves: both arguments as they were, the result at the gather. -/
abbrev FIN (d : Dev nD) : sProp 𝕄 :=
  iprop((tLoc d ↦{fullShare} tblOf m d) ∗ (aLoc d ↦{fullShare} m (aLoc d)) ∗ oLoc d ↦{fullShare} gath (tblOf m d) (ixOf m d))

theorem st_eq (d : Dev nD) : (bigSep Finset.univ fun c : Fin ((K (F := F)).nCore 0) => (Pm m).st 0 d c)
    = bigSep Finset.univ fun c : Fin 2 => bigSep Finset.univ fun s : Fin 16 => Go (tblOf m) (ixOf m) (outOf m) d c s := rfl
theorem dn_eq (d : Dev nD) : (bigSep Finset.univ fun c : Fin ((K (F := F)).nCore 0) => (Pm m).dn 0 d c)
    = bigSep Finset.univ fun c : Fin 2 => bigSep Finset.univ fun s : Fin 16 => Done (tblOf m) (ixOf m) d c s := rfl

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := five') flat_sub (V := V0 m d)) $$ [Hb Hheld]
  · isplitl [Hb] <;> iassumption
  iintro ⟨Hb, Hheld⟩
  rw [wp_ret]; imodintro
  iapply (wp_hlo_within 𝒱 (SparseCore.T d) none Set.univ (op := opLines) (S := five') lines_sub (V := V1 m d)) $$ [Hb Hheld]
  · isplitl [Hb]; · iexact Hb
    iexact Hheld
  iintro ⟨Hb, Hheld⟩
  rw [wp_ret]; imodintro
  ihave Hh := (Entails.of_eq (held_two (F := F) m d)) $$ Hheld
  icases Hh with ⟨Ht, Ha, -, Hi, Ho⟩
  ihave Hgo := (deal_take (tblOf m) (ixOf m) (outOf m) d) $$ [Hi Ht Ho]
  · isplitl [Hi]; · iexact Hi
    isplitl [Ht]; · iexact Ht
    iexact Ho
  iapply ((K (F := F)).wp_run (D (F := F)) 𝒱 (EH := EH) (P := Pm m) κ d 0) $$ [Hst Hgo Ha Hb Hts]
  isplitr; · iexact Hctx
  isplitl [Hst]; · iexact Hst
  isplitl [Hgo]
  · rw [st_eq]; iexact Hgo
  iintro ⟨Hst, Hdn⟩
  ihave Hdn' := (Entails.of_eq (dn_eq m d)) $$ Hdn
  ihave Hall := (deal_bring (tblOf m) (ixOf m) d) $$ Hdn'
  icases Hall with ⟨-, Ht, Ho⟩
  imodintro
  isplitl [Hst]; · iexact Hst
  isplitr [Hb Hts]
  · isplitl [Ht]; · iexact Ht
    isplitl [Ha]; · iexact Ha
    iexact Ho
  isplitl [Hb] <;> iassumption

/-- What the final memory is known to hold. -/
def fq (d : Dev nD) (s' : Phys nD τ sig (Elt F)) : Prop :=
  s'.mem.mem (tLoc d) = m (tLoc d) ∧ s'.mem.mem (aLoc d) = m (aLoc d) ∧ s'.mem.mem (oLoc d) = gath (tblOf m d) (ixOf m d)

omit [FloatOps F] in
set_option maxRecDepth 16384 in
theorem hfin (d : Dev nD) (s' : Phys nD τ sig (Elt F)) : iprop(FIN m d ∗ SI s') ⊢ (⌜fq m d s'⌝ : sProp 𝕄) := by
  iintro ⟨⟨Ht, Ha, Ho⟩, HSI⟩
  ihave H := (persistent_entails_right (SI_pointsTo_agree (st := s') (ℓ := tLoc d) (I := Finset.univ) (q := fullShare) (f := tblOf m d))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := gath (tblOf m d) (ixOf m d))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (tLoc c) = m (tLoc c) ∧ r.2.mem (aLoc c) = m (aLoc c) ∧ r.2.mem (oLoc c) = gath (tblOf m c) (ixOf m c)) ∧ r.2.sem = fun _ => 0

theorem run_main [∀ e, Nonempty (Elt F e)] (h : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ (ix_lt m h))
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

end

end Cert.Proof.Gather

end
-- ==== Proof.Ref.lean ====
/-
  The reference's indexing equals the gather: a row number in range is not negative, so the reference's wrap-around
  leaves it, and its clamp never acts.
-/
module

public import proofs.«01_k».proof.Proof.Run
public import proofs.«01_k».proof.Proof.Gen.ReferenceIdeal.Run
public import proofs.«01_k».proof.Proof.Gen.Reference.Run
public import proofs.«01_k».proof.Proof.Gen.Pre_rows_in_range
public import Idealize.ShloMosaic.Lib.Routing.Ops

@[expose] public section

noncomputable section

namespace Cert.Proof.Gather

open Idealize.ShloMosaic

section

open Cert.ReferenceIdeal Cert.ReferenceIdeal.Gen

variable {F : FTy → Type}

/-- The reference's result, of the table and the row numbers. -/
def taken (tbl : S196608x128.Idx → Elt F .i32) (a : S2x65536.Idx → Elt F .i32) : S131072x128.Idx → Elt F .i32 :=
  Host.gather gather_S196608x128_S131072x1_S131072x128_1_0_n_n_0_1_1128 tbl
    (broadcastInDim S131072x1 ![0] bcast_S131072_S131072x1_0
      (select (cmpi .slt (shapeCast S131072 a shapeCasts_S2x65536_S131072) (broadcastInDim S131072 ![] bcast_S_S131072 (constantI S_ 32 0#32)))
        (addi (shapeCast S131072 a shapeCasts_S2x65536_S131072) (broadcastInDim S131072 ![] bcast_S_S131072 (constantI S_ 32 196608#32)))
        (shapeCast S131072 a shapeCasts_S2x65536_S131072)))

/-- The number read for row `n` is the one the call reads. -/
theorem nums_at (a : S2x65536.Idx → Elt F .i32) (n : Fin 131072) :
    nums a (numAt n) = shapeCast S131072 a shapeCasts_S2x65536_S131072 (ValueIdx.ix1 n) := by
  unfold nums
  refine shapeCast_apply _ _ _ _ ?_
  rw [Shape.rowMajor_val_one, Shape.rowMajor_val_two]
  show n.val = n.val / 128 * 128 + n.val % 128
  omega

/-- A word below 196608 is not negative. -/
theorem not_neg (w : BitVec 32) (h : w.toNat < 196608) : IntOp.cmpi .slt w 0#32 = 0#1 := by
  have e : w.slt 0#32 = false := by
    rw [BitVec.slt_eq_decide, decide_eq_false_iff_not, BitVec.toInt_eq_toNat_cond, BitVec.toInt_eq_toNat_cond]
    simp only [BitVec.toNat_ofNat, Nat.reducePow, Nat.reduceMod]
    omega
  simp only [IntOp.cmpi, e]; rfl

theorem taken_eq (tbl : S196608x128.Idx → Elt F .i32) (a : S2x65536.Idx → Elt F .i32) (h : ∀ j, (a j : BitVec 32).toNat < 196608) :
    taken tbl a = gath tbl (nums a) := by
  funext j
  rw [show j = ValueIdx.ix2 (show Fin 131072 from j 0) (show Fin 128 from j 1) from ext2 rfl rfl]
  generalize (show Fin 131072 from j 0) = n, (show Fin 128 from j 1) = y
  have hv : (shapeCast S131072 a shapeCasts_S2x65536_S131072 (ValueIdx.ix1 n) : BitVec 32).toNat < 196608 := h _
  refine (Routing.gather_row _ rfl rfl rfl rfl rfl tbl _ n y
    (rowAt (nums a (numAt n))) ?_ (by decide)).trans ?_
  · rw [nums_at]
    generalize hw : shapeCast S131072 a shapeCasts_S2x65536_S131072 (ValueIdx.ix1 n) = w at hv
    have e : (broadcastInDim S131072x1 ![0] bcast_S131072_S131072x1_0
      (select (cmpi .slt (shapeCast S131072 a shapeCasts_S2x65536_S131072) (broadcastInDim S131072 ![] bcast_S_S131072 (constantI S_ 32 0#32)))
        (addi (shapeCast S131072 a shapeCasts_S2x65536_S131072) (broadcastInDim S131072 ![] bcast_S_S131072 (constantI S_ 32 196608#32)))
        (shapeCast S131072 a shapeCasts_S2x65536_S131072)) (ValueIdx.ix2 n (0 : Fin 1)) : BitVec 32)
        = Scalar.select (IntOp.cmpi .slt w 0#32) (w + 196608#32) w := by
      rw [← hw]
      have hb : ∀ x : S131072.Idx → Elt F .i32, broadcastInDim S131072x1 ![0] bcast_S131072_S131072x1_0 x (ValueIdx.ix2 n (0 : Fin 1))
          = x (ValueIdx.ix1 n) := by
        intro x
        unfold broadcastInDim
        refine congrArg x (funext fun b => ?_)
        match b with
        | ⟨0, _⟩ => rfl
      exact hb _
    rw [e, not_neg w hv]
    show w = BitVec.ofNat 32 (w.toNat % 196608)
    rw [Nat.mod_eq_of_lt hv, BitVec.ofNat_toNat, BitVec.setWidth_eq]
  · unfold gath
    exact congrArg tbl (ext2 rfl rfl)

end

end Cert.Proof.Gather

end
-- ==== Proof.MoeWords.lean ====
/-
  The expert layer's integers: the four rows of words its schedule is given (the expert of each tile of rows, whether the
  tile is used, the weights' slot, the expert to fetch next), the relations between them the kernel's transfers rest on,
  and the offsets and conditions its body computes from them, in closed form.
-/
module

public import proofs.«01_k».proof.Proof.Gen.Kernel2Ideal
public import proofs.«01_k».proof.Proof.Gen.Kernel2Ideal.Skeleton
public import Idealize.ShloMosaic.Lib.WordCmp

@[expose] public section

noncomputable section

namespace Cert.Proof.Moe

open Cert.Kernel2Ideal Cert.Kernel2Ideal.Gen
open Idealize.ShloMosaic

/-! ## The schedule -/

def ixW (r : Fin 8) (t : Fin 128) : S8x128.Idx :=
  fun | 0 => r | 1 => t | ⟨_ + 2, h⟩ => absurd h (Nat.not_lt.2 (Nat.le_add_left _ _))

/-- Word `t` of row `r`. -/
def wd (tb : S8x128.Idx → BitVec 32) (r : Fin 8) (t : ℕ) : BitVec 32 := tb (ixW r ⟨t % 128, Nat.mod_lt _ (by decide)⟩)

/-- Row 0: the expert of each tile; row 1: 1 at the tiles in use; row 2: the slot the expert's weights are in, the other one
    whenever the expert changes; row 3: the expert that comes after the tile's, −1 if none does. -/
structure Good (tb : S8x128.Idx → BitVec 32) : Prop where
  te_lt : ∀ t, t < 96 → (wd tb 0 t).toNat < 32
  ws_zero : wd tb 2 0 = 0#32
  ws_step : ∀ t, t + 1 < 96 → wd tb 2 (t + 1) = if wd tb 0 (t + 1) = wd tb 0 t then wd tb 2 t else 1#32 - wd tb 2 t
  nx_last : wd tb 3 95 = -1#32
  nx_step : ∀ t, t + 1 < 96 → wd tb 3 t = if wd tb 0 (t + 1) = wd tb 0 t then wd tb 3 (t + 1) else wd tb 0 (t + 1)

theorem Good.ws_bit {tb : S8x128.Idx → BitVec 32} (h : Good tb) : ∀ t, t < 96 → wd tb 2 t = 0#32 ∨ wd tb 2 t = 1#32 := by
  intro t
  induction t with
  | zero => exact fun _ => .inl h.ws_zero
  | succ t ih =>
    intro ht
    rw [h.ws_step t ht]
    split
    · exact ih (by omega)
    · rcases ih (by omega) with e | e <;> rw [e]
      · exact .inr rfl
      · exact .inl rfl

theorem Good.nx_or {tb : S8x128.Idx → BitVec 32} (h : Good tb) (k : ℕ) : ∀ t, t + k = 95 → wd tb 3 t = -1#32 ∨ (wd tb 3 t).toNat < 32 := by
  induction k with
  | zero => intro t ht; rw [show t = 95 by omega]; exact .inl h.nx_last
  | succ k ih =>
    intro t ht
    rw [h.nx_step t (by omega)]
    split
    · exact ih (t + 1) (by omega)
    · exact .inr (h.te_lt _ (by omega))

/-- The expert a word names, the weights' slot at tile `t`. -/
def ex (w : BitVec 32) : Fin 32 := ⟨w.toNat % 32, Nat.mod_lt _ (by decide)⟩
def sl (w : BitVec 32) : Fin 2 := ⟨w.toNat % 2, Nat.mod_lt _ (by decide)⟩

theorem ex_val {w : BitVec 32} (h : w.toNat < 32) : (ex w).val = w.toNat := Nat.mod_eq_of_lt h

/-- Whether a word is no expert's number: the sign the kernel looks at. -/
theorem cond6 {w : BitVec 32} (h : w = -1#32 ∨ w.toNat < 32) : k0_cond6 w = 1#1 ↔ w ≠ -1#32 := by
  rcases h with rfl | h
  · decide
  · obtain ⟨n, hn⟩ : ∃ n : Fin 32, w = BitVec.ofNat 32 n.val := ⟨⟨w.toNat, h⟩, by simp⟩
    subst hn
    revert n; decide

/-! ## Conditions -/

theorem bit_ne {b : BitVec 1} : Scalar.cmpi .ne (Scalar.extui b : BitVec 32) 0#32 = 1#1 ↔ b = 1#1 := by revert b; decide
theorem eq_bit {x y : BitVec 32} : Scalar.cmpi .eq x y = 1#1 ↔ x = y := by
  show IntOp.cmpi .eq x y = 1#1 ↔ _
  rw [Idealize.ShloMosaic.WordCmp.cmpi_eq_eq]; by_cases h : x = y <;> simp [h]
theorem ne_bit {x y : BitVec 32} : Scalar.cmpi .ne x y = 1#1 ↔ x ≠ y := by
  show IntOp.cmpi .ne x y = 1#1 ↔ _
  rw [Idealize.ShloMosaic.WordCmp.cmpi_ne_eq]; by_cases h : x = y <;> simp [h]
theorem and_bit {a b : BitVec 1} : Scalar.andi a b = 1#1 ↔ a = 1#1 ∧ b = 1#1 := by revert a b; decide
theorem or_bit {a b : BitVec 1} : Scalar.ori a b = 1#1 ↔ a = 1#1 ∨ b = 1#1 := by revert a b; decide

/-- The test of a word against 1, as the body makes it. -/
theorem is_one {w : BitVec 32} : Scalar.cmpi .ne (Scalar.extui (Scalar.cmpi .eq w 1#32) : BitVec 32) 0#32 = 1#1 ↔ w = 1#32 := bit_ne.trans eq_bit

theorem cond1 : ∀ i : grid0.Coords, k0_cond1 i = 1#1 ↔ (i 0).val = 0 := by decide +kernel
theorem first : ∀ i : grid0.Coords, Scalar.cmpi .eq (BitVec.ofNat 32 (i 0).val) 0#32 = 1#1 ↔ (i 0).val = 0 := by decide +kernel
theorem last : ∀ i : grid0.Coords, Scalar.cmpi .ne (Scalar.extui (Scalar.cmpi .eq (BitVec.ofNat 32 (i 0).val) 95#32) : BitVec 32) 0#32 = 1#1 ↔ (i 0).val = 95 := by
  decide +kernel
theorem before : ∀ i : grid0.Coords, Scalar.cmpi .slt (Scalar.addi (BitVec.ofNat 32 (i 0).val) 2#32) 96#32 = 1#1 ↔ (i 0).val + 2 < 96 := by decide +kernel
theorem after : ∀ i : grid0.Coords, Scalar.cmpi .sge (BitVec.ofNat 32 (i 0).val) 2#32 = 1#1 ↔ 2 ≤ (i 0).val := by decide +kernel

theorem cond4 (i : grid0.Coords) (w : BitVec 32) : k0_cond4 i w = 1#1 ↔ (i 0).val + 2 < 96 ∧ w = 1#32 :=
  bit_ne.trans (and_bit.trans (and_congr (before i) eq_bit))
theorem cond5 (i : grid0.Coords) (v w : BitVec 32) : k0_cond5 i v w = 1#1 ↔ (i 0).val = 0 ∨ v ≠ w :=
  bit_ne.trans (or_bit.trans (or_congr (first i) ne_bit))
theorem cond7 (i : grid0.Coords) (w : BitVec 32) : k0_cond7 i w = 1#1 ↔ 2 ≤ (i 0).val ∧ w = 1#32 :=
  bit_ne.trans (and_bit.trans (and_congr (after i) eq_bit))

/-! ## Offsets -/

theorem off3 : ∀ i : grid0.Coords, k0_off3 i = ![min ((i 0).val + 2) 95] := by decide +kernel
theorem off4 : ∀ i : grid0.Coords, k0_off4 i = ![((i 0).val + 2) % 3] := by decide +kernel
theorem off5 : ∀ i : grid0.Coords, k0_off5 i = ![((i 0).val + 2) % 3, 0, 0] := by decide +kernel
theorem off6 : ∀ i : grid0.Coords, k0_off6 i = ![512 * ((i 0).val + 2), 0] := by decide +kernel
theorem off8 : ∀ i : grid0.Coords, k0_off8 i = ![(i 0).val - 1] := by decide +kernel
theorem off30 : ∀ i : grid0.Coords, k0_off30 i = ![(i 0).val - 2] := by decide +kernel
theorem off31 : ∀ i : grid0.Coords, 2 ≤ (i 0).val → k0_off31 i = ![(i 0).val % 2] := by decide +kernel
theorem off32 : ∀ i : grid0.Coords, 2 ≤ (i 0).val → k0_off32 i = ![512 * ((i 0).val - 2), 0] := by decide +kernel
theorem off33 : ∀ i : grid0.Coords, 2 ≤ (i 0).val → k0_off33 i = ![(i 0).val % 2, 0, 0] := by decide +kernel
theorem off35 : ∀ i : grid0.Coords, k0_off35 i = ![(i 0).val % 3] := by decide +kernel
theorem off36 : ∀ i : grid0.Coords, k0_off36 i = ![(i 0).val % 3, 0, 0] := by decide +kernel
theorem off38 : ∀ i : grid0.Coords, k0_off38 i = ![(i 0).val % 3, 0, 0] := by decide +kernel
theorem off39 : ∀ i : grid0.Coords, k0_off39 i = ![(i 0).val % 2, 0, 0] := by decide +kernel
theorem off40 : ∀ i : grid0.Coords, k0_off40 i = ![(i 0).val % 2] := by decide +kernel
theorem off41 : ∀ i : grid0.Coords, k0_off41 i = ![(i 0).val % 2, 0, 0] := by decide +kernel

theorem offE {w : BitVec 32} (h : w.toNat < 32) : k0_off1 w = ![(ex w).val, 0, 0] := by rw [ex_val h]; rfl
theorem off11 {w : BitVec 32} (h : w = 0#32 ∨ w = 1#32) : k0_off11 w = ![(1 - sl w : Fin 2).val, 0] := by rcases h with rfl | rfl <;> decide
theorem off12 {w : BitVec 32} (h : w = 0#32 ∨ w = 1#32) : k0_off12 w = ![(1 - sl w : Fin 2).val, 0, 0] := by rcases h with rfl | rfl <;> decide
theorem off14 {w : BitVec 32} (h : w = 0#32 ∨ w = 1#32) : k0_off14 w = ![(1 - sl w : Fin 2).val, 1] := by rcases h with rfl | rfl <;> decide
theorem off15 {w : BitVec 32} (h : w = 0#32 ∨ w = 1#32) : k0_off15 w = ![(1 - sl w : Fin 2).val, 0, 0] := by rcases h with rfl | rfl <;> decide
theorem off16 {w : BitVec 32} (h : w = 0#32 ∨ w = 1#32) : k0_off16 w = ![(1 - sl w : Fin 2).val, 2] := by rcases h with rfl | rfl <;> decide
theorem off17 {w : BitVec 32} (h : w = 0#32 ∨ w = 1#32) : k0_off17 w = ![(1 - sl w : Fin 2).val, 0, 0] := by rcases h with rfl | rfl <;> decide
theorem off20 {w : BitVec 32} (h : w = 0#32 ∨ w = 1#32) : k0_off20 w = ![(sl w).val, 0] := by rcases h with rfl | rfl <;> decide
theorem off21 {w : BitVec 32} (h : w = 0#32 ∨ w = 1#32) : k0_off21 w = ![(sl w).val, 0, 0] := by rcases h with rfl | rfl <;> decide
theorem off23 {w : BitVec 32} (h : w = 0#32 ∨ w = 1#32) : k0_off23 w = ![(sl w).val, 1] := by rcases h with rfl | rfl <;> decide
theorem off24 {w : BitVec 32} (h : w = 0#32 ∨ w = 1#32) : k0_off24 w = ![(sl w).val, 0, 0] := by rcases h with rfl | rfl <;> decide
theorem off25 {w : BitVec 32} (h : w = 0#32 ∨ w = 1#32) : k0_off25 w = ![(sl w).val, 2] := by rcases h with rfl | rfl <;> decide
theorem off26 {w : BitVec 32} (h : w = 0#32 ∨ w = 1#32) : k0_off26 w = ![(sl w).val, 0, 0] := by rcases h with rfl | rfl <;> decide
theorem off28 {w : BitVec 32} (h : w = 0#32 ∨ w = 1#32) : k0_off28 w = ![(sl w).val, 0, 0] := by rcases h with rfl | rfl <;> decide
theorem off29 {w : BitVec 32} (h : w = 0#32 ∨ w = 1#32) : k0_off29 w = ![(sl w).val, 0, 0] := by rcases h with rfl | rfl <;> decide

/-! ## The checks hold -/

theorem inb_eg {w : BitVec 32} (h : w.toNat < 32) : ∀ a, (![w.toNat, 0, 0] : Fin 3 → ℕ) a + S1x1024x256.size a ≤ S32x1024x256.size a := by
  intro a
  match a with
  | 0 => show w.toNat + 1 ≤ 32; omega
  | 1 => show 0 + 1024 ≤ 1024; omega
  | 2 => show 0 + 256 ≤ 256; omega
theorem inb_ed {w : BitVec 32} (h : w.toNat < 32) : ∀ a, (![w.toNat, 0, 0] : Fin 3 → ℕ) a + S1x256x1024.size a ≤ S32x256x1024.size a := by
  intro a
  match a with
  | 0 => show w.toNat + 1 ≤ 32; omega
  | 1 => show 0 + 256 ≤ 256; omega
  | 2 => show 0 + 1024 ≤ 1024; omega

theorem chk1 (i : grid0.Coords) {w : BitVec 32} (h : w.toNat < 32) : k0_chk1 i w := ⟨fun _ => inb_eg h, fun _ => inb_ed h⟩
theorem chk4 (i : grid0.Coords) (v22 v28 v57 : BitVec 32) {w : BitVec 32} (h : w.toNat < 32) : k0_chk4 i v22 v28 v57 w :=
  ⟨fun _ _ => inb_eg h, fun _ _ => inb_ed h⟩
theorem chk6 (i : grid0.Coords) (v22 v28 : BitVec 32) {w : BitVec 32} (h : w.toNat < 32) : k0_chk6 i v22 v28 w := ⟨fun _ => inb_eg h, fun _ => inb_ed h⟩
theorem chk3 (i : grid0.Coords) {w : BitVec 32} (v22 v28 v57 : BitVec 32) (h : w = 0#32 ∨ w = 1#32) : k0_chk3 i w v22 v28 v57 := by
  rcases h with rfl | rfl <;>
    exact ⟨fun _ _ => by decide, fun _ _ => by decide, fun _ _ => by decide, fun _ _ => by decide, fun _ _ => by decide, fun _ _ => by decide⟩
theorem chk5 (i : grid0.Coords) {w : BitVec 32} (v22 v28 : BitVec 32) (h : w = 0#32 ∨ w = 1#32) : k0_chk5 i w v22 v28 := by
  rcases h with rfl | rfl <;>
    exact ⟨fun _ => by decide, fun _ => by decide, fun _ => by decide, fun _ => by decide, fun _ => by decide, fun _ => by decide, fun _ => by decide,
      fun _ => by decide⟩

theorem inb6 : ∀ i : grid0.Coords, (i 0).val + 2 < 96 → ∀ a, (k0_off6 i) a + S512x1024.size a ≤ S49152x1024.size a := by decide +kernel
theorem words6 : ∀ i : grid0.Coords, (i 0).val + 2 < 96 → ∀ hinb : ∀ a, (k0_off6 i) a + S512x1024.size a ≤ S49152x1024.size a,
    (Rect.unit (s := S49152x1024) (k0_off6 i) S512x1024.size hinb).WholeWords (EltTy.packing .bf16) := by decide +kernel
theorem inb32 : ∀ i : grid0.Coords, 2 ≤ (i 0).val → ∀ a, (k0_off32 i) a + S512x1024.size a ≤ S49152x1024.size a := by decide +kernel
theorem words32 : ∀ i : grid0.Coords, 2 ≤ (i 0).val → ∀ hinb : ∀ a, (k0_off32 i) a + S512x1024.size a ≤ S49152x1024.size a,
    (Rect.unit (s := S49152x1024) (k0_off32 i) S512x1024.size hinb).WholeWords (EltTy.packing .bf16) := by decide +kernel

theorem chk2 (i : grid0.Coords) (w : BitVec 32) : k0_chk2 i w :=
  ⟨fun h => inb6 i ((cond4 i w).mp h).1, fun h => words6 i ((cond4 i w).mp h).1⟩
theorem chk7 (i : grid0.Coords) (w : BitVec 32) : k0_chk7 i w :=
  ⟨fun h => inb32 i ((cond7 i w).mp h).1, fun h => words32 i ((cond7 i w).mp h).1⟩

end Cert.Proof.Moe

end
-- ==== Proof.MoeViews.lean ====
/-
  The expert layer's memory as its body addresses it: the three slots rows of tokens come into, the two the results leave
  from, the two slots of each of an expert's three weight matrices, and the blocks of the arrays they are copied from and
  to; what a load of a slot reads, and what the rows of a tile come to.
-/
module

public import proofs.«01_k».proof.Proof.MoeWords
public import Idealize.ShloMosaic.Lib.Pipeline.Kit
public import Idealize.ShloMosaic.Lib.Pipeline.Value
public import Idealize.ShloMosaic.Lib.Tactic

@[expose] public section

noncomputable section

namespace Cert.Proof.Moe

open Cert.Kernel2Ideal Cert.Kernel2Ideal.Gen
open Idealize.ShloMosaic

variable {F : FTy → Type}

theorem xS_inb (p : Fin 3) : ∀ a, (![p.val, 0, 0] : Fin 3 → ℕ) a + S1x512x1024.size a ≤ S3x512x1024.size a := by revert p; decide
theorem yS_inb (p : Fin 2) : ∀ a, (![p.val, 0, 0] : Fin 3 → ℕ) a + S1x512x1024.size a ≤ S2x512x1024.size a := by revert p; decide
theorem gS_inb (p : Fin 2) : ∀ a, (![p.val, 0, 0] : Fin 3 → ℕ) a + S1x1024x256.size a ≤ S2x1024x256.size a := by revert p; decide
theorem dS_inb (p : Fin 2) : ∀ a, (![p.val, 0, 0] : Fin 3 → ℕ) a + S1x256x1024.size a ≤ S2x256x1024.size a := by revert p; decide
theorem gR_inb (e : Fin 32) : ∀ a, (![e.val, 0, 0] : Fin 3 → ℕ) a + S1x1024x256.size a ≤ S32x1024x256.size a := by revert e; decide
theorem dR_inb (e : Fin 32) : ∀ a, (![e.val, 0, 0] : Fin 3 → ℕ) a + S1x256x1024.size a ≤ S32x256x1024.size a := by revert e; decide
theorem sem3_inb (p : Fin 3) : ∀ a, (![p.val] : Fin 1 → ℕ) a + S1.size a ≤ S3.size a := by revert p; decide
theorem sem2_inb (p : Fin 2) : ∀ a, (![p.val] : Fin 1 → ℕ) a + S1.size a ≤ S2.size a := by revert p; decide
theorem semW_inb (p : Fin 2) (j : Fin 3) : ∀ a, (![p.val, j.val] : Fin 2 → ℕ) a + S1x1.size a ≤ S2x3.size a := by revert p j; decide
theorem rows_inb (t : Fin 96) : ∀ a, (![512 * t.val, 0] : Fin 2 → ℕ) a + S512x1024.size a ≤ S49152x1024.size a := by
  intro a; have := t.isLt
  match a with
  | 0 => show 512 * t.val + 512 ≤ 49152; omega
  | 1 => show 0 + 1024 ≤ 1024; omega
theorem tbl_inb (r : Fin 8) : ∀ a, (![r.val, 0] : Fin 2 → ℕ) a + S1x128.size a ≤ S8x128.size a := by revert r; decide

/-! ## Slices -/

abbrev xA (off : Fin 3 → ℕ) (h : ∀ a, off a + S1x512x1024.size a ≤ S3x512x1024.size a) : Memref sig .tc .vmem S512x1024 .bf16 :=
  ((Memref.whole cc0_scratch0 : Memref sig .tc .vmem S3x512x1024 .bf16).slice (Rect.unit (s := S3x512x1024) off S1x512x1024.size h) (fun _ => rfl)).squeeze S512x1024 squeezes_S1x512x1024_S512x1024
abbrev yA (off : Fin 3 → ℕ) (h : ∀ a, off a + S1x512x1024.size a ≤ S2x512x1024.size a) : Memref sig .tc .vmem S512x1024 .bf16 :=
  ((Memref.whole cc0_scratch1 : Memref sig .tc .vmem S2x512x1024 .bf16).slice (Rect.unit (s := S2x512x1024) off S1x512x1024.size h) (fun _ => rfl)).squeeze S512x1024 squeezes_S1x512x1024_S512x1024
abbrev gA (off : Fin 3 → ℕ) (h : ∀ a, off a + S1x1024x256.size a ≤ S2x1024x256.size a) : Memref sig .tc .vmem S1024x256 .f32 :=
  ((Memref.whole cc0_scratch2 : Memref sig .tc .vmem S2x1024x256 .f32).slice (Rect.unit (s := S2x1024x256) off S1x1024x256.size h) (fun _ => rfl)).squeeze S1024x256 squeezes_S1x1024x256_S1024x256
abbrev uA (off : Fin 3 → ℕ) (h : ∀ a, off a + S1x1024x256.size a ≤ S2x1024x256.size a) : Memref sig .tc .vmem S1024x256 .f32 :=
  ((Memref.whole cc0_scratch3 : Memref sig .tc .vmem S2x1024x256 .f32).slice (Rect.unit (s := S2x1024x256) off S1x1024x256.size h) (fun _ => rfl)).squeeze S1024x256 squeezes_S1x1024x256_S1024x256
abbrev dA (off : Fin 3 → ℕ) (h : ∀ a, off a + S1x256x1024.size a ≤ S2x256x1024.size a) : Memref sig .tc .vmem S256x1024 .f32 :=
  ((Memref.whole cc0_scratch4 : Memref sig .tc .vmem S2x256x1024 .f32).slice (Rect.unit (s := S2x256x1024) off S1x256x1024.size h) (fun _ => rfl)).squeeze S256x1024 squeezes_S1x256x1024_S256x1024
abbrev geA (off : Fin 3 → ℕ) (h : ∀ a, off a + S1x1024x256.size a ≤ S32x1024x256.size a) : Memref sig .tc .hbm S1024x256 .f32 :=
  ((Memref.whole main_arg2 : Memref sig .tc .hbm S32x1024x256 .f32).slice (Rect.unit (s := S32x1024x256) off S1x1024x256.size h) (fun _ => rfl)).squeeze S1024x256 squeezes_S1x1024x256_S1024x256
abbrev ueA (off : Fin 3 → ℕ) (h : ∀ a, off a + S1x1024x256.size a ≤ S32x1024x256.size a) : Memref sig .tc .hbm S1024x256 .f32 :=
  ((Memref.whole main_arg3 : Memref sig .tc .hbm S32x1024x256 .f32).slice (Rect.unit (s := S32x1024x256) off S1x1024x256.size h) (fun _ => rfl)).squeeze S1024x256 squeezes_S1x1024x256_S1024x256
abbrev deA (off : Fin 3 → ℕ) (h : ∀ a, off a + S1x256x1024.size a ≤ S32x256x1024.size a) : Memref sig .tc .hbm S256x1024 .f32 :=
  ((Memref.whole main_arg4 : Memref sig .tc .hbm S32x256x1024 .f32).slice (Rect.unit (s := S32x256x1024) off S1x256x1024.size h) (fun _ => rfl)).squeeze S256x1024 squeezes_S1x256x1024_S256x1024
abbrev xbA (off : Fin 2 → ℕ) (h : ∀ a, off a + S512x1024.size a ≤ S49152x1024.size a) : Memref sig .tc .hbm S512x1024 .bf16 :=
  (Memref.whole main_arg1 : Memref sig .tc .hbm S49152x1024 .bf16).slice (Rect.unit (s := S49152x1024) off S512x1024.size h) (fun _ => rfl)
abbrev ybA (off : Fin 2 → ℕ) (h : ∀ a, off a + S512x1024.size a ≤ S49152x1024.size a) : Memref sig .tc .hbm S512x1024 .bf16 :=
  (Memref.whole main_v0 : Memref sig .tc .hbm S49152x1024 .bf16).slice (Rect.unit (s := S49152x1024) off S512x1024.size h) (fun _ => rfl)
abbrev sem3A (off : Fin 1 → ℕ) (h : ∀ a, off a + S1.size a ≤ S3.size a) : DmaSem sig :=
  ((cc0_scratch8.slice (Rect.unit (s := S3) off S1.size h)).squeeze S_ squeezes_S1_S_).sem
abbrev sem2A (off : Fin 1 → ℕ) (h : ∀ a, off a + S1.size a ≤ S2.size a) : DmaSem sig :=
  ((cc0_scratch9.slice (Rect.unit (s := S2) off S1.size h)).squeeze S_ squeezes_S1_S_).sem
abbrev semWA (off : Fin 2 → ℕ) (h : ∀ a, off a + S1x1.size a ≤ S2x3.size a) : DmaSem sig :=
  ((cc0_scratch10.slice (Rect.unit (s := S2x3) off S1x1.size h)).squeeze S_ squeezes_S1x1_S_).sem
abbrev tblA (off : Fin 2 → ℕ) (h : ∀ a, off a + S1x128.size a ≤ S8x128.size a) : Memref sig .tc .smem S128 .i32 :=
  ((Memref.whole main_arg0 : Memref sig .tc .smem S8x128 .i32).slice (Rect.unit (s := S8x128) off S1x128.size h) (fun _ => rfl)).squeeze S128 squeezes_S1x128_S128

/-- The slots, and the blocks of the arrays. -/
abbrev xM (p : Fin 3) := xA ![p.val, 0, 0] (xS_inb p)
abbrev yM (p : Fin 2) := yA ![p.val, 0, 0] (yS_inb p)
abbrev gM (p : Fin 2) := gA ![p.val, 0, 0] (gS_inb p)
abbrev uM (p : Fin 2) := uA ![p.val, 0, 0] (gS_inb p)
abbrev dM (p : Fin 2) := dA ![p.val, 0, 0] (dS_inb p)
abbrev gE (e : Fin 32) := geA ![e.val, 0, 0] (gR_inb e)
abbrev uE (e : Fin 32) := ueA ![e.val, 0, 0] (gR_inb e)
abbrev dE (e : Fin 32) := deA ![e.val, 0, 0] (dR_inb e)
abbrev xB (t : Fin 96) := xbA ![512 * t.val, 0] (rows_inb t)
abbrev yB (t : Fin 96) := ybA ![512 * t.val, 0] (rows_inb t)
abbrev xQ (p : Fin 3) : DmaSem sig := sem3A ![p.val] (sem3_inb p)
abbrev yQ (p : Fin 2) : DmaSem sig := sem2A ![p.val] (sem2_inb p)
abbrev wQ (p : Fin 2) (j : Fin 3) : DmaSem sig := semWA ![p.val, j.val] (semW_inb p j)

theorem xA_eq {off h} {p : Fin 3} (e : off = ![p.val, 0, 0]) : xA off h = xM p := by subst e; rfl
theorem yA_eq {off h} {p : Fin 2} (e : off = ![p.val, 0, 0]) : yA off h = yM p := by subst e; rfl
theorem gA_eq {off h} {p : Fin 2} (e : off = ![p.val, 0, 0]) : gA off h = gM p := by subst e; rfl
theorem uA_eq {off h} {p : Fin 2} (e : off = ![p.val, 0, 0]) : uA off h = uM p := by subst e; rfl
theorem dA_eq {off h} {p : Fin 2} (e : off = ![p.val, 0, 0]) : dA off h = dM p := by subst e; rfl
theorem geA_eq {off h} {p : Fin 32} (e : off = ![p.val, 0, 0]) : geA off h = gE p := by subst e; rfl
theorem ueA_eq {off h} {p : Fin 32} (e : off = ![p.val, 0, 0]) : ueA off h = uE p := by subst e; rfl
theorem deA_eq {off h} {p : Fin 32} (e : off = ![p.val, 0, 0]) : deA off h = dE p := by subst e; rfl
theorem xbA_eq {off h} {t : Fin 96} (e : off = ![512 * t.val, 0]) : xbA off h = xB t := by subst e; rfl
theorem ybA_eq {off h} {t : Fin 96} (e : off = ![512 * t.val, 0]) : ybA off h = yB t := by subst e; rfl
theorem sem3A_eq {off h} {p : Fin 3} (e : off = ![p.val]) : sem3A off h = xQ p := by subst e; rfl
theorem sem2A_eq {off h} {p : Fin 2} (e : off = ![p.val]) : sem2A off h = yQ p := by subst e; rfl
theorem semWA_eq {off h} {p : Fin 2} {j : Fin 3} (e : off = ![p.val, j.val]) : semWA off h = wQ p j := by subst e; rfl

/-! ## What they read -/

theorem ext2 {a b : ℕ} {x y : (⟨2, ![a, b]⟩ : Shape).Idx} (h0 : (x 0).val = (y 0).val) (h1 : (x 1).val = (y 1).val) : x = y := by
  funext k
  match k with
  | 0 => exact Fin.ext h0
  | 1 => exact Fin.ext h1

theorem read_tbl (tb : S8x128.Idx → Elt F .i32) {off h} (r : Fin 8) (e : off = ![r.val, 0]) (x : S128.Idx) :
    (tblA off h).view.read (Elt F) tb x = tb (ixW r (x 0)) := by
  subst e
  refine ((View.read_apply _ _).trans (cast_eq _ _)).trans (congrArg tb (ext2 ?_ ?_))
  · show r.val + 1 * (Shape.reshapeEquiv squeezes_S1x128_S128.numel_eq x 0).val = r.val
    rw [Shape.reshapeEquiv_cons_one]; show r.val + 1 * 0 = _; omega
  · show 0 + 1 * (Shape.reshapeEquiv squeezes_S1x128_S128.numel_eq x 1).val = (x 0).val
    rw [Shape.reshapeEquiv_cons_one]; show 0 + 1 * (x 0).val = _; omega

theorem access_x {off h h' h''} (f : S3x512x1024.Idx → Elt F .bf16) :
    shapeCast S512x1024 (((Memref.whole cc0_scratch0 : Memref sig .tc .vmem S3x512x1024 .bf16).access (Rect.unit (s := S3x512x1024) off S1x512x1024.size h)).read (Elt F) f) h'
      = (xA off h'').view.read (Elt F) f := rfl
theorem access_g {off h h' h''} (f : S2x1024x256.Idx → Elt F .f32) :
    shapeCast S1024x256 (((Memref.whole cc0_scratch2 : Memref sig .tc .vmem S2x1024x256 .f32).access (Rect.unit (s := S2x1024x256) off S1x1024x256.size h)).read (Elt F) f) h'
      = (gA off h'').view.read (Elt F) f := rfl
theorem access_u {off h h' h''} (f : S2x1024x256.Idx → Elt F .f32) :
    shapeCast S1024x256 (((Memref.whole cc0_scratch3 : Memref sig .tc .vmem S2x1024x256 .f32).access (Rect.unit (s := S2x1024x256) off S1x1024x256.size h)).read (Elt F) f) h'
      = (uA off h'').view.read (Elt F) f := rfl
theorem access_d {off h h' h''} (f : S2x256x1024.Idx → Elt F .f32) :
    shapeCast S256x1024 (((Memref.whole cc0_scratch4 : Memref sig .tc .vmem S2x256x1024 .f32).access (Rect.unit (s := S2x256x1024) off S1x256x1024.size h)).read (Elt F) f) h'
      = (dA off h'').view.read (Elt F) f := rfl
/-- What is stored to a slot of results is what the slot then reads. -/
theorem access_y {off h h' h''} (f : S2x512x1024.Idx → Elt F .bf16) (w : S512x1024.Idx → Elt F .bf16) :
    (yA off h'').view.read (Elt F) (((Memref.whole cc0_scratch1 : Memref sig .tc .vmem S2x512x1024 .bf16).access (Rect.unit (s := S2x512x1024) off S1x512x1024.size h)).write (Elt F) f
      (shapeCast S1x512x1024 w h') Finset.univ) = w := by
  have e := View.read_write_univ (Val := Elt F) (v := (Memref.whole cc0_scratch1 : Memref sig .tc .vmem S2x512x1024 .bf16).access (Rect.unit (s := S2x512x1024) off S1x512x1024.size h)) f (shapeCast S1x512x1024 w h')
  have e' := congrArg (fun v => shapeCast S512x1024 v (by decide : S1x512x1024.ShapeCasts S512x1024)) e
  exact e'.trans (shapeCast_shapeCast w h' _)

/-! ## The rows of a tile -/

variable [FloatOps F]

/-- An expert's weights as the body rounds them. -/
def wgOf (WG : S32x1024x256.Idx → Elt F .f32) (e : Fin 32) : FVec F S1024x256 .bf16 := truncf .bf16 ((gE e).view.read (Elt F) WG : FVec F S1024x256 .f32) bitsLt_bf16_f32
def wuOf (WU : S32x1024x256.Idx → Elt F .f32) (e : Fin 32) : FVec F S1024x256 .bf16 := truncf .bf16 ((uE e).view.read (Elt F) WU : FVec F S1024x256 .f32) bitsLt_bf16_f32
def wdOf (WD : S32x256x1024.Idx → Elt F .f32) (e : Fin 32) : FVec F S256x1024 .bf16 := truncf .bf16 ((dE e).view.read (Elt F) WD : FVec F S256x1024 .f32) bitsLt_bf16_f32

/-- A tile of rows through one expert. -/
def ffn (x : FVec F S512x1024 .bf16) (wg wu : FVec F S1024x256 .bf16) (wd' : FVec F S256x1024 .bf16) : FVec F S512x1024 .bf16 :=
  shapeCast S512x1024 (k0_pay5 (shapeCast S1x512x1024 x shapeCasts_S512x1024_S1x512x1024) wg wu wd') shapeCasts_S1x512x1024_S512x1024

theorem pay5_eq (v : Vec F S1x512x1024 .bf16) (wg wu : FVec F S1024x256 .bf16) (wd' : FVec F S256x1024 .bf16) :
    k0_pay5 v wg wu wd' = shapeCast S1x512x1024 (ffn (shapeCast S512x1024 v shapeCasts_S1x512x1024_S512x1024) wg wu wd') shapeCasts_S512x1024_S1x512x1024 := by
  unfold ffn
  rw [shapeCast_shapeCast v, shapeCast_shapeCast]

def ixR (r : Fin 512) (c : Fin 1024) : S512x1024.Idx :=
  fun | 0 => r | 1 => c | ⟨_ + 2, h⟩ => absurd h (Nat.not_lt.2 (Nat.le_add_left _ _))

section

variable (tb : S8x128.Idx → BitVec 32) (X : S49152x1024.Idx → Elt F .bf16) (WG WU : S32x1024x256.Idx → Elt F .f32) (WD : S32x256x1024.Idx → Elt F .f32)
variable (Y0 : S49152x1024.Idx → Elt F .bf16)

/-- Entry `k` of tile `t`'s rows of the result: the tile's rows through its expert if the tile is in use, else as it was. -/
def tileRes (t : Fin 96) (k : S512x1024.Idx) (y : Elt F .bf16) : Elt F .bf16 :=
  if wd tb 1 t.val = 1#32 then
    ffn ((xB t).view.read (Elt F) X) (wgOf WG (ex (wd tb 0 t.val))) (wuOf WU (ex (wd tb 0 t.val))) (wdOf WD (ex (wd tb 0 t.val))) k
  else y

def tileOf (j : S49152x1024.Idx) : Fin 96 := ⟨(j 0).val / 512, Nat.div_lt_of_lt_mul (j 0).isLt⟩

/-- The result. -/
def res : S49152x1024.Idx → Elt F .bf16 := fun j =>
  tileRes tb X WG WU WD (tileOf j) (ixR ⟨(j 0).val % 512, Nat.mod_lt _ (by decide)⟩ (j 1)) (Y0 j)

theorem res_at (t : Fin 96) (k : S512x1024.Idx) (j : S49152x1024.Idx) (h0 : (j 0).val = 512 * t.val + (k 0).val) (h1 : (j 1).val = (k 1).val) :
    res tb X WG WU WD Y0 j = tileRes tb X WG WU WD t k (Y0 j) := by
  have hk : (k 0).val < 512 := (k 0).isLt
  have et : tileOf j = t := Fin.ext (by show (j 0).val / 512 = t.val; omega)
  have ek : ixR ⟨(j 0).val % 512, Nat.mod_lt _ (by decide)⟩ (j 1) = k := ext2 (by show (j 0).val % 512 = (k 0).val; omega) h1
  unfold res
  rw [et, ek]

end

theorem emb_yB_zero (t : Fin 96) (x : S512x1024.Idx) : ((yB t).view.emb x 0).val = 512 * t.val + (x 0).val := by
  show 512 * t.val + 1 * (x 0).val = _; omega
theorem emb_yB_one (t : Fin 96) (x : S512x1024.Idx) : ((yB t).view.emb x 1).val = (x 1).val := by
  show 0 + 1 * (x 1).val = _; omega

/-- A used tile's rows of the result. -/
theorem res_read {tb : S8x128.Idx → BitVec 32} {X : S49152x1024.Idx → Elt F .bf16} {WG WU : S32x1024x256.Idx → Elt F .f32} {WD : S32x256x1024.Idx → Elt F .f32}
    {Y0 : S49152x1024.Idx → Elt F .bf16} (t : Fin 96) (h : wd tb 1 t.val = 1#32) :
    ffn ((xB t).view.read (Elt F) X) (wgOf WG (ex (wd tb 0 t.val))) (wuOf WU (ex (wd tb 0 t.val))) (wdOf WD (ex (wd tb 0 t.val)))
      = (yB t).view.read (Elt F) (res tb X WG WU WD Y0) := by
  funext x
  have e : (yB t).view.read (Elt F) (res tb X WG WU WD Y0) x = res tb X WG WU WD Y0 ((yB t).view.emb x) := (View.read_apply _ _).trans (cast_eq _ _)
  refine Eq.trans ?_ e.symm
  rw [res_at tb X WG WU WD Y0 t x _ (emb_yB_zero t x) (emb_yB_one t x)]
  exact (if_pos h).symm

/-- An unused tile's rows are as they were. -/
theorem res_off {tb : S8x128.Idx → BitVec 32} {X : S49152x1024.Idx → Elt F .bf16} {WG WU : S32x1024x256.Idx → Elt F .f32} {WD : S32x256x1024.Idx → Elt F .f32}
    {Y0 : S49152x1024.Idx → Elt F .bf16} (t : Fin 96) (h : wd tb 1 t.val ≠ 1#32) (i : S49152x1024.Idx) (hi : i ∈ (yB t).view.set) :
    res tb X WG WU WD Y0 i = Y0 i := by
  obtain ⟨x, -, rfl⟩ := Finset.mem_map.mp hi
  rw [res_at tb X WG WU WD Y0 t x _ (emb_yB_zero t x) (emb_yB_one t x)]
  exact if_neg h

end Cert.Proof.Moe

end
-- ==== Proof.MoeSteps.lean ====
/-
  The expert layer's transfers and accesses, one lemma per operation. A slot is free, on its way (a copy of a block of an
  array, read through a share of it), or full.
-/
module

public import proofs.«01_k».proof.Proof.MoeViews

@[expose] public section

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev th (c : Dev nD) : Thread nD τ := c.tc

/-- A program's weakest precondition on the core. -/
abbrev WP (c : Dev nD) {α : Type} (p : Prog (TpuEff nD τ sig (Elt F) Λ₀ .tc) α) (Q : α → sProp 𝕄) : sProp 𝕄 :=
  wp frame (wpE (defs₀ (F := F)) Variants.none (th c) none) Set.univ p Q

section

variable (c : Dev nD)

/-- What the core owes: nothing, whatever it has waited for. -/
def Owes : sProp 𝕄 := iprop(∃ W : Waits sig Unit, owes (th c) 0 W)

variable {s : Shape} {e : EltTy}

def Free (dst : Memref sig .tc .vmem s e) (sem : DmaSem sig) : sProp 𝕄 :=
  iprop((∃ f, dst.view.loc (th c) ↦[dst.view.set]{fullShare} f) ∗ semVal (th c, .dma sem) 0)
def Full (dst : Memref sig .tc .vmem s e) (sem : DmaSem sig) (v : s.Idx → Elt F e) : sProp 𝕄 :=
  iprop((∃ f, ⌜dst.view.read (Elt F) f = v⌝ ∗ dst.view.loc (th c) ↦[dst.view.set]{fullShare} f) ∗ semVal (th c, .dma sem) 0)
def Src (src : Memref sig .tc .hbm s e) (q : PosShare TreeShare) (X : Buf (Elt F) (src.view.loc (th c))) : sProp 𝕄 := src.view.loc (th c) ↦{q} X
def Fly (src : Memref sig .tc .hbm s e) (dst : Memref sig .tc .vmem s e) (sem : DmaSem sig) (q : PosShare TreeShare) (X : Buf (Elt F) (src.view.loc (th c))) : sProp 𝕄 :=
  iprop(Transfers.Flight countersEmb (th c) (.dma sem) () dst.view.dmaCredit
      iprop((∃ f, ⌜dst.view.read (Elt F) f = src.view.read (Elt F) X⌝ ∗ dst.view.loc (th c) ↦[dst.view.set]{fullShare} f)
        ∗ src.view.loc (th c) ↦[src.view.set]{q} X)
    ∗ src.view.loc (th c) ↦[Finset.univ \ src.view.set]{q} X)
def Blk (dst : Memref sig .tc .hbm s e) (G : Buf (Elt F) (dst.view.loc (th c))) : sProp 𝕄 := dst.view.loc (th c) ↦[dst.view.set]{fullShare} G
def Out (src : Memref sig .tc .vmem s e) (dst : Memref sig .tc .hbm s e) (sem : DmaSem sig) (G : Buf (Elt F) (dst.view.loc (th c))) : sProp 𝕄 :=
  Transfers.Flight countersEmb (th c) (.dma sem) () dst.view.dmaCredit
    iprop(Blk c dst G ∗ ∃ f, src.view.loc (th c) ↦[src.view.set]{fullShare} f)

theorem Full.free {dst : Memref sig .tc .vmem s e} {sem : DmaSem sig} {v : s.Idx → Elt F e} : Full c dst sem v ⊢ Free c dst sem := by
  unfold Full Free
  iintro ⟨⟨%f, -, H⟩, Hs⟩
  isplitl [H]
  · iexists f; iexact H
  iexact Hs

theorem wp_fetch {src src' : Memref sig .tc .hbm s e} {dst dst' : Memref sig .tc .vmem s e} {sem sem' : DmaSem sig}
    (hs : src' = src) (hd : dst' = dst) (hq : sem' = sem) (hpos : 0 < dst.view.dmaCredit) {q : PosShare TreeShare} {X : Buf (Elt F) (src.view.loc (th c))}
    {h1 : src'.view.WordExact} {h2 : dst'.view.WordExact} {h3 : (DmaTarget.here dst' : DmaTarget nD τ sig .tc .vmem s e).Typed .hbm (.dma sem')} {α : Type}
    {k : PUnit → Prog (TpuEff nD τ sig (Elt F) Λ₀ .tc) α} {Q : α → sProp 𝕄} :
    iprop(Free c dst sem ∗ Src c src q X)
      ⊢ iprop((Fly c src dst sem q X -∗ WP c (k ⟨⟩) Q) -∗ WP c (.op (.enqueueDma src' (.here dst') (.dma sem') h1 h2 h3) k) Q) := by
  subst hs hd hq
  unfold Free Fly Src
  iintro ⟨⟨⟨%f, Hf⟩, Hs⟩, Hi⟩ Hk
  ihave Hi' := (pointsTo_split_subset (q := q) (f := X) (S := Finset.univ) (Finset.subset_univ src'.view.set)).1 $$ Hi
  icases Hi' with ⟨Hi, Hr⟩
  iapply (Transfers.wp_dmaLocal countersEmb Variants.none (th c) none () dst'.view.dmaCredit rfl hpos (Finset.Subset.refl _)) $$ [Hi Hf Hs]
  · isplitl [Hi]; · iexact Hi
    isplitl [Hf]; · iexact Hf
    iexact Hs
  iintro Hfl
  iapply Hk
  isplitl [Hfl]
  · iapply (Transfers.Flight_mono countersEmb (th c) ?_)
    rotate_left
    · iexact Hfl
    iintro ⟨Hd, Hs⟩
    isplitl [Hd]
    · iexists _
      isplitr
      swap
      · iexact Hd
      ipureintro
      exact View.read_write_univ _ _
    iexact Hs
  iexact Hr

theorem wp_fetched {src : Memref sig .tc .hbm s e} {dst dst' : Memref sig .tc .vmem s e} {sem sem' : DmaSem sig}
    (hd : dst' = dst) (hq : sem' = sem) {q : PosShare TreeShare} {X : Buf (Elt F) (src.view.loc (th c))}
    {sp : Space} {s' : Shape} {e' : EltTy} {srcw : Memref sig .tc sp s' e'}
    {h1 : srcw.view.WordExact} {h2 : dst'.view.WordExact} {α : Type} {k : PUnit → Prog (TpuEff nD τ sig (Elt F) Λ₀ .tc) α} {Q : α → sProp 𝕄} :
    iprop(Fly c src dst sem q X ∗ Owes c)
      ⊢ iprop((iprop(Full c dst sem (src.view.read (Elt F) X) ∗ Src c src q X ∗ Owes c) -∗ WP c (k ⟨⟩) Q)
          -∗ WP c (.op (.waitDma2 sem' srcw dst' h1 h2) k) Q) := by
  subst hd hq
  unfold Fly Full Src Owes
  iintro ⟨⟨Hfl, Hr⟩, ⟨%W, HO⟩⟩ Hk
  iapply (Transfers.wp_waitLocal countersEmb Variants.none (th c) none () (rfl : dst'.view.dmaCredit = _)) $$ [Hfl HO]
  · isplitl [Hfl]; · iexact Hfl
    iexact HO
  iintro ⟨⟨Hd, Hi⟩, Hs, HO⟩
  iapply Hk
  isplitl [Hd Hs]
  · isplitl [Hd]; · iexact Hd
    iexact Hs
  isplitl [Hi Hr]
  · iapply (pointsTo_split_subset (q := q) (f := X) (S := Finset.univ) (Finset.subset_univ src.view.set)).2
    isplitl [Hi]; · iexact Hi
    iexact Hr
  iexists _; iexact HO

theorem wp_send {src src' : Memref sig .tc .vmem s e} {dst dst' : Memref sig .tc .hbm s e} {sem sem' : DmaSem sig}
    (hs : src' = src) (hd : dst' = dst) (hq : sem' = sem) (hpos : 0 < dst.view.dmaCredit) {Y G : Buf (Elt F) (dst.view.loc (th c))} {v : s.Idx → Elt F e}
    (hv : v = dst.view.read (Elt F) G)
    {h1 : src'.view.WordExact} {h2 : dst'.view.WordExact} {h3 : (DmaTarget.here dst' : DmaTarget nD τ sig .tc .hbm s e).Typed .vmem (.dma sem')} {α : Type}
    {k : PUnit → Prog (TpuEff nD τ sig (Elt F) Λ₀ .tc) α} {Q : α → sProp 𝕄} :
    iprop(Full c src sem v ∗ Blk c dst Y)
      ⊢ iprop((Out c src dst sem G -∗ WP c (k ⟨⟩) Q) -∗ WP c (.op (.enqueueDma src' (.here dst') (.dma sem') h1 h2 h3) k) Q) := by
  subst hs hd hq
  unfold Full Out Blk
  iintro ⟨⟨⟨%f, %hf, Hf⟩, Hs⟩, Hb⟩ Hk
  iapply (Transfers.wp_dmaLocal countersEmb Variants.none (th c) none () dst'.view.dmaCredit rfl hpos (Finset.Subset.refl _)) $$ [Hf Hb Hs]
  · isplitl [Hf]; · iexact Hf
    isplitl [Hb]; · iexact Hb
    iexact Hs
  iintro Hfl
  iapply Hk
  iapply (Transfers.Flight_mono countersEmb (th c) ?_)
  rotate_left
  · iexact Hfl
  iintro ⟨Hd, Hs⟩
  isplitl [Hd]
  · iapply (Entails.of_eq (pointsTo_congr ?_))
    rotate_left
    · iexact Hd
    intro i hi
    obtain ⟨x, -, rfl⟩ := Finset.mem_map.mp hi
    rw [View.write_emb_of_mem _ _ (Finset.mem_univ x)]
    have hx : src'.view.read (Elt F) f x = dst'.view.read (Elt F) G x := congrFun (hf.trans hv) x
    show _root_.cast _ (src'.view.read (Elt F) f x) = _
    rw [hx, View.read_apply, cast_cast, cast_eq]
  iexists _; iexact Hs

theorem wp_sent {src : Memref sig .tc .vmem s e} {dst : Memref sig .tc .hbm s e} {sem sem' : DmaSem sig}
    (hq : sem' = sem) {G : Buf (Elt F) (dst.view.loc (th c))} {sp sp' : Space} {s' s'' : Shape} {e' e'' : EltTy} {srcw : Memref sig .tc sp s' e'} {dstw : Memref sig .tc sp' s'' e''}
    (hN : dstw.view.dmaCredit = dst.view.dmaCredit)
    {h1 : srcw.view.WordExact} {h2 : dstw.view.WordExact} {α : Type} {k : PUnit → Prog (TpuEff nD τ sig (Elt F) Λ₀ .tc) α} {Q : α → sProp 𝕄} :
    iprop(Out c src dst sem G ∗ Owes c)
      ⊢ iprop((iprop(Free c src sem ∗ Blk c dst G ∗ Owes c) -∗ WP c (k ⟨⟩) Q)
          -∗ WP c (.op (.waitDma2 sem' srcw dstw h1 h2) k) Q) := by
  subst hq
  unfold Out Free Owes
  iintro ⟨Hfl, ⟨%W, HO⟩⟩ Hk
  iapply (Transfers.wp_waitLocal countersEmb Variants.none (th c) none () hN) $$ [Hfl HO]
  · isplitl [Hfl]; · iexact Hfl
    iexact HO
  iintro ⟨⟨Hd, Hi⟩, Hs, HO⟩
  iapply Hk
  isplitl [Hi Hs]
  · isplitl [Hi]; · iexact Hi
    iexact Hs
  isplitl [Hd]; · iexact Hd
  iexists _; iexact HO

end

/-! ## The schedule's words -/

section

variable (c : Dev nD) (tb : S8x128.Idx → Elt F .i32)

abbrev tLoc : Loc nD τ sig := (th c).loc main_arg0
/-- The schedule, as the body holds it. -/
def Tbl : sProp 𝕄 := tLoc c ↦{fullShare.right} tb

theorem wp_word {off off' h h' h1 hp} (r : Fin 8) {t : ℕ} (ht : t < 128) (e : off = ![r.val, 0]) (e' : off' = ![t])
    {α : Type} {k : Elt F .i32 → Prog (TpuEff nD τ sig (Elt F) Λ₀ .tc) α} {Q : α → sProp 𝕄} :
    Tbl c tb ⊢ iprop((Tbl c tb -∗ WP c (k (wd tb r t)) Q)
      -∗ WP c ((smemLoad (p := .tc) (tblA off h) (Rect.unit (s := S128) off' S1.size h') h1 hp : Prog (TpuEff nD τ sig (Elt F) Λ₀ .tc) (Elt F .i32)) >>= k) Q) := by
  subst e'
  have hv : ((tblA off h).access (Rect.unit (s := S128) ![t] S1.size h')).read (Elt F) tb (Shape.Idx.first (h1.symm ▸ Nat.one_pos)) = wd tb r t := by
    have hx : (Shape.Idx.first (s := S1) (h1.symm ▸ Nat.one_pos) 0).val < 1 := (Shape.Idx.first (s := S1) (h1.symm ▸ Nat.one_pos) 0).isLt
    have e2 : ((Rect.unit (s := S128) ![t] S1.size h').emb (Shape.Idx.first (h1.symm ▸ Nat.one_pos)) 0).val = t % 128 := by
      show t + 1 * (Shape.Idx.first (s := S1) (h1.symm ▸ Nat.one_pos) 0).val = t % 128
      rw [Nat.mod_eq_of_lt ht]; omega
    have e3 := read_tbl (F := F) tb (h := h) r e ((Rect.unit (s := S128) ![t] S1.size h').emb (Shape.Idx.first (h1.symm ▸ Nat.one_pos)))
    exact Eq.trans e3 (congrArg (fun k => tb (ixW r k)) (Fin.ext e2))
  unfold Tbl smemLoad smemLoadElt
  simp only [Prog.bind_op, Prog.bind_ret]
  iintro Ht Hk
  iapply (wp_load_rect Variants.none (th c) none Set.univ (m := tblA off h) (r := Rect.unit (s := S128) ![t] S1.size h') (S := Finset.univ) (f := tb) (Finset.subset_univ _)) $$ Ht
  iintro Ht
  rw [hv]
  iapply Hk $$ Ht

end

end Cert.Proof.Moe

end
-- ==== Proof.MoeSlots.lean ====
/-
  The expert layer's slots and buffers: what each holds between the body's operations, and the body's loads and stores of
  them.
-/
module

public import proofs.«01_k».proof.Proof.MoeSteps

@[expose] public section

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

/-- A conditional that acts in one arm only, with the rest of the program behind it. -/
theorem wp_when {b : Prop} [Decidable b] {α β : Type} {A : b → Prog (TpuEff nD τ sig (Elt F) Λ₀ .tc) β} {k : Prog (TpuEff nD τ sig (Elt F) Λ₀ .tc) β}
    {f : β → Prog (TpuEff nD τ sig (Elt F) Λ₀ .tc) α} {P R : sProp 𝕄} {Q : α → sProp 𝕄}
    (hA : ∀ h, P ⊢ iprop((R -∗ WP c (k >>= f) Q) -∗ WP c (A h >>= f) Q)) (hB : ¬ b → P ⊢ R) :
    P ⊢ iprop((R -∗ WP c (k >>= f) Q) -∗ WP c ((if h : b then A h else k) >>= f) Q) := by
  by_cases h : b
  · rw [dif_pos h]; exact hA h
  · rw [dif_neg h]
    iintro HP HK
    iapply HK; iapply (hB h); iexact HP

/-- The same where the condition is not named. -/
theorem wp_when' {b : Prop} [Decidable b] {α β : Type} {A k : Prog (TpuEff nD τ sig (Elt F) Λ₀ .tc) β}
    {f : β → Prog (TpuEff nD τ sig (Elt F) Λ₀ .tc) α} {P R : sProp 𝕄} {Q : α → sProp 𝕄}
    (hA : b → P ⊢ iprop((R -∗ WP c (k >>= f) Q) -∗ WP c (A >>= f) Q)) (hB : ¬ b → P ⊢ R) :
    P ⊢ iprop((R -∗ WP c (k >>= f) Q) -∗ WP c ((if b then A else k) >>= f) Q) := by
  by_cases h : b
  · rw [if_pos h]; exact hA h
  · rw [if_neg h]
    iintro HP HK
    iapply HK; iapply (hB h); iexact HP

/-- The same with the rest of the program in the arm. -/
theorem wp_when0 {b : Prop} [Decidable b] {α : Type} {A : b → Prog (TpuEff nD τ sig (Elt F) Λ₀ .tc) α} {k : Prog (TpuEff nD τ sig (Elt F) Λ₀ .tc) α}
    {P R : sProp 𝕄} {Q : α → sProp 𝕄}
    (hA : ∀ h, P ⊢ iprop((R -∗ WP c k Q) -∗ WP c (A h) Q)) (hB : ¬ b → P ⊢ R) :
    P ⊢ iprop((R -∗ WP c k Q) -∗ WP c (if h : b then A h else k) Q) := by
  by_cases h : b
  · rw [dif_pos h]; exact hA h
  · rw [dif_neg h]
    iintro HP HK
    iapply HK; iapply (hB h); iexact HP
theorem wp_when0' {b : Prop} [Decidable b] {α : Type} {A k : Prog (TpuEff nD τ sig (Elt F) Λ₀ .tc) α}
    {P R : sProp 𝕄} {Q : α → sProp 𝕄}
    (hA : b → P ⊢ iprop((R -∗ WP c k Q) -∗ WP c A Q)) (hB : ¬ b → P ⊢ R) :
    P ⊢ iprop((R -∗ WP c k Q) -∗ WP c (if b then A else k) Q) := by
  by_cases h : b
  · rw [if_pos h]; exact hA h
  · rw [if_neg h]
    iintro HP HK
    iapply HK; iapply (hB h); iexact HP

/-! ## Loads of a slot -/

theorem wp_load_x {off h hl} {p : Fin 3} (e : off = ![p.val, 0, 0]) {sem : DmaSem sig} {v : S512x1024.Idx → Elt F .bf16} {α : Type}
    {k : Vec F S1x512x1024 .bf16 → Prog (TpuEff nD τ sig (Elt F) Λ₀ .tc) α} {Q : α → sProp 𝕄} :
    Full c (xM p) sem v
      ⊢ iprop((∀ w : Vec F S1x512x1024 .bf16, ⌜shapeCast S512x1024 w shapeCasts_S1x512x1024_S512x1024 = v⌝ -∗ Full c (xM p) sem v -∗ WP c (k w) Q)
        -∗ WP c (.op (.load (Memref.whole cc0_scratch0 : Memref sig .tc .vmem S3x512x1024 .bf16) (Rect.unit (s := S3x512x1024) off S1x512x1024.size h).toLoadRect hl) k) Q) := by
  subst e
  unfold Full
  iintro ⟨⟨%f, %hf, Hf⟩, Hs⟩ Hk
  iapply (wp_load_rect Variants.none (th c) none Set.univ (m := (Memref.whole cc0_scratch0 : Memref sig .tc .vmem S3x512x1024 .bf16))
    (r := Rect.unit (s := S3x512x1024) ![p.val, 0, 0] S1x512x1024.size h) (S := (xM p).view.set) (f := f) (le_of_eq (View.set_reshape _ _).symm)) $$ Hf
  iintro Hf
  ispecialize Hk $$ %(((Memref.whole cc0_scratch0 : Memref sig .tc .vmem S3x512x1024 .bf16).access (Rect.unit (s := S3x512x1024) ![p.val, 0, 0] S1x512x1024.size h)).read (Elt F) f)
  iapply Hk $$ [] [Hf Hs]
  · ipureintro; exact hf
  isplitl [Hf]
  · iexists f
    isplitr
    · ipureintro; exact hf
    iexact Hf
  iexact Hs

theorem wp_load_g {off h hl} {p : Fin 2} (e : off = ![p.val, 0, 0]) {sem : DmaSem sig} {v : S1024x256.Idx → Elt F .f32} {α : Type}
    {k : Vec F S1x1024x256 .f32 → Prog (TpuEff nD τ sig (Elt F) Λ₀ .tc) α} {Q : α → sProp 𝕄} :
    Full c (gM p) sem v
      ⊢ iprop((∀ w : Vec F S1x1024x256 .f32, ⌜shapeCast S1024x256 w shapeCasts_S1x1024x256_S1024x256 = v⌝ -∗ Full c (gM p) sem v -∗ WP c (k w) Q)
        -∗ WP c (.op (.load (Memref.whole cc0_scratch2 : Memref sig .tc .vmem S2x1024x256 .f32) (Rect.unit (s := S2x1024x256) off S1x1024x256.size h).toLoadRect hl) k) Q) := by
  subst e
  unfold Full
  iintro ⟨⟨%f, %hf, Hf⟩, Hs⟩ Hk
  iapply (wp_load_rect Variants.none (th c) none Set.univ (m := (Memref.whole cc0_scratch2 : Memref sig .tc .vmem S2x1024x256 .f32))
    (r := Rect.unit (s := S2x1024x256) ![p.val, 0, 0] S1x1024x256.size h) (S := (gM p).view.set) (f := f) (le_of_eq (View.set_reshape _ _).symm)) $$ Hf
  iintro Hf
  ispecialize Hk $$ %(((Memref.whole cc0_scratch2 : Memref sig .tc .vmem S2x1024x256 .f32).access (Rect.unit (s := S2x1024x256) ![p.val, 0, 0] S1x1024x256.size h)).read (Elt F) f)
  iapply Hk $$ [] [Hf Hs]
  · ipureintro; exact hf
  isplitl [Hf]
  · iexists f
    isplitr
    · ipureintro; exact hf
    iexact Hf
  iexact Hs

theorem wp_load_u {off h hl} {p : Fin 2} (e : off = ![p.val, 0, 0]) {sem : DmaSem sig} {v : S1024x256.Idx → Elt F .f32} {α : Type}
    {k : Vec F S1x1024x256 .f32 → Prog (TpuEff nD τ sig (Elt F) Λ₀ .tc) α} {Q : α → sProp 𝕄} :
    Full c (uM p) sem v
      ⊢ iprop((∀ w : Vec F S1x1024x256 .f32, ⌜shapeCast S1024x256 w shapeCasts_S1x1024x256_S1024x256 = v⌝ -∗ Full c (uM p) sem v -∗ WP c (k w) Q)
        -∗ WP c (.op (.load (Memref.whole cc0_scratch3 : Memref sig .tc .vmem S2x1024x256 .f32) (Rect.unit (s := S2x1024x256) off S1x1024x256.size h).toLoadRect hl) k) Q) := by
  subst e
  unfold Full
  iintro ⟨⟨%f, %hf, Hf⟩, Hs⟩ Hk
  iapply (wp_load_rect Variants.none (th c) none Set.univ (m := (Memref.whole cc0_scratch3 : Memref sig .tc .vmem S2x1024x256 .f32))
    (r := Rect.unit (s := S2x1024x256) ![p.val, 0, 0] S1x1024x256.size h) (S := (uM p).view.set) (f := f) (le_of_eq (View.set_reshape _ _).symm)) $$ Hf
  iintro Hf
  ispecialize Hk $$ %(((Memref.whole cc0_scratch3 : Memref sig .tc .vmem S2x1024x256 .f32).access (Rect.unit (s := S2x1024x256) ![p.val, 0, 0] S1x1024x256.size h)).read (Elt F) f)
  iapply Hk $$ [] [Hf Hs]
  · ipureintro; exact hf
  isplitl [Hf]
  · iexists f
    isplitr
    · ipureintro; exact hf
    iexact Hf
  iexact Hs

theorem wp_load_d {off h hl} {p : Fin 2} (e : off = ![p.val, 0, 0]) {sem : DmaSem sig} {v : S256x1024.Idx → Elt F .f32} {α : Type}
    {k : Vec F S1x256x1024 .f32 → Prog (TpuEff nD τ sig (Elt F) Λ₀ .tc) α} {Q : α → sProp 𝕄} :
    Full c (dM p) sem v
      ⊢ iprop((∀ w : Vec F S1x256x1024 .f32, ⌜shapeCast S256x1024 w shapeCasts_S1x256x1024_S256x1024 = v⌝ -∗ Full c (dM p) sem v -∗ WP c (k w) Q)
        -∗ WP c (.op (.load (Memref.whole cc0_scratch4 : Memref sig .tc .vmem S2x256x1024 .f32) (Rect.unit (s := S2x256x1024) off S1x256x1024.size h).toLoadRect hl) k) Q) := by
  subst e
  unfold Full
  iintro ⟨⟨%f, %hf, Hf⟩, Hs⟩ Hk
  iapply (wp_load_rect Variants.none (th c) none Set.univ (m := (Memref.whole cc0_scratch4 : Memref sig .tc .vmem S2x256x1024 .f32))
    (r := Rect.unit (s := S2x256x1024) ![p.val, 0, 0] S1x256x1024.size h) (S := (dM p).view.set) (f := f) (le_of_eq (View.set_reshape _ _).symm)) $$ Hf
  iintro Hf
  ispecialize Hk $$ %(((Memref.whole cc0_scratch4 : Memref sig .tc .vmem S2x256x1024 .f32).access (Rect.unit (s := S2x256x1024) ![p.val, 0, 0] S1x256x1024.size h)).read (Elt F) f)
  iapply Hk $$ [] [Hf Hs]
  · ipureintro; exact hf
  isplitl [Hf]
  · iexists f
    isplitr
    · ipureintro; exact hf
    iexact Hf
  iexact Hs

/-- The slot of results: loaded for nothing, then stored to. -/
theorem wp_store_y {off h h' hl hx hm} {p : Fin 2} (e : off = ![p.val, 0, 0]) {sem : DmaSem sig} (w : S512x1024.Idx → Elt F .bf16) {pay : Vec F S1x512x1024 .bf16}
    (hp : pay = shapeCast S1x512x1024 w h') {α : Type} {k : PUnit → Prog (TpuEff nD τ sig (Elt F) Λ₀ .tc) α} {Q : α → sProp 𝕄} :
    Free c (yM p) sem
      ⊢ iprop((Full c (yM p) sem w -∗ WP c (k ⟨⟩) Q)
        -∗ WP c (.op (.load (Memref.whole cc0_scratch1 : Memref sig .tc .vmem S2x512x1024 .bf16) (Rect.unit (s := S2x512x1024) off S1x512x1024.size h).toLoadRect hl) fun _ =>
          .op (.store (Memref.whole cc0_scratch1 : Memref sig .tc .vmem S2x512x1024 .bf16) (Rect.unit (s := S2x512x1024) off S1x512x1024.size h) pay Finset.univ hx hm) k) Q) := by
  subst e hp
  unfold Free Full
  iintro ⟨⟨%f, Hf⟩, Hs⟩ Hk
  iapply (wp_load_rect Variants.none (th c) none Set.univ (m := (Memref.whole cc0_scratch1 : Memref sig .tc .vmem S2x512x1024 .bf16))
    (r := Rect.unit (s := S2x512x1024) ![p.val, 0, 0] S1x512x1024.size h) (S := (yM p).view.set) (f := f) (le_of_eq (View.set_reshape _ _).symm)) $$ Hf
  iintro Hf
  iapply (wp_store Variants.none (th c) none Set.univ (m := (Memref.whole cc0_scratch1 : Memref sig .tc .vmem S2x512x1024 .bf16))
    (r := Rect.unit (s := S2x512x1024) ![p.val, 0, 0] S1x512x1024.size h) (S := (yM p).view.set) (f := f) (le_of_eq (View.set_reshape _ _).symm)) $$ Hf
  iintro Hf
  iapply Hk
  isplitl [Hf]
  · iexists _
    isplitr
    swap
    · iexact Hf
    ipureintro
    exact access_y f w
  iexact Hs

/-! ## The rounded weights -/

theorem read_bg (f : S1024x256.Idx → Elt F .bf16) : ((Memref.whole cc0_scratch5 : Memref sig .tc .vmem S1024x256 .bf16).access (Rect.unit (s := S1024x256) ![0, 0] S1024x256.size inb_S1024x256_S1024x256_0_0)).read (Elt F) f = f := by
  funext x
  refine ((View.read_apply _ _).trans (cast_eq _ _)).trans (congrArg f (ext2 ?_ ?_))
  · show 0 + 1 * (x 0).val = (x 0).val; omega
  · show 0 + 1 * (x 1).val = (x 1).val; omega
theorem write_bg (f w : S1024x256.Idx → Elt F .bf16) :
    ((Memref.whole cc0_scratch5 : Memref sig .tc .vmem S1024x256 .bf16).access (Rect.unit (s := S1024x256) ![0, 0] S1024x256.size inb_S1024x256_S1024x256_0_0)).write (Elt F) f w Finset.univ = w := by
  have e := View.read_write_univ (Val := Elt F) (v := (Memref.whole cc0_scratch5 : Memref sig .tc .vmem S1024x256 .bf16).access (Rect.unit (s := S1024x256) ![0, 0] S1024x256.size inb_S1024x256_S1024x256_0_0)) f w
  exact (read_bg _).symm.trans e

theorem wp_load_bg {hl} {f : S1024x256.Idx → Elt F .bf16} {α : Type} {k : Vec F S1024x256 .bf16 → Prog (TpuEff nD τ sig (Elt F) Λ₀ .tc) α} {Q : α → sProp 𝕄} :
    ((th c).loc cc0_scratch5 ↦{fullShare} f : sProp 𝕄)
      ⊢ iprop((((th c).loc cc0_scratch5 ↦{fullShare} f) -∗ WP c (k f) Q)
        -∗ WP c (.op (.load (Memref.whole cc0_scratch5 : Memref sig .tc .vmem S1024x256 .bf16) (Rect.unit (s := S1024x256) ![0, 0] S1024x256.size inb_S1024x256_S1024x256_0_0).toLoadRect hl) k) Q) := by
  iintro Hf Hk
  iapply (wp_load_rect Variants.none (th c) none Set.univ (m := (Memref.whole cc0_scratch5 : Memref sig .tc .vmem S1024x256 .bf16))
    (r := Rect.unit (s := S1024x256) ![0, 0] S1024x256.size inb_S1024x256_S1024x256_0_0) (S := Finset.univ) (f := f) (Finset.subset_univ _)) $$ Hf
  iintro Hf
  rw [read_bg]
  iapply Hk $$ Hf
theorem wp_store_bg {hx hm} {w : Vec F S1024x256 .bf16} {α : Type} {k : PUnit → Prog (TpuEff nD τ sig (Elt F) Λ₀ .tc) α} {Q : α → sProp 𝕄} {f : S1024x256.Idx → Elt F .bf16} :
    ((th c).loc cc0_scratch5 ↦{fullShare} f : sProp 𝕄)
      ⊢ iprop((((th c).loc cc0_scratch5 ↦{fullShare} w) -∗ WP c (k ⟨⟩) Q)
        -∗ WP c (.op (.store (Memref.whole cc0_scratch5 : Memref sig .tc .vmem S1024x256 .bf16) (Rect.unit (s := S1024x256) ![0, 0] S1024x256.size inb_S1024x256_S1024x256_0_0) w Finset.univ hx hm) k) Q) := by
  iintro Hf Hk
  iapply (wp_store Variants.none (th c) none Set.univ (m := (Memref.whole cc0_scratch5 : Memref sig .tc .vmem S1024x256 .bf16))
    (r := Rect.unit (s := S1024x256) ![0, 0] S1024x256.size inb_S1024x256_S1024x256_0_0) (w := w) (S := Finset.univ) (f := f) (Finset.subset_univ _)) $$ Hf
  iintro Hf
  rw [write_bg]
  iapply Hk $$ Hf

theorem read_bu (f : S1024x256.Idx → Elt F .bf16) : ((Memref.whole cc0_scratch6 : Memref sig .tc .vmem S1024x256 .bf16).access (Rect.unit (s := S1024x256) ![0, 0] S1024x256.size inb_S1024x256_S1024x256_0_0)).read (Elt F) f = f := by
  funext x
  refine ((View.read_apply _ _).trans (cast_eq _ _)).trans (congrArg f (ext2 ?_ ?_))
  · show 0 + 1 * (x 0).val = (x 0).val; omega
  · show 0 + 1 * (x 1).val = (x 1).val; omega
theorem write_bu (f w : S1024x256.Idx → Elt F .bf16) :
    ((Memref.whole cc0_scratch6 : Memref sig .tc .vmem S1024x256 .bf16).access (Rect.unit (s := S1024x256) ![0, 0] S1024x256.size inb_S1024x256_S1024x256_0_0)).write (Elt F) f w Finset.univ = w := by
  have e := View.read_write_univ (Val := Elt F) (v := (Memref.whole cc0_scratch6 : Memref sig .tc .vmem S1024x256 .bf16).access (Rect.unit (s := S1024x256) ![0, 0] S1024x256.size inb_S1024x256_S1024x256_0_0)) f w
  exact (read_bu _).symm.trans e

theorem wp_load_bu {hl} {f : S1024x256.Idx → Elt F .bf16} {α : Type} {k : Vec F S1024x256 .bf16 → Prog (TpuEff nD τ sig (Elt F) Λ₀ .tc) α} {Q : α → sProp 𝕄} :
    ((th c).loc cc0_scratch6 ↦{fullShare} f : sProp 𝕄)
      ⊢ iprop((((th c).loc cc0_scratch6 ↦{fullShare} f) -∗ WP c (k f) Q)
        -∗ WP c (.op (.load (Memref.whole cc0_scratch6 : Memref sig .tc .vmem S1024x256 .bf16) (Rect.unit (s := S1024x256) ![0, 0] S1024x256.size inb_S1024x256_S1024x256_0_0).toLoadRect hl) k) Q) := by
  iintro Hf Hk
  iapply (wp_load_rect Variants.none (th c) none Set.univ (m := (Memref.whole cc0_scratch6 : Memref sig .tc .vmem S1024x256 .bf16))
    (r := Rect.unit (s := S1024x256) ![0, 0] S1024x256.size inb_S1024x256_S1024x256_0_0) (S := Finset.univ) (f := f) (Finset.subset_univ _)) $$ Hf
  iintro Hf
  rw [read_bu]
  iapply Hk $$ Hf
theorem wp_store_bu {hx hm} {w : Vec F S1024x256 .bf16} {α : Type} {k : PUnit → Prog (TpuEff nD τ sig (Elt F) Λ₀ .tc) α} {Q : α → sProp 𝕄} {f : S1024x256.Idx → Elt F .bf16} :
    ((th c).loc cc0_scratch6 ↦{fullShare} f : sProp 𝕄)
      ⊢ iprop((((th c).loc cc0_scratch6 ↦{fullShare} w) -∗ WP c (k ⟨⟩) Q)
        -∗ WP c (.op (.store (Memref.whole cc0_scratch6 : Memref sig .tc .vmem S1024x256 .bf16) (Rect.unit (s := S1024x256) ![0, 0] S1024x256.size inb_S1024x256_S1024x256_0_0) w Finset.univ hx hm) k) Q) := by
  iintro Hf Hk
  iapply (wp_store Variants.none (th c) none Set.univ (m := (Memref.whole cc0_scratch6 : Memref sig .tc .vmem S1024x256 .bf16))
    (r := Rect.unit (s := S1024x256) ![0, 0] S1024x256.size inb_S1024x256_S1024x256_0_0) (w := w) (S := Finset.univ) (f := f) (Finset.subset_univ _)) $$ Hf
  iintro Hf
  rw [write_bu]
  iapply Hk $$ Hf

theorem read_bd (f : S256x1024.Idx → Elt F .bf16) : ((Memref.whole cc0_scratch7 : Memref sig .tc .vmem S256x1024 .bf16).access (Rect.unit (s := S256x1024) ![0, 0] S256x1024.size inb_S256x1024_S256x1024_0_0)).read (Elt F) f = f := by
  funext x
  refine ((View.read_apply _ _).trans (cast_eq _ _)).trans (congrArg f (ext2 ?_ ?_))
  · show 0 + 1 * (x 0).val = (x 0).val; omega
  · show 0 + 1 * (x 1).val = (x 1).val; omega
theorem write_bd (f w : S256x1024.Idx → Elt F .bf16) :
    ((Memref.whole cc0_scratch7 : Memref sig .tc .vmem S256x1024 .bf16).access (Rect.unit (s := S256x1024) ![0, 0] S256x1024.size inb_S256x1024_S256x1024_0_0)).write (Elt F) f w Finset.univ = w := by
  have e := View.read_write_univ (Val := Elt F) (v := (Memref.whole cc0_scratch7 : Memref sig .tc .vmem S256x1024 .bf16).access (Rect.unit (s := S256x1024) ![0, 0] S256x1024.size inb_S256x1024_S256x1024_0_0)) f w
  exact (read_bd _).symm.trans e

theorem wp_load_bd {hl} {f : S256x1024.Idx → Elt F .bf16} {α : Type} {k : Vec F S256x1024 .bf16 → Prog (TpuEff nD τ sig (Elt F) Λ₀ .tc) α} {Q : α → sProp 𝕄} :
    ((th c).loc cc0_scratch7 ↦{fullShare} f : sProp 𝕄)
      ⊢ iprop((((th c).loc cc0_scratch7 ↦{fullShare} f) -∗ WP c (k f) Q)
        -∗ WP c (.op (.load (Memref.whole cc0_scratch7 : Memref sig .tc .vmem S256x1024 .bf16) (Rect.unit (s := S256x1024) ![0, 0] S256x1024.size inb_S256x1024_S256x1024_0_0).toLoadRect hl) k) Q) := by
  iintro Hf Hk
  iapply (wp_load_rect Variants.none (th c) none Set.univ (m := (Memref.whole cc0_scratch7 : Memref sig .tc .vmem S256x1024 .bf16))
    (r := Rect.unit (s := S256x1024) ![0, 0] S256x1024.size inb_S256x1024_S256x1024_0_0) (S := Finset.univ) (f := f) (Finset.subset_univ _)) $$ Hf
  iintro Hf
  rw [read_bd]
  iapply Hk $$ Hf
theorem wp_store_bd {hx hm} {w : Vec F S256x1024 .bf16} {α : Type} {k : PUnit → Prog (TpuEff nD τ sig (Elt F) Λ₀ .tc) α} {Q : α → sProp 𝕄} {f : S256x1024.Idx → Elt F .bf16} :
    ((th c).loc cc0_scratch7 ↦{fullShare} f : sProp 𝕄)
      ⊢ iprop((((th c).loc cc0_scratch7 ↦{fullShare} w) -∗ WP c (k ⟨⟩) Q)
        -∗ WP c (.op (.store (Memref.whole cc0_scratch7 : Memref sig .tc .vmem S256x1024 .bf16) (Rect.unit (s := S256x1024) ![0, 0] S256x1024.size inb_S256x1024_S256x1024_0_0) w Finset.univ hx hm) k) Q) := by
  iintro Hf Hk
  iapply (wp_store Variants.none (th c) none Set.univ (m := (Memref.whole cc0_scratch7 : Memref sig .tc .vmem S256x1024 .bf16))
    (r := Rect.unit (s := S256x1024) ![0, 0] S256x1024.size inb_S256x1024_S256x1024_0_0) (w := w) (S := Finset.univ) (f := f) (Finset.subset_univ _)) $$ Hf
  iintro Hf
  rw [write_bd]
  iapply Hk $$ Hf

end Cert.Proof.Moe

end
-- ==== Proof.MoeStates.lean ====
/-
  What the expert layer's slots hold from tile to tile: the rows on their way in, an expert's weights on their way or free,
  the results on their way out; and the transfers that change it.
-/
module

public import proofs.«01_k».proof.Proof.MoeSlots

@[expose] public section

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (tb : S8x128.Idx → BitVec 32) (X : S49152x1024.Idx → Elt F .bf16) (WG WU : S32x1024x256.Idx → Elt F .f32) (WD : S32x256x1024.Idx → Elt F .f32)
variable (Y0 G : S49152x1024.Idx → Elt F .bf16) (sx : Fin 3 → PosShare TreeShare) (sw : Fin 2 → PosShare TreeShare)

def xs (t : ℕ) : Fin 3 := ⟨t % 3, Nat.mod_lt _ (by decide)⟩
def ys (t : ℕ) : Fin 2 := ⟨t % 2, Nat.mod_lt _ (by decide)⟩
def tl (t : ℕ) : Fin 96 := ⟨t % 96, Nat.mod_lt _ (by decide)⟩
theorem tl_val {t : ℕ} (h : t < 96) : (tl t).val = t := Nat.mod_eq_of_lt h

def XFree (p : Fin 3) : sProp 𝕄 := iprop(Free c (xM p) (xQ p) ∗ (th c).loc main_arg1 ↦{sx p} X)
def XFly (p : Fin 3) (e : Fin 96) : sProp 𝕄 := Fly c (xB e) (xM p) (xQ p) (sx p) X
def XFull (p : Fin 3) (e : Fin 96) : sProp 𝕄 := iprop(Full c (xM p) (xQ p) ((xB e).view.read (Elt F) X) ∗ (th c).loc main_arg1 ↦{sx p} X)

theorem XFull.free (p : Fin 3) (e : Fin 96) : XFull c X sx p e ⊢ XFree c X sx p := by
  unfold XFull XFree
  iintro ⟨H, Hs⟩
  isplitl [H]
  · iapply (Full.free c); iexact H
  iexact Hs
theorem wp_fetch_x {p : Fin 3} {e : Fin 96} {src' dst' sem'} (hs : src' = xB e) (hd : dst' = xM p) (hq : sem' = xQ p)
    {h1 : src'.view.WordExact} {h2 : dst'.view.WordExact} {h3 : (DmaTarget.here dst' : DmaTarget nD τ sig .tc .vmem _ _).Typed .hbm (.dma sem')} {α : Type}
    {k : PUnit → Prog (TpuEff nD τ sig (Elt F) Λ₀ .tc) α} {Q : α → sProp 𝕄} :
    XFree c X sx p ⊢ iprop((XFly c X sx p e -∗ WP c (k ⟨⟩) Q) -∗ WP c (.op (.enqueueDma src' (.here dst') (.dma sem') h1 h2 h3) k) Q) :=
  wp_fetch c hs hd hq (View.dmaCredit_pos _ (by decide)) (q := sx p) (X := X)
theorem wp_fetched_x {p : Fin 3} {e : Fin 96} {dst' sem'} (hd : dst' = xM p) (hq : sem' = xQ p)
    {sp : Space} {s' : Shape} {e' : EltTy} {srcw : Memref sig .tc sp s' e'}
    {h1 : srcw.view.WordExact} {h2 : dst'.view.WordExact} {α : Type} {k : PUnit → Prog (TpuEff nD τ sig (Elt F) Λ₀ .tc) α} {Q : α → sProp 𝕄} :
    iprop(XFly c X sx p e ∗ Owes c)
      ⊢ iprop((iprop(XFull c X sx p e ∗ Owes c) -∗ WP c (k ⟨⟩) Q) -∗ WP c (.op (.waitDma2 sem' srcw dst' h1 h2) k) Q) := by
  unfold XFly XFull
  iintro H Hk
  iapply (wp_fetched c hd hq (src := xB e) (q := sx p) (X := X)) $$ H
  unfold Src
  iintro ⟨H, Hs, HO⟩
  iapply Hk
  isplitl [H Hs]
  · isplitl [H]; · iexact H
    iexact Hs
  iexact HO

def GFree (p : Fin 2) : sProp 𝕄 := iprop(Free c (gM p) (wQ p 0) ∗ (th c).loc main_arg2 ↦{sw p} WG)
def GFly (p : Fin 2) (e : Fin 32) : sProp 𝕄 := Fly c (gE e) (gM p) (wQ p 0) (sw p) WG
def GFull (p : Fin 2) (e : Fin 32) : sProp 𝕄 := iprop(Full c (gM p) (wQ p 0) ((gE e).view.read (Elt F) WG) ∗ (th c).loc main_arg2 ↦{sw p} WG)

theorem GFull.free (p : Fin 2) (e : Fin 32) : GFull c WG sw p e ⊢ GFree c WG sw p := by
  unfold GFull GFree
  iintro ⟨H, Hs⟩
  isplitl [H]
  · iapply (Full.free c); iexact H
  iexact Hs
theorem wp_fetch_g {p : Fin 2} {e : Fin 32} {src' dst' sem'} (hs : src' = gE e) (hd : dst' = gM p) (hq : sem' = wQ p 0)
    {h1 : src'.view.WordExact} {h2 : dst'.view.WordExact} {h3 : (DmaTarget.here dst' : DmaTarget nD τ sig .tc .vmem _ _).Typed .hbm (.dma sem')} {α : Type}
    {k : PUnit → Prog (TpuEff nD τ sig (Elt F) Λ₀ .tc) α} {Q : α → sProp 𝕄} :
    GFree c WG sw p ⊢ iprop((GFly c WG sw p e -∗ WP c (k ⟨⟩) Q) -∗ WP c (.op (.enqueueDma src' (.here dst') (.dma sem') h1 h2 h3) k) Q) :=
  wp_fetch c hs hd hq (View.dmaCredit_pos _ (by decide)) (q := sw p) (X := WG)
theorem wp_fetched_g {p : Fin 2} {e : Fin 32} {dst' sem'} (hd : dst' = gM p) (hq : sem' = wQ p 0)
    {sp : Space} {s' : Shape} {e' : EltTy} {srcw : Memref sig .tc sp s' e'}
    {h1 : srcw.view.WordExact} {h2 : dst'.view.WordExact} {α : Type} {k : PUnit → Prog (TpuEff nD τ sig (Elt F) Λ₀ .tc) α} {Q : α → sProp 𝕄} :
    iprop(GFly c WG sw p e ∗ Owes c)
      ⊢ iprop((iprop(GFull c WG sw p e ∗ Owes c) -∗ WP c (k ⟨⟩) Q) -∗ WP c (.op (.waitDma2 sem' srcw dst' h1 h2) k) Q) := by
  unfold GFly GFull
  iintro H Hk
  iapply (wp_fetched c hd hq (src := gE e) (q := sw p) (X := WG)) $$ H
  unfold Src
  iintro ⟨H, Hs, HO⟩
  iapply Hk
  isplitl [H Hs]
  · isplitl [H]; · iexact H
    iexact Hs
  iexact HO

def UFree (p : Fin 2) : sProp 𝕄 := iprop(Free c (uM p) (wQ p 1) ∗ (th c).loc main_arg3 ↦{sw p} WU)
def UFly (p : Fin 2) (e : Fin 32) : sProp 𝕄 := Fly c (uE e) (uM p) (wQ p 1) (sw p) WU
def UFull (p : Fin 2) (e : Fin 32) : sProp 𝕄 := iprop(Full c (uM p) (wQ p 1) ((uE e).view.read (Elt F) WU) ∗ (th c).loc main_arg3 ↦{sw p} WU)

theorem UFull.free (p : Fin 2) (e : Fin 32) : UFull c WU sw p e ⊢ UFree c WU sw p := by
  unfold UFull UFree
  iintro ⟨H, Hs⟩
  isplitl [H]
  · iapply (Full.free c); iexact H
  iexact Hs
theorem wp_fetch_u {p : Fin 2} {e : Fin 32} {src' dst' sem'} (hs : src' = uE e) (hd : dst' = uM p) (hq : sem' = wQ p 1)
    {h1 : src'.view.WordExact} {h2 : dst'.view.WordExact} {h3 : (DmaTarget.here dst' : DmaTarget nD τ sig .tc .vmem _ _).Typed .hbm (.dma sem')} {α : Type}
    {k : PUnit → Prog (TpuEff nD τ sig (Elt F) Λ₀ .tc) α} {Q : α → sProp 𝕄} :
    UFree c WU sw p ⊢ iprop((UFly c WU sw p e -∗ WP c (k ⟨⟩) Q) -∗ WP c (.op (.enqueueDma src' (.here dst') (.dma sem') h1 h2 h3) k) Q) :=
  wp_fetch c hs hd hq (View.dmaCredit_pos _ (by decide)) (q := sw p) (X := WU)
theorem wp_fetched_u {p : Fin 2} {e : Fin 32} {dst' sem'} (hd : dst' = uM p) (hq : sem' = wQ p 1)
    {sp : Space} {s' : Shape} {e' : EltTy} {srcw : Memref sig .tc sp s' e'}
    {h1 : srcw.view.WordExact} {h2 : dst'.view.WordExact} {α : Type} {k : PUnit → Prog (TpuEff nD τ sig (Elt F) Λ₀ .tc) α} {Q : α → sProp 𝕄} :
    iprop(UFly c WU sw p e ∗ Owes c)
      ⊢ iprop((iprop(UFull c WU sw p e ∗ Owes c) -∗ WP c (k ⟨⟩) Q) -∗ WP c (.op (.waitDma2 sem' srcw dst' h1 h2) k) Q) := by
  unfold UFly UFull
  iintro H Hk
  iapply (wp_fetched c hd hq (src := uE e) (q := sw p) (X := WU)) $$ H
  unfold Src
  iintro ⟨H, Hs, HO⟩
  iapply Hk
  isplitl [H Hs]
  · isplitl [H]; · iexact H
    iexact Hs
  iexact HO

def DFree (p : Fin 2) : sProp 𝕄 := iprop(Free c (dM p) (wQ p 2) ∗ (th c).loc main_arg4 ↦{sw p} WD)
def DFly (p : Fin 2) (e : Fin 32) : sProp 𝕄 := Fly c (dE e) (dM p) (wQ p 2) (sw p) WD
def DFull (p : Fin 2) (e : Fin 32) : sProp 𝕄 := iprop(Full c (dM p) (wQ p 2) ((dE e).view.read (Elt F) WD) ∗ (th c).loc main_arg4 ↦{sw p} WD)

theorem DFull.free (p : Fin 2) (e : Fin 32) : DFull c WD sw p e ⊢ DFree c WD sw p := by
  unfold DFull DFree
  iintro ⟨H, Hs⟩
  isplitl [H]
  · iapply (Full.free c); iexact H
  iexact Hs
theorem wp_fetch_d {p : Fin 2} {e : Fin 32} {src' dst' sem'} (hs : src' = dE e) (hd : dst' = dM p) (hq : sem' = wQ p 2)
    {h1 : src'.view.WordExact} {h2 : dst'.view.WordExact} {h3 : (DmaTarget.here dst' : DmaTarget nD τ sig .tc .vmem _ _).Typed .hbm (.dma sem')} {α : Type}
    {k : PUnit → Prog (TpuEff nD τ sig (Elt F) Λ₀ .tc) α} {Q : α → sProp 𝕄} :
    DFree c WD sw p ⊢ iprop((DFly c WD sw p e -∗ WP c (k ⟨⟩) Q) -∗ WP c (.op (.enqueueDma src' (.here dst') (.dma sem') h1 h2 h3) k) Q) :=
  wp_fetch c hs hd hq (View.dmaCredit_pos _ (by decide)) (q := sw p) (X := WD)
theorem wp_fetched_d {p : Fin 2} {e : Fin 32} {dst' sem'} (hd : dst' = dM p) (hq : sem' = wQ p 2)
    {sp : Space} {s' : Shape} {e' : EltTy} {srcw : Memref sig .tc sp s' e'}
    {h1 : srcw.view.WordExact} {h2 : dst'.view.WordExact} {α : Type} {k : PUnit → Prog (TpuEff nD τ sig (Elt F) Λ₀ .tc) α} {Q : α → sProp 𝕄} :
    iprop(DFly c WD sw p e ∗ Owes c)
      ⊢ iprop((iprop(DFull c WD sw p e ∗ Owes c) -∗ WP c (k ⟨⟩) Q) -∗ WP c (.op (.waitDma2 sem' srcw dst' h1 h2) k) Q) := by
  unfold DFly DFull
  iintro H Hk
  iapply (wp_fetched c hd hq (src := dE e) (q := sw p) (X := WD)) $$ H
  unfold Src
  iintro ⟨H, Hs, HO⟩
  iapply Hk
  isplitl [H Hs]
  · isplitl [H]; · iexact H
    iexact Hs
  iexact HO

/-- Both slots' weights together. -/
def WFree (p : Fin 2) : sProp 𝕄 := iprop(GFree c WG sw p ∗ UFree c WU sw p ∗ DFree c WD sw p)
def WFly (p : Fin 2) (e : Fin 32) : sProp 𝕄 := iprop(GFly c WG sw p e ∗ UFly c WU sw p e ∗ DFly c WD sw p e)
def WFull (p : Fin 2) (e : Fin 32) : sProp 𝕄 := iprop(GFull c WG sw p e ∗ UFull c WU sw p e ∗ DFull c WD sw p e)
theorem WFull.free (p : Fin 2) (e : Fin 32) : WFull c WG WU WD sw p e ⊢ WFree c WG WU WD sw p := by
  unfold WFull WFree
  iintro ⟨H1, H2, H3⟩
  isplitl [H1]; · iapply (GFull.free c WG sw p e); iexact H1
  isplitl [H2]; · iapply (UFull.free c WU sw p e); iexact H2
  iapply (DFull.free c WD sw p e); iexact H3

/-- The rounded weights: anything, or an expert's. -/
def BAny : sProp 𝕄 := iprop((∃ f : S1024x256.Idx → Elt F .bf16, (th c).loc cc0_scratch5 ↦{fullShare} f) ∗ (∃ f : S1024x256.Idx → Elt F .bf16, (th c).loc cc0_scratch6 ↦{fullShare} f)
  ∗ ∃ f : S256x1024.Idx → Elt F .bf16, (th c).loc cc0_scratch7 ↦{fullShare} f)
def BAt (e : Fin 32) : sProp 𝕄 := iprop(((th c).loc cc0_scratch5 ↦{fullShare} wgOf WG e) ∗ ((th c).loc cc0_scratch6 ↦{fullShare} wuOf WU e) ∗ (th c).loc cc0_scratch7 ↦{fullShare} wdOf WD e)
theorem BAt.any (e : Fin 32) : BAt c WG WU WD e ⊢ BAny (F := F) c := by
  unfold BAt BAny
  iintro ⟨H1, H2, H3⟩
  isplitl [H1]; · iexists _; iexact H1
  isplitl [H2]; · iexists _; iexact H2
  iexists _; iexact H3

/-- The weights' next: on their way if another expert follows. -/
def WNext (p : Fin 2) (w : BitVec 32) : sProp 𝕄 := if w = -1#32 then WFree c WG WU WD sw p else WFly c WG WU WD sw p (ex w)
/-- Before tile `t`'s expert is taken up; after it. -/
def WBefore (t : ℕ) : sProp 𝕄 := iprop(BAny c ∗ WFly c WG WU WD sw (sl (wd tb 2 t)) (ex (wd tb 0 t)) ∗ WFree c WG WU WD sw (1 - sl (wd tb 2 t)))
def WAfter (t : ℕ) : sProp 𝕄 := iprop(BAt c WG WU WD (ex (wd tb 0 t)) ∗ WFree c WG WU WD sw (sl (wd tb 2 t)) ∗ WNext c WG WU WD sw (1 - sl (wd tb 2 t)) (wd tb 3 t))
def WStart (t : ℕ) : sProp 𝕄 := if t = 0 then iprop(BAny c ∗ WFree c WG WU WD sw 0 ∗ WFree c WG WU WD sw 1) else WAfter c tb WG WU WD sw (t - 1)
def WMid (t : ℕ) : sProp 𝕄 := if t = 0 then WBefore c tb WG WU WD sw 0 else WAfter c tb WG WU WD sw (t - 1)

theorem sl_flip {w : BitVec 32} (h : w = 0#32 ∨ w = 1#32) : sl (1#32 - w) = 1 - sl w := by rcases h with rfl | rfl <;> decide
theorem one_sub_one (p : Fin 2) : (1 - (1 - p) : Fin 2) = p := by revert p; decide

/-- Where the expert changes, its weights are the ones on their way. -/
theorem mid_change (hg : Good tb) {t : ℕ} (ht : t < 96) (h : t = 0 ∨ wd tb 0 t ≠ wd tb 0 (t - 1)) : WMid c tb WG WU WD sw t ⊢ WBefore c tb WG WU WD sw t := by
  unfold WMid
  by_cases h0 : t = 0
  · rw [if_pos h0, h0]
  · rw [if_neg h0]
    obtain ⟨n, rfl⟩ := Nat.exists_eq_succ_of_ne_zero h0
    have hne : wd tb 0 (n + 1) ≠ wd tb 0 n := h.resolve_left h0
    have hs : wd tb 2 (n + 1) = 1#32 - wd tb 2 n := by rw [hg.ws_step n ht, if_neg hne]
    have hx : wd tb 3 n = wd tb 0 (n + 1) := by rw [hg.nx_step n ht, if_neg hne]
    have hl := hg.te_lt (n + 1) ht
    unfold WAfter WBefore WNext
    show iprop(BAt c WG WU WD (ex (wd tb 0 n)) ∗ WFree c WG WU WD sw (sl (wd tb 2 n)) ∗ _) ⊢ _
    rw [if_neg (by show ¬ wd tb 3 n = _; rw [hx]; intro e; rw [e] at hl; exact absurd hl (by decide)), hs, sl_flip (hg.ws_bit n (by omega)), one_sub_one]
    show iprop(BAt c WG WU WD (ex (wd tb 0 n)) ∗ WFree c WG WU WD sw (sl (wd tb 2 n)) ∗ WFly c WG WU WD sw (1 - sl (wd tb 2 n)) (ex (wd tb 3 n))) ⊢ _
    rw [hx]
    iintro ⟨H1, H2, H3⟩
    isplitl [H1]; · iapply (BAt.any c WG WU WD _); iexact H1
    isplitl [H3]; · iexact H3
    iexact H2

/-- Where it does not, everything is as after the tile before. -/
theorem mid_same (hg : Good tb) {t : ℕ} (ht : t < 96) (h : ¬ (t = 0 ∨ wd tb 0 t ≠ wd tb 0 (t - 1))) : WMid c tb WG WU WD sw t ⊢ WAfter c tb WG WU WD sw t := by
  have h0 : t ≠ 0 := fun e => h (.inl e)
  have he : wd tb 0 t = wd tb 0 (t - 1) := not_not.mp fun e => h (.inr e)
  unfold WMid
  rw [if_neg h0]
  obtain ⟨n, rfl⟩ := Nat.exists_eq_succ_of_ne_zero h0
  have he' : wd tb 0 (n + 1) = wd tb 0 n := he
  have hs : wd tb 2 (n + 1) = wd tb 2 n := by rw [hg.ws_step n ht, if_pos he']
  have hx : wd tb 3 n = wd tb 3 (n + 1) := by rw [hg.nx_step n ht, if_pos he']
  unfold WAfter
  show iprop(BAt c WG WU WD (ex (wd tb 0 n)) ∗ WFree c WG WU WD sw (sl (wd tb 2 n)) ∗ WNext c WG WU WD sw (1 - sl (wd tb 2 n)) (wd tb 3 n)) ⊢
    iprop(BAt c WG WU WD (ex (wd tb 0 (n + 1))) ∗ WFree c WG WU WD sw (sl (wd tb 2 (n + 1))) ∗ WNext c WG WU WD sw (1 - sl (wd tb 2 (n + 1))) (wd tb 3 (n + 1)))
  rw [he', hs, hx]

/-- At the end all the weights' slots are free. -/
theorem WAfter.last (hg : Good tb) : WAfter c tb WG WU WD sw 95 ⊢ iprop(BAny c ∗ WFree c WG WU WD sw 0 ∗ WFree c WG WU WD sw 1) := by
  unfold WAfter WNext
  rw [hg.nx_last, if_pos rfl]
  iintro ⟨H1, H2, H3⟩
  isplitl [H1]; · iapply (BAt.any c WG WU WD _); iexact H1
  rcases hg.ws_bit 95 (by decide) with e | e <;> rw [e]
  · isplitl [H2]; · iexact H2
    iexact H3
  · isplitl [H3]; · iexact H3
    iexact H2

/-! ## Rows in, rows out -/

/-- Tile `t`'s rows: on their way if `b` and the tile is in use. -/
def XT (b : Prop) [Decidable b] (t : ℕ) : sProp 𝕄 := if b ∧ t < 96 ∧ wd tb 1 t = 1#32 then XFly c X sx (xs t) (tl t) else XFree c X sx (xs t)
def XAll (t : ℕ) : sProp 𝕄 := iprop(XT c tb X sx True t ∗ XT c tb X sx True (t + 1) ∗ XT c tb X sx True (t + 2))
def XStart (t : ℕ) : sProp 𝕄 := if t = 0 then iprop(XFree c X sx (xs 0) ∗ XFree c X sx (xs 1) ∗ XFree c X sx (xs 2))
  else iprop(XT c tb X sx True t ∗ XT c tb X sx True (t + 1) ∗ XFree c X sx (xs (t + 2)))

def YFree (p : Fin 2) : sProp 𝕄 := Free c (yM p) (yQ p)
def YFly (p : Fin 2) (t : Fin 96) : sProp 𝕄 := Out c (yM p) (yB t) (yQ p) G
def YBlk (t : ℕ) (f : S49152x1024.Idx → Elt F .bf16) : sProp 𝕄 := Blk c (yB (tl t)) f
/-- Tile `t`'s rows of the result: on their way if the tile is in use, there if not. -/
def YP (t : ℕ) : sProp 𝕄 := if wd tb 1 t = 1#32 then YFly c G (ys t) (tl t) else iprop(YFree c (ys t) ∗ YBlk c t G)

def YDone (n : ℕ) : sProp 𝕄 := bigSep (Finset.range n) fun t => YBlk c t G
def YAhead (n : ℕ) : sProp 𝕄 := bigSep (Finset.Ico n 96) fun t => YBlk c t Y0
/-- Before tile `t`: the last two tiles' results may be on their way. -/
def YTwo (t : ℕ) : sProp 𝕄 := if 2 ≤ t then YP c tb G (t - 2) else YFree c (ys t)
def YOne (t : ℕ) : sProp 𝕄 := if 1 ≤ t then YP c tb G (t - 1) else YFree c (ys (t + 1))

theorem ahead_succ {n : ℕ} (h : n < 96) : YAhead c Y0 n ⊢ iprop(YBlk c n Y0 ∗ YAhead c Y0 (n + 1)) := by
  unfold YAhead
  rw [show Finset.Ico n 96 = insert n (Finset.Ico (n + 1) 96) by ext x; simp; omega]
  have hn : n ∉ Finset.Ico (n + 1) 96 := by simp
  exact Entails.of_eq (BI.bigSep_insert hn)
theorem done_succ (n : ℕ) : iprop(YBlk c n G ∗ YDone c G n) ⊢ YDone c G (n + 1) := by
  unfold YDone
  rw [Finset.range_add_one]
  have e := BI.bigSep_insert (i := n) (s := Finset.range n) Finset.notMem_range_self (Φ := fun t => YBlk c t G)
  exact Entails.of_eq e.symm

end Cert.Proof.Moe

end
-- ==== Proof.MoeParts.lean ====
/-
  The expert layer's body, piece by piece: each with the rest of the program behind it.
-/
module

public import proofs.«01_k».proof.Proof.MoeStates

@[expose] public section

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (tb : S8x128.Idx → BitVec 32) (X : S49152x1024.Idx → Elt F .bf16) (WG WU : S32x1024x256.Idx → Elt F .f32) (WD : S32x256x1024.Idx → Elt F .f32)
variable (Y0 G : S49152x1024.Idx → Elt F .bf16) (sx : Fin 3 → PosShare TreeShare) (sw : Fin 2 → PosShare TreeShare)

set_option pp.deepTerms false
set_option maxHeartbeats 2000000

/-- The first tile's part of the fetching: its expert's weights, its rows. -/
theorem part1 (hg : Good tb) (i : grid0.Coords) (h1 : k0_cond1 i = 1#1) {α : Type} {k : PUnit → Prog (TpuEff nD τ sig (Elt F) Λ₀ .tc) α} {Q : α → sProp 𝕄} :
    iprop(WFree c WG WU WD sw 0 ∗ XFree c X sx (xs 0) ∗ Tbl c tb)
      ⊢ iprop((iprop(WFly c WG WU WD sw 0 (ex (wd tb 0 0)) ∗ XT c tb X sx True 0 ∗ Tbl c tb) -∗ WP c (k ⟨⟩) Q)
        -∗ WP c (k0_part1 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 h1 >>= k) Q) := by
  have hl := hg.te_lt 0 (by decide)
  rw [k0_part1_eq_skeleton]
  unfold k0_part1_skel WFree WFly
  simp only [Prog.bind_lift, Prog.bind_assoc, Prog.bind_op, ite_self, pure_bind, Prog.bind_ret, Prog.bind_pure]
  iintro ⟨⟨HG, HU, HD⟩, HX, HT⟩ Hk
  iapply (wp_word c tb 0 (t := 0) (by decide) rfl rfl) $$ HT
  iintro HT
  iapply (wp_assume _ _ _ _ (chk1 i hl))
  iapply (wp_fetch_g c WG sw (p := 0) (e := ex (wd tb 0 0)) (geA_eq (offE hl)) (gA_eq (p := 0) rfl) (semWA_eq (p := 0) (j := 0) rfl)) $$ HG
  iintro HG
  iapply (wp_fetch_u c WU sw (p := 0) (e := ex (wd tb 0 0)) (ueA_eq (offE hl)) (uA_eq (p := 0) rfl) (semWA_eq (p := 0) (j := 1) rfl)) $$ HU
  iintro HU
  iapply (wp_fetch_d c WD sw (p := 0) (e := ex (wd tb 0 0)) (deA_eq (offE hl)) (dA_eq (p := 0) rfl) (semWA_eq (p := 0) (j := 2) rfl)) $$ HD
  iintro HD
  iapply (wp_word c tb 1 (t := 0) (by decide) rfl rfl) $$ HT
  iintro HT
  iapply (wp_when' c (P := XFree c X sx (xs 0)) (R := XT c tb X sx True 0) (fun h => ?_) (fun h => ?_)) $$ [HX]
  · simp only [Prog.bind_lift, Prog.bind_assoc, Prog.bind_op, ite_self, pure_bind, Prog.bind_ret, Prog.bind_pure]
    unfold XT
    rw [if_pos ⟨trivial, by decide, is_one.mp h⟩]
    iintro H HK
    iapply (wp_fetch_x c X sx (p := xs 0) (e := tl 0) (xbA_eq (t := tl 0) rfl) (xA_eq (p := xs 0) rfl) (sem3A_eq (p := xs 0) rfl)) $$ H
    iexact HK
  · unfold XT
    rw [if_neg (fun h' => h (is_one.mpr h'.2.2))]
  · iexact HX
  iintro HX
  simp only [Prog.bind_lift, Prog.bind_assoc, Prog.bind_op, ite_self, pure_bind, Prog.bind_ret, Prog.bind_pure]
  iapply Hk
  isplitl [HG HU HD]
  · isplitl [HG]; · iexact HG
    isplitl [HU]; · iexact HU
    iexact HD
  isplitl [HX]; · iexact HX
  iexact HT

/-- Where the expert changes: the next expert's weights are asked for, this one's waited for. -/
theorem part2 (hg : Good tb) (i : grid0.Coords) {t : ℕ} (hi : (i 0).val = t) (ht : t < 96) {a0 v22 v28 : BitVec 32} (h5 : k0_chk5 i (wd tb 2 t) v22 v28) (h5' : k0_cond5 i v22 v28 = 1#1)
    {α : Type} {k : FVec F S1024x256 .bf16 → Prog (TpuEff nD τ sig (Elt F) Λ₀ .tc) α} {Q : α → sProp 𝕄} :
    iprop(WFree c WG WU WD sw (1 - sl (wd tb 2 t)) ∗ WFly c WG WU WD sw (sl (wd tb 2 t)) (ex (wd tb 0 t)) ∗ Tbl c tb ∗ Owes c)
      ⊢ iprop((iprop(WNext c WG WU WD sw (1 - sl (wd tb 2 t)) (wd tb 3 t) ∗ WFull c WG WU WD sw (sl (wd tb 2 t)) (ex (wd tb 0 t)) ∗ Tbl c tb ∗ Owes c) -∗ WP c (k (wgOf WG (ex (wd tb 0 t)))) Q)
        -∗ WP c (k0_part2 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 a0 (wd tb 2 t) v22 v28 h5 h5' >>= k) Q) := by
  have hl := hg.te_lt t ht
  have hs := hg.ws_bit t ht
  have hn := hg.nx_or (95 - t) t (by omega)
  rw [k0_part2_eq_skeleton]
  unfold k0_part2_skel
  simp only [Prog.bind_lift, Prog.bind_assoc, Prog.bind_op, ite_self, pure_bind, Prog.bind_ret, Prog.bind_pure]
  iintro ⟨HW, HF, HT, HO⟩ Hk
  iapply (wp_word c tb 3 (t := t) (by omega) rfl ((k0_off9_eq i).trans (by rw [hi]))) $$ HT
  iintro HT
  iapply (wp_assume _ _ _ _ (chk3 i v22 v28 (wd tb 3 t) hs))
  iapply (wp_when c (P := iprop(WFree c WG WU WD sw (1 - sl (wd tb 2 t)) ∗ Tbl c tb)) (R := iprop(WNext c WG WU WD sw (1 - sl (wd tb 2 t)) (wd tb 3 t) ∗ Tbl c tb)) (fun h => ?_) (fun h => ?_)) $$ [HW HT]
  · have hne := (cond6 hn).mp h
    have hnl := hn.resolve_left hne
    simp only [Prog.bind_lift, Prog.bind_assoc, Prog.bind_op, ite_self, pure_bind, Prog.bind_ret, Prog.bind_pure]
    unfold WNext
    rw [if_neg hne]
    unfold WFree WFly
    iintro ⟨⟨HG, HU, HD⟩, HT⟩ HK
    iapply (wp_word c tb 3 (t := t) (by omega) rfl ((k0_off10_eq i).trans (by rw [hi]))) $$ HT
    iintro HT
    iapply (wp_assume _ _ _ _ (chk4 i v22 v28 (wd tb 3 t) hnl))
    iapply (wp_fetch_g c WG sw (p := 1 - sl (wd tb 2 t)) (e := ex (wd tb 3 t)) (geA_eq (offE hnl)) (gA_eq (off12 hs)) (semWA_eq (j := 0) (off11 hs))) $$ HG
    iintro HG
    iapply (wp_fetch_u c WU sw (p := 1 - sl (wd tb 2 t)) (e := ex (wd tb 3 t)) (ueA_eq (offE hnl)) (uA_eq (off15 hs)) (semWA_eq (j := 1) (off14 hs))) $$ HU
    iintro HU
    iapply (wp_fetch_d c WD sw (p := 1 - sl (wd tb 2 t)) (e := ex (wd tb 3 t)) (deA_eq (offE hnl)) (dA_eq (off17 hs)) (semWA_eq (j := 2) (off16 hs))) $$ HD
    iintro HD
    iapply HK
    isplitl [HG HU HD]
    · isplitl [HG]; · iexact HG
      isplitl [HU]; · iexact HU
      iexact HD
    iexact HT
  · unfold WNext
    rw [if_pos (not_not.mp fun e => h ((cond6 hn).mpr e))]
  · isplitl [HW]; · iexact HW
    iexact HT
  iintro ⟨HW, HT⟩
  simp only [Prog.bind_lift, Prog.bind_assoc, Prog.bind_op, ite_self, pure_bind, Prog.bind_ret, Prog.bind_pure]
  iapply (wp_word c tb 0 (t := t) (by omega) rfl ((k0_off19_eq i).trans (by rw [hi]))) $$ HT
  iintro HT
  iapply (wp_assume _ _ _ _ (chk6 i v22 v28 hl))
  unfold WFly WFull
  icases HF with ⟨HG, HU, HD⟩
  iapply (wp_fetched_g c WG sw (p := sl (wd tb 2 t)) (e := ex (wd tb 0 t)) (gA_eq (off21 hs)) (semWA_eq (j := 0) (off20 hs))) $$ [HG HO]
  · isplitl [HG]; · iexact HG
    iexact HO
  iintro ⟨HG, HO⟩
  iapply (wp_fetched_u c WU sw (p := sl (wd tb 2 t)) (e := ex (wd tb 0 t)) (uA_eq (off24 hs)) (semWA_eq (j := 1) (off23 hs))) $$ [HU HO]
  · isplitl [HU]; · iexact HU
    iexact HO
  iintro ⟨HU, HO⟩
  iapply (wp_fetched_d c WD sw (p := sl (wd tb 2 t)) (e := ex (wd tb 0 t)) (dA_eq (off26 hs)) (semWA_eq (j := 2) (off25 hs))) $$ [HD HO]
  · isplitl [HD]; · iexact HD
    iexact HO
  iintro ⟨HD, HO⟩
  unfold GFull
  icases HG with ⟨HG, HGs⟩
  iapply (wp_load_g c (p := sl (wd tb 2 t)) (off28 hs)) $$ HG
  iintro %w %hw HG
  rw [show k0_pay4 w = wgOf WG (ex (wd tb 0 t)) from congrArg (fun v => truncf .bf16 (v : FVec F S1024x256 .f32) bitsLt_bf16_f32) hw]
  iapply Hk
  isplitl [HW]; · iexact HW
  isplitl [HG HGs HU HD]
  · isplitl [HG HGs]
    · isplitl [HG]; · iexact HG
      iexact HGs
    isplitl [HU]; · iexact HU
    iexact HD
  isplitl [HT]; · iexact HT
  iexact HO

/-- A used tile's rows are waited for. -/
theorem part3 (i : grid0.Coords) {t : ℕ} (hi : (i 0).val = t) (ht : t < 96) {a0 : BitVec 32}
    {α : Type} {k : PUnit → Prog (TpuEff nD τ sig (Elt F) Λ₀ .tc) α} {Q : α → sProp 𝕄} :
    iprop(XFly c X sx (xs t) (tl t) ∗ Owes c)
      ⊢ iprop((iprop(XFull c X sx (xs t) (tl t) ∗ Owes c) -∗ WP c (k ⟨⟩) Q)
        -∗ WP c (k0_part3 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 a0 >>= k) Q) := by
  subst hi
  rw [k0_part3_eq_skeleton]
  unfold k0_part3_skel
  simp only [Prog.bind_lift, Prog.bind_assoc, Prog.bind_op, ite_self, pure_bind, Prog.bind_ret, Prog.bind_pure]
  iintro H Hk
  iapply (wp_fetched_x c X sx (p := xs (i 0).val) (e := tl (i 0).val) (xA_eq (p := xs (i 0).val) (off36 i)) (sem3A_eq (p := xs (i 0).val) (off35 i))) $$ H
  iexact Hk

/-- They go through the expert's layers into a free slot. -/
theorem part4 (i : grid0.Coords) {t : ℕ} (hi : (i 0).val = t) (ht : t < 96) {a0 : BitVec 32} (e : Fin 32)
    {α : Type} {k : (Σ' (_ : BitVec 32) (_ : BitVec 1), BitVec 32) → Prog (TpuEff nD τ sig (Elt F) Λ₀ .tc) α} {Q : α → sProp 𝕄} :
    iprop(XFull c X sx (xs t) (tl t) ∗ BAt c WG WU WD e ∗ YFree c (ys t))
      ⊢ iprop((iprop(XFull c X sx (xs t) (tl t) ∗ BAt c WG WU WD e
            ∗ Full c (yM (ys t)) (yQ (ys t)) (ffn ((xB (tl t)).view.read (Elt F) X) (wgOf WG e) (wuOf WU e) (wdOf WD e))) -∗ ∀ x, WP c (k x) Q)
        -∗ WP c (k0_part4 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 a0 >>= k) Q) := by
  subst hi
  rw [k0_part4_eq_skeleton]
  unfold k0_part4_skel
  simp only [Prog.bind_lift, Prog.bind_assoc, Prog.bind_op, ite_self, pure_bind, Prog.bind_ret, Prog.bind_pure]
  unfold XFull BAt YFree
  iintro ⟨⟨HX, HXs⟩, ⟨HG, HU, HD⟩, HY⟩ Hk
  iapply (wp_load_x c (p := xs (i 0).val) (off38 i)) $$ HX
  iintro %w %hw HX
  iapply (wp_load_bg c) $$ HG
  iintro HG
  iapply (wp_load_bu c) $$ HU
  iintro HU
  iapply (wp_load_bd c) $$ HD
  iintro HD
  iapply (wp_store_y c (p := ys (i 0).val) (off39 i) (ffn ((xB (tl (i 0).val)).view.read (Elt F) X) (wgOf WG e) (wuOf WU e) (wdOf WD e))
    (h' := shapeCasts_S512x1024_S1x512x1024) ((pay5_eq w _ _ _).trans (by rw [hw]))) $$ HY
  iintro HY
  ispecialize Hk $$ [HX HXs HG HU HD HY]
  · isplitl [HX HXs]
    · isplitl [HX]; · iexact HX
      iexact HXs
    isplitl [HG HU HD]
    · isplitl [HG]; · iexact HG
      isplitl [HU]; · iexact HU
      iexact HD
    iexact HY
  iapply Hk

end Cert.Proof.Moe

end
-- ==== Proof.MoeFetch.lean ====
/-
  The expert layer's fetching of rows at a tile.
-/
module

public import proofs.«01_k».proof.Proof.MoeParts

@[expose] public section

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (tb : S8x128.Idx → BitVec 32) (X : S49152x1024.Idx → Elt F .bf16) (WG WU : S32x1024x256.Idx → Elt F .f32) (WD : S32x256x1024.Idx → Elt F .f32)
variable (Y0 G : S49152x1024.Idx → Elt F .bf16) (sx : Fin 3 → PosShare TreeShare) (sw : Fin 2 → PosShare TreeShare)

set_option pp.deepTerms false
set_option maxHeartbeats 2000000

theorem part5 (hg : Good tb) (i : grid0.Coords) {t : ℕ} (hi : (i 0).val = t) (ht : t < 96)
    {α : Type} {k : (Σ' (arg0 : BitVec 32) (v17 : Elt F .i32) (v22 : Elt F .i32) (v28 : Elt F .i32) (_ : k0_chk5 i v17 v22 v28) (_ : BitVec 32), BitVec 32) → Prog (TpuEff nD τ sig (Elt F) Λ₀ .tc) α} {Q : α → sProp 𝕄} :
    iprop(XStart c tb X sx t ∗ WStart c tb WG WU WD sw t ∗ Tbl c tb)
      ⊢ iprop((iprop(XAll c tb X sx t ∗ WMid c tb WG WU WD sw t ∗ Tbl c tb)
            -∗ ∀ v31, WP c (k ⟨BitVec.ofNat 32 t, wd tb 2 t, wd tb 0 t, wd tb 0 (t - 1), chk5 i (wd tb 0 t) (wd tb 0 (t - 1)) (hg.ws_bit t ht), v31, 0#32⟩) Q)
        -∗ WP c (k0_part5 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 >>= k) Q) := by
  have hl := hg.te_lt t ht
  have hs := hg.ws_bit t ht
  rw [k0_part5_eq_skeleton]
  unfold k0_part5_skel
  simp only [Prog.bind_lift, Prog.bind_assoc, Prog.bind_op, ite_self, pure_bind, Prog.bind_ret, Prog.bind_pure]
  iintro ⟨HX, HW, HT⟩ Hk
  iapply (wp_when c (P := iprop(XStart c tb X sx t ∗ WStart c tb WG WU WD sw t ∗ Tbl c tb))
    (R := iprop(XT c tb X sx True t ∗ XT c tb X sx True (t + 1) ∗ XFree c X sx (xs (t + 2)) ∗ WMid c tb WG WU WD sw t ∗ Tbl c tb)) (fun h => ?_) (fun h => ?_)) $$ [HX HW HT]
  · have h0 : t = 0 := hi.symm.trans ((cond1 i).mp h)
    subst h0
    unfold XStart WStart WMid WBefore
    rw [if_pos rfl, if_pos rfl, if_pos rfl, hg.ws_zero]
    simp only [Prog.bind_lift, Prog.bind_assoc, Prog.bind_op, ite_self, pure_bind, Prog.bind_ret, Prog.bind_pure]
    iintro ⟨⟨HX0, HX1, HX2⟩, ⟨HB, HW0, HW1⟩, HT⟩ HK
    iapply (part1 c tb X WG WU WD sx sw hg i h) $$ [HX0 HW0 HT]
    · isplitl [HW0]; · iexact HW0
      isplitl [HX0]; · iexact HX0
      iexact HT
    iintro ⟨HW0, HX0, HT⟩
    iapply (wp_word c tb 1 (t := 1) (by decide) rfl rfl) $$ HT
    iintro HT
    iapply (wp_when' c (P := XFree c X sx (xs 1)) (R := XT c tb X sx True 1) (fun h => ?_) (fun h => ?_)) $$ [HX1]
    · simp only [Prog.bind_lift, Prog.bind_assoc, Prog.bind_op, ite_self, pure_bind, Prog.bind_ret, Prog.bind_pure]
      unfold XT
      rw [if_pos ⟨trivial, by decide, is_one.mp h⟩]
      iintro H HK
      iapply (wp_fetch_x c X sx (p := xs 1) (e := tl 1) (xbA_eq (t := tl 1) rfl) (xA_eq (p := xs 1) rfl) (sem3A_eq (p := xs 1) rfl)) $$ H
      iexact HK
    · unfold XT
      rw [if_neg (fun h' => h (is_one.mpr h'.2.2))]
    · iexact HX1
    iintro HX1
    simp only [Prog.bind_lift, Prog.bind_assoc, Prog.bind_op, ite_self, pure_bind, Prog.bind_ret, Prog.bind_pure]
    iapply HK
    isplitl [HX0]; · iexact HX0
    isplitl [HX1]; · iexact HX1
    isplitl [HX2]; · iexact HX2
    isplitl [HB HW0 HW1]
    · isplitl [HB]; · iexact HB
      isplitl [HW0]; · iexact HW0
      iexact HW1
    iexact HT
  · have h0 : t ≠ 0 := fun e => h ((cond1 i).mpr (hi.trans e))
    unfold XStart WStart WMid
    rw [if_neg h0, if_neg h0, if_neg h0]
    iintro ⟨⟨HX0, HX1, HX2⟩, HW, HT⟩
    isplitl [HX0]; · iexact HX0
    isplitl [HX1]; · iexact HX1
    isplitl [HX2]; · iexact HX2
    isplitl [HW]; · iexact HW
    iexact HT
  · isplitl [HX]; · iexact HX
    isplitl [HW]; · iexact HW
    iexact HT
  iintro ⟨HX0, HX1, HX2, HW, HT⟩
  simp only [Prog.bind_lift, Prog.bind_assoc, Prog.bind_op, ite_self, pure_bind, Prog.bind_ret, Prog.bind_pure]
  iapply (wp_word c tb 1 (t := min (t + 2) 95) (by omega) rfl ((off3 i).trans (by rw [hi]))) $$ HT
  iintro HT
  iapply (wp_assume _ _ _ _ (chk2 i (wd tb 1 (min (t + 2) 95))))
  iapply (wp_when c (P := XFree c X sx (xs (t + 2))) (R := XT c tb X sx True (t + 2)) (fun h => ?_) (fun h => ?_)) $$ [HX2]
  · have hc := (cond4 i _).mp h
    have h96 : t + 2 < 96 := by have := hc.1; omega
    have hm : min (t + 2) 95 = t + 2 := by omega
    simp only [Prog.bind_lift, Prog.bind_assoc, Prog.bind_op, ite_self, pure_bind, Prog.bind_ret, Prog.bind_pure]
    unfold XT
    rw [if_pos ⟨trivial, h96, by have := hc.2; rwa [hm] at this⟩]
    iintro H HK
    iapply (wp_fetch_x c X sx (p := xs (t + 2)) (e := tl (t + 2)) (xbA_eq (t := tl (t + 2)) ((off6 i).trans (by rw [hi, tl_val h96])))
      (xA_eq (p := xs (t + 2)) ((off5 i).trans (by rw [hi]; rfl))) (sem3A_eq (p := xs (t + 2)) ((off4 i).trans (by rw [hi]; rfl)))) $$ H
    iexact HK
  · unfold XT
    rw [if_neg]
    rintro ⟨-, h96, hw⟩
    have hm : min (t + 2) 95 = t + 2 := by omega
    exact h ((cond4 i _).mpr ⟨by omega, by rw [hm]; exact hw⟩)
  · iexact HX2
  iintro HX2
  simp only [Prog.bind_lift, Prog.bind_assoc, Prog.bind_op, ite_self, pure_bind, Prog.bind_ret, Prog.bind_pure]
  iapply (wp_word c tb 2 (t := t) (by omega) rfl ((k0_off7_eq i).trans (by rw [hi]))) $$ HT
  iintro HT
  iapply (wp_word c tb 0 (t := t) (by omega) rfl ((k0_off7_eq i).trans (by rw [hi]))) $$ HT
  iintro HT
  iapply (wp_word c tb 0 (t := t - 1) (by omega) rfl ((off8 i).trans (by rw [hi]))) $$ HT
  iintro HT
  iapply (wp_assume _ _ _ _ (chk5 i (wd tb 0 t) (wd tb 0 (t - 1)) hs))
  rw [hi]
  ispecialize Hk $$ [HX0 HX1 HX2 HW HT]
  · isplitl [HX0 HX1 HX2]
    · unfold XAll
      isplitl [HX0]; · iexact HX0
      isplitl [HX1]; · iexact HX1
      iexact HX2
    isplitl [HW]; · iexact HW
    iexact HT
  iapply Hk

end Cert.Proof.Moe

end
-- ==== Proof.MoeBody.lean ====
/-
  One tile of the expert layer: what holds before it and after it.
-/
module

public import proofs.«01_k».proof.Proof.MoeFetch

@[expose] public section

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (tb : S8x128.Idx → BitVec 32) (X : S49152x1024.Idx → Elt F .bf16) (WG WU : S32x1024x256.Idx → Elt F .f32) (WD : S32x256x1024.Idx → Elt F .f32)
variable (Y0 G : S49152x1024.Idx → Elt F .bf16) (sx : Fin 3 → PosShare TreeShare) (sw : Fin 2 → PosShare TreeShare)

set_option pp.deepTerms false
set_option pp.deepTerms.threshold 2
set_option maxHeartbeats 4000000

theorem pay1_eq (v : FVec F S1024x256 .bf16) : k0_pay1 v = v := shapeCast_self v _
theorem pay2_eq (WU : S32x1024x256.Idx → Elt F .f32) (e : Fin 32) {v : Vec F S1x1024x256 .f32} (h : shapeCast S1024x256 v shapeCasts_S1x1024x256_S1024x256 = (uE e).view.read (Elt F) WU) : k0_pay2 v = wuOf WU e :=
  (shapeCast_self _ _).trans (congrArg (fun v => truncf .bf16 (v : FVec F S1024x256 .f32) bitsLt_bf16_f32) h)
theorem pay3_eq (WD : S32x256x1024.Idx → Elt F .f32) (e : Fin 32) {v : Vec F S1x256x1024 .f32} (h : shapeCast S256x1024 v shapeCasts_S1x256x1024_S256x1024 = (dE e).view.read (Elt F) WD) : k0_pay3 v = wdOf WD e :=
  (shapeCast_self _ _).trans (congrArg (fun v => truncf .bf16 (v : FVec F S256x1024 .f32) bitsLt_bf16_f32) h)

theorem credit_y {sp : Space} {s : Shape} {e : EltTy} (m : Memref sig .tc sp s e) (t : Fin 96) (hs : s = S512x1024) (he : e = .bf16) : m.view.dmaCredit = (yB t).view.dmaCredit := by
  subst hs he; rfl

/-- A used tile's results have left. -/
theorem wp_settle {t : ℕ} (hu : wd tb 1 t = 1#32) {sem' : DmaSem sig} (hq : sem' = yQ (ys t)) {sp sp' : Space} {s' : Shape} {e' : EltTy} {srcw : Memref sig .tc sp s' e'} {dstw : Memref sig .tc sp' S512x1024 .bf16}
    {h1 : srcw.view.WordExact} {h2 : dstw.view.WordExact} {α : Type} {k : PUnit → Prog (TpuEff nD τ sig (Elt F) Λ₀ .tc) α} {Q : α → sProp 𝕄} :
    iprop(YP c tb G t ∗ YDone c G t ∗ Owes c)
      ⊢ iprop((iprop(YFree c (ys t) ∗ YDone c G (t + 1) ∗ Owes c) -∗ WP c (k ⟨⟩) Q) -∗ WP c (.op (.waitDma2 sem' srcw dstw h1 h2) k) Q) := by
  unfold YP
  rw [if_pos hu]
  iintro ⟨H, Hd, HO⟩ Hk
  unfold YFly
  iapply (wp_sent c hq (src := yM (ys t)) (dst := yB (tl t)) (credit_y dstw (tl t) rfl rfl)) $$ [H HO]
  · isplitl [H]; · iexact H
    iexact HO
  iintro ⟨H, Hb, HO⟩
  iapply Hk
  isplitl [H]; · unfold YFree; iexact H
  isplitl [Hb Hd]
  · iapply (done_succ c G t)
    isplitl [Hb]; · unfold YBlk; iexact Hb
    iexact Hd
  iexact HO
theorem settled {t : ℕ} (hu : wd tb 1 t ≠ 1#32) :
    iprop(YP c tb G t ∗ YDone c G t ∗ Owes c) ⊢ iprop(YFree c (ys t) ∗ YDone c G (t + 1) ∗ Owes c) := by
  unfold YP
  rw [if_neg hu]
  iintro ⟨⟨H, Hb⟩, Hd, HO⟩
  isplitl [H]; · iexact H
  isplitl [Hb Hd]
  · iapply (done_succ c G t)
    isplitl [Hb]; · iexact Hb
    iexact Hd
  iexact HO

/-- The results before tile `t`; after the last all of them are there. -/
def YSt (t : ℕ) : sProp 𝕄 := if t = 96 then iprop(YFree c 0 ∗ YFree c 1 ∗ YDone c G 96)
  else iprop(YTwo c tb G t ∗ YOne c tb G t ∗ YDone c G (t - 2) ∗ YAhead c Y0 t)

theorem YSt.split {t : ℕ} (ht : t < 96) : YSt c tb Y0 G t ⊢ iprop(YTwo c tb G t ∗ YOne c tb G t ∗ YDone c G (t - 2) ∗ YAhead c Y0 t) := by
  unfold YSt
  rw [if_neg (show ¬ t = 96 by omega)]

def Inv (t : ℕ) : sProp 𝕄 :=
  iprop(XStart c tb X sx t ∗ WStart c tb WG WU WD sw t ∗ YSt c tb Y0 G t ∗ Tbl c tb ∗ Owes c)

/-- The result's contents, as the tiles need them. -/
structure Res : Prop where
  used : ∀ t : Fin 96, wd tb 1 t.val = 1#32 →
    ffn ((xB t).view.read (Elt F) X) (wgOf WG (ex (wd tb 0 t.val))) (wuOf WU (ex (wd tb 0 t.val))) (wdOf WD (ex (wd tb 0 t.val))) = (yB t).view.read (Elt F) G
  unused : ∀ t : Fin 96, wd tb 1 t.val ≠ 1#32 → ∀ i ∈ (yB t).view.set, G i = Y0 i

theorem YOne_eq (t : ℕ) : YOne c tb G t = YTwo c tb G (t + 1) := by
  unfold YOne YTwo
  by_cases h : 1 ≤ t
  · rw [if_pos h, if_pos (by omega), show t + 1 - 2 = t - 1 by omega]
  · rw [if_neg h, if_neg (by omega)]
theorem YP_eq (t : ℕ) : YP c tb G t = YOne c tb G (t + 1) := by
  unfold YOne
  rw [if_pos (by omega), show t + 1 - 1 = t by omega]

theorem wp_done {P : sProp 𝕄} : P ⊢ WP c (pure PUnit.unit) fun _ => P := by
  show P ⊢ wp _ _ _ _ _
  rw [wp_pure]
  iintro H
  imodintro
  iexact H

theorem xs_add3 (t : ℕ) : xs (t + 1 + 2) = xs t := Fin.ext (by show (t + 1 + 2) % 3 = t % 3; omega)
theorem ys_sub2 {t : ℕ} (h : 2 ≤ t) : ys (t - 2) = ys t := Fin.ext (by show (t - 2) % 2 = t % 2; omega)

theorem body (hg : Good tb) (hr : Res tb X WG WU WD Y0 G) (i : grid0.Coords) {t : ℕ} (hi : (i 0).val = t) (ht : t < 96) :
    Inv c tb X WG WU WD Y0 G sx sw t
      ⊢ WP c (cc0_moe (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) fun _ => Inv c tb X WG WU WD Y0 G sx sw (t + 1) := by
  have hl := hg.te_lt t ht
  have hs := hg.ws_bit t ht
  rw [cc0_moe_eq_skeleton]
  unfold cc0_moe_skel Inv
  simp only [Prog.bind_lift, Prog.bind_assoc, Prog.bind_op, ite_self, pure_bind, Prog.bind_ret, Prog.bind_pure]
  iintro ⟨HX, HW, HY, HT, HO⟩
  iapply (part5 c tb X WG WU WD sx sw hg i hi ht) $$ [HX HW HT]
  · isplitl [HX]; · iexact HX
    isplitl [HW]; · iexact HW
    iexact HT
  iintro ⟨HX, HW, HT⟩ %v31
  dsimp only
  -- the weights
  iapply (wp_when0 c (P := iprop(WMid c tb WG WU WD sw t ∗ Tbl c tb ∗ Owes c)) (R := iprop(WAfter c tb WG WU WD sw t ∗ Tbl c tb ∗ Owes c)) (fun h => ?_) (fun h => ?_)) $$ [HW HT HO]
  · have hc := (cond5 i _ _).mp h
    rw [hi] at hc
    iintro ⟨HW, HT, HO⟩ HK
    ihave HW := mid_change c tb WG WU WD sw hg ht hc $$ HW
    unfold WBefore BAny
    icases HW with ⟨⟨⟨%f5, H5⟩, ⟨%f6, H6⟩, ⟨%f7, H7⟩⟩, HF, HN⟩
    iapply (part2 c tb WG WU WD sw hg i hi ht _ h) $$ [HN HF HT HO]
    · isplitl [HN]; · iexact HN
      isplitl [HF]; · iexact HF
      isplitl [HT]; · iexact HT
      iexact HO
    iintro ⟨HN, HF, HT, HO⟩
    iapply (wp_load_bg c) $$ H5
    iintro H5
    iapply (wp_store_bg c) $$ H5
    iintro H5
    unfold WFull UFull DFull
    icases HF with ⟨HG, ⟨HU, HUs⟩, ⟨HD, HDs⟩⟩
    iapply (wp_load_u c (p := sl (wd tb 2 t)) (off28 hs)) $$ HU
    iintro %wu %hwu HU
    iapply (wp_load_bu c) $$ H6
    iintro H6
    iapply (wp_store_bu c) $$ H6
    iintro H6
    iapply (wp_load_d c (p := sl (wd tb 2 t)) (off29 hs)) $$ HD
    iintro %wd' %hwd HD
    iapply (wp_load_bd c) $$ H7
    iintro H7
    iapply (wp_store_bd c) $$ H7
    iintro H7
    rw [pay1_eq, pay2_eq WU (ex (wd tb 0 t)) hwu, pay3_eq WD (ex (wd tb 0 t)) hwd]
    iapply HK
    isplitl [H5 H6 H7 HG HU HUs HD HDs HN]
    · unfold WAfter BAt
      isplitl [H5 H6 H7]
      · isplitl [H5]; · iexact H5
        isplitl [H6]; · iexact H6
        iexact H7
      isplitl [HG HU HUs HD HDs]
      · iapply (WFull.free c WG WU WD sw (sl (wd tb 2 t)) (ex (wd tb 0 t)))
        unfold WFull UFull DFull
        isplitl [HG]; · iexact HG
        isplitl [HU HUs]
        · isplitl [HU]; · iexact HU
          iexact HUs
        isplitl [HD]; · iexact HD
        iexact HDs
      iexact HN
    isplitl [HT]; · iexact HT
    iexact HO
  · have hc : ¬ (t = 0 ∨ wd tb 0 t ≠ wd tb 0 (t - 1)) := fun hc => h ((cond5 i _ _).mpr (by rw [hi]; exact hc))
    iintro ⟨HW, HT, HO⟩
    isplitl [HW]; · iapply (mid_same c tb WG WU WD sw hg ht hc); iexact HW
    isplitl [HT]; · iexact HT
    iexact HO
  · isplitl [HW]; · iexact HW
    isplitl [HT]; · iexact HT
    iexact HO
  iintro ⟨HW, HT, HO⟩
  -- the results of two tiles ago
  iapply (wp_word c tb 1 (t := t - 2) (by omega) rfl ((off30 i).trans (by rw [hi]))) $$ HT
  iintro HT
  iapply (wp_assume _ _ _ _ (chk7 i (wd tb 1 (t - 2))))
  ihave HY := YSt.split c tb Y0 G ht $$ HY
  icases HY with ⟨HY2, HY1, HYd, HYa⟩
  iapply (wp_when0 c (P := iprop(YTwo c tb G t ∗ YDone c G (t - 2) ∗ Owes c)) (R := iprop(YFree c (ys t) ∗ YDone c G (t - 1) ∗ Owes c)) (fun h => ?_) (fun h => ?_)) $$ [HY2 HYd HO]
  · have hc := (cond7 i _).mp h
    rw [hi] at hc
    have hd : t - 2 + 1 = t - 1 := by omega
    unfold YTwo
    rw [if_pos hc.1, ← hd, ← ys_sub2 hc.1]
    iintro H HK
    iapply (wp_settle c tb G hc.2 (sem2A_eq (p := ys (t - 2)) ((off31 i (by omega)).trans (by rw [hi, ys_sub2 hc.1]; rfl)))) $$ H
    iexact HK
  · unfold YTwo
    by_cases h2 : 2 ≤ t
    · rw [if_pos h2]
      have hd : t - 2 + 1 = t - 1 := by omega
      rw [← hd, ← ys_sub2 h2]
      exact settled c tb G (fun e => h ((cond7 i _).mpr ⟨by omega, e⟩))
    · rw [if_neg h2, show t - 2 = 0 by omega, show t - 1 = 0 by omega]
  · isplitl [HY2]; · iexact HY2
    isplitl [HYd]; · iexact HYd
    iexact HO
  iintro ⟨HY2, HYd, HO⟩
  -- this tile
  iapply (wp_word c tb 1 (t := t) (by omega) rfl ((k0_off34_eq i).trans (by rw [hi]))) $$ HT
  iintro HT
  unfold XAll
  icases HX with ⟨HX0, HX1, HX2⟩
  iapply (wp_when0' c (P := iprop(XT c tb X sx True t ∗ WAfter c tb WG WU WD sw t ∗ YFree c (ys t) ∗ YAhead c Y0 t ∗ Owes c))
    (R := iprop(XFree c X sx (xs t) ∗ WAfter c tb WG WU WD sw t ∗ YP c tb G t ∗ YAhead c Y0 (t + 1) ∗ Owes c)) (fun h => ?_) (fun h => ?_)) $$ [HX0 HW HY2 HYa HO]
  · have hu := is_one.mp h
    have ev : ffn ((xB (tl t)).view.read (Elt F) X) (wgOf WG (ex (wd tb 0 t))) (wuOf WU (ex (wd tb 0 t))) (wdOf WD (ex (wd tb 0 t))) = (yB (tl t)).view.read (Elt F) G := by
      have e := hr.used (tl t) (by rw [tl_val ht]; exact hu)
      rw [tl_val ht] at e
      exact e
    unfold XT YP
    rw [if_pos ⟨trivial, ht, hu⟩, if_pos hu]
    iintro ⟨HX, HW, HY, HA, HO⟩ HK
    ihave HA := ahead_succ c Y0 ht $$ HA
    icases HA with ⟨Hb, HA⟩
    iapply (part3 c X sx i hi ht) $$ [HX HO]
    · isplitl [HX]; · iexact HX
      iexact HO
    iintro ⟨HX, HO⟩
    unfold WAfter
    icases HW with ⟨HB, HW⟩
    iapply (part4 c X WG WU WD sx i hi ht (ex (wd tb 0 t))) $$ [HX HB HY]
    · isplitl [HX]; · iexact HX
      isplitl [HB]; · iexact HB
      iexact HY
    iintro ⟨HX, HB, HY⟩ %x
    dsimp only
    unfold YBlk
    iapply (wp_send c (src := yM (ys t)) (dst := yB (tl t)) (sem := yQ (ys t)) (yA_eq (p := ys t) ((off41 i).trans (by rw [hi]; rfl)))
      (ybA_eq (t := tl t) ((k0_off37_eq i).trans (by rw [hi, tl_val ht]))) (sem2A_eq (p := ys t) ((off40 i).trans (by rw [hi]; rfl)))
      (View.dmaCredit_pos _ (by decide)) (Y := Y0) (G := G) ev) $$ [HY Hb]
    · isplitl [HY]; · iexact HY
      iexact Hb
    iintro HY
    iapply HK
    isplitl [HX]; · iapply (XFull.free c X sx (xs t) (tl t)); iexact HX
    isplitl [HB HW]
    · isplitl [HB]; · iexact HB
      iexact HW
    isplitl [HY]; · unfold YFly; iexact HY
    isplitl [HA]; · iexact HA
    iexact HO
  · have hu : wd tb 1 t ≠ 1#32 := fun e => h (is_one.mpr e)
    unfold XT YP
    rw [if_neg (fun h' => hu h'.2.2), if_neg hu]
    iintro ⟨HX, HW, HY, HA, HO⟩
    ihave HA := ahead_succ c Y0 ht $$ HA
    icases HA with ⟨Hb, HA⟩
    isplitl [HX]; · iexact HX
    isplitl [HW]; · iexact HW
    isplitl [HY Hb]
    · isplitl [HY]; · iexact HY
      unfold YBlk Blk
      iapply (Entails.of_eq (pointsTo_congr fun j hj => (hr.unused (tl t) (by rw [tl_val ht]; exact hu) j hj).symm))
      iexact Hb
    isplitl [HA]; · iexact HA
    iexact HO
  · isplitl [HX0]; · iexact HX0
    isplitl [HW]; · iexact HW
    isplitl [HY2]; · iexact HY2
    isplitl [HYa]; · iexact HYa
    iexact HO
  iintro ⟨HX0, HW, HY2, HYa, HO⟩
  -- the last tile waits for what is still on its way
  iapply (wp_when0 c (P := iprop(YOne c tb G t ∗ YP c tb G t ∗ YDone c G (t - 1) ∗ YAhead c Y0 (t + 1) ∗ Tbl c tb ∗ Owes c))
    (R := iprop(YSt c tb Y0 G (t + 1) ∗ Tbl c tb ∗ Owes c)) (fun h => ?_) (fun h => ?_)) $$ [HY1 HY2 HYd HYa HT HO]
  · have h95 : t = 95 := by
      have e := (last i).mp (by rw [hi]; exact h)
      omega
    subst h95
    unfold YOne YSt
    rw [if_pos (by decide), if_pos rfl]
    iintro ⟨HY1, HY2, HYd, -, HT, HO⟩ HK
    iapply (wp_word c tb 1 (t := 94) (by decide) rfl rfl) $$ HT
    iintro HT
    iapply (wp_when0' c (P := iprop(YP c tb G 94 ∗ YDone c G 94 ∗ Owes c)) (R := iprop(YFree c (ys 94) ∗ YDone c G (94 + 1) ∗ Owes c)) (fun h => ?_) (fun h => ?_)) $$ [HY1 HYd HO]
    · iintro H HK
      iapply (wp_settle c tb G (is_one.mp h) (sem2A_eq (p := ys 94) rfl)) $$ H
      iexact HK
    · exact settled c tb G (fun e => h (is_one.mpr e))
    · isplitl [HY1]; · iexact HY1
      isplitl [HYd]; · iexact HYd
      iexact HO
    iintro ⟨HY1, HYd, HO⟩
    iapply (wp_word c tb 1 (t := 95) (by decide) rfl rfl) $$ HT
    iintro HT
    iapply (wp_when0' c (P := iprop(YP c tb G 95 ∗ YDone c G 95 ∗ Owes c)) (R := iprop(YFree c (ys 95) ∗ YDone c G (95 + 1) ∗ Owes c)) (fun h => ?_) (fun h => ?_)) $$ [HY2 HYd HO]
    · iintro H HK
      iapply (wp_settle c tb G (is_one.mp h) (sem2A_eq (p := ys 95) rfl)) $$ H
      iexact HK
    · exact settled c tb G (fun e => h (is_one.mpr e))
    · isplitl [HY2]; · iexact HY2
      isplitl [HYd]; · iexact HYd
      iexact HO
    iintro ⟨HY2, HYd, HO⟩
    iapply HK
    isplitl [HY1 HY2 HYd]
    · isplitl [HY1]; · iexact HY1
      isplitl [HY2]; · iexact HY2
      iexact HYd
    isplitl [HT]; · iexact HT
    iexact HO
  · have h95 : t ≠ 95 := fun e => h (by rw [← hi]; exact (last i).mpr (by omega))
    have hd : t + 1 - 2 = t - 1 := by omega
    unfold YSt
    rw [if_neg (by omega), ← YOne_eq, ← YP_eq, hd]
    iintro ⟨HY1, HY2, HYd, HYa, HT, HO⟩
    isplitl [HY1 HY2 HYd HYa]
    · isplitl [HY1]; · iexact HY1
      isplitl [HY2]; · iexact HY2
      isplitl [HYd]; · iexact HYd
      iexact HYa
    isplitl [HT]; · iexact HT
    iexact HO
  · isplitl [HY1]; · iexact HY1
    isplitl [HY2]; · iexact HY2
    isplitl [HYd]; · iexact HYd
    isplitl [HYa]; · iexact HYa
    isplitl [HT]; · iexact HT
    iexact HO
  iintro ⟨HY, HT, HO⟩
  iapply (wp_done c)
  isplitl [HX0 HX1 HX2]
  · unfold XStart
    rw [if_neg (Nat.succ_ne_zero t), xs_add3]
    isplitl [HX1]; · iexact HX1
    isplitl [HX2]; · iexact HX2
    iexact HX0
  isplitl [HW]
  · unfold WStart
    rw [if_neg (Nat.succ_ne_zero t), Nat.add_sub_cancel]
    iexact HW
  isplitl [HY]; · iexact HY
  isplitl [HT]; · iexact HT
  iexact HO

end Cert.Proof.Moe

end
-- ==== Proof.MoeLaunch.lean ====
/-
  How the expert layer's memory is dealt to its slots: each buffer into its slots, each array read into shares, the result
  into its 96 blocks; and back.
-/
module

public import proofs.«01_k».proof.Proof.MoeBody

@[expose] public section

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Where the slots lie -/

theorem mem_plane {n a b p : ℕ} (h : ∀ k, (![p, 0, 0] : Fin 3 → ℕ) k + (⟨3, ![1, a, b]⟩ : Shape).size k ≤ (⟨3, ![n, a, b]⟩ : Shape).size k)
    (i : (⟨3, ![n, a, b]⟩ : Shape).Idx) :
    i ∈ (Rect.unit (s := ⟨3, ![n, a, b]⟩) ![p, 0, 0] (⟨3, ![1, a, b]⟩ : Shape).size h).set ↔ (i 0).val = p := by
  rw [Rect.mem_set_unit]
  constructor
  · intro h
    have h0 : p ≤ (i 0).val := (h 0).1
    have h1 : (i 0).val < p + 1 := (h 0).2
    omega
  · intro h k
    match k with
    | 0 => exact ⟨by show p ≤ (i 0).val; omega, by show (i 0).val < p + 1; omega⟩
    | 1 => exact ⟨Nat.zero_le _, by have : (i 1).val < a := (i 1).isLt; show (i 1).val < 0 + a; omega⟩
    | 2 => exact ⟨Nat.zero_le _, by have : (i 2).val < b := (i 2).isLt; show (i 2).val < 0 + b; omega⟩

theorem parts_rest {a b : ℕ} (A B : Finset (⟨3, ![2, a, b]⟩ : Shape).Idx) (hA : ∀ i, i ∈ A ↔ (i 0).val = 0) (hB : ∀ i, i ∈ B ↔ (i 0).val = 1) :
    Finset.univ \ A = B := by
  ext i
  have hi : (i 0).val < 2 := (i 0).isLt
  rw [Finset.mem_sdiff, hA, hB]
  simp only [Finset.mem_univ, true_and]
  omega
theorem parts_rest' {a b : ℕ} (A B C : Finset (⟨3, ![3, a, b]⟩ : Shape).Idx) (hA : ∀ i, i ∈ A ↔ (i 0).val = 0) (hB : ∀ i, i ∈ B ↔ (i 0).val = 1)
    (hC : ∀ i, i ∈ C ↔ (i 0).val = 2) : (Finset.univ \ A) \ B = C ∧ B ⊆ Finset.univ \ A := by
  constructor
  · ext i
    have hi : (i 0).val < 3 := (i 0).isLt
    rw [Finset.mem_sdiff, Finset.mem_sdiff, hA, hB, hC]
    simp only [Finset.mem_univ, true_and]
    omega
  · intro i hi
    rw [Finset.mem_sdiff, hA]
    rw [hB] at hi
    simp only [Finset.mem_univ, true_and]
    omega

/-- A buffer at some contents is its parts, each at some contents. -/
theorem cut {ℓ : Loc nD τ sig} {A S : Finset (Idx ℓ)} (h : A ⊆ S) :
    (iprop(∃ f, ℓ ↦[S]{fullShare} f) : sProp 𝕄) ⊢ iprop((∃ f, ℓ ↦[A]{fullShare} f) ∗ ∃ f, ℓ ↦[S \ A]{fullShare} f) := by
  iintro ⟨%f, H⟩
  ihave H' := (pointsTo_split_subset (q := fullShare) (f := f) h).1 $$ H
  icases H' with ⟨H1, H2⟩
  isplitl [H1]
  · iexists f; iexact H1
  · iexists f; iexact H2
theorem paste {ℓ : Loc nD τ sig} {A S : Finset (Idx ℓ)} (h : A ⊆ S) :
    (iprop((∃ f, ℓ ↦[A]{fullShare} f) ∗ ∃ f, ℓ ↦[S \ A]{fullShare} f) : sProp 𝕄) ⊢ iprop(∃ f, ℓ ↦[S]{fullShare} f) := by
  classical
  iintro ⟨⟨%f, Hf⟩, ⟨%g, Hg⟩⟩
  iexists (fun i => if i ∈ A then f i else g i)
  iapply (pointsTo_split_subset (q := fullShare) (f := fun i => if i ∈ A then f i else g i) h).2
  isplitl [Hf]
  · iapply (Entails.of_eq (pointsTo_congr (f := f) (fun i hi => by rw [if_pos hi]))); iexact Hf
  · iapply (Entails.of_eq (pointsTo_congr (f := g) (fun i hi => by rw [if_neg (Finset.mem_sdiff.mp hi).2]))); iexact Hg

variable (c : Dev nD)

theorem mem_x (p : Fin 3) (i : S3x512x1024.Idx) : i ∈ (xM p).view.set ↔ (i 0).val = p.val := by
  have e : (xM p).view.set = (Rect.unit (s := S3x512x1024) ![p.val, 0, 0] S1x512x1024.size (xS_inb p)).set := by
    show (((View.whole (cc0_scratch0 : Ref sig .tc)).slice _).reshape _ _).set = _
    rw [View.set_reshape, View.set_slice]; exact Finset.map_refl
  rw [e]; exact mem_plane (xS_inb p) i
theorem x_rest : ((Finset.univ : Finset S3x512x1024.Idx) \ (xM 0).view.set) \ (xM 1).view.set = (xM 2).view.set ∧ (xM 1).view.set ⊆ (Finset.univ : Finset S3x512x1024.Idx) \ (xM 0).view.set :=
  parts_rest' _ _ _ (mem_x 0) (mem_x 1) (mem_x 2)
theorem x_cut : (iprop(∃ f : Buf (Elt F) ((th c).loc cc0_scratch0), (th c).loc cc0_scratch0 ↦{fullShare} f) : sProp 𝕄)
    ⊢ iprop((∃ f, (xM 0).view.loc (th c) ↦[(xM 0).view.set]{fullShare} f) ∗ (∃ f, (xM 1).view.loc (th c) ↦[(xM 1).view.set]{fullShare} f)
        ∗ ∃ f, (xM 2).view.loc (th c) ↦[(xM 2).view.set]{fullShare} f) := by
  refine (cut (ℓ := (th c).loc cc0_scratch0) (Finset.subset_univ (xM 0).view.set)).trans ?_
  iintro ⟨H0, H⟩
  isplitl [H0]; · iexact H0
  ihave H' := (cut (ℓ := (th c).loc cc0_scratch0) (A := (xM 1).view.set) (S := Finset.univ \ (xM 0).view.set) x_rest.2) $$ H
  rw [show ((Finset.univ : Finset (Idx ((th c).loc cc0_scratch0))) \ (xM 0).view.set) \ (xM 1).view.set = (xM 2).view.set from x_rest.1]
  iexact H'
theorem x_paste : (iprop((∃ f, (xM 0).view.loc (th c) ↦[(xM 0).view.set]{fullShare} f) ∗ (∃ f, (xM 1).view.loc (th c) ↦[(xM 1).view.set]{fullShare} f)
        ∗ ∃ f, (xM 2).view.loc (th c) ↦[(xM 2).view.set]{fullShare} f) : sProp 𝕄)
    ⊢ iprop(∃ f : Buf (Elt F) ((th c).loc cc0_scratch0), (th c).loc cc0_scratch0 ↦{fullShare} f) := by
  refine BIBase.Entails.trans ?_ (paste (ℓ := (th c).loc cc0_scratch0) (Finset.subset_univ (xM 0).view.set))
  iintro ⟨H0, H⟩
  isplitl [H0]; · iexact H0
  iapply (paste (ℓ := (th c).loc cc0_scratch0) (A := (xM 1).view.set) (S := Finset.univ \ (xM 0).view.set) x_rest.2)
  rw [show ((Finset.univ : Finset (Idx ((th c).loc cc0_scratch0))) \ (xM 0).view.set) \ (xM 1).view.set = (xM 2).view.set from x_rest.1]
  iexact H

theorem mem_y (p : Fin 2) (i : S2x512x1024.Idx) : i ∈ (yM p).view.set ↔ (i 0).val = p.val := by
  have e : (yM p).view.set = (Rect.unit (s := S2x512x1024) ![p.val, 0, 0] S1x512x1024.size (yS_inb p)).set := by
    show (((View.whole (cc0_scratch1 : Ref sig .tc)).slice _).reshape _ _).set = _
    rw [View.set_reshape, View.set_slice]; exact Finset.map_refl
  rw [e]; exact mem_plane (yS_inb p) i
theorem y_rest : (Finset.univ : Finset S2x512x1024.Idx) \ (yM 0).view.set = (yM 1).view.set := parts_rest _ _ (mem_y 0) (mem_y 1)
theorem y_cut : (iprop(∃ f : Buf (Elt F) ((th c).loc cc0_scratch1), (th c).loc cc0_scratch1 ↦{fullShare} f) : sProp 𝕄)
    ⊢ iprop((∃ f, (yM 0).view.loc (th c) ↦[(yM 0).view.set]{fullShare} f) ∗ ∃ f, (yM 1).view.loc (th c) ↦[(yM 1).view.set]{fullShare} f) := by
  refine (cut (ℓ := (th c).loc cc0_scratch1) (Finset.subset_univ (yM 0).view.set)).trans (Entails.of_eq ?_)
  rw [show (Finset.univ : Finset (Idx ((th c).loc cc0_scratch1))) \ (yM 0).view.set = (yM 1).view.set from y_rest]
theorem y_paste : (iprop((∃ f, (yM 0).view.loc (th c) ↦[(yM 0).view.set]{fullShare} f) ∗ ∃ f, (yM 1).view.loc (th c) ↦[(yM 1).view.set]{fullShare} f) : sProp 𝕄)
    ⊢ iprop(∃ f : Buf (Elt F) ((th c).loc cc0_scratch1), (th c).loc cc0_scratch1 ↦{fullShare} f) := by
  refine (Entails.of_eq ?_).trans (paste (ℓ := (th c).loc cc0_scratch1) (Finset.subset_univ (yM 0).view.set))
  rw [show (Finset.univ : Finset (Idx ((th c).loc cc0_scratch1))) \ (yM 0).view.set = (yM 1).view.set from y_rest]

theorem mem_g (p : Fin 2) (i : S2x1024x256.Idx) : i ∈ (gM p).view.set ↔ (i 0).val = p.val := by
  have e : (gM p).view.set = (Rect.unit (s := S2x1024x256) ![p.val, 0, 0] S1x1024x256.size (gS_inb p)).set := by
    show (((View.whole (cc0_scratch2 : Ref sig .tc)).slice _).reshape _ _).set = _
    rw [View.set_reshape, View.set_slice]; exact Finset.map_refl
  rw [e]; exact mem_plane (gS_inb p) i
theorem g_rest : (Finset.univ : Finset S2x1024x256.Idx) \ (gM 0).view.set = (gM 1).view.set := parts_rest _ _ (mem_g 0) (mem_g 1)
theorem g_cut : (iprop(∃ f : Buf (Elt F) ((th c).loc cc0_scratch2), (th c).loc cc0_scratch2 ↦{fullShare} f) : sProp 𝕄)
    ⊢ iprop((∃ f, (gM 0).view.loc (th c) ↦[(gM 0).view.set]{fullShare} f) ∗ ∃ f, (gM 1).view.loc (th c) ↦[(gM 1).view.set]{fullShare} f) := by
  refine (cut (ℓ := (th c).loc cc0_scratch2) (Finset.subset_univ (gM 0).view.set)).trans (Entails.of_eq ?_)
  rw [show (Finset.univ : Finset (Idx ((th c).loc cc0_scratch2))) \ (gM 0).view.set = (gM 1).view.set from g_rest]
theorem g_paste : (iprop((∃ f, (gM 0).view.loc (th c) ↦[(gM 0).view.set]{fullShare} f) ∗ ∃ f, (gM 1).view.loc (th c) ↦[(gM 1).view.set]{fullShare} f) : sProp 𝕄)
    ⊢ iprop(∃ f : Buf (Elt F) ((th c).loc cc0_scratch2), (th c).loc cc0_scratch2 ↦{fullShare} f) := by
  refine (Entails.of_eq ?_).trans (paste (ℓ := (th c).loc cc0_scratch2) (Finset.subset_univ (gM 0).view.set))
  rw [show (Finset.univ : Finset (Idx ((th c).loc cc0_scratch2))) \ (gM 0).view.set = (gM 1).view.set from g_rest]

theorem mem_u (p : Fin 2) (i : S2x1024x256.Idx) : i ∈ (uM p).view.set ↔ (i 0).val = p.val := by
  have e : (uM p).view.set = (Rect.unit (s := S2x1024x256) ![p.val, 0, 0] S1x1024x256.size (gS_inb p)).set := by
    show (((View.whole (cc0_scratch3 : Ref sig .tc)).slice _).reshape _ _).set = _
    rw [View.set_reshape, View.set_slice]; exact Finset.map_refl
  rw [e]; exact mem_plane (gS_inb p) i
theorem u_rest : (Finset.univ : Finset S2x1024x256.Idx) \ (uM 0).view.set = (uM 1).view.set := parts_rest _ _ (mem_u 0) (mem_u 1)
theorem u_cut : (iprop(∃ f : Buf (Elt F) ((th c).loc cc0_scratch3), (th c).loc cc0_scratch3 ↦{fullShare} f) : sProp 𝕄)
    ⊢ iprop((∃ f, (uM 0).view.loc (th c) ↦[(uM 0).view.set]{fullShare} f) ∗ ∃ f, (uM 1).view.loc (th c) ↦[(uM 1).view.set]{fullShare} f) := by
  refine (cut (ℓ := (th c).loc cc0_scratch3) (Finset.subset_univ (uM 0).view.set)).trans (Entails.of_eq ?_)
  rw [show (Finset.univ : Finset (Idx ((th c).loc cc0_scratch3))) \ (uM 0).view.set = (uM 1).view.set from u_rest]
theorem u_paste : (iprop((∃ f, (uM 0).view.loc (th c) ↦[(uM 0).view.set]{fullShare} f) ∗ ∃ f, (uM 1).view.loc (th c) ↦[(uM 1).view.set]{fullShare} f) : sProp 𝕄)
    ⊢ iprop(∃ f : Buf (Elt F) ((th c).loc cc0_scratch3), (th c).loc cc0_scratch3 ↦{fullShare} f) := by
  refine (Entails.of_eq ?_).trans (paste (ℓ := (th c).loc cc0_scratch3) (Finset.subset_univ (uM 0).view.set))
  rw [show (Finset.univ : Finset (Idx ((th c).loc cc0_scratch3))) \ (uM 0).view.set = (uM 1).view.set from u_rest]

theorem mem_d (p : Fin 2) (i : S2x256x1024.Idx) : i ∈ (dM p).view.set ↔ (i 0).val = p.val := by
  have e : (dM p).view.set = (Rect.unit (s := S2x256x1024) ![p.val, 0, 0] S1x256x1024.size (dS_inb p)).set := by
    show (((View.whole (cc0_scratch4 : Ref sig .tc)).slice _).reshape _ _).set = _
    rw [View.set_reshape, View.set_slice]; exact Finset.map_refl
  rw [e]; exact mem_plane (dS_inb p) i
theorem d_rest : (Finset.univ : Finset S2x256x1024.Idx) \ (dM 0).view.set = (dM 1).view.set := parts_rest _ _ (mem_d 0) (mem_d 1)
theorem d_cut : (iprop(∃ f : Buf (Elt F) ((th c).loc cc0_scratch4), (th c).loc cc0_scratch4 ↦{fullShare} f) : sProp 𝕄)
    ⊢ iprop((∃ f, (dM 0).view.loc (th c) ↦[(dM 0).view.set]{fullShare} f) ∗ ∃ f, (dM 1).view.loc (th c) ↦[(dM 1).view.set]{fullShare} f) := by
  refine (cut (ℓ := (th c).loc cc0_scratch4) (Finset.subset_univ (dM 0).view.set)).trans (Entails.of_eq ?_)
  rw [show (Finset.univ : Finset (Idx ((th c).loc cc0_scratch4))) \ (dM 0).view.set = (dM 1).view.set from d_rest]
theorem d_paste : (iprop((∃ f, (dM 0).view.loc (th c) ↦[(dM 0).view.set]{fullShare} f) ∗ ∃ f, (dM 1).view.loc (th c) ↦[(dM 1).view.set]{fullShare} f) : sProp 𝕄)
    ⊢ iprop(∃ f : Buf (Elt F) ((th c).loc cc0_scratch4), (th c).loc cc0_scratch4 ↦{fullShare} f) := by
  refine (Entails.of_eq ?_).trans (paste (ℓ := (th c).loc cc0_scratch4) (Finset.subset_univ (dM 0).view.set))
  rw [show (Finset.univ : Finset (Idx ((th c).loc cc0_scratch4))) \ (dM 0).view.set = (dM 1).view.set from d_rest]

/-! ## Blocks -/

theorem mem_blk (t : Fin 96) (i : S49152x1024.Idx) : i ∈ (yB t).view.set ↔ (i 0).val / 512 = t.val := by
  have e : (yB t).view.set = (Rect.unit (s := S49152x1024) ![512 * t.val, 0] S512x1024.size (rows_inb t)).set := by
    show ((View.whole (main_v0 : Ref sig .tc)).slice _).set = _
    rw [View.set_slice]; exact Finset.map_refl
  rw [e, Rect.mem_set_unit]
  constructor
  · intro h
    have h0 : 512 * t.val ≤ (i 0).val := (h 0).1
    have h1 : (i 0).val < 512 * t.val + 512 := (h 0).2
    omega
  · intro h a
    match a with
    | 0 => exact ⟨by show 512 * t.val ≤ (i 0).val; omega, by show (i 0).val < 512 * t.val + 512; omega⟩
    | 1 => exact ⟨Nat.zero_le _, by have : (i 1).val < 1024 := (i 1).isLt; show (i 1).val < 0 + 1024; omega⟩

theorem blk_disjoint : ∀ g ∈ (Finset.univ : Finset (Fin 96)), ∀ h ∈ (Finset.univ : Finset (Fin 96)), g ≠ h → Disjoint (yB g).view.set (yB h).view.set := by
  intro g _ h _ hne
  rw [Finset.disjoint_left]
  intro i hg hh
  exact hne (Fin.ext (((mem_blk g i).mp hg).symm.trans ((mem_blk h i).mp hh)))
theorem blk_cover : (Finset.univ : Finset (Fin 96)).biUnion (fun g => (yB g).view.set) = (Finset.univ : Finset S49152x1024.Idx) := by
  ext i
  have hi : (i 0).val < 49152 := (i 0).isLt
  simp only [Finset.mem_biUnion, Finset.mem_univ, true_and, iff_true]
  exact ⟨⟨(i 0).val / 512, by omega⟩, (mem_blk _ i).mpr rfl⟩

theorem fin_range (n : ℕ) (Φ : ℕ → sProp 𝕄) : bigSep (Finset.univ : Finset (Fin n)) (fun i => Φ i.val) = bigSep (Finset.range n) Φ := by
  have e : Finset.range n = (Finset.univ : Finset (Fin n)).map Fin.valEmbedding := by
    ext i
    simp only [Finset.mem_range, Finset.mem_map, Finset.mem_univ, true_and]
    exact ⟨fun h => ⟨⟨i, h⟩, rfl⟩, fun ⟨j, hj⟩ => hj ▸ j.isLt⟩
  rw [e, BI.bigSep_map]; rfl

/-- The result is its blocks. -/
theorem all_blocks (f : S49152x1024.Idx → Elt F .bf16) : ((th c).loc main_v0 ↦{fullShare} f : sProp 𝕄) = YDone c f 96 := by
  have h : ((th c).loc main_v0 ↦{fullShare} f : sProp 𝕄) = bigSep Finset.univ fun g : Fin 96 => (th c).loc main_v0 ↦[(yB g).view.set]{fullShare} f := by
    rw [← pointsTo_biUnion Finset.univ (ℓ := (th c).loc main_v0) (fun g : Fin 96 => (yB g).view.set) blk_disjoint]
    exact congrArg (fun S => ((th c).loc main_v0 ↦[S]{fullShare} f : sProp 𝕄)) blk_cover.symm
  rw [h]
  unfold YDone
  rw [← fin_range 96 (fun t => YBlk c t f)]
  refine bigSep_congr fun t _ => ?_
  unfold YBlk Blk
  rw [show tl t.val = t from Fin.ext (Nat.mod_eq_of_lt t.isLt)]
theorem all_ahead (f : S49152x1024.Idx → Elt F .bf16) : ((th c).loc main_v0 ↦{fullShare} f : sProp 𝕄) = YAhead c f 0 := by
  rw [all_blocks]
  unfold YDone YAhead
  rw [Finset.range_eq_Ico]

/-! ## Shares -/

def sx : Fin 3 → PosShare TreeShare := ![fullShare.left, fullShare.right.left, fullShare.right.right]
def sw : Fin 2 → PosShare TreeShare := ![fullShare.left, fullShare.right]

theorem two_shares {ℓ : Loc nD τ sig} (f : Buf (Elt F) ℓ) : (ℓ ↦{fullShare} f : sProp 𝕄) ⊣⊢ iprop((ℓ ↦{sw 0} f) ∗ ℓ ↦{sw 1} f) :=
  pointsTo_share (PosShare.mem_left_op_right fullShare)
theorem three_shares {ℓ : Loc nD τ sig} (f : Buf (Elt F) ℓ) : (ℓ ↦{fullShare} f : sProp 𝕄) ⊣⊢ iprop((ℓ ↦{sx 0} f) ∗ (ℓ ↦{sx 1} f) ∗ ℓ ↦{sx 2} f) := by
  have h1 : (ℓ ↦{fullShare} f : sProp 𝕄) ⊣⊢ iprop((ℓ ↦{fullShare.left} f) ∗ ℓ ↦{fullShare.right} f) := pointsTo_share (PosShare.mem_left_op_right fullShare)
  have h2 : (ℓ ↦{fullShare.right} f : sProp 𝕄) ⊣⊢ iprop((ℓ ↦{fullShare.right.left} f) ∗ ℓ ↦{fullShare.right.right} f) := pointsTo_share (PosShare.mem_left_op_right fullShare.right)
  constructor
  · iintro H
    ihave H' := h1.1 $$ H
    icases H' with ⟨H0, H⟩
    isplitl [H0]; · iexact H0
    iapply h2.1; iexact H
  · iintro ⟨H0, H⟩
    iapply h1.2
    isplitl [H0]; · iexact H0
    iapply h2.2; iexact H

/-! ## All of it -/

variable (tb : S8x128.Idx → Elt F .i32) (X : S49152x1024.Idx → Elt F .bf16) (WG WU : S32x1024x256.Idx → Elt F .f32) (WD : S32x256x1024.Idx → Elt F .f32)
variable (Y0 G : S49152x1024.Idx → Elt F .bf16)

/-- The memory between two tiles, without the debts. -/
def Mem (t : ℕ) : sProp 𝕄 := iprop(XStart c tb X sx t ∗ WStart c tb WG WU WD sw t ∗ YSt c tb Y0 G t ∗ Tbl c tb)

def Scr : sProp 𝕄 := iprop((∃ f : Buf (Elt F) ((th c).loc cc0_scratch0), (th c).loc cc0_scratch0 ↦{fullShare} f) ∗ (∃ f : Buf (Elt F) ((th c).loc cc0_scratch1), (th c).loc cc0_scratch1 ↦{fullShare} f) ∗ (∃ f : Buf (Elt F) ((th c).loc cc0_scratch2), (th c).loc cc0_scratch2 ↦{fullShare} f) ∗ (∃ f : Buf (Elt F) ((th c).loc cc0_scratch3), (th c).loc cc0_scratch3 ↦{fullShare} f) ∗ (∃ f : Buf (Elt F) ((th c).loc cc0_scratch4), (th c).loc cc0_scratch4 ↦{fullShare} f) ∗ (∃ f : Buf (Elt F) ((th c).loc cc0_scratch5), (th c).loc cc0_scratch5 ↦{fullShare} f) ∗ (∃ f : Buf (Elt F) ((th c).loc cc0_scratch6), (th c).loc cc0_scratch6 ↦{fullShare} f) ∗ (∃ f : Buf (Elt F) ((th c).loc cc0_scratch7), (th c).loc cc0_scratch7 ↦{fullShare} f))
def Sems : sProp 𝕄 := iprop(semVal (th c, SemLoc.dma (xQ 0)) 0 ∗ semVal (th c, SemLoc.dma (xQ 1)) 0 ∗ semVal (th c, SemLoc.dma (xQ 2)) 0 ∗ semVal (th c, SemLoc.dma (yQ 0)) 0 ∗ semVal (th c, SemLoc.dma (yQ 1)) 0 ∗ semVal (th c, SemLoc.dma (wQ 0 0)) 0 ∗ semVal (th c, SemLoc.dma (wQ 0 1)) 0 ∗ semVal (th c, SemLoc.dma (wQ 0 2)) 0 ∗ semVal (th c, SemLoc.dma (wQ 1 0)) 0 ∗ semVal (th c, SemLoc.dma (wQ 1 1)) 0 ∗ semVal (th c, SemLoc.dma (wQ 1 2)) 0)
def Arrs : sProp 𝕄 := iprop(((th c).loc main_arg1 ↦{fullShare} X) ∗ ((th c).loc main_arg2 ↦{fullShare} WG) ∗ ((th c).loc main_arg3 ↦{fullShare} WU) ∗ (th c).loc main_arg4 ↦{fullShare} WD)

/-- Every slot free. -/
def AllFree : sProp 𝕄 := iprop((XFree c X sx 0 ∗ XFree c X sx 1 ∗ XFree c X sx 2) ∗ (BAny (F := F) c ∗ WFree c WG WU WD sw 0 ∗ WFree c WG WU WD sw 1) ∗ YFree (F := F) c 0 ∗ YFree (F := F) c 1)

theorem free_all : iprop(Scr (F := F) c ∗ Sems (F := F) c ∗ Arrs c X WG WU WD) ⊢ AllFree c X WG WU WD := by
  unfold Scr Sems Arrs AllFree XFree WFree GFree UFree DFree YFree BAny Free
  iintro ⟨⟨Hx, Hy, Hg, Hu, Hd, H5, H6, H7⟩, ⟨S0, S1, S2, S3, S4, S5, S6, S7, S8, S9, S10⟩, A1, A2, A3, A4⟩
  ihave Hx' := (x_cut (F := F) c) $$ Hx
  icases Hx' with ⟨X0, X1, X2⟩
  ihave Hy' := (y_cut (F := F) c) $$ Hy
  icases Hy' with ⟨Y0, Y1⟩
  ihave Hg' := (g_cut (F := F) c) $$ Hg
  icases Hg' with ⟨G0, G1⟩
  ihave Hu' := (u_cut (F := F) c) $$ Hu
  icases Hu' with ⟨U0, U1⟩
  ihave Hd' := (d_cut (F := F) c) $$ Hd
  icases Hd' with ⟨D0, D1⟩
  ihave A1' := (three_shares X).1 $$ A1
  icases A1' with ⟨AX0, AX1, AX2⟩
  ihave A2' := (two_shares WG).1 $$ A2
  icases A2' with ⟨AG0, AG1⟩
  ihave A3' := (two_shares WU).1 $$ A3
  icases A3' with ⟨AU0, AU1⟩
  ihave A4' := (two_shares WD).1 $$ A4
  icases A4' with ⟨AD0, AD1⟩
  isplitl [X0 S0 AX0 X1 S1 AX1 X2 S2 AX2]
  · isplitl [X0 S0 AX0]
    · isplitl [X0 S0]
      · isplitl [X0]
        · iexact X0
        iexact S0
      iexact AX0
    isplitl [X1 S1 AX1]
    · isplitl [X1 S1]
      · isplitl [X1]
        · iexact X1
        iexact S1
      iexact AX1
    isplitl [X2 S2]
    · isplitl [X2]
      · iexact X2
      iexact S2
    iexact AX2
  isplitl [H5 H6 H7 G0 S5 AG0 U0 S6 AU0 D0 S7 AD0 G1 S8 AG1 U1 S9 AU1 D1 S10 AD1]
  · isplitl [H5 H6 H7]
    · isplitl [H5]
      · iexact H5
      isplitl [H6]
      · iexact H6
      iexact H7
    isplitl [G0 S5 AG0 U0 S6 AU0 D0 S7 AD0]
    · isplitl [G0 S5 AG0]
      · isplitl [G0 S5]
        · isplitl [G0]
          · iexact G0
          iexact S5
        iexact AG0
      isplitl [U0 S6 AU0]
      · isplitl [U0 S6]
        · isplitl [U0]
          · iexact U0
          iexact S6
        iexact AU0
      isplitl [D0 S7]
      · isplitl [D0]
        · iexact D0
        iexact S7
      iexact AD0
    isplitl [G1 S8 AG1]
    · isplitl [G1 S8]
      · isplitl [G1]
        · iexact G1
        iexact S8
      iexact AG1
    isplitl [U1 S9 AU1]
    · isplitl [U1 S9]
      · isplitl [U1]
        · iexact U1
        iexact S9
      iexact AU1
    isplitl [D1 S10]
    · isplitl [D1]
      · iexact D1
      iexact S10
    iexact AD1
  isplitl [Y0 S3]
  · isplitl [Y0]
    · iexact Y0
    iexact S3
  isplitl [Y1]
  · iexact Y1
  iexact S4

theorem all_free : AllFree c X WG WU WD ⊢ iprop(Scr (F := F) c ∗ Sems (F := F) c ∗ Arrs c X WG WU WD) := by
  unfold Scr Sems Arrs AllFree XFree WFree GFree UFree DFree YFree BAny Free
  iintro ⟨⟨⟨⟨X0, S0⟩, AX0⟩, ⟨⟨X1, S1⟩, AX1⟩, ⟨⟨X2, S2⟩, AX2⟩⟩, ⟨⟨H5, H6, H7⟩, ⟨⟨⟨G0, S5⟩, AG0⟩, ⟨⟨U0, S6⟩, AU0⟩, ⟨⟨D0, S7⟩, AD0⟩⟩, ⟨⟨⟨G1, S8⟩, AG1⟩, ⟨⟨U1, S9⟩, AU1⟩, ⟨⟨D1, S10⟩, AD1⟩⟩⟩, ⟨Y0, S3⟩, ⟨Y1, S4⟩⟩
  isplitl [X0 X1 X2 Y0 Y1 G0 G1 U0 U1 D0 D1 H5 H6 H7]
  · isplitl [X0 X1 X2]
    · iapply (x_paste (F := F) c)
      isplitl [X0]
      · iexact X0
      isplitl [X1]
      · iexact X1
      iexact X2
    isplitl [Y0 Y1]
    · iapply (y_paste (F := F) c)
      isplitl [Y0]
      · iexact Y0
      iexact Y1
    isplitl [G0 G1]
    · iapply (g_paste (F := F) c)
      isplitl [G0]
      · iexact G0
      iexact G1
    isplitl [U0 U1]
    · iapply (u_paste (F := F) c)
      isplitl [U0]
      · iexact U0
      iexact U1
    isplitl [D0 D1]
    · iapply (d_paste (F := F) c)
      isplitl [D0]
      · iexact D0
      iexact D1
    isplitl [H5]
    · iexact H5
    isplitl [H6]
    · iexact H6
    iexact H7
  isplitl [S0 S1 S2 S3 S4 S5 S6 S7 S8 S9 S10]
  · isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    iexact S10
  isplitl [AX0 AX1 AX2]
  · iapply ((three_shares X).2)
    isplitl [AX0]
    · iexact AX0
    isplitl [AX1]
    · iexact AX1
    iexact AX2
  isplitl [AG0 AG1]
  · iapply ((two_shares WG).2)
    isplitl [AG0]
    · iexact AG0
    iexact AG1
  isplitl [AU0 AU1]
  · iapply ((two_shares WU).2)
    isplitl [AU0]
    · iexact AU0
    iexact AU1
  iapply ((two_shares WD).2)
  isplitl [AD0]
  · iexact AD0
  iexact AD1

theorem mem_start : iprop(AllFree c X WG WU WD ∗ ((th c).loc main_v0 ↦{fullShare} Y0) ∗ Tbl c tb) ⊢ Mem c tb X WG WU WD Y0 G 0 := by
  rw [all_ahead]
  unfold AllFree Mem XStart WStart YSt YTwo YOne YDone
  rw [if_pos rfl, if_pos rfl, if_neg (by decide), if_neg (by decide), if_neg (by decide)]
  rw [show Finset.range (0 - 2) = ∅ from rfl, BI.bigSep_empty]
  iintro ⟨⟨HX, HW, Y0, Y1⟩, HY, HT⟩
  isplitl [HX]; · iexact HX
  isplitl [HW]; · iexact HW
  isplitl [Y0 Y1 HY]
  · isplitl [Y0]; · iexact Y0
    isplitl [Y1]; · iexact Y1
    isplitr [HY]
    · iempintro
    · iexact HY
  iexact HT

theorem mem_end (hg : Good tb) : Mem c tb X WG WU WD Y0 G 96 ⊢ iprop(AllFree c X WG WU WD ∗ ((th c).loc main_v0 ↦{fullShare} G)) := by
  rw [all_blocks]
  unfold AllFree Mem XStart WStart YSt XT
  have h0 : ¬ (True ∧ 96 < 96 ∧ wd tb 1 96 = 1#32) := fun h => absurd h.2.1 (by decide)
  have h1 : ¬ (True ∧ 96 + 1 < 96 ∧ wd tb 1 (96 + 1) = 1#32) := fun h => absurd h.2.1 (by decide)
  rw [if_neg (show ¬ (96 = 0) by decide), if_neg (show ¬ (96 = 0) by decide), if_pos (show 96 = 96 from rfl), if_neg h0, if_neg h1]
  iintro ⟨HX, HW, ⟨Y0, Y1, HY⟩, -⟩
  isplitr [HY]
  · isplitl [HX]; · iexact HX
    isplitl [HW]
    · iapply (WAfter.last c tb WG WU WD sw hg); iexact HW
    isplitl [Y0]; · iexact Y0
    iexact Y1
  · iexact HY

end Cert.Proof.Moe

end
-- ==== Proof.MoeRun.lean ====
/-
  The run of the expert layer: the call's launch, its 96 tiles in turn, and what every run ends with.
-/
module

public import proofs.«01_k».proof.Proof.MoeLaunch
public import proofs.«01_k».proof.Proof.Gen.Kernel2Ideal.Launch
public import Idealize.ShloMosaic.Lib.Pipeline.FrameValue
public import Idealize.ShloMosaic.Lib.Pipeline.FrameBody

@[expose] public section

noncomputable section

namespace Cert.Proof.Moe

open Cert.Kernel2Ideal Cert.Kernel2Ideal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev osem : Fin 11 → SemLoc sig := fun j =>
  (![SemLoc.dma (xQ 0), SemLoc.dma (xQ 1), SemLoc.dma (xQ 2), SemLoc.dma (yQ 0), SemLoc.dma (yQ 1), SemLoc.dma (wQ 0 0), SemLoc.dma (wQ 0 1),
    SemLoc.dma (wQ 0 2), SemLoc.dma (wQ 1 0), SemLoc.dma (wQ 1 1), SemLoc.dma (wQ 1 2)] : Fin 11 → SemLoc sig) j
theorem ownSem : Pipeline.OwnSemFacts spec0 osem := by decide

/-- The arrays copied from, and the one copied to. -/
def Hr : Finset (Ref sig .tc) := {main_arg1, main_arg2, main_arg3, main_arg4}
def Rw : Finset (Ref sig .tc) := {main_v0}
theorem Hr_sub : Hr ⊆ Pipeline.restRefsP sig pre0 spec0 := by decide
theorem Rw_sub : Rw ⊆ Pipeline.restRefsP sig pre0 spec0 \ Hr := by decide

theorem coords_val : ∀ t : Fin grid0.N, (grid0.coords t 0).val = t.val := by decide +kernel

section

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

def tbOf (c : Dev nD) : S8x128.Idx → BitVec 32 := m ((th c).loc main_arg0)
def xOf (c : Dev nD) : S49152x1024.Idx → Elt F .bf16 := m ((th c).loc main_arg1)
def gOf (c : Dev nD) : S32x1024x256.Idx → Elt F .f32 := m ((th c).loc main_arg2)
def uOf (c : Dev nD) : S32x1024x256.Idx → Elt F .f32 := m ((th c).loc main_arg3)
def dOf (c : Dev nD) : S32x256x1024.Idx → Elt F .f32 := m ((th c).loc main_arg4)
def yOf (c : Dev nD) : S49152x1024.Idx → Elt F .bf16 := m ((th c).loc main_v0)
/-- What the run leaves in the result. -/
def outOf (c : Dev nD) : S49152x1024.Idx → Elt F .bf16 := res (tbOf m c) (xOf m c) (gOf m c) (uOf m c) (dOf m c) (yOf m c)

theorem resOf (c : Dev nD) : Res (tbOf m c) (xOf m c) (gOf m c) (uOf m c) (dOf m c) (yOf m c) (outOf m c) :=
  ⟨fun t h => res_read t h, fun t h i hi => res_off t h i hi⟩

def Gend (c : Dev nD) : (b : Ref sig .tc) → Buf (Elt F) ((c : Thread nD τ).loc b) := Function.update (V m c) main_v0 (outOf m c)

def tbl : pre0.Contents (Elt F) := fun j => V m (0 : Dev nD) (pre0.ref j)
theorem V_pre (c : Dev nD) (j : Fin 1) : V m c (pre0.ref j) = tbl m j := by
  obtain rfl : c = 0 := Subsingleton.elim _ _; rfl
def adm (_ : Fin 1) : (pcfg0 (F := F)).Adm := ⟨tbl m, trivial⟩

abbrev MemAt (c : Dev nD) (t : ℕ) : sProp 𝕄 := Mem c (tbOf m c) (xOf m c) (gOf m c) (uOf m c) (dOf m c) (yOf m c) (outOf m c) t

def dats (p : Fin 1) (c : Dev nD) : Dat τ (Elt F) Unit ℕ (Pipeline.UD sig nD τ) ℕ (Pipeline.pin (pcfgs (F := F)) (adm m) p) c where
  A w := V m c (Pipeline.arrRef spec0 w)
  after w _ := absurd w.isLt (Nat.not_lt_zero _)
  Φ t := iprop((∃ r, prngReg c r) ∗ MemAt m c t.val)
  q _ := fullShare
  owed _ := 0

/-! ## In and out -/

theorem sems_eq (c : Dev nD) :
    (Pipeline.ownSems0 (Ix := Unit) (Name := ℕ) (U := Pipeline.UD sig nD τ) (Lvl := ℕ) (Val := Elt F) (τ := τ) osem c : sProp 𝕄) = Sems (F := F) c := by
  rw [Pipeline.ownSems0_eq_of_list c osem [0, 1, 2, 3, 4, 5, 6, 7, 8, 9, 10] (by decide) (by decide)]; rfl
theorem scr_eq (c : Dev nD) :
    (Pipeline.scopedRest (Ix := Unit) (Name := ℕ) (U := Pipeline.UD sig nD τ) (Lvl := ℕ) (Val := Elt F) spec0 c : sProp 𝕄) = Scr (F := F) c := by
  rw [scopedRest0_eq]; rfl
theorem arrs_eq (c : Dev nD) :
    (bigSep Hr (fun b => ((c : Thread nD τ).loc b) ↦{fullShare} V m c b) : sProp 𝕄) = Arrs c (xOf m c) (gOf m c) (uOf m c) (dOf m c) := by
  rw [BI.bigSep_eq_bigSepL_of_eq [main_arg1, main_arg2, main_arg3, main_arg4] (by decide) (by decide)]; rfl
theorem out_start (c : Dev nD) : (Pipeline.routed Rw c (V m c) : sProp 𝕄) = ((th c).loc main_v0 ↦{fullShare} yOf m c) := by
  unfold Pipeline.routed Rw; rw [BI.bigSep_singleton]; rfl
theorem out_end (c : Dev nD) : (Pipeline.routed Rw c (Gend m c) : sProp 𝕄) = ((th c).loc main_v0 ↦{fullShare} outOf m c) := by
  unfold Pipeline.routed Rw Gend; rw [BI.bigSep_singleton, Function.update_self]
theorem tbl_eq (c : Dev nD) : (Pipeline.prefHeld (Ix := Unit) (Name := ℕ) (U := Pipeline.UD sig nD τ) (Lvl := ℕ) pre0 c (fun _ => fullShare.right) (tbl m) : sProp 𝕄) = Tbl c (tbOf m c) := by
  obtain rfl : c = 0 := Subsingleton.elim _ _
  unfold Pipeline.prefHeld
  exact bigSep_univ_of_subsingleton (0 : Fin 1)

theorem enter (c : Dev nD) : iprop(Pipeline.ΦDRG osem spec0 Hr Rw (V m) (V m) c ∗ Pipeline.prefHeld pre0 c (fun _ => fullShare.right) (tbl m)) ⊢ ((dats m 0 c).Φ 0 : sProp 𝕄) := by
  show _ ⊢ iprop((∃ r, prngReg c r) ∗ MemAt m c 0)
  rw [Pipeline.ΦDRG_eq, scr_eq, sems_eq, arrs_eq, out_start, tbl_eq]
  iintro ⟨⟨HS, Hg, Hq, HA, HY⟩, HT⟩
  isplitl [Hg]; · iexact Hg
  iapply (mem_start c (tbOf m c) (xOf m c) (gOf m c) (uOf m c) (dOf m c) (yOf m c) (outOf m c))
  isplitl [HS Hq HA]
  · iapply (free_all c (xOf m c) (gOf m c) (uOf m c) (dOf m c))
    isplitl [HS]; · iexact HS
    isplitl [Hq]; · iexact Hq
    iexact HA
  isplitl [HY]; · iexact HY
  iexact HT

theorem leave (c : Dev nD) (hg : Good (tbOf m c)) : iprop((∃ r, prngReg c r) ∗ MemAt m c 96) ⊢ (Pipeline.ΦDRG osem spec0 Hr Rw (V m) (Gend m) c : sProp 𝕄) := by
  rw [Pipeline.ΦDRG_eq, scr_eq, sems_eq, arrs_eq, out_end]
  iintro ⟨Hg, HM⟩
  ihave H := (mem_end c (tbOf m c) (xOf m c) (gOf m c) (uOf m c) (dOf m c) (yOf m c) (outOf m c) hg) $$ HM
  icases H with ⟨H, HY⟩
  ihave H' := (all_free c (xOf m c) (gOf m c) (uOf m c) (dOf m c)) $$ H
  icases H' with ⟨HS, Hq, HA⟩
  isplitl [HS]; · iexact HS
  isplitl [Hg]; · iexact Hg
  isplitl [Hq]; · iexact Hq
  isplitl [HA]; · iexact HA
  iexact HY

/-! ## A tile -/

def stepPre (c : Dev nD) (t : Fin grid0.N) : sProp 𝕄 := iprop((dats m 0 c).Φ t.castSucc ∗ (dats m 0 c).owesAt () t.castSucc)
def stepPost (c : Dev nD) (t : Fin grid0.N) : sProp 𝕄 := iprop((dats m 0 c).Φ t.succ ∗ (dats m 0 c).owesAt () t.succ)

theorem owes_eq (c : Dev nD) (t : Fin (grid0.N + 1)) : ((dats m 0 c).owesAt () t : sProp 𝕄) ⊣⊢ Owes (F := F) c := by
  unfold Dat.owesAt Pipeline.owesWithin Owes
  rw [show (dats m 0 c).owed t = 0 from rfl]
  constructor
  · iintro ⟨%W, -, H⟩; iexists W; iexact H
  · iintro ⟨%W, H⟩; iexists W; isplitr
    · ipureintro; exact fun _ _ => Or.inl trivial
    · iexact H

theorem step (c : Dev nD) (hg : Good (tbOf m c)) (t : Fin grid0.N) :
    stepPre m c t ⊢ WP c (defs₀ (F := F) .tc ((Pipeline.pin (pcfgs (F := F)) (adm m) 0).body) ((Pipeline.pin (pcfgs (F := F)) (adm m) 0).bodyArgs t ((Pipeline.pin (pcfgs (F := F)) (adm m) 0).slots t))) fun _ => stepPost m c t := by
  unfold stepPre stepPost
  have ht : t.val < 96 := lt_of_lt_of_eq t.isLt N_0
  have hb := body c (tbOf m c) (xOf m c) (gOf m c) (uOf m c) (dOf m c) (yOf m c) (outOf m c) sx sw hg (resOf m c) (grid0.coords t) (coords_val t) ht
  refine triple_restated (W := wp frame (wpE (defs₀ (F := F)) Variants.none (th c) none) Set.univ _)
    (P := iprop((∃ r, prngReg c r) ∗ Inv c (tbOf m c) (xOf m c) (gOf m c) (uOf m c) (dOf m c) (yOf m c) (outOf m c) sx sw t.val))
    (Q := fun _ => iprop((∃ r, prngReg c r) ∗ Inv c (tbOf m c) (xOf m c) (gOf m c) (uOf m c) (dOf m c) (yOf m c) (outOf m c) sx sw (t.val + 1)))
    (BIBase.Entails.trans (sep_mono_right hb) (wp_frame_l frame _ _)) ?_ ?_ fun _ => ?_
  · unfold defs₀; rw [Defs.onTc_tc]
  · show iprop(((∃ r, prngReg c r) ∗ MemAt m c t.val) ∗ (dats m 0 c).owesAt () t.castSucc) ⊢ _
    unfold Inv MemAt Mem
    iintro ⟨⟨Hr, HX, HW, HY, HT⟩, HO⟩
    isplitl [Hr]; · iexact Hr
    isplitl [HX]; · iexact HX
    isplitl [HW]; · iexact HW
    isplitl [HY]; · iexact HY
    isplitl [HT]; · iexact HT
    iapply (owes_eq m c t.castSucc).1; iexact HO
  · show _ ⊢ iprop(((∃ r, prngReg c r) ∗ MemAt m c (t.val + 1)) ∗ (dats m 0 c).owesAt () t.succ)
    unfold Inv MemAt Mem
    iintro ⟨Hr, HX, HW, HY, HT, HO⟩
    isplitr [HO]
    · isplitl [Hr]; · iexact Hr
      isplitl [HX]; · iexact HX
      isplitl [HW]; · iexact HW
      isplitl [HY]; · iexact HY
      iexact HT
    · iapply (owes_eq m c t.succ).2; iexact HO

theorem obligation (c : Dev nD) (hg : Good (tbOf m c)) : BodyObligation (dats (F := F) m 0 c) (defs₀ (F := F)) Variants.none () Set.univ := fun t => by
  refine triple_restated (step m c hg t) rfl ?_ fun _ => ?_
  · unfold stepPre
    iintro ⟨H, HO, -⟩
    isplitl [H]; · iexact H
    iexact HO
  · unfold stepPost
    iintro ⟨H, HO⟩
    isplitl [H]; · iexact H
    isplitl [HO]; · iexact HO
    rw [show (Finset.univ : Finset (Fin (Pipeline.pin (pcfgs (F := F)) (adm m) 0).W)) = ∅ from rfl, BI.bigSep_empty]
    iempintro

/-! ## The run -/

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
theorem run_raw [∀ e, Nonempty (Elt F e)] (hg : ∀ c, Good (tbOf m c)) :
    θ_run defs (onTc (τ := τ) (main (F := F))) ⟨m, fun _ => 0, ρ⟩
      (fun r => Pipeline.FramePostRG (Pipeline.pin (pcfgs (F := F)) (adm m)) (dats m) 0 Rw (V m) (Gend m) r ∧ r.2.sem = fun _ => 0) :=
  Pipeline.θ_run_frameP_dmaRG (Q' := _) pcfgs (adm m) (dats m) (0 : Fin 1) launch0 osem defs₀ Variants.none ownSem Hr Rw Hr_sub Rw_sub m ρ main
    (hbody := fun c => (obligation m c (hg c)).loose) (hshare := fun c => (dats m 0 c).share_full fun _ => rfl)
    (howed := fun _ _ => rfl) (V := V m) (hmain := hmain m Variants.none) (hA := fun _ _ => rfl)
    (hpf := V_pre m) (G := Gend m) (hin := enter m) (hout := fun c => leave m c (hg c))

/-- What every run ends with: the arguments as they were, the result at `outOf`, every counter at zero. -/
def QC : PUnit × MemSt nD τ sig (Elt F) → Prop := fun r =>
  (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = outOf m c) ∧ r.2.sem = fun _ => 0

theorem kept {r : PUnit × MemSt nD τ sig (Elt F)} (h : Pipeline.FramePostRG (Pipeline.pin (pcfgs (F := F)) (adm m)) (dats m) 0 Rw (V m) (Gend m) r) (c : Dev nD)
    {b : Ref sig .tc} (hs : b.isScoped = false) (hb : b ∉ Rw) : r.2.mem ((c.tc : Thread nD τ).loc b) = m ((c.tc : Thread nD τ).loc b) :=
  (h.1 c).2 b (Finset.mem_sdiff.mpr ⟨Pipeline.mem_restRefs_of b hs fun w => absurd w.isLt (Nat.not_lt_zero _), hb⟩)

theorem run_main [∀ e, Nonempty (Elt F e)] (hg : ∀ c, Good (tbOf m c)) :
    θ_run defs (onTc (τ := τ) (main (F := F))) ⟨m, fun _ => 0, ρ⟩ (QC m) :=
  (θ_run _ _ _).mono (fun r h => ⟨fun c =>
    ⟨⟨kept m h.1 c (by decide) (by decide), kept m h.1 c (by decide) (by decide), kept m h.1 c (by decide) (by decide), kept m h.1 c (by decide) (by decide),
      kept m h.1 c (by decide) (by decide)⟩,
      (h.1.2 c main_v0 (by decide)).trans (by unfold Gend; rw [Function.update_self])⟩, h.2⟩) (run_raw m ρ hg)

end

end Cert.Proof.Moe

end
-- ==== Proof.MoeIdeal.lean ====
/-
  The expert layer's arithmetic over the extended reals: half of one plus the hyperbolic tangent of half a number is its
  logistic function, a tile's rows through one expert are the sum of the products, and the reference's sum over every expert keeps the one
  its row belongs to.
-/
module

public import proofs.«01_k».proof.Proof.MoeViews
public import proofs.«01_k».proof.Proof.Gen.Reference2Ideal.Run
public import Idealize.ShloMosaic.Lib.Pointwise.ShapeOps
public import Idealize.ShloMosaic.Lib.Pointwise.Contract
public import Idealize.ShloMosaic.Lib.Pointwise.ElementwiseCore
public import Idealize.ShloMosaic.Lib.IdealHost
public import Idealize.ShloMosaic.Lib.StableHlo.Predicate
public import Idealize.ShloMosaic.Lib.ValueLayout
public import Idealize.ShloMosaic.PureOps.Ideal.Laws

@[expose] public section

noncomputable section

namespace Cert.Proof.Moe

open Idealize.ShloMosaic
open scoped BigOperators

/-! ## The logistic function -/

theorem half_bits : Ideal.ofBits .f32 0x3F000000#32 = (((1 : ℝ) / 2 : ℝ) : EReal) := by
  simp [Ideal.ofBits, Ideal.ieee, -EReal.coe_mul]; norm_num

theorem logistic_real (x : ℝ) : 1 / 2 * Real.tanh (1 / 2 * x) + 1 / 2 = (1 + Real.exp (-x))⁻¹ := by
  have hp : 0 < Real.exp (1 / 2 * x) := Real.exp_pos _
  have e1 : Real.exp (-(1 / 2 * x)) = (Real.exp (1 / 2 * x))⁻¹ := Real.exp_neg _
  have e2 : Real.exp (-x) = (Real.exp (1 / 2 * x))⁻¹ * (Real.exp (1 / 2 * x))⁻¹ := by
    rw [← e1, ← Real.exp_add]; congr 1; ring
  rw [Real.tanh_eq_sinh_div_cosh, Real.sinh_eq, Real.cosh_eq, e1, e2]
  generalize Real.exp (1 / 2 * x) = a at hp
  have : a ≠ 0 := hp.ne'
  have h1 : a + a⁻¹ ≠ 0 := by positivity
  have h2 : 1 + a⁻¹ * a⁻¹ ≠ 0 := by positivity
  field_simp
  ring

theorem logistic_tanh (x : EReal) :
    (((1 : ℝ) / 2 : ℝ) : EReal) * Ideal.tanh ((((1 : ℝ) / 2 : ℝ) : EReal) * x) + (((1 : ℝ) / 2 : ℝ) : EReal) = Ideal.div 1 (1 + Ideal.exp (-x)) := by
  show _ = Ideal.logistic x
  have hh : (0 : ℝ) < 1 / 2 := by norm_num
  induction x with
  | bot =>
    rw [EReal.coe_mul_bot_of_pos hh, Ideal.tanh_bot, Ideal.logistic_bot, ← EReal.coe_one, ← EReal.coe_neg, ← EReal.coe_mul, ← EReal.coe_add,
      ← EReal.coe_zero]
    norm_num
  | top =>
    rw [EReal.coe_mul_top_of_pos hh, Ideal.tanh_top, Ideal.logistic_top, ← EReal.coe_one, ← EReal.coe_mul, ← EReal.coe_add]
    norm_num
  | coe x => rw [← EReal.coe_mul, Ideal.tanh_coe, Ideal.logistic_coe, ← EReal.coe_mul, ← EReal.coe_add, logistic_real]

/-! ## A tile's rows through one expert -/

section

open Cert.Kernel2Ideal Cert.Kernel2Ideal.Gen

/-- The activation of a gate and an up product. -/
def act (g u : EReal) : EReal := g * Ideal.div 1 (1 + Ideal.exp (-g)) * u

theorem ffn_apply (x : FVec Ideal S512x1024 .bf16) (wg wu : FVec Ideal S1024x256 .bf16) (wd' : FVec Ideal S256x1024 .bf16) (r : Fin 512) (c : Fin 1024) :
    ffn (F := Ideal) x wg wu wd' (ix2 r c)
      = ∑ f : Fin 256, act (∑ d : Fin 1024, x (ix2 r d) * wg (ix2 d f)) (∑ d : Fin 1024, x (ix2 r d) * wu (ix2 d f)) * wd' (ix2 f c) := by
  unfold ffn k0_pay5
  dsimp only
  rw [shapeCast_shapeCast, shapeCast_shapeCast]
  simp only [pointwise]
  simp only [Ideal.truncf_def, Ideal.addf_def, Ideal.mulf_def, Ideal.tanh_def, Ideal.ofBits_def, half_bits, logistic_tanh, Ideal.ofBits_zero_f32, zero_add]
  rfl

end

/-! ## The reference -/

section

open Cert.Reference2Ideal Cert.Reference2Ideal.Gen

theorem indicator (a b : BitVec 32) : (FloatOps.uitofp .f32 (IntOp.cmpi .eq a b) : Ideal .f32) = if a = b then (1 : EReal) else 0 := by
  by_cases h : a = b
  · rw [if_pos h, StableHlo.Predicate.cmpi_eq_iff.2 h]
    show (((1#1 : BitVec 1).toNat : ℝ) : EReal) = 1
    simp
  · rw [if_neg h, (by
      have h' : IntOp.cmpi .eq a b ≠ 1#1 := fun e => h (StableHlo.Predicate.cmpi_eq_iff.1 e)
      generalize IntOp.cmpi .eq a b = c at h'
      revert c; decide : IntOp.cmpi .eq a b = 0#1)]
    show (((0#1 : BitVec 1).toNat : ℝ) : EReal) = 0
    simp

/-- The rows' experts as the reference repeats them. -/
def expertOf (tb : S8x128.Idx → BitVec 32) : S49152.Idx → BitVec 32 :=
  shapeCast S49152 (broadcastInDim S96x512 ![0] bcast_S96_S96x512_0 (shapeCast S96 (extractStridedSlice S1x96 ![0, 0] tb slices_S8x128_S1x96_0_0) shapeCasts_S1x96_S96)) shapeCasts_S96x512_S49152

/-- The reference's result. -/
def refOut (tb : S8x128.Idx → BitVec 32) (X : FVec Ideal S49152x1024 .bf16) (WG WU : FVec Ideal S32x1024x256 .f32) (WD : FVec Ideal S32x256x1024 .f32) :
    FVec Ideal S49152x1024 .bf16 :=
  truncf .bf16 (Host.dotGeneral dot_S49152x32x256_S32x256x1024_S49152x1024_12_01_0_2_n_n none (mulf (mulf (mulf (Host.dotGeneral dot_S49152x1024_S32x1024x256_S49152x32x256_1_1_0_02_n_n none (extf .f32 X bitsLt_bf16_f32) WG) (Host.divf (broadcastInDim S49152x32x256 ![] bcast_S_S49152x32x256 (constant S_ .f32 0x3F800000#32)) (addf (broadcastInDim S49152x32x256 ![] bcast_S_S49152x32x256 (constant S_ .f32 0x3F800000#32)) (Host.exp (Host.negf (Host.dotGeneral dot_S49152x1024_S32x1024x256_S49152x32x256_1_1_0_02_n_n none (extf .f32 X bitsLt_bf16_f32) WG)))))) (Host.dotGeneral dot_S49152x1024_S32x1024x256_S49152x32x256_1_1_0_02_n_n none (extf .f32 X bitsLt_bf16_f32) WU)) (broadcastInDim S49152x32x256 ![0, 1, 2] bcast_S49152x32x1_S49152x32x256_0_1_2 (broadcastInDim S49152x32x1 ![0, 1] bcast_S49152x32_S49152x32x1_0_1 (uitofp .f32 (cmpi .eq (broadcastInDim S49152x32 ![0, 1] bcast_S49152x1_S49152x32_0_1 (broadcastInDim S49152x1 ![0] bcast_S49152_S49152x1_0 (expertOf tb))) (broadcastInDim S49152x32 ![0, 1] bcast_S1x32_S49152x32_0_1 (iotaInDim S1x32 32 1))))))) WD) bitsLt_bf16_f32

theorem refOut_apply (tb : S8x128.Idx → BitVec 32) (X : FVec Ideal S49152x1024 .bf16) (WG WU : FVec Ideal S32x1024x256 .f32) (WD : FVec Ideal S32x256x1024 .f32)
    (n : Fin 49152) (c : Fin 1024) :
    refOut tb X WG WU WD (ix2 n c)
      = ∑ e : Fin 32, ∑ f : Fin 256, act (∑ d : Fin 1024, X (ix2 n d) * WG (ix3 e d f)) (∑ d : Fin 1024, X (ix2 n d) * WU (ix3 e d f))
          * (if expertOf tb (ix1 n) = BitVec.ofNat 32 e.val then (1 : EReal) else 0) * WD (ix3 e f c) := by
  unfold refOut
  simp only [pointwise, Nat.reduceEqDiff, dif_neg, not_false_eq_true]
  simp only [Ideal.truncf_def, Ideal.extf_def, Ideal.addf_def, Ideal.mulf_def, Ideal.hostDivf_def, Ideal.hostUnary_exp_def, Ideal.hostNegf_def, Ideal.negf_def,
    Ideal.ofBits_def, Ideal.ofBits_one_f32, zero_add, indicator]
  rfl

end

/-! ## The result is the reference's -/

section

open Cert.Kernel2Ideal Cert.Kernel2Ideal.Gen

theorem ext3 {a b c : ℕ} {x y : (⟨3, ![a, b, c]⟩ : Shape).Idx} (h0 : (x 0).val = (y 0).val) (h1 : (x 1).val = (y 1).val) (h2 : (x 2).val = (y 2).val) : x = y := by
  funext k
  match k with
  | 0 => exact Fin.ext h0
  | 1 => exact Fin.ext h1
  | 2 => exact Fin.ext h2

variable {F : FTy → Type}

/-- Entry (d, f) of expert `e`'s block of a stack of matrices. -/
theorem read_gE (W : S32x1024x256.Idx → Elt F .f32) (e : Fin 32) (d : Fin 1024) (f : Fin 256) : (gE e).view.read (Elt F) W (ix2 d f) = W (ix3 e d f) := by
  refine ((View.read_apply _ _).trans (cast_eq _ _)).trans (congrArg W (ext3 ?_ ?_ ?_))
  · show e.val + 1 * (Shape.reshapeEquiv squeezes_S1x1024x256_S1024x256.numel_eq (ix2 d f) 0).val = e.val
    rw [Shape.reshapeEquiv_cons_one]; show e.val + 1 * 0 = _; omega
  · show 0 + 1 * (Shape.reshapeEquiv squeezes_S1x1024x256_S1024x256.numel_eq (ix2 d f) 1).val = d.val
    rw [Shape.reshapeEquiv_cons_one]; show 0 + 1 * d.val = _; omega
  · show 0 + 1 * (Shape.reshapeEquiv squeezes_S1x1024x256_S1024x256.numel_eq (ix2 d f) 2).val = f.val
    rw [Shape.reshapeEquiv_cons_one]; show 0 + 1 * f.val = _; omega
theorem read_uE (W : S32x1024x256.Idx → Elt F .f32) (e : Fin 32) (d : Fin 1024) (f : Fin 256) : (uE e).view.read (Elt F) W (ix2 d f) = W (ix3 e d f) :=
  read_gE W e d f
theorem read_dE (W : S32x256x1024.Idx → Elt F .f32) (e : Fin 32) (d : Fin 256) (f : Fin 1024) : (dE e).view.read (Elt F) W (ix2 d f) = W (ix3 e d f) := by
  refine ((View.read_apply _ _).trans (cast_eq _ _)).trans (congrArg W (ext3 ?_ ?_ ?_))
  · show e.val + 1 * (Shape.reshapeEquiv squeezes_S1x256x1024_S256x1024.numel_eq (ix2 d f) 0).val = e.val
    rw [Shape.reshapeEquiv_cons_one]; show e.val + 1 * 0 = _; omega
  · show 0 + 1 * (Shape.reshapeEquiv squeezes_S1x256x1024_S256x1024.numel_eq (ix2 d f) 1).val = d.val
    rw [Shape.reshapeEquiv_cons_one]; show 0 + 1 * d.val = _; omega
  · show 0 + 1 * (Shape.reshapeEquiv squeezes_S1x256x1024_S256x1024.numel_eq (ix2 d f) 2).val = f.val
    rw [Shape.reshapeEquiv_cons_one]; show 0 + 1 * f.val = _; omega

theorem read_xB (X : S49152x1024.Idx → Elt F .bf16) (t : Fin 96) (r : Fin 512) (d : Fin 1024) (n : Fin 49152) (h : n.val = 512 * t.val + r.val) :
    (xB t).view.read (Elt F) X (ix2 r d) = X (ix2 n d) := by
  refine ((View.read_apply _ _).trans (cast_eq _ _)).trans (congrArg X (ext2 ?_ ?_))
  · show 512 * t.val + 1 * r.val = n.val; omega
  · show 0 + 1 * d.val = d.val; omega

/-- Word `n / 512` of a row of words, each repeated 512 times. -/
theorem repeated (v : Cert.Reference2Ideal.S96.Idx → BitVec 32) (n : Fin 49152) (t : Fin 96) (h : t.val = n.val / 512) :
    shapeCast Cert.Reference2Ideal.S49152 (broadcastInDim Cert.Reference2Ideal.S96x512 ![0] Cert.Reference2Ideal.Gen.bcast_S96_S96x512_0 v)
      Cert.Reference2Ideal.Gen.shapeCasts_S96x512_S49152 (ix1 n) = v (ix1 t) := by
  have hn := n.isLt
  refine (shapeCast_apply _ _ (ix1 n) (ix2 t (⟨n.val % 512, Nat.mod_lt _ (by decide)⟩ : Fin 512)) ?_).trans ?_
  · rw [Shape.rowMajor_val_two, Shape.rowMajor_val_one]
    show t.val * 512 + n.val % 512 = n.val
    omega
  · refine broadcastInDim_apply _ _ _ _ _ fun a => ?_
    match a with
    | 0 => rfl

theorem row_of (tb : S8x128.Idx → BitVec 32) (r : Fin 8) (t : Fin 96) (hs : Cert.Reference2Ideal.S8x128.Slices ![r.val, 0] Cert.Reference2Ideal.S1x96) :
    shapeCast Cert.Reference2Ideal.S96 (extractStridedSlice Cert.Reference2Ideal.S1x96 ![r.val, 0] tb hs) Cert.Reference2Ideal.Gen.shapeCasts_S1x96_S96 (ix1 t)
      = wd tb r t.val := by
  have ht := t.isLt
  refine (shapeCast_apply _ _ (ix1 t) (ix2 (0 : Fin 1) t) ?_).trans (congrArg tb (ext2 ?_ ?_))
  · rw [Shape.rowMajor_val_two, Shape.rowMajor_val_one]
    show 0 * 96 + t.val = t.val
    omega
  · show r.val + 0 = r.val; omega
  · show 0 + t.val = t.val % 128; omega

theorem expertOf_at (tb : S8x128.Idx → BitVec 32) (n : Fin 49152) : expertOf tb (ix1 n) = wd tb 0 (n.val / 512) := by
  have hn := n.isLt
  unfold expertOf
  rw [repeated _ n ⟨n.val / 512, by omega⟩ rfl]
  exact row_of tb 0 _ _

theorem ex_of {w : BitVec 32} {e : Fin 32} (h : w = BitVec.ofNat 32 e.val) : e = ex w := by
  subst h
  refine Fin.ext ?_
  show e.val = (BitVec.ofNat 32 e.val).toNat % 32
  rw [BitVec.toNat_ofNat]
  have := e.isLt
  omega

theorem of_ex {w : BitVec 32} (h : w.toNat < 32) : w = BitVec.ofNat 32 (ex w).val := by
  rw [ex_val h]; simp

/-- A row of a tile in use: the result is the reference's. -/
theorem res_ref (tb : S8x128.Idx → BitVec 32) (hg : Good tb) (X : FVec Ideal S49152x1024 .bf16) (WG WU : FVec Ideal S32x1024x256 .f32) (WD : FVec Ideal S32x256x1024 .f32)
    (Y0 : FVec Ideal S49152x1024 .bf16) (n : Fin 49152) (c : Fin 1024) (hu : wd tb 1 (n.val / 512) = 1#32) :
    res (F := Ideal) tb X WG WU WD Y0 (ix2 n c) = refOut tb X WG WU WD (ix2 n c) := by
  have hn := n.isLt
  have ht : n.val / 512 < 96 := by omega
  rw [res_at (F := Ideal) tb X WG WU WD Y0 ⟨n.val / 512, ht⟩ (ix2 (⟨n.val % 512, Nat.mod_lt _ (by decide)⟩ : Fin 512) c) (ix2 n c)
    (by show n.val = 512 * (n.val / 512) + n.val % 512; omega) rfl]
  unfold tileRes
  rw [if_pos hu, ffn_apply, refOut_apply, expertOf_at]
  have hw := hg.te_lt _ ht
  generalize hE : wd tb 0 (n.val / 512) = w at hw ⊢
  rw [Finset.sum_eq_single (ex w)]
  · rw [if_pos (of_ex hw)]
    refine Finset.sum_congr rfl fun f _ => ?_
    rw [mul_one]
    have hx : ∀ d : Fin 1024, (xB ⟨n.val / 512, ht⟩).view.read (Elt Ideal) X (ix2 (⟨n.val % 512, Nat.mod_lt _ (by decide)⟩ : Fin 512) d) = X (ix2 n d) :=
      fun d => read_xB (F := Ideal) X ⟨n.val / 512, ht⟩ ⟨n.val % 512, Nat.mod_lt _ (by decide)⟩ d n (by show n.val = 512 * (n.val / 512) + n.val % 512; omega)
    have h1 : ∀ d : Fin 1024, wgOf (F := Ideal) WG (ex w) (ix2 d f) = WG (ix3 (ex w) d f) := fun d => by
      unfold wgOf; exact read_gE (F := Ideal) WG (ex w) d f
    have h2 : ∀ d : Fin 1024, wuOf (F := Ideal) WU (ex w) (ix2 d f) = WU (ix3 (ex w) d f) := fun d => by
      unfold wuOf; exact read_uE (F := Ideal) WU (ex w) d f
    have h3 : wdOf (F := Ideal) WD (ex w) (ix2 f c) = WD (ix3 (ex w) f c) := by
      unfold wdOf; exact read_dE (F := Ideal) WD (ex w) f c
    simp only [hx, h1, h2, h3]
  · intro e _ hne
    refine Finset.sum_eq_zero fun f _ => ?_
    rw [if_neg fun h => hne (ex_of h), mul_zero, zero_mul]
  · intro h; exact absurd (Finset.mem_univ _) h

end

end Cert.Proof.Moe

end
-- ==== Proof.MoeRef.lean ====
/-
  What the launch's precondition says of its table, and which rows the claim is of.
-/
module

public import proofs.«01_k».proof.Proof.MoeIdeal
public import proofs.«01_k».proof.Proof.Gen.Pre_tables_agree
public import proofs.«01_k».proof.Proof.Gen.On_rows_of_tiles
public import Idealize.ShloMosaic.Lib.StableHlo.Predicate

@[expose] public section

noncomputable section

namespace Cert.Proof.Moe

open Idealize.ShloMosaic

variable {F : FTy → Type} [FloatOps F]

theorem expert_range (w : BitVec 32) (e : IntOp.andi (IntOp.cmpi .sge w 0#32) (IntOp.cmpi .slt w 32#32) = 1#1) : w.toNat < 32 := by
  have hand (p q : Bool) : IntOp.andi (BitVec.ofBool p) (BitVec.ofBool q) = BitVec.ofBool (p && q) := by cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at e
  omega

/-- A choice by whether two words differ. -/
theorem select_ne (a b x y : BitVec 32) : Scalar.select (IntOp.cmpi .ne a b) x y = if a = b then y else x := by
  by_cases h : a = b
  · rw [if_pos h, show IntOp.cmpi .ne a b = 0#1 by subst h; simp [IntOp.cmpi]]; rfl
  · rw [if_neg h, show IntOp.cmpi .ne a b = 1#1 by simp only [IntOp.cmpi, bne_iff_ne.2 h]; rfl]; rfl

section

open Cert.Pre_tables_agree Cert.Pre_tables_agree.Gen

/-- A word of a row of the table, as the precondition slices it. -/
theorem word_of (tb : S8x128.Idx → BitVec 32) (r : Fin 8) (hs : S8x128.Slices ![r.val, 0] S1x96) (t : S96.Idx) :
    shapeCast S96 (extractStridedSlice S1x96 ![r.val, 0] tb hs) shapeCasts_S1x96_S96 t = wd tb r (t 0).val := by
  have e : t = ix1 (show Fin 96 from t 0) := by funext k; match k with | 0 => rfl
  rw [e]
  exact row_of tb r _ _

theorem slice_at (v : S96.Idx → BitVec 32) (o : ℕ) (h : S96.Slices ![o] S95) (j : Fin 95) (hj : o + j.val < 96) :
    extractStridedSlice S95 ![o] v h (ix1 j) = v (ix1 (⟨o + j.val, hj⟩ : Fin 96)) :=
  congrArg v (funext fun k => match k with | 0 => Fin.ext rfl)

/-- The row of words the precondition calls a name by. -/
abbrev rowW (tb : S8x128.Idx → BitVec 32) (o : Fin 2 → ℕ) (hs : S8x128.Slices o S1x96) : S96.Idx → BitVec 32 :=
  shapeCast S96 (extractStridedSlice S1x96 o tb hs) shapeCasts_S1x96_S96

theorem good_of_pre (tb : S8x128.Idx → BitVec 32) (x : FVec F S49152x1024 .bf16) (g u : FVec F S32x1024x256 .f32) (d : FVec F S32x256x1024 .f32)
    (h : (Cert.Pre_tables_agree.fn (F := F) tb x g u d).1 = (fun _ => 1#1) ∧ (Cert.Pre_tables_agree.fn (F := F) tb x g u d).2.1 = (fun _ => 1#1)
      ∧ (Cert.Pre_tables_agree.fn (F := F) tb x g u d).2.2.1 = (fun _ => 1#1) ∧ (Cert.Pre_tables_agree.fn (F := F) tb x g u d).2.2.2.1 = (fun _ => 1#1)
      ∧ (Cert.Pre_tables_agree.fn (F := F) tb x g u d).2.2.2.2 = (fun _ => 1#1)) : Good tb := by
  obtain ⟨h1, h2, h3, h4, h5⟩ := h
  have w0 : ∀ t : S96.Idx, rowW tb ![0, 0] slices_S8x128_S1x96_0_0 t = wd tb 0 (t 0).val := word_of tb 0 _
  have w2 : ∀ t : S96.Idx, rowW tb ![2, 0] slices_S8x128_S1x96_2_0 t = wd tb 2 (t 0).val := word_of tb 2 _
  have w3 : ∀ t : S96.Idx, rowW tb ![3, 0] slices_S8x128_S1x96_3_0 t = wd tb 3 (t 0).val := word_of tb 3 _
  unfold Cert.Pre_tables_agree.fn Cert.Pre_tables_agree.fn_part1 at h1 h2 h3 h4 h5
  dsimp only at h1 h2 h3 h4 h5
  refine ⟨fun t ht => ?_, ?_, fun t ht => ?_, ?_, fun t ht => ?_⟩
  · refine expert_range _ ?_
    have e := congrFun h1 (ix1 (⟨t, ht⟩ : Fin 96))
    have q : rowW tb ![0, 0] slices_S8x128_S1x96_0_0 (ix1 (⟨t, ht⟩ : Fin 96)) = wd tb 0 t := w0 _
    rw [← q]
    exact e
  · have e := StableHlo.Predicate.cmpi_eq_iff.1 (congrFun h2 (ix1 (0 : Fin 1)))
    have q : rowW tb ![2, 0] slices_S8x128_S1x96_2_0 (ix1 (⟨0, by decide⟩ : Fin 96)) = wd tb 2 0 := w2 _
    rw [← q]
    refine Eq.trans (congrArg (rowW tb ![2, 0] slices_S8x128_S1x96_2_0) ?_) e
    funext k; match k with | 0 => rfl
  · have e : extractStridedSlice S95 ![1] (rowW tb ![2, 0] slices_S8x128_S1x96_2_0) slices_S96_S95_1 (ix1 (⟨t, by omega⟩ : Fin 95))
        = Scalar.select (IntOp.cmpi .ne (extractStridedSlice S95 ![1] (rowW tb ![0, 0] slices_S8x128_S1x96_0_0) slices_S96_S95_1 (ix1 (⟨t, by omega⟩ : Fin 95)))
            (extractStridedSlice S95 ![0] (rowW tb ![0, 0] slices_S8x128_S1x96_0_0) slices_S96_S95_0 (ix1 (⟨t, by omega⟩ : Fin 95))))
          (1#32 - extractStridedSlice S95 ![0] (rowW tb ![2, 0] slices_S8x128_S1x96_2_0) slices_S96_S95_0 (ix1 (⟨t, by omega⟩ : Fin 95)))
          (extractStridedSlice S95 ![0] (rowW tb ![2, 0] slices_S8x128_S1x96_2_0) slices_S96_S95_0 (ix1 (⟨t, by omega⟩ : Fin 95))) :=
      StableHlo.Predicate.cmpi_eq_iff.1 (congrFun h3 (ix1 (⟨t, by omega⟩ : Fin 95)))
    rw [select_ne, slice_at _ 1 _ _ (by show 1 + t < 96; omega), slice_at _ 1 _ _ (by show 1 + t < 96; omega), slice_at _ 0 _ _ (by show 0 + t < 96; omega),
      slice_at _ 0 _ _ (by show 0 + t < 96; omega), w0, w0, w2, w2] at e
    have e' : wd tb 2 (1 + t) = if wd tb 0 (1 + t) = wd tb 0 (0 + t) then wd tb 2 (0 + t) else 1#32 - wd tb 2 (0 + t) := e
    rwa [Nat.zero_add, Nat.add_comm 1 t] at e'
  · have e := StableHlo.Predicate.cmpi_eq_iff.1 (congrFun h4 (ix1 (0 : Fin 1)))
    have q : rowW tb ![3, 0] slices_S8x128_S1x96_3_0 (ix1 (⟨95, by decide⟩ : Fin 96)) = wd tb 3 95 := w3 _
    rw [← q]
    refine Eq.trans (congrArg (rowW tb ![3, 0] slices_S8x128_S1x96_3_0) ?_) (e.trans ?_)
    · funext k; match k with | 0 => rfl
    · show (4294967295#32 : BitVec 32) = -1#32
      decide
  · have e : extractStridedSlice S95 ![0] (rowW tb ![3, 0] slices_S8x128_S1x96_3_0) slices_S96_S95_0 (ix1 (⟨t, by omega⟩ : Fin 95))
        = Scalar.select (IntOp.cmpi .ne (extractStridedSlice S95 ![1] (rowW tb ![0, 0] slices_S8x128_S1x96_0_0) slices_S96_S95_1 (ix1 (⟨t, by omega⟩ : Fin 95)))
            (extractStridedSlice S95 ![0] (rowW tb ![0, 0] slices_S8x128_S1x96_0_0) slices_S96_S95_0 (ix1 (⟨t, by omega⟩ : Fin 95))))
          (extractStridedSlice S95 ![1] (rowW tb ![0, 0] slices_S8x128_S1x96_0_0) slices_S96_S95_1 (ix1 (⟨t, by omega⟩ : Fin 95)))
          (extractStridedSlice S95 ![1] (rowW tb ![3, 0] slices_S8x128_S1x96_3_0) slices_S96_S95_1 (ix1 (⟨t, by omega⟩ : Fin 95))) :=
      StableHlo.Predicate.cmpi_eq_iff.1 (congrFun h5 (ix1 (⟨t, by omega⟩ : Fin 95)))
    rw [select_ne, slice_at _ 1 _ _ (by show 1 + t < 96; omega), slice_at _ 1 _ _ (by show 1 + t < 96; omega), slice_at _ 0 _ _ (by show 0 + t < 96; omega),
      slice_at _ 0 _ _ (by show 0 + t < 96; omega), w0, w0, w3, w3] at e
    have e' : wd tb 3 (0 + t) = if wd tb 0 (1 + t) = wd tb 0 (0 + t) then wd tb 3 (1 + t) else wd tb 0 (1 + t) := e
    rwa [Nat.zero_add, Nat.add_comm 1 t] at e'

end

/-- The rows the claim is of are those of the tiles in use. -/
theorem used_of_on (tb : Cert.On_rows_of_tiles.S8x128.Idx → BitVec 32) (x : FVec F Cert.On_rows_of_tiles.S49152x1024 .bf16)
    (g u : FVec F Cert.On_rows_of_tiles.S32x1024x256 .f32) (d : FVec F Cert.On_rows_of_tiles.S32x256x1024 .f32) (n : Fin 49152) (c : Fin 1024)
    (h : Cert.On_rows_of_tiles.fn (F := F) tb x g u d (ix2 n c) = 1#1) : wd tb 1 (n.val / 512) = 1#32 := by
  have hn := n.isLt
  have e : shapeCast Cert.Reference2Ideal.S49152 (broadcastInDim Cert.Reference2Ideal.S96x512 ![0] Cert.Reference2Ideal.Gen.bcast_S96_S96x512_0
      (shapeCast Cert.Reference2Ideal.S96 (extractStridedSlice Cert.Reference2Ideal.S1x96 ![1, 0] tb Cert.On_rows_of_tiles.Gen.slices_S8x128_S1x96_1_0)
        Cert.Reference2Ideal.Gen.shapeCasts_S1x96_S96)) Cert.Reference2Ideal.Gen.shapeCasts_S96x512_S49152 (ix1 n) = 1#32 :=
    StableHlo.Predicate.cmpi_eq_iff.1 h
  rw [repeated _ n ⟨n.val / 512, by omega⟩ rfl] at e
  exact (row_of tb 1 ⟨n.val / 512, by omega⟩ _).symm.trans e

end Cert.Proof.Moe

end
-- ==== Proof.FinalTile.lean ====
/-
  What a grid point of the final combine leaves in its block of the result: four stores of 256 rows each, every one the same
  function (`tile`) of its own rows of the blocks the point read.
-/
module

public import proofs.«01_k».proof.Proof.Gen.Kernel3Ideal.Value
public import Idealize.ShloMosaic.Lib.Pointwise.ShapeOps
public import Idealize.ShloMosaic.Lib.Pointwise.Contract
public import Idealize.ShloMosaic.Lib.Pointwise.ElementwiseCore

@[expose] public section

noncomputable section

namespace Cert.Proof.Final

open Cert.Kernel3Ideal Cert.Kernel3Ideal.Gen
open Idealize.ShloMosaic Idealize.ShloMosaic.TcCoe

variable {F : FTy → Type} [FloatOps F]

/-- A sum with one expert's rows, unpacked from their words and weighed, added to it. -/
def share (s : FVec F S256x1024 .f32) (r : FVec F S256x1 .f32) (a b c d : Vec F S32x8x128 .i32) : FVec F S256x1024 .f32 :=
  k0_pay17 s r (k0_pay14 a) (k0_pay15 b) (k0_pay16 c) d

/-- The result's rows from the rows of the block's inputs: the residual and the first expert's share, the second expert's, the gated
per-layer term, and the layer norm of their sum. -/
def tile (x : Vec F S256x1024 .f32) (p : Vec F S256x256 .f32) (wp : Vec F S256x1024 .bf16) (wg : Vec F S1024x1024 .bf16)
    (r2 r3 : FVec F S256x1 .f32) (a b : Fin 4 → Vec F S32x8x128 .i32) (g h : Vec F S1x1024 .f32) : FVec F S256x1024 .f32 :=
  k0_pay74 (k0_pay2 p wp) (k0_pay8 x wg)
    (share (share (k0_pay12 x) r2 (a 0) (a 1) (a 2) (a 3)) r3 (b 0) (b 1) (b 2) (b 3)) g h

/-- Rows `o` to `o + 256` of the block. -/
def xRows (x : Vec F S1024x1024 .f32) (o : Fin 4) : Vec F S256x1024 .f32 := fun i => x (ix2 ⟨256 * o.val + (i 0).val, by have := (i 0).isLt; have : (i 0).val < 256 := this; omega⟩ (i 1))
def pRows (x : Vec F S1024x256 .f32) (o : Fin 4) : Vec F S256x256 .f32 := fun i => x (ix2 ⟨256 * o.val + (i 0).val, by have := (i 0).isLt; have : (i 0).val < 256 := this; omega⟩ (i 1))
/-- The router's weights of those rows, one choice at a time. -/
def rRows (x : Vec F S8x1024 .f32) (o : Fin 4) (k : Fin 8) : FVec F S256x1 .f32 := fun i => x (ix2 k ⟨256 * o.val + (i 0).val, by have := (i 0).isLt; have : (i 0).val < 256 := this; omega⟩)
/-- The words of those rows' columns 128 j to 128 j + 128 in either half. -/
def slab (x : Vec F S128x32x128 .i32) (o : Fin 4) (j : Fin 4) : Vec F S32x8x128 .i32 := fun i =>
  x (ix3 ⟨32 * o.val + (i 0).val, by have := (i 0).isLt; have : (i 0).val < 32 := this; omega⟩ ⟨8 * j.val + (i 1).val, by have := (i 1).isLt; have : (i 1).val < 8 := this; omega⟩ (i 2))

/-- The rows a quarter of the point's block gets. -/
def quarter (x0 x1 : Vec F S128x32x128 .i32) (x2 : Vec F S1024x1024 .f32) (x3 : Vec F S1024x256 .f32) (x4 : Vec F S8x1024 .f32)
    (x5 : Vec F S256x1024 .bf16) (x6 : Vec F S1024x1024 .bf16) (x7 x8 : Vec F S1x1024 .f32) (o : Fin 4) : FVec F S256x1024 .f32 :=
  tile (xRows x2 o) (pRows x3 o) x5 x6 (rRows x4 o 2) (rRows x4 o 3) (slab x0 o) (slab x1 o) x7 x8

/-! ## The loads -/

theorem hz : (![0, 0] : Fin 2 → ℕ) = fun _ => 0 := funext fun a => by fin_cases a <;> rfl

theorem ext2 {a b : ℕ} {x y : (⟨2, ![a, b]⟩ : Shape).Idx} (h0 : (x 0).val = (y 0).val) (h1 : (x 1).val = (y 1).val) : x = y := by
  funext k
  match k with
  | 0 => exact Fin.ext h0
  | 1 => exact Fin.ext h1

theorem ext3 {a b c : ℕ} {x y : (⟨3, ![a, b, c]⟩ : Shape).Idx} (h0 : (x 0).val = (y 0).val) (h1 : (x 1).val = (y 1).val) (h2 : (x 2).val = (y 2).val) : x = y := by
  funext k
  match k with
  | 0 => exact Fin.ext h0
  | 1 => exact Fin.ext h1
  | 2 => exact Fin.ext h2

/-- A load of a whole buffer. -/
theorem load_whole {r c : ℕ} {e : EltTy} (arg : Memref sig .tc .vmem (⟨2, ![r, c]⟩ : Shape) e) (h : arg.IsWhole) (x : Vec F (⟨2, ![r, c]⟩ : Shape) e)
    (inb : ∀ a, (![0, 0] : Fin 2 → ℕ) a + (⟨2, ![r, c]⟩ : Shape).size a ≤ (⟨2, ![r, c]⟩ : Shape).size a) :
    View.readAt (Elt F) arg.view (Rect.unit (s := ⟨2, ![r, c]⟩) ![0, 0] (⟨2, ![r, c]⟩ : Shape).size inb).toLoadRect (h.unread x) = x := by
  rw [View.readAt_eq_ld, h.read_unread, View.ld_unit_zero hz]

theorem load_x (arg : Memref sig .tc .vmem S1024x1024 .f32) (h : arg.IsWhole) (x : Vec F S1024x1024 .f32) (o : Fin 4) {n : ℕ} (hn : n = 256 * o.val)
    (inb : ∀ a, (![n, 0] : Fin 2 → ℕ) a + S256x1024.size a ≤ S1024x1024.size a) :
    View.readAt (Elt F) arg.view (Rect.unit (s := S1024x1024) ![n, 0] S256x1024.size inb).toLoadRect (h.unread x) = xRows x o := by
  subst hn
  rw [View.readAt_eq_ld, h.read_unread]
  funext i
  refine congrArg x (ext2 ?_ ?_)
  · show 256 * o.val + 1 * (i 0).val = 256 * o.val + (i 0).val; omega
  · show 0 + 1 * (i 1).val = (i 1).val; omega

theorem load_p (arg : Memref sig .tc .vmem S1024x256 .f32) (h : arg.IsWhole) (x : Vec F S1024x256 .f32) (o : Fin 4) {n : ℕ} (hn : n = 256 * o.val)
    (inb : ∀ a, (![n, 0] : Fin 2 → ℕ) a + S256x256.size a ≤ S1024x256.size a) :
    View.readAt (Elt F) arg.view (Rect.unit (s := S1024x256) ![n, 0] S256x256.size inb).toLoadRect (h.unread x) = pRows x o := by
  subst hn
  rw [View.readAt_eq_ld, h.read_unread]
  funext i
  refine congrArg x (ext2 ?_ ?_)
  · show 256 * o.val + 1 * (i 0).val = 256 * o.val + (i 0).val; omega
  · show 0 + 1 * (i 1).val = (i 1).val; omega

theorem load_w (arg : Memref sig .tc .vmem S128x32x128 .i32) (h : arg.IsWhole) (x : Vec F S128x32x128 .i32) (o j : Fin 4) {n k : ℕ} (hn : n = 32 * o.val) (hk : k = 8 * j.val)
    (inb : ∀ a, (![n, 0, 0] : Fin 3 → ℕ) a + S32x32x128.size a ≤ S128x32x128.size a) (hs)
    (inb' : ∀ a, (![0, k, 0] : Fin 3 → ℕ) a + S32x8x128.size a ≤ S32x32x128.size a) :
    View.readAt (Elt F) arg.view ((Rect.unit (s := S128x32x128) ![n, 0, 0] S32x32x128.size inb).withinL
      (Rect.unit (s := S32x32x128) ![0, k, 0] S32x8x128.size inb').toLoadRect hs) (h.unread x) = slab x o j := by
  subst hn hk
  funext i
  refine (congrFun (h.read_unread (Val := Elt F) x) _).trans (congrArg x (ext3 ?_ ?_ ?_))
  · show 32 * o.val + 0 + 1 * (i 0).val = 32 * o.val + (i 0).val; omega
  · show 0 + 8 * j.val + 1 * (i 1).val = 8 * j.val + (i 1).val; omega
  · show 0 + 0 + 1 * (i 2).val = (i 2).val; omega

theorem route_col (x : Vec F S8x1024 .f32) (o : Fin 4) (k : Fin 8) {n m : ℕ} (hn : n = 256 * o.val) (hm : m = k.val) (h : S1024x8.Slices ![n, m] S256x1) :
    extractStridedSlice S256x1 ![n, m] (k0_pay1 x) h = rRows x o k := by
  subst hn hm
  funext i
  unfold k0_pay1
  refine congrArg x (ext2 ?_ ?_)
  · have : (i 1).val < 1 := (i 1).isLt
    show k.val + (i 1).val = k.val; omega
  · show 256 * o.val + (i 0).val = 256 * o.val + (i 0).val; rfl

end Cert.Proof.Final
-- ==== Proof.FinalPieces.lean ====
/-
  A grid point's block of the final combine's result: the run's four pieces, each the quarter of the block its rectangle names.
-/
module

public import proofs.«01_k».proof.Proof.FinalTile

@[expose] public section

noncomputable section

namespace Cert.Proof.Final

open Cert.Kernel3Ideal Cert.Kernel3Ideal.Gen
open Idealize.ShloMosaic Idealize.ShloMosaic.TcCoe

variable {F : FTy → Type} [FloatOps F]

/-- A quarter of the block, its inputs as the body loads them. -/
theorem quarter_loads (arg1 : Memref sig .tc .vmem S128x32x128 .i32) (harg1 : arg1.IsWhole) (arg2 : Memref sig .tc .vmem S128x32x128 .i32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S8x1024 .f32) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole)
    (x0 : Vec F S128x32x128 .i32) (x1 : Vec F S128x32x128 .i32) (x2 : Vec F S1024x1024 .f32) (x3 : Vec F S1024x256 .f32) (x4 : Vec F S8x1024 .f32) (x5 : Vec F S256x1024 .bf16) (x6 : Vec F S1024x1024 .bf16) (x7 : Vec F S1x1024 .f32) (x8 : Vec F S1x1024 .f32)
    (o : Fin 4) (n m : ℕ) (hn : n = 256 * o.val) (hm : m = 32 * o.val)
    (i3 : ∀ a, (![n, 0] : Fin 2 → ℕ) a + S256x1024.size a ≤ S1024x1024.size a) (i4 : ∀ a, (![n, 0] : Fin 2 → ℕ) a + S256x256.size a ≤ S1024x256.size a)
    (i1 : ∀ a, (![m, 0, 0] : Fin 3 → ℕ) a + S32x32x128.size a ≤ S128x32x128.size a)
    (c2 : S1024x8.Slices ![n, 2] S256x1) (c3 : S1024x8.Slices ![n, 3] S256x1) :
    quarter x0 x1 x2 x3 x4 x5 x6 x7 x8 o
      = tile (View.readAt (Elt F) arg3.view (Rect.unit (s := S1024x1024) ![n, 0] S256x1024.size i3).toLoadRect (harg3.unread x2))
          (View.readAt (Elt F) arg4.view (Rect.unit (s := S1024x256) ![n, 0] S256x256.size i4).toLoadRect (harg4.unread x3))
          (View.readAt (Elt F) arg6.view (Rect.unit (s := S256x1024) ![0, 0] S256x1024.size inb_S256x1024_S256x1024_0_0).toLoadRect (harg6.unread x5))
          (View.readAt (Elt F) arg7.view (Rect.unit (s := S1024x1024) ![0, 0] S1024x1024.size inb_S1024x1024_S1024x1024_0_0).toLoadRect (harg7.unread x6))
          (extractStridedSlice S256x1 ![n, 2] (k0_pay1 (View.readAt (Elt F) arg5.view (Rect.unit (s := S8x1024) ![0, 0] S8x1024.size inb_S8x1024_S8x1024_0_0).toLoadRect (harg5.unread x4))) c2)
          (extractStridedSlice S256x1 ![n, 3] (k0_pay1 (View.readAt (Elt F) arg5.view (Rect.unit (s := S8x1024) ![0, 0] S8x1024.size inb_S8x1024_S8x1024_0_0).toLoadRect (harg5.unread x4))) c3)
          (fun j => match j with
            | 0 => View.readAt (Elt F) arg1.view ((Rect.unit (s := S128x32x128) ![m, 0, 0] S32x32x128.size i1).withinL (Rect.unit (s := S32x32x128) ![0, 0, 0] S32x8x128.size inb_S32x32x128_S32x8x128_0_0_0).toLoadRect (fun _ => rfl)) (harg1.unread x0)
            | 1 => View.readAt (Elt F) arg1.view ((Rect.unit (s := S128x32x128) ![m, 0, 0] S32x32x128.size i1).withinL (Rect.unit (s := S32x32x128) ![0, 8, 0] S32x8x128.size inb_S32x32x128_S32x8x128_0_8_0).toLoadRect (fun _ => rfl)) (harg1.unread x0)
            | 2 => View.readAt (Elt F) arg1.view ((Rect.unit (s := S128x32x128) ![m, 0, 0] S32x32x128.size i1).withinL (Rect.unit (s := S32x32x128) ![0, 16, 0] S32x8x128.size inb_S32x32x128_S32x8x128_0_16_0).toLoadRect (fun _ => rfl)) (harg1.unread x0)
            | 3 => View.readAt (Elt F) arg1.view ((Rect.unit (s := S128x32x128) ![m, 0, 0] S32x32x128.size i1).withinL (Rect.unit (s := S32x32x128) ![0, 24, 0] S32x8x128.size inb_S32x32x128_S32x8x128_0_24_0).toLoadRect (fun _ => rfl)) (harg1.unread x0))
          (fun j => match j with
            | 0 => View.readAt (Elt F) arg2.view ((Rect.unit (s := S128x32x128) ![m, 0, 0] S32x32x128.size i1).withinL (Rect.unit (s := S32x32x128) ![0, 0, 0] S32x8x128.size inb_S32x32x128_S32x8x128_0_0_0).toLoadRect (fun _ => rfl)) (harg2.unread x1)
            | 1 => View.readAt (Elt F) arg2.view ((Rect.unit (s := S128x32x128) ![m, 0, 0] S32x32x128.size i1).withinL (Rect.unit (s := S32x32x128) ![0, 8, 0] S32x8x128.size inb_S32x32x128_S32x8x128_0_8_0).toLoadRect (fun _ => rfl)) (harg2.unread x1)
            | 2 => View.readAt (Elt F) arg2.view ((Rect.unit (s := S128x32x128) ![m, 0, 0] S32x32x128.size i1).withinL (Rect.unit (s := S32x32x128) ![0, 16, 0] S32x8x128.size inb_S32x32x128_S32x8x128_0_16_0).toLoadRect (fun _ => rfl)) (harg2.unread x1)
            | 3 => View.readAt (Elt F) arg2.view ((Rect.unit (s := S128x32x128) ![m, 0, 0] S32x32x128.size i1).withinL (Rect.unit (s := S32x32x128) ![0, 24, 0] S32x8x128.size inb_S32x32x128_S32x8x128_0_24_0).toLoadRect (fun _ => rfl)) (harg2.unread x1))
          (View.readAt (Elt F) arg8.view (Rect.unit (s := S1x1024) ![0, 0] S1x1024.size inb_S1x1024_S1x1024_0_0).toLoadRect (harg8.unread x7))
          (View.readAt (Elt F) arg9.view (Rect.unit (s := S1x1024) ![0, 0] S1x1024.size inb_S1x1024_S1x1024_0_0).toLoadRect (harg9.unread x8)) := by
  rw [load_x arg3 harg3 x2 o hn, load_p arg4 harg4 x3 o hn, load_whole arg5 harg5 x4, load_whole arg6 harg6 x5, load_whole arg7 harg7 x6, load_whole arg8 harg8 x7, load_whole arg9 harg9 x8,
    route_col x4 o 2 (m := 2) hn rfl, route_col x4 o 3 (m := 3) hn rfl]
  refine congrArg₂ (fun a b => tile (xRows x2 o) (pRows x3 o) x5 x6 (rRows x4 o 2) (rRows x4 o 3) a b x7 x8) (funext fun j => ?_) (funext fun j => ?_)
  · match j with
    | 0 => exact (load_w arg1 harg1 x0 o 0 hm rfl _ _ _).symm
    | 1 => exact (load_w arg1 harg1 x0 o 1 hm rfl _ _ _).symm
    | 2 => exact (load_w arg1 harg1 x0 o 2 hm rfl _ _ _).symm
    | 3 => exact (load_w arg1 harg1 x0 o 3 hm rfl _ _ _).symm
  · match j with
    | 0 => exact (load_w arg2 harg2 x1 o 0 hm rfl _ _ _).symm
    | 1 => exact (load_w arg2 harg2 x1 o 1 hm rfl _ _ _).symm
    | 2 => exact (load_w arg2 harg2 x1 o 2 hm rfl _ _ _).symm
    | 3 => exact (load_w arg2 harg2 x1 o 3 hm rfl _ _ _).symm

theorem norm_congr {A A' B B' C C' : FVec F S256x1024 .f32} {g g' h h' : Vec F S1x1024 .f32} (eA : A = A') (eB : B = B') (eC : C = C') (eg : g = g') (eh : h = h') :
    k0_pay74 A B C g h = k0_pay74 A' B' C' g' h' := by subst eA eB eC eg eh; rfl
theorem norm1 (A B C : FVec F S256x1024 .f32) (g h : Vec F S1x1024 .f32) : k0_pay75 A B C g h = k0_pay74 A B C g h := rfl
theorem norm2 (A B C : FVec F S256x1024 .f32) (g h : Vec F S1x1024 .f32) : k0_pay78 (k0_pay76 A B C) g h (k0_pay77 A B C) = k0_pay74 A B C g h := rfl
theorem norm3 (A B C : FVec F S256x1024 .f32) (g h : Vec F S1x1024 .f32) : k0_pay79 A B C g h = k0_pay74 A B C g h := rfl

theorem share_congr {s s' : FVec F S256x1024 .f32} {r r' : FVec F S256x1 .f32} {a a' b b' c c' d d' : Vec F S32x8x128 .i32}
    (es : s = s') (er : r = r') (ea : a = a') (eb : b = b') (ec : c = c') (ed : d = d') : share s r a b c d = share s' r' a' b' c' d' := by
  subst es er ea eb ec ed; rfl
theorem share20 (s : FVec F S256x1024 .f32) (r : FVec F S256x1 .f32) (a b c d : Vec F S32x8x128 .i32) : k0_pay20 s r (k0_pay19 a) b c d = share s r a b c d := rfl
theorem share34 (s : FVec F S256x1024 .f32) (r : FVec F S256x1 .f32) (a b c d : Vec F S32x8x128 .i32) :
    k0_pay34 s r (k0_pay25 b) (k0_pay26 c) (k0_pay27 d) (k0_pay28 a) (k0_pay29 b) (k0_pay30 c) (k0_pay31 d) (k0_pay32 a) k0_pay33 = share s r a b c d := rfl
theorem share42 (s : FVec F S256x1024 .f32) (r : FVec F S256x1 .f32) (a b c d : Vec F S32x8x128 .i32) :
    k0_pay42 s r (k0_pay36 a) (k0_pay37 b) (k0_pay38 c) (k0_pay39 d) (k0_pay40 a) (k0_pay41 b) 16#32 = share s r a b c d := rfl
theorem share48 (s : FVec F S256x1024 .f32) (r : FVec F S256x1 .f32) (a b c d : Vec F S32x8x128 .i32) : k0_pay48 s r (k0_pay45 a) (k0_pay46 b) (k0_pay47 c) d = share s r a b c d := rfl
theorem share51 (s : FVec F S256x1024 .f32) (r : FVec F S256x1 .f32) (a b c d : Vec F S32x8x128 .i32) : k0_pay51 s r (k0_pay50 a) b c d = share s r a b c d := rfl
theorem share64 (s : FVec F S256x1024 .f32) (r : FVec F S256x1 .f32) (a b c d : Vec F S32x8x128 .i32) :
    k0_pay64 s r (k0_pay56 c) (k0_pay57 d) (k0_pay58 a) (k0_pay59 b) (k0_pay60 c) (k0_pay61 d) (k0_pay62 a) (k0_pay63 b) = share s r a b c d := rfl
theorem share73 (s : FVec F S256x1024 .f32) (r : FVec F S256x1 .f32) (a b c d : Vec F S32x8x128 .i32) :
    k0_pay73 s r (k0_pay66 a) (k0_pay67 b) (k0_pay68 c) (k0_pay69 d) (k0_pay70 a) (k0_pay71 b) (k0_pay72 c) = share s r a b c d := rfl

theorem pieces (c : Dev nD) (i : grid0.Coords) (arg1 : Memref sig .tc .vmem S128x32x128 .i32) (harg1 : arg1.IsWhole) (arg2 : Memref sig .tc .vmem S128x32x128 .i32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S8x1024 .f32) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole)
    (x0 : Vec F S128x32x128 .i32) (x1 : Vec F S128x32x128 .i32) (x2 : Vec F S1024x1024 .f32) (x3 : Vec F S1024x256 .f32) (x4 : Vec F S8x1024 .f32) (x5 : Vec F S256x1024 .bf16) (x6 : Vec F S1024x1024 .bf16) (x7 : Vec F S1x1024 .f32) (x8 : Vec F S1x1024 .f32) :
    (kernelRun0_A c i arg1 harg1 arg2 harg2 arg3 harg3 arg4 harg4 arg5 harg5 arg6 harg6 arg7 harg7 arg8 harg8 arg9 harg9 arg10 harg10 x0 x1 x2 x3 x4 x5 x6 x7 x8).1
      = [⟨Rect.unit (s := S1024x1024) ![768, 0] S256x1024.size inb_S1024x1024_S256x1024_768_0, quarter x0 x1 x2 x3 x4 x5 x6 x7 x8 3⟩,
        ⟨Rect.unit (s := S1024x1024) ![512, 0] S256x1024.size inb_S1024x1024_S256x1024_512_0, quarter x0 x1 x2 x3 x4 x5 x6 x7 x8 2⟩,
        ⟨Rect.unit (s := S1024x1024) ![256, 0] S256x1024.size inb_S1024x1024_S256x1024_256_0, quarter x0 x1 x2 x3 x4 x5 x6 x7 x8 1⟩,
        ⟨Rect.unit (s := S1024x1024) ![0, 0] S256x1024.size inb_S1024x1024_S256x1024_0_0, quarter x0 x1 x2 x3 x4 x5 x6 x7 x8 0⟩] := by
  rw [quarter_loads arg1 harg1 arg2 harg2 arg3 harg3 arg4 harg4 arg5 harg5 arg6 harg6 arg7 harg7 arg8 harg8 arg9 harg9 x0 x1 x2 x3 x4 x5 x6 x7 x8 0 0 0 rfl rfl inb_S1024x1024_S256x1024_0_0 inb_S1024x256_S256x256_0_0 inb_S128x32x128_S32x32x128_0_0_0 slices_S1024x8_o0_2_S256x1 slices_S1024x8_o0_3_S256x1]
  rw [quarter_loads arg1 harg1 arg2 harg2 arg3 harg3 arg4 harg4 arg5 harg5 arg6 harg6 arg7 harg7 arg8 harg8 arg9 harg9 x0 x1 x2 x3 x4 x5 x6 x7 x8 1 256 32 rfl rfl inb_S1024x1024_S256x1024_256_0 inb_S1024x256_S256x256_256_0 inb_S128x32x128_S32x32x128_32_0_0 slices_S1024x8_o256_2_S256x1 slices_S1024x8_o256_3_S256x1]
  rw [quarter_loads arg1 harg1 arg2 harg2 arg3 harg3 arg4 harg4 arg5 harg5 arg6 harg6 arg7 harg7 arg8 harg8 arg9 harg9 x0 x1 x2 x3 x4 x5 x6 x7 x8 2 512 64 rfl rfl inb_S1024x1024_S256x1024_512_0 inb_S1024x256_S256x256_512_0 inb_S128x32x128_S32x32x128_64_0_0 slices_S1024x8_o512_2_S256x1 slices_S1024x8_o512_3_S256x1]
  rw [quarter_loads arg1 harg1 arg2 harg2 arg3 harg3 arg4 harg4 arg5 harg5 arg6 harg6 arg7 harg7 arg8 harg8 arg9 harg9 x0 x1 x2 x3 x4 x5 x6 x7 x8 3 768 96 rfl rfl inb_S1024x1024_S256x1024_768_0 inb_S1024x256_S256x256_768_0 inb_S128x32x128_S32x32x128_96_0_0 slices_S1024x8_o768_2_S256x1 slices_S1024x8_o768_3_S256x1]
  dsimp only [kernelRun0_A]
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))
  · exact (norm3 _ _ _ _ _).trans (norm_congr rfl rfl ((share73 _ _ _ _ _ _).trans (share_congr ((share64 _ _ _ _ _ _).trans (share_congr rfl rfl rfl rfl rfl rfl)) rfl rfl rfl rfl rfl)) rfl rfl)
  · exact (norm2 _ _ _ _ _).trans (norm_congr rfl rfl ((share51 _ _ _ _ _ _).trans (share_congr ((share48 _ _ _ _ _ _).trans (share_congr rfl rfl rfl rfl rfl rfl)) rfl rfl rfl rfl rfl)) rfl rfl)
  · exact (norm1 _ _ _ _ _).trans (norm_congr rfl rfl ((share42 _ _ _ _ _ _).trans (share_congr ((share34 _ _ _ _ _ _).trans (share_congr rfl rfl rfl rfl rfl rfl)) rfl rfl rfl rfl rfl)) rfl rfl)
  · exact norm_congr rfl rfl ((share20 _ _ _ _ _ _).trans (share_congr (rfl) rfl rfl rfl rfl rfl)) rfl rfl

/-- A point's block of the result, from the blocks it read. -/
def block (x0 : Vec F S128x32x128 .i32) (x1 : Vec F S128x32x128 .i32) (x2 : Vec F S1024x1024 .f32) (x3 : Vec F S1024x256 .f32) (x4 : Vec F S8x1024 .f32) (x5 : Vec F S256x1024 .bf16) (x6 : Vec F S1024x1024 .bf16) (x7 : Vec F S1x1024 .f32) (x8 : Vec F S1x1024 .f32) (y : S1024x1024.Idx) : Elt F .f32 :=
  quarter x0 x1 x2 x3 x4 x5 x6 x7 x8 ⟨(y 0).val / 256, by have : (y 0).val < 1024 := (y 0).isLt; omega⟩ (ix2 ⟨(y 0).val % 256, Nat.mod_lt _ (by decide)⟩ (y 1))

theorem quarter_eq_block (x0 : Vec F S128x32x128 .i32) (x1 : Vec F S128x32x128 .i32) (x2 : Vec F S1024x1024 .f32) (x3 : Vec F S1024x256 .f32) (x4 : Vec F S8x1024 .f32) (x5 : Vec F S256x1024 .bf16) (x6 : Vec F S1024x1024 .bf16) (x7 : Vec F S1x1024 .f32) (x8 : Vec F S1x1024 .f32) (o : Fin 4) (k : S256x1024.Idx) (y : S1024x1024.Idx) (h0 : (y 0).val = 256 * o.val + (k 0).val) (h1 : (y 1).val = (k 1).val) :
    quarter x0 x1 x2 x3 x4 x5 x6 x7 x8 o k = block x0 x1 x2 x3 x4 x5 x6 x7 x8 y := by
  have hk : (k 0).val < 256 := (k 0).isLt
  unfold block
  have e : (⟨(y 0).val / 256, by have : (y 0).val < 1024 := (y 0).isLt; omega⟩ : Fin 4) = o := Fin.ext (by show (y 0).val / 256 = o.val; omega)
  rw [e]
  refine congrArg _ (ext2 ?_ ?_)
  · show (k 0).val = (y 0).val % 256; omega
  · show (k 1).val = (y 1).val; omega

theorem out_eq (c : Dev nD) (i : grid0.Coords) (arg1 : Memref sig .tc .vmem S128x32x128 .i32) (harg1 : arg1.IsWhole) (arg2 : Memref sig .tc .vmem S128x32x128 .i32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S8x1024 .f32) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole)
    (x0 : Vec F S128x32x128 .i32) (x1 : Vec F S128x32x128 .i32) (x2 : Vec F S1024x1024 .f32) (x3 : Vec F S1024x256 .f32) (x4 : Vec F S8x1024 .f32) (x5 : Vec F S256x1024 .bf16) (x6 : Vec F S1024x1024 .bf16) (x7 : Vec F S1x1024 .f32) (x8 : Vec F S1x1024 .f32) :
    out0_A_9 c i arg1 harg1 arg2 harg2 arg3 harg3 arg4 harg4 arg5 harg5 arg6 harg6 arg7 harg7 arg8 harg8 arg9 harg9 arg10 harg10 x0 x1 x2 x3 x4 x5 x6 x7 x8 = block x0 x1 x2 x3 x4 x5 x6 x7 x8 := by
  unfold out0_A_9
  rw [View.read_writes_junk_eq_canon, pieces]
  funext y
  have hy : (y 0).val < 1024 := (y 0).isLt
  have hy1 : (y 1).val < 1024 := (y 1).isLt
  refine View.canon_apply_of_pieces (block x0 x1 x2 x3 x4 x5 x6 x7 x8) _ ?_ y ?_
  · intro p hp k
    simp only [List.mem_cons, List.not_mem_nil, or_false] at hp
    rcases hp with rfl | rfl | rfl | rfl
    · refine quarter_eq_block x0 x1 x2 x3 x4 x5 x6 x7 x8 3 k _ ?_ ?_
      · show 768 + 1 * (k 0).val = 256 * 3 + (k 0).val; omega
      · show 0 + 1 * (k 1).val = (k 1).val; omega
    · refine quarter_eq_block x0 x1 x2 x3 x4 x5 x6 x7 x8 2 k _ ?_ ?_
      · show 512 + 1 * (k 0).val = 256 * 2 + (k 0).val; omega
      · show 0 + 1 * (k 1).val = (k 1).val; omega
    · refine quarter_eq_block x0 x1 x2 x3 x4 x5 x6 x7 x8 1 k _ ?_ ?_
      · show 256 + 1 * (k 0).val = 256 * 1 + (k 0).val; omega
      · show 0 + 1 * (k 1).val = (k 1).val; omega
    · refine quarter_eq_block x0 x1 x2 x3 x4 x5 x6 x7 x8 0 k _ ?_ ?_
      · show 0 + 1 * (k 0).val = 256 * 0 + (k 0).val; omega
      · show 0 + 1 * (k 1).val = (k 1).val; omega
  · simp only [List.mem_cons, List.not_mem_nil, or_false, exists_eq_or_imp, exists_eq_left, Rect.mem_set_unit]
    have key : ∀ n : ℕ, n ≤ (y 0).val → (y 0).val < n + 256 → ∀ a, (![n, 0] : Fin 2 → ℕ) a ≤ (y a).val ∧ (y a).val < (![n, 0] : Fin 2 → ℕ) a + S256x1024.size a := by
      intro n h1 h2 a
      match a with
      | 0 => exact ⟨h1, h2⟩
      | 1 => exact ⟨Nat.zero_le _, by show (y 1).val < 0 + 1024; omega⟩
    by_cases h3 : 768 ≤ (y 0).val
    · exact .inl (key _ h3 (by omega))
    by_cases h2 : 512 ≤ (y 0).val
    · exact .inr (.inl (key _ h2 (by omega)))
    by_cases h1 : 256 ≤ (y 0).val
    · exact .inr (.inr (.inl (key _ h1 (by omega))))
    exact .inr (.inr (.inr (key _ (Nat.zero_le _) (by omega))))

end Cert.Proof.Final
-- ==== Proof.FinalIdeal.lean ====
/-
  A quarter of a point's block over the extended reals: a row's entry is the layer norm of the row's sums, and a sum is the residual, the two
  experts' unpacked rows, and the gated per-layer term.
-/
module

public import proofs.«01_k».proof.Proof.FinalTile
public import Idealize.ShloMosaic.Lib.IdealHost
public import Idealize.ShloMosaic.Lib.Pointwise.Reduce
public import Idealize.ShloMosaic.Lib.Pointwise.ReduceUnfold
public import Idealize.ShloMosaic.Lib.Pointwise.Reshape
public import Idealize.ShloMosaic.Lib.Pointwise.SelectCore
public import Idealize.ShloMosaic.Lib.Pointwise.Index
public import Idealize.ShloMosaic.PureOps.Ideal.Laws

@[expose] public section

noncomputable section

namespace Cert.Proof.Final

open Cert.Kernel3Ideal Cert.Kernel3Ideal.Gen
open Idealize.ShloMosaic Idealize.ShloMosaic.TcCoe
open scoped BigOperators

/-- The layer norm of a row `S` at column `k`, weight `g` and offset `h` there. -/
def nrm (S : Fin 1024 → EReal) (g h : EReal) (k : Fin 1024) : EReal :=
  (S k - Ideal.div (∑ t, S t) (Ideal.ofBits .f32 1149239296#32))
    * Ideal.rsqrt (Ideal.div (∑ t, (S t - Ideal.div (∑ u, S u) (Ideal.ofBits .f32 1149239296#32)) * (S t - Ideal.div (∑ u, S u) (Ideal.ofBits .f32 1149239296#32)))
        (Ideal.ofBits .f32 1149239296#32) + Ideal.ofBits .f32 925353388#32) * g + h

/-- A row's column `k`, its first 512 columns in the words' low halves and the rest in the high halves. -/
def unpackVal (w : Fin 4 → Fin 128 → BitVec 32) (k : Fin 1024) : EReal :=
  if k.val < 512 then Ideal.ofBits .f32 (IntOp.shli .vector (w ⟨k.val % 512 / 128, by omega⟩ ⟨k.val % 128, by omega⟩) 16#32)
  else Ideal.ofBits .f32 (IntOp.andi (w ⟨k.val % 512 / 128, by omega⟩ ⟨k.val % 128, by omega⟩) 4294901760#32)

theorem plin_apply (p : Vec Ideal S256x256 .f32) (wp : Vec Ideal S256x1024 .bf16) (a : Fin 256) (k : Fin 1024) :
    k0_pay2 p wp (ix2 a k) = ∑ t : Fin 256, (p (ix2 a t) : EReal) * (wp (ix2 t k) : EReal) := by
  simp only [k0_pay2, pointwise]
  exact (congrArg (· + _) (Ideal.ofBits_zero_f32)).trans (zero_add _)

theorem gate_apply (x : Vec Ideal S256x1024 .f32) (wg : Vec Ideal S1024x1024 .bf16) (a : Fin 256) (k : Fin 1024) :
    k0_pay8 x wg (ix2 a k) = ∑ t : Fin 1024, (x (ix2 a t) : EReal) * (wg (ix2 t k) : EReal) := by
  simp only [k0_pay8, pointwise]
  exact (congrArg (· + _) (Ideal.ofBits_zero_f32)).trans (zero_add _)

theorem pick (A : Fin 4 → Vec Ideal S32x8x128 .i32) (i : Fin 32) (j : Fin 8) {u v : Fin 4} {l l' : Fin 128} (hu : u.val = v.val) (hl : l.val = l'.val) :
    A u (ix3 i j l) = A v (ix3 i j l') := by
  rw [Fin.ext hu, Fin.ext hl]

set_option maxHeartbeats 1000000 in
theorem share_apply (A : Fin 4 → Vec Ideal S32x8x128 .i32) (s : FVec Ideal S256x1024 .f32) (r : FVec Ideal S256x1 .f32) (i : Fin 256) (k : Fin 1024) :
    share s r (A 0) (A 1) (A 2) (A 3) (ix2 i k)
      = (s (ix2 i k) : EReal) + (r (ix2 i 0) : EReal) * unpackVal (fun j l => A j (ix3 ⟨i.val / 8, by omega⟩ ⟨i.val % 8, by omega⟩ l)) k := by
  simp only [share, k0_pay17, k0_pay14, k0_pay15, k0_pay16, pointwise]
  refine congrArg₂ (fun x y : EReal => (s (ix2 i k) : EReal) + x * y) (congrArg r (ext2 rfl rfl)) ?_
  have hk := k.isLt
  unfold unpackVal
  simp (config := {decide := true}) only [dite_false, dite_true, if_false, if_true]
  rcases (by omega : (0 ≤ k.val ∧ k.val < 128) ∨ (128 ≤ k.val ∧ k.val < 256) ∨ (256 ≤ k.val ∧ k.val < 384) ∨ (384 ≤ k.val ∧ k.val < 512) ∨ (512 ≤ k.val ∧ k.val < 640) ∨ (640 ≤ k.val ∧ k.val < 768) ∨ (768 ≤ k.val ∧ k.val < 896) ∨ (896 ≤ k.val ∧ k.val < 1024)) with ⟨h1, h2⟩ | ⟨h1, h2⟩ | ⟨h1, h2⟩ | ⟨h1, h2⟩ | ⟨h1, h2⟩ | ⟨h1, h2⟩ | ⟨h1, h2⟩ | ⟨h1, h2⟩
  · refine (dif_pos (show k.val < 128 by omega)).trans ?_
    refine Eq.trans ?_ (if_pos (show k.val < 512 by omega)).symm
    exact congrArg (fun w => Ideal.ofBits .f32 (IntOp.shli .vector w 16#32)) (pick A ⟨i.val / 8, by omega⟩ ⟨i.val % 8, by omega⟩ (u := 0) (by show 0 = k.val % 512 / 128; omega) (by show k.val = k.val % 128; omega))
  · refine (dif_neg (show ¬ (k.val < 128) by omega)).trans ?_
    refine (dif_pos (show k.val - 128 < 128 by omega)).trans ?_
    refine Eq.trans ?_ (if_pos (show k.val < 512 by omega)).symm
    exact congrArg (fun w => Ideal.ofBits .f32 (IntOp.shli .vector w 16#32)) (pick A ⟨i.val / 8, by omega⟩ ⟨i.val % 8, by omega⟩ (u := 1) (by show 1 = k.val % 512 / 128; omega) (by show k.val - 128 = k.val % 128; omega))
  · refine (dif_neg (show ¬ (k.val < 128) by omega)).trans ?_
    refine (dif_neg (show ¬ (k.val - 128 < 128) by omega)).trans ?_
    refine (dif_pos (show k.val - 128 - 128 < 128 by omega)).trans ?_
    refine Eq.trans ?_ (if_pos (show k.val < 512 by omega)).symm
    exact congrArg (fun w => Ideal.ofBits .f32 (IntOp.shli .vector w 16#32)) (pick A ⟨i.val / 8, by omega⟩ ⟨i.val % 8, by omega⟩ (u := 2) (by show 2 = k.val % 512 / 128; omega) (by show k.val - 128 - 128 = k.val % 128; omega))
  · refine (dif_neg (show ¬ (k.val < 128) by omega)).trans ?_
    refine (dif_neg (show ¬ (k.val - 128 < 128) by omega)).trans ?_
    refine (dif_neg (show ¬ (k.val - 128 - 128 < 128) by omega)).trans ?_
    refine (dif_pos (show k.val - 128 - 128 - 128 < 128 by omega)).trans ?_
    refine Eq.trans ?_ (if_pos (show k.val < 512 by omega)).symm
    exact congrArg (fun w => Ideal.ofBits .f32 (IntOp.shli .vector w 16#32)) (pick A ⟨i.val / 8, by omega⟩ ⟨i.val % 8, by omega⟩ (u := 3) (by show 3 = k.val % 512 / 128; omega) (by show k.val - 128 - 128 - 128 = k.val % 128; omega))
  · refine (dif_neg (show ¬ (k.val < 128) by omega)).trans ?_
    refine (dif_neg (show ¬ (k.val - 128 < 128) by omega)).trans ?_
    refine (dif_neg (show ¬ (k.val - 128 - 128 < 128) by omega)).trans ?_
    refine (dif_neg (show ¬ (k.val - 128 - 128 - 128 < 128) by omega)).trans ?_
    refine (dif_pos (show k.val - 128 - 128 - 128 - 128 < 128 by omega)).trans ?_
    refine Eq.trans ?_ (if_neg (show ¬ k.val < 512 by omega)).symm
    exact congrArg (fun w => Ideal.ofBits .f32 (IntOp.andi w 4294901760#32)) (pick A ⟨i.val / 8, by omega⟩ ⟨i.val % 8, by omega⟩ (u := 0) (by show 0 = k.val % 512 / 128; omega) (by show k.val - 128 - 128 - 128 - 128 = k.val % 128; omega))
  · refine (dif_neg (show ¬ (k.val < 128) by omega)).trans ?_
    refine (dif_neg (show ¬ (k.val - 128 < 128) by omega)).trans ?_
    refine (dif_neg (show ¬ (k.val - 128 - 128 < 128) by omega)).trans ?_
    refine (dif_neg (show ¬ (k.val - 128 - 128 - 128 < 128) by omega)).trans ?_
    refine (dif_neg (show ¬ (k.val - 128 - 128 - 128 - 128 < 128) by omega)).trans ?_
    refine (dif_pos (show k.val - 128 - 128 - 128 - 128 - 128 < 128 by omega)).trans ?_
    refine Eq.trans ?_ (if_neg (show ¬ k.val < 512 by omega)).symm
    exact congrArg (fun w => Ideal.ofBits .f32 (IntOp.andi w 4294901760#32)) (pick A ⟨i.val / 8, by omega⟩ ⟨i.val % 8, by omega⟩ (u := 1) (by show 1 = k.val % 512 / 128; omega) (by show k.val - 128 - 128 - 128 - 128 - 128 = k.val % 128; omega))
  · refine (dif_neg (show ¬ (k.val < 128) by omega)).trans ?_
    refine (dif_neg (show ¬ (k.val - 128 < 128) by omega)).trans ?_
    refine (dif_neg (show ¬ (k.val - 128 - 128 < 128) by omega)).trans ?_
    refine (dif_neg (show ¬ (k.val - 128 - 128 - 128 < 128) by omega)).trans ?_
    refine (dif_neg (show ¬ (k.val - 128 - 128 - 128 - 128 < 128) by omega)).trans ?_
    refine (dif_neg (show ¬ (k.val - 128 - 128 - 128 - 128 - 128 < 128) by omega)).trans ?_
    refine (dif_pos (show k.val - 128 - 128 - 128 - 128 - 128 - 128 < 128 by omega)).trans ?_
    refine Eq.trans ?_ (if_neg (show ¬ k.val < 512 by omega)).symm
    exact congrArg (fun w => Ideal.ofBits .f32 (IntOp.andi w 4294901760#32)) (pick A ⟨i.val / 8, by omega⟩ ⟨i.val % 8, by omega⟩ (u := 2) (by show 2 = k.val % 512 / 128; omega) (by show k.val - 128 - 128 - 128 - 128 - 128 - 128 = k.val % 128; omega))
  · refine (dif_neg (show ¬ (k.val < 128) by omega)).trans ?_
    refine (dif_neg (show ¬ (k.val - 128 < 128) by omega)).trans ?_
    refine (dif_neg (show ¬ (k.val - 128 - 128 < 128) by omega)).trans ?_
    refine (dif_neg (show ¬ (k.val - 128 - 128 - 128 < 128) by omega)).trans ?_
    refine (dif_neg (show ¬ (k.val - 128 - 128 - 128 - 128 < 128) by omega)).trans ?_
    refine (dif_neg (show ¬ (k.val - 128 - 128 - 128 - 128 - 128 < 128) by omega)).trans ?_
    refine (dif_neg (show ¬ (k.val - 128 - 128 - 128 - 128 - 128 - 128 < 128) by omega)).trans ?_
    refine Eq.trans ?_ (if_neg (show ¬ k.val < 512 by omega)).symm
    exact congrArg (fun w => Ideal.ofBits .f32 (IntOp.andi w 4294901760#32)) (pick A ⟨i.val / 8, by omega⟩ ⟨i.val % 8, by omega⟩ (u := 3) (by show 3 = k.val % 512 / 128; omega) (by show k.val - 128 - 128 - 128 - 128 - 128 - 128 - 128 = k.val % 128; omega))

theorem norm_apply (A B C : FVec Ideal S256x1024 .f32) (g h : Vec Ideal S1x1024 .f32) (i : Fin 256) (k : Fin 1024) :
    k0_pay74 A B C g h (ix2 i k)
      = nrm (fun t => (C (ix2 i t) : EReal) + A (ix2 i t) + (A (ix2 i t) : EReal) * Ideal.tanh (B (ix2 i t))) (g (ix2 0 k)) (h (ix2 0 k)) k := by
  simp only [k0_pay74, pointwise, Ideal.reduceAdd_def]
  rfl

theorem resid_apply (x : Vec Ideal S256x1024 .f32) (i : Fin 256) (k : Fin 1024) : k0_pay12 x (ix2 i k) = Ideal.ofBits .f32 0x3F9837F0#32 * (x (ix2 i k) : EReal) := rfl

/-- The sums a row's layer norm takes. -/
def sums (x : Fin 1024 → EReal) (p : Fin 256 → EReal) (wp : Fin 256 → Fin 1024 → EReal) (wg : Fin 1024 → Fin 1024 → EReal) (r2 r3 : EReal)
    (a b : Fin 4 → Fin 128 → BitVec 32) (t : Fin 1024) : EReal :=
  Ideal.ofBits .f32 0x3F9837F0#32 * x t + r2 * unpackVal a t + r3 * unpackVal b t + (∑ u, p u * wp u t) + (∑ u, p u * wp u t) * Ideal.tanh (∑ u, x u * wg u t)

theorem tile_apply (x : Vec Ideal S256x1024 .f32) (p : Vec Ideal S256x256 .f32) (wp : Vec Ideal S256x1024 .bf16) (wg : Vec Ideal S1024x1024 .bf16)
    (r2 r3 : FVec Ideal S256x1 .f32) (a b : Fin 4 → Vec Ideal S32x8x128 .i32) (g h : Vec Ideal S1x1024 .f32) (i : Fin 256) (k : Fin 1024) :
    tile x p wp wg r2 r3 a b g h (ix2 i k)
      = nrm (sums (fun t => x (ix2 i t)) (fun t => p (ix2 i t)) (fun u t => wp (ix2 u t)) (fun u t => wg (ix2 u t)) (r2 (ix2 i 0)) (r3 (ix2 i 0))
          (fun j l => a j (ix3 ⟨i.val / 8, by omega⟩ ⟨i.val % 8, by omega⟩ l)) (fun j l => b j (ix3 ⟨i.val / 8, by omega⟩ ⟨i.val % 8, by omega⟩ l)))
          (g (ix2 0 k)) (h (ix2 0 k)) k := by
  unfold tile
  rw [norm_apply]
  refine congrArg (fun S => nrm S _ _ k) (funext fun t => ?_)
  rw [plin_apply, gate_apply, share_apply, share_apply, resid_apply]
  rfl

end Cert.Proof.Final
-- ==== Proof.FinalRun.lean ====
/-
  The result array after the last call's run, over the extended reals: every row the layer norm of its sums, as one function of the arrays that
  the call's windows are of.
-/
module

public import proofs.«01_k».proof.Proof.FinalPieces
public import proofs.«01_k».proof.Proof.FinalIdeal
public import proofs.«01_k».proof.Proof.Gen.Kernel3Ideal.Value

@[expose] public section

noncomputable section

namespace Cert.Proof.Final

open Cert.Kernel3Ideal Cert.Kernel3Ideal.Gen Cert.Kernel3Ideal.Value
open Idealize.ShloMosaic Idealize.ShloMosaic.TcCoe Idealize.SL.Sem

/-- Row `n`, column `k` of the result from the windows' arrays: row `n` of each, its words in group `n / 8` and, for the second expert, 2048 groups on. -/
def entry (yg : Vec Ideal S4096x32x128 .i32) (x1 : Vec Ideal S16384x1024 .f32) (p : Vec Ideal S16384x256 .f32) (rt : Vec Ideal S8x16384 .f32)
    (wp : Vec Ideal S256x1024 .bf16) (wg : Vec Ideal S1024x1024 .bf16) (g h : Vec Ideal S1x1024 .f32) (n : Fin 16384) (k : Fin 1024) : EReal :=
  nrm (sums (fun t => x1 (ix2 n t)) (fun t => p (ix2 n t)) (fun u t => wp (ix2 u t)) (fun u t => wg (ix2 u t))
      (rt (ix2 2 n)) (rt (ix2 3 n))
      (fun j l => yg (ix3 ⟨n.val / 8, by omega⟩ ⟨8 * j.val + n.val % 8, by omega⟩ l))
      (fun j l => yg (ix3 ⟨n.val / 8 + 2048, by omega⟩ ⟨8 * j.val + n.val % 8, by omega⟩ l)))
    (g (ix2 0 k)) (h (ix2 0 k)) k

def arr (yg : Vec Ideal S4096x32x128 .i32) (x1 : Vec Ideal S16384x1024 .f32) (p : Vec Ideal S16384x256 .f32) (rt : Vec Ideal S8x16384 .f32)
    (wp : Vec Ideal S256x1024 .bf16) (wg : Vec Ideal S1024x1024 .bf16) (g h : Vec Ideal S1x1024 .f32) : Vec Ideal S16384x1024 .f32 :=
  fun y => entry yg x1 p rt wp wg g h (y 0) (y 1)

variable (m : (ℓ : Loc nD τ sig) → Buf (Elt Ideal) ℓ) (ρ : Dev nD → PrngReg)

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val + 16 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

theorem pt_lt (t : Fin cfg0.N) : t.val < 16 := t.isLt.trans_eq N_0

theorem words0 (c : Dev nD) (t : Fin cfg0.N) (a : Fin 128) (b : Fin 32) (l : Fin 128) :
    iblk m c 0 t (ix3 a b l) = V m c main_arg0 (ix3 ⟨128 * t.val + a.val, by have := pt_lt t; omega⟩ b l) := by
  obtain ⟨e0, e1, e2⟩ := idx0 t
  refine congrArg (V m c main_arg0) (funext fun d => Fin.ext ?_)
  match d with
  | ⟨0, _⟩ => show win0_0.index t (0 : Fin 3) * 128 + 1 * a.val = 128 * t.val + a.val; omega
  | ⟨1, _⟩ => show win0_0.index t (1 : Fin 3) * 32 + 1 * b.val = b.val; omega
  | ⟨2, _⟩ => show win0_0.index t (2 : Fin 3) * 128 + 1 * l.val = l.val; omega

theorem words1 (c : Dev nD) (t : Fin cfg0.N) (a : Fin 128) (b : Fin 32) (l : Fin 128) :
    iblk m c 1 t (ix3 a b l) = V m c main_arg0 (ix3 ⟨128 * t.val + a.val + 2048, by have := pt_lt t; omega⟩ b l) := by
  obtain ⟨e0, e1, e2⟩ := idx1 t
  refine congrArg (V m c main_arg0) (funext fun d => Fin.ext ?_)
  match d with
  | ⟨0, _⟩ => show win0_1.index t (0 : Fin 3) * 128 + 1 * a.val = 128 * t.val + a.val + 2048; omega
  | ⟨1, _⟩ => show win0_1.index t (1 : Fin 3) * 32 + 1 * b.val = b.val; omega
  | ⟨2, _⟩ => show win0_1.index t (2 : Fin 3) * 128 + 1 * l.val = l.val; omega

theorem rows2 (c : Dev nD) (t : Fin cfg0.N) (a : Fin 1024) (b : Fin 1024) :
    iblk m c 2 t (ix2 a b) = V m c main_arg1 (ix2 ⟨1024 * t.val + a.val, by have := pt_lt t; omega⟩ b) := by
  obtain ⟨e0, e1⟩ := idx2 t
  refine congrArg (V m c main_arg1) (funext fun d => Fin.ext ?_)
  match d with
  | ⟨0, _⟩ => show win0_2.index t (0 : Fin 2) * 1024 + 1 * a.val = 1024 * t.val + a.val; omega
  | ⟨1, _⟩ => show win0_2.index t (1 : Fin 2) * 1024 + 1 * b.val = b.val; omega

theorem rows3 (c : Dev nD) (t : Fin cfg0.N) (a : Fin 1024) (b : Fin 256) :
    iblk m c 3 t (ix2 a b) = V m c main_v1 (ix2 ⟨1024 * t.val + a.val, by have := pt_lt t; omega⟩ b) := by
  obtain ⟨e0, e1⟩ := idx3 t
  refine congrArg (V m c main_v1) (funext fun d => Fin.ext ?_)
  match d with
  | ⟨0, _⟩ => show win0_3.index t (0 : Fin 2) * 1024 + 1 * a.val = 1024 * t.val + a.val; omega
  | ⟨1, _⟩ => show win0_3.index t (1 : Fin 2) * 256 + 1 * b.val = b.val; omega

theorem cols4 (c : Dev nD) (t : Fin cfg0.N) (a : Fin 8) (b : Fin 1024) :
    iblk m c 4 t (ix2 a b) = V m c main_arg3 (ix2 a ⟨1024 * t.val + b.val, by have := pt_lt t; omega⟩) := by
  obtain ⟨e0, e1⟩ := idx4 t
  refine congrArg (V m c main_arg3) (funext fun d => Fin.ext ?_)
  match d with
  | ⟨0, _⟩ => show win0_4.index t (0 : Fin 2) * 8 + 1 * a.val = a.val; omega
  | ⟨1, _⟩ => show win0_4.index t (1 : Fin 2) * 1024 + 1 * b.val = 1024 * t.val + b.val; omega

theorem whole5 (c : Dev nD) (t : Fin cfg0.N) : iblk m c 5 t = V m c main_v5 := by
  obtain ⟨e0, e1⟩ := idx5 t
  funext j
  refine congrArg (V m c main_v5) (funext fun d => Fin.ext ?_)
  match d with
  | ⟨0, _⟩ => show win0_5.index t (0 : Fin 2) * 256 + 1 * (j 0).val = (j 0).val; omega
  | ⟨1, _⟩ => show win0_5.index t (1 : Fin 2) * 1024 + 1 * (j 1).val = (j 1).val; omega

theorem whole6 (c : Dev nD) (t : Fin cfg0.N) : iblk m c 6 t = V m c main_v9 := by
  obtain ⟨e0, e1⟩ := idx6 t
  funext j
  refine congrArg (V m c main_v9) (funext fun d => Fin.ext ?_)
  match d with
  | ⟨0, _⟩ => show win0_6.index t (0 : Fin 2) * 1024 + 1 * (j 0).val = (j 0).val; omega
  | ⟨1, _⟩ => show win0_6.index t (1 : Fin 2) * 1024 + 1 * (j 1).val = (j 1).val; omega

theorem whole7 (c : Dev nD) (t : Fin cfg0.N) : iblk m c 7 t = V m c main_arg6 := by
  obtain ⟨e0, e1⟩ := idx7 t
  funext j
  refine congrArg (V m c main_arg6) (funext fun d => Fin.ext ?_)
  match d with
  | ⟨0, _⟩ => show win0_7.index t (0 : Fin 2) * 1 + 1 * (j 0).val = (j 0).val; omega
  | ⟨1, _⟩ => show win0_7.index t (1 : Fin 2) * 1024 + 1 * (j 1).val = (j 1).val; omega

theorem whole8 (c : Dev nD) (t : Fin cfg0.N) : iblk m c 8 t = V m c main_arg7 := by
  obtain ⟨e0, e1⟩ := idx8 t
  funext j
  refine congrArg (V m c main_arg7) (funext fun d => Fin.ext ?_)
  match d with
  | ⟨0, _⟩ => show win0_8.index t (0 : Fin 2) * 1 + 1 * (j 0).val = (j 0).val; omega
  | ⟨1, _⟩ => show win0_8.index t (1 : Fin 2) * 1024 + 1 * (j 1).val = (j 1).val; omega

theorem emb9 (t : Fin cfg0.N) (j : S1024x1024.Idx) :
    ((cfg0.win 9).blk t).view.emb j = (ix2 ⟨1024 * t.val + (j 0).val, by have := pt_lt t; have : (j 0).val < 1024 := (j 0).isLt; omega⟩ (j 1) : S16384x1024.Idx) := by
  obtain ⟨e0, e1⟩ := idx9 t
  funext d; apply Fin.ext
  match d with
  | ⟨0, _⟩ => show win0_9.index t (0 : Fin 2) * 1024 + 1 * (j 0).val = 1024 * t.val + (j 0).val; omega
  | ⟨1, _⟩ => show win0_9.index t (1 : Fin 2) * 1024 + 1 * (j 1).val = (j 1).val; omega

/-- A point's block is its rows of the array, if the blocks it read are those rows of the windows' arrays. -/
theorem block_arr (t : Fin 16) {x0 x1 : Vec Ideal S128x32x128 .i32} {x2 : Vec Ideal S1024x1024 .f32} {x3 : Vec Ideal S1024x256 .f32} {x4 : Vec Ideal S8x1024 .f32}
    {x5 : Vec Ideal S256x1024 .bf16} {x6 : Vec Ideal S1024x1024 .bf16} {x7 x8 : Vec Ideal S1x1024 .f32}
    {yg : Vec Ideal S4096x32x128 .i32} {xx : Vec Ideal S16384x1024 .f32} {p : Vec Ideal S16384x256 .f32} {rt : Vec Ideal S8x16384 .f32}
    (h0 : ∀ a b l, x0 (ix3 a b l) = yg (ix3 ⟨128 * t.val + a.val, by omega⟩ b l))
    (h1 : ∀ a b l, x1 (ix3 a b l) = yg (ix3 ⟨128 * t.val + a.val + 2048, by omega⟩ b l))
    (h2 : ∀ a b, x2 (ix2 a b) = xx (ix2 ⟨1024 * t.val + a.val, by omega⟩ b))
    (h3 : ∀ a b, x3 (ix2 a b) = p (ix2 ⟨1024 * t.val + a.val, by omega⟩ b))
    (h4 : ∀ a b, x4 (ix2 a b) = rt (ix2 a ⟨1024 * t.val + b.val, by omega⟩))
    (r k : Fin 1024) :
    block x0 x1 x2 x3 x4 x5 x6 x7 x8 (ix2 r k) = entry yg xx p rt x5 x6 x7 x8 ⟨1024 * t.val + r.val, by omega⟩ k := by
  show quarter x0 x1 x2 x3 x4 x5 x6 x7 x8 ⟨r.val / 256, by omega⟩ (ix2 (⟨r.val % 256, by omega⟩ : Fin 256) k) = _
  unfold quarter entry
  rw [tile_apply]
  refine congrArg (fun S => nrm S _ _ _) ?_
  have hx : (fun u => xRows x2 ⟨r.val / 256, by omega⟩ (ix2 (⟨r.val % 256, by omega⟩ : Fin 256) u)) = fun u => xx (ix2 ⟨1024 * t.val + r.val, by omega⟩ u) := by
    funext u
    refine (h2 _ _).trans (congrArg xx (ext2 ?_ rfl))
    show 1024 * t.val + (256 * (r.val / 256) + r.val % 256) = 1024 * t.val + r.val; omega
  have hp : (fun u => pRows x3 ⟨r.val / 256, by omega⟩ (ix2 (⟨r.val % 256, by omega⟩ : Fin 256) u)) = fun u => p (ix2 ⟨1024 * t.val + r.val, by omega⟩ u) := by
    funext u
    refine (h3 _ _).trans (congrArg p (ext2 ?_ rfl))
    show 1024 * t.val + (256 * (r.val / 256) + r.val % 256) = 1024 * t.val + r.val; omega
  have hr : ∀ k : Fin 8, rRows x4 ⟨r.val / 256, by omega⟩ k (ix2 (⟨r.val % 256, by omega⟩ : Fin 256) 0) = rt (ix2 k ⟨1024 * t.val + r.val, by omega⟩) := by
    intro k
    refine (h4 _ _).trans (congrArg rt (ext2 rfl ?_))
    show 1024 * t.val + (256 * (r.val / 256) + r.val % 256) = 1024 * t.val + r.val; omega
  have ha : (fun (j : Fin 4) (l : Fin 128) => slab x0 ⟨r.val / 256, by omega⟩ j (ix3 (⟨r.val % 256 / 8, by omega⟩ : Fin 32) (⟨r.val % 256 % 8, by omega⟩ : Fin 8) l))
      = fun j l => yg (ix3 ⟨(1024 * t.val + r.val) / 8, by omega⟩ ⟨8 * j.val + (1024 * t.val + r.val) % 8, by omega⟩ l) := by
    funext j l
    refine (h0 _ _ _).trans (congrArg yg (ext3 ?_ ?_ rfl))
    · show 128 * t.val + (32 * (r.val / 256) + r.val % 256 / 8) = (1024 * t.val + r.val) / 8; omega
    · show 8 * j.val + r.val % 256 % 8 = 8 * j.val + (1024 * t.val + r.val) % 8; omega
  have hb : (fun (j : Fin 4) (l : Fin 128) => slab x1 ⟨r.val / 256, by omega⟩ j (ix3 (⟨r.val % 256 / 8, by omega⟩ : Fin 32) (⟨r.val % 256 % 8, by omega⟩ : Fin 8) l))
      = fun j l => yg (ix3 ⟨(1024 * t.val + r.val) / 8 + 2048, by omega⟩ ⟨8 * j.val + (1024 * t.val + r.val) % 8, by omega⟩ l) := by
    funext j l
    refine (h1 _ _ _).trans (congrArg yg (ext3 ?_ ?_ rfl))
    · show 128 * t.val + (32 * (r.val / 256) + r.val % 256 / 8) + 2048 = (1024 * t.val + r.val) / 8 + 2048; omega
    · show 8 * j.val + r.val % 256 % 8 = 8 * j.val + (1024 * t.val + r.val) % 8; omega
  rw [hx, hp, hr, hr]
  exact congrArg₂ (sums _ _ _ _ _ _) ha hb

/-- The array from the windows' arrays as the region finds them. -/
abbrev outOf (c : Dev nD) : Vec Ideal S16384x1024 .f32 :=
  arr (V m c main_arg0) (V m c main_arg1) (V m c main_v1) (V m c main_arg3) (V m c main_v5) (V m c main_v9) (V m c main_arg6) (V m c main_arg7)

theorem flushed_eq (c : Dev nD) (t : Fin cfg0.N) :
    (dats m 0 c).flushed 9 t = ((cfg0.win 9).blk t).view.read (Elt Ideal) (outOf m c) := by
  rw [flushed9_A, out_eq, whole5, whole6, whole7, whole8]
  funext j
  refine Eq.trans ?_ (congrArg (outOf m c) (emb9 t j)).symm
  refine Eq.trans (congrArg (block _ _ _ _ _ _ _ _ _) (ext2 rfl rfl : (j : S1024x1024.Idx) = ix2 (j 0) (j 1))) ?_
  exact block_arr ⟨t.val, pt_lt t⟩ (words0 m c t) (words1 m c t) (rows2 m c t) (rows3 m c t) (cols4 m c t) (j 0) (j 1)

theorem mem_block (t : Fin cfg0.N) (r k : Fin 1024) :
    (ix2 ⟨1024 * t.val + r.val, by have := pt_lt t; omega⟩ k : S16384x1024.Idx) ∈ ((cfg0.win 9).blk t).view.set := by
  have h := ((cfg0.win 9).blk t).view.emb_mem_set (ix2 r k : S1024x1024.Idx)
  rwa [emb9] at h

theorem covered (i : S16384x1024.Idx) : ∃ t : Fin cfg0.N, (cfg0.win 9).flush t = true ∧ i ∈ ((cfg0.win 9).blk t).view.set := by
  have hi : (i 0).val < 16384 := (i 0).isLt
  have ht : (i 0).val / 1024 < cfg0.N := by rw [show cfg0.N = 16 from N_0]; omega
  have e : (ix2 ⟨1024 * ((i 0).val / 1024) + (i 0).val % 1024, by omega⟩ (i 1) : S16384x1024.Idx) = i :=
    ext2 (by show 1024 * ((i 0).val / 1024) + (i 0).val % 1024 = (i 0).val; omega) rfl
  have h := mem_block ⟨(i 0).val / 1024, ht⟩ ⟨(i 0).val % 1024, Nat.mod_lt _ (by decide)⟩ (i 1)
  exact ⟨⟨(i 0).val / 1024, ht⟩, flush0_9 _, (congrArg (· ∈ ((cfg0.win 9).blk ⟨(i 0).val / 1024, ht⟩).view.set) e).mp h⟩

theorem final (c : Dev nD) : (dats m 0 c).arrAt 9 cfg0.N = outOf m c :=
  (dats m 0 c).arrAt_eq_of_cover 9 (outOf m c) (fun t _ => flushed_eq m c t) covered

/-! ## The arrays the host prepares -/

theorem host_p (c : Dev nD) (n : Fin 16384) (k : Fin 256) :
    (V m c main_v1 : Vec Ideal S16384x256 .f32) (ix2 n k) = (m ((c : Thread nD τ).loc main_arg2) : Vec Ideal S1x8x2048x256 .f32) (ix4 0 ⟨n.val / 2048, by omega⟩ ⟨n.val % 2048, by omega⟩ k) := by
  have e : (V m c main_v1 : Vec Ideal S16384x256 .f32) = shapeCast S16384x256 (shapeCast S8x2048x256 (m ((c : Thread nD τ).loc main_arg2) : Vec Ideal S1x8x2048x256 .f32) shapeCasts_S1x8x2048x256_S8x2048x256) shapeCasts_S8x2048x256_S16384x256 := by
    show StableHlo.after hostOps0 _ (Proc.devRef .tc main_v1) = _
    after_results
    rfl
  rw [e]
  simp only [pointwise]

theorem host_wp (c : Dev nD) (u : Fin 256) (k : Fin 1024) :
    (V m c main_v5 : Vec Ideal S256x1024 .bf16) (ix2 u k) = Ideal.ofBits .f32 0x3F000000#32 * (m ((c : Thread nD τ).loc main_arg4) : Vec Ideal S1x256x1024 .f32) (ix3 0 u k) := by
  have e : (V m c main_v5 : Vec Ideal S256x1024 .bf16) = truncf (F := Ideal) .bf16 (mulf (broadcastInDim S256x1024 ![] bcast_S_S256x1024 (constant S_ .f32 0x3F000000#32))
      (shapeCast S256x1024 (m ((c : Thread nD τ).loc main_arg4) : Vec Ideal S1x256x1024 .f32) shapeCasts_S1x256x1024_S256x1024)) bitsLt_bf16_f32 := by
    show StableHlo.after hostOps0 _ (Proc.devRef .tc main_v5) = _
    after_results
    rfl
  rw [e]
  simp only [pointwise]
  rfl

theorem host_wg (c : Dev nD) (u k : Fin 1024) :
    (V m c main_v9 : Vec Ideal S1024x1024 .bf16) (ix2 u k) = Ideal.ofBits .f32 0x3F000000#32 * (m ((c : Thread nD τ).loc main_arg5) : Vec Ideal S1x1024x1024 .f32) (ix3 0 u k) := by
  have e : (V m c main_v9 : Vec Ideal S1024x1024 .bf16) = truncf (F := Ideal) .bf16 (mulf (broadcastInDim S1024x1024 ![] bcast_S_S1024x1024 (constant S_ .f32 0x3F000000#32))
      (shapeCast S1024x1024 (m ((c : Thread nD τ).loc main_arg5) : Vec Ideal S1x1024x1024 .f32) shapeCasts_S1x1024x1024_S1024x1024)) bitsLt_bf16_f32 := by
    show StableHlo.after hostOps0 _ (Proc.devRef .tc main_v9) = _
    after_results
    rfl
  rw [e]
  simp only [pointwise]
  rfl

end Cert.Proof.Final
-- ==== Proof.FinalRef.lean ====
/-
  The reference's term of its arguments, in named parts, and each part at an index over the extended reals.
-/
module

public import proofs.«01_k».proof.Proof.FinalIdeal
public import proofs.«01_k».proof.Proof.Gen.Reference3Ideal.Run
public import Idealize.ShloMosaic.Lib.IdealHost
public import Idealize.ShloMosaic.Lib.Pointwise.ShapeOps
public import Idealize.ShloMosaic.Lib.Pointwise.Contract
public import Idealize.ShloMosaic.Lib.Pointwise.ElementwiseCore

@[expose] public section

noncomputable section

namespace Cert.Proof.FinalRef

open Cert.Reference3Ideal Cert.Reference3Ideal.Gen Cert.Reference3Ideal.Value
open Idealize.ShloMosaic Idealize.ShloMosaic.TcCoe
open Cert.Proof.Final (nrm unpackVal sums)
open scoped BigOperators

section

variable {F : FTy → Type} [FloatOps F]

/-- The packed words by expert, row and column of a half. -/
def words (y : Vec F S4096x32x128 .i32) : Vec F S2x16384x512 .i32 :=
  shapeCast S2x16384x512 (transpose S4096x8x4x128 [0, 2, 1, 3] (shapeCast S4096x4x8x128 y shapeCasts_S4096x32x128_S4096x4x8x128) transposes_S4096x4x8x128_S4096x8x4x128_0_2_1_3) shapeCasts_S4096x8x4x128_S2x16384x512
/-- Their low and their high halves, side by side. -/
def rowsOf (w : Vec F S2x16384x512 .i32) : FVec F S2x16384x1024 .f32 :=
  concatenate S2x16384x1024 2 [⟨S2x16384x512, (bitcastToFloat (F := F) .f32 (Host.shli w (broadcastInDim S2x16384x512 ![] bcast_S_S2x16384x512 (constantI S_ 32 16#32))))⟩,
    ⟨S2x16384x512, (bitcastToFloat (F := F) .f32 (andi w (broadcastInDim S2x16384x512 ![] bcast_S_S2x16384x512 (constantI S_ 32 4294901760#32))))⟩] concatenates_S2x16384x512_S2x16384x512_S2x16384x1024_d2
def first (v : FVec F S2x16384x1024 .f32) (r : FVec F S8x16384 .f32) : FVec F S16384x1024 .f32 :=
  mulf (broadcastInDim S16384x1024 ![0, 1] bcast_S16384x1_S16384x1024_0_1 (broadcastInDim S16384x1 ![0] bcast_S16384_S16384x1_0 (shapeCast S16384 (extractStridedSlice S1x16384 ![2, 0] r slices_S8x16384_S1x16384_2_0) shapeCasts_S1x16384_S16384)))
    (shapeCast S16384x1024 (extractStridedSlice S1x16384x1024 ![0, 0, 0] v slices_S2x16384x1024_S1x16384x1024_0_0_0) shapeCasts_S1x16384x1024_S16384x1024)
def second (v : FVec F S2x16384x1024 .f32) (r : FVec F S8x16384 .f32) : FVec F S16384x1024 .f32 :=
  mulf (broadcastInDim S16384x1024 ![0, 1] bcast_S16384x1_S16384x1024_0_1 (broadcastInDim S16384x1 ![0] bcast_S16384_S16384x1_0 (shapeCast S16384 (extractStridedSlice S1x16384 ![3, 0] r slices_S8x16384_S1x16384_3_0) shapeCasts_S1x16384_S16384)))
    (shapeCast S16384x1024 (extractStridedSlice S1x16384x1024 ![1, 0, 0] v slices_S2x16384x1024_S1x16384x1024_1_0_0) shapeCasts_S1x16384x1024_S16384x1024)
def plin (p : FVec F S1x8x2048x256 .f32) (w : FVec F S1x256x1024 .f32) : FVec F S16384x1024 .f32 :=
  Host.dotGeneral dot_S16384x256_S256x1024_S16384x1024_1_0_0_1_n_n none (shapeCast S16384x256 (shapeCast S8x2048x256 p shapeCasts_S1x8x2048x256_S8x2048x256) shapeCasts_S8x2048x256_S16384x256) (shapeCast S256x1024 w shapeCasts_S1x256x1024_S256x1024)
def gate (x : FVec F S16384x1024 .f32) (w : FVec F S1x1024x1024 .f32) : FVec F S16384x1024 .f32 :=
  Host.divf (broadcastInDim S16384x1024 ![] bcast_S_S16384x1024 (constant S_ .f32 0x3F800000#32)) (addf (broadcastInDim S16384x1024 ![] bcast_S_S16384x1024 (constant S_ .f32 0x3F800000#32))
    (Host.exp (Host.negf (Host.dotGeneral dot_S16384x1024_S1024x1024_S16384x1024_1_0_0_1_n_n none x (shapeCast S1024x1024 w shapeCasts_S1x1024x1024_S1024x1024)))))
def resid (x : FVec F S16384x1024 .f32) : FVec F S16384x1024 .f32 := mulf (broadcastInDim S16384x1024 ![] bcast_S_S16384x1024 (constant S_ .f32 0x3F9837F0#32)) x
def total (y : Vec F S4096x32x128 .i32) (x : FVec F S16384x1024 .f32) (p : FVec F S1x8x2048x256 .f32) (r : FVec F S8x16384 .f32) (w : FVec F S1x256x1024 .f32) (wg : FVec F S1x1024x1024 .f32) : FVec F S16384x1024 .f32 :=
  addf (addf (resid x) (addf (first (rowsOf (words y)) r) (second (rowsOf (words y)) r))) (mulf (plin p w) (gate x wg))
def mean (s : FVec F S16384x1024 .f32) : FVec F S16384x1 .f32 :=
  Host.divf (broadcastInDim S16384x1 ![0] bcast_S16384_S16384x1_0 (Host.reduceAdd s (constant S_ .f32 0x00000000#32) reducesTo_S16384x1024_S16384_d1 h_S_)) (broadcastInDim S16384x1 ![] bcast_S_S16384x1 (constant S_ .f32 0x44800000#32))
def centred (s : FVec F S16384x1024 .f32) : FVec F S16384x1024 .f32 := subf s (broadcastInDim S16384x1024 ![0, 1] bcast_S16384x1_S16384x1024_0_1 (mean s))
def norm (s : FVec F S16384x1024 .f32) (g h : FVec F S1x1024 .f32) : FVec F S16384x1024 .f32 :=
  addf (mulf (mulf (centred s) (broadcastInDim S16384x1024 ![0, 1] bcast_S16384x1_S16384x1024_0_1 (Host.rsqrt (addf (mean (mulf (centred s) (centred s))) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 (shapeCast S1024 g shapeCasts_S1x1024_S1024))))
    (broadcastInDim S16384x1024 ![0, 1] bcast_S1x1024_S16384x1024_0_1 (broadcastInDim S1x1024 ![1] bcast_S1024_S1x1024_1 (shapeCast S1024 h shapeCasts_S1x1024_S1024)))

theorem res_eq (m : (ℓ : Loc nD τ sig) → Buf (Elt F) ℓ) (c : Dev nD) : res_out0 m c
    = norm (total (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))) (m ((c.tc : Thread nD τ).loc main_arg6)) (m ((c.tc : Thread nD τ).loc main_arg7)) := by
  unfold res_out0 res_main_v67; rfl

end

/-! ## Over the extended reals -/

theorem plin_at (p : FVec Ideal S1x8x2048x256 .f32) (w : FVec Ideal S1x256x1024 .f32) (n : Fin 16384) (k : Fin 1024) :
    plin p w (ix2 n k) = ∑ u : Fin 256, (p (ix4 0 ⟨n.val / 2048, by omega⟩ ⟨n.val % 2048, by omega⟩ u) : EReal) * (w (ix3 0 u k) : EReal) := by
  unfold plin
  simp only [pointwise]
  exact zero_add _

theorem gate_at (x : FVec Ideal S16384x1024 .f32) (w : FVec Ideal S1x1024x1024 .f32) (n : Fin 16384) (k : Fin 1024) :
    gate x w (ix2 n k) = Ideal.div 1 (1 + Ideal.exp (-∑ u : Fin 1024, (x (ix2 n u) : EReal) * (w (ix3 0 u k) : EReal))) := by
  unfold gate
  simp only [pointwise]
  rw [zero_add]
  show Ideal.div (Ideal.ofBits .f32 1065353216#32) (Ideal.ofBits .f32 1065353216#32 + Ideal.exp (-_)) = _
  rw [Ideal.ofBits_one_f32]

theorem resid_at (x : FVec Ideal S16384x1024 .f32) (n : Fin 16384) (k : Fin 1024) : resid x (ix2 n k) = Ideal.ofBits .f32 0x3F9837F0#32 * x (ix2 n k) := by
  unfold resid
  simp only [pointwise]
  rfl

theorem words_at (y : Vec Ideal S4096x32x128 .i32) (e : Fin 2) (n : Fin 16384) (q : Fin 512) :
    words y (ix3 e n q) = y (ix3 ⟨2048 * e.val + n.val / 8, by omega⟩ ⟨8 * (q.val / 128) + n.val % 8, by omega⟩ ⟨q.val % 128, by omega⟩) := by
  unfold words
  simp only [pointwise]
  refine congrArg y (funext fun a => Fin.ext ?_)
  match a with
  | ⟨0, _⟩ => show e.val * 2048 + n.val / 8 = 2048 * e.val + n.val / 8; omega
  | ⟨1, _⟩ => show q.val / 128 * 8 + n.val % 8 = 8 * (q.val / 128) + n.val % 8; omega
  | ⟨2, _⟩ => rfl

theorem first_at (v : FVec Ideal S2x16384x1024 .f32) (r : FVec Ideal S8x16384 .f32) (n : Fin 16384) (k : Fin 1024) :
    first v r (ix2 n k) = (r (ix2 2 n) : EReal) * v (ix3 0 n k) := by
  unfold first
  simp only [pointwise]
  refine congrArg₂ (fun a b : EReal => a * b) (congrArg r (funext fun a => Fin.ext ?_)) (congrArg v (funext fun a => Fin.ext ?_))
  · match a with
    | ⟨0, _⟩ => rfl
    | ⟨1, _⟩ => exact Nat.zero_add _
  · match a with
    | ⟨0, _⟩ => rfl
    | ⟨1, _⟩ => exact Nat.zero_add _
    | ⟨2, _⟩ => exact Nat.zero_add _

theorem second_at (v : FVec Ideal S2x16384x1024 .f32) (r : FVec Ideal S8x16384 .f32) (n : Fin 16384) (k : Fin 1024) :
    second v r (ix2 n k) = (r (ix2 3 n) : EReal) * v (ix3 1 n k) := by
  unfold second
  simp only [pointwise]
  refine congrArg₂ (fun a b : EReal => a * b) (congrArg r (funext fun a => Fin.ext ?_)) (congrArg v (funext fun a => Fin.ext ?_))
  · match a with
    | ⟨0, _⟩ => rfl
    | ⟨1, _⟩ => exact Nat.zero_add _
  · match a with
    | ⟨0, _⟩ => rfl
    | ⟨1, _⟩ => exact Nat.zero_add _
    | ⟨2, _⟩ => exact Nat.zero_add _

theorem mean_at (s : FVec Ideal S16384x1024 .f32) (n : Fin 16384) (z : Fin 1) :
    mean s (ix2 n z) = Ideal.div (∑ t : Fin 1024, (s (ix2 n t) : EReal)) (Ideal.ofBits .f32 1149239296#32) := by
  unfold mean
  simp only [pointwise, Ideal.hostReduceAdd_def]
  show Ideal.div (Ideal.ofBits .f32 0#32 + ∑ k : Fin 1024, (s (ix2 n k) : EReal)) _ = _
  rw [Ideal.ofBits_zero_f32, zero_add]
  rfl

theorem centred_at (s : FVec Ideal S16384x1024 .f32) (n : Fin 16384) (k : Fin 1024) :
    centred s (ix2 n k) = (s (ix2 n k) : EReal) - Ideal.div (∑ t : Fin 1024, (s (ix2 n t) : EReal)) (Ideal.ofBits .f32 1149239296#32) := by
  unfold centred
  simp only [pointwise, mean_at]
  exact congrArg (fun a : EReal => (s (ix2 n k) : EReal) - a) (mean_at s n 0)

theorem norm_at (s : FVec Ideal S16384x1024 .f32) (g h : FVec Ideal S1x1024 .f32) (n : Fin 16384) (k : Fin 1024) :
    norm s g h (ix2 n k) = nrm (fun t => s (ix2 n t)) (g (ix2 0 k)) (h (ix2 0 k)) k := by
  unfold norm
  simp only [pointwise, mean_at, centred_at]
  show ((s (ix2 n k) : EReal) - _) * Ideal.rsqrt ((mean (mulf (centred s) (centred s)) (ix2 n 0) : EReal) + _) * g (ix2 0 k) + h (ix2 0 k) = _
  rw [mean_at]
  simp only [pointwise, centred_at]
  rfl

theorem rowsOf_at (w : Vec Ideal S2x16384x512 .i32) (e : Fin 2) (n : Fin 16384) (k : Fin 1024) :
    rowsOf w (ix3 e n k) = unpackVal (fun j l => w (ix3 e n ⟨128 * j.val + l.val, by omega⟩)) k := by
  unfold rowsOf
  simp only [pointwise]
  unfold unpackVal
  by_cases h : k.val < 512
  · rw [if_pos h]
    refine (dif_pos h).trans ?_
    refine (congrArg (fun z => Ideal.ofBits .f32 (IntOp.shli .vector (w z) 16#32)) (funext fun a => Fin.ext ?_))
    match a with
    | ⟨0, _⟩ => rfl
    | ⟨1, _⟩ => rfl
    | ⟨2, _⟩ => show k.val = 128 * (k.val % 512 / 128) + k.val % 128; omega
  · rw [if_neg h]
    refine (dif_neg h).trans ?_
    refine (congrArg (fun z => Ideal.ofBits .f32 (IntOp.andi (w z) 4294901760#32)) (funext fun a => Fin.ext ?_))
    match a with
    | ⟨0, _⟩ => rfl
    | ⟨1, _⟩ => rfl
    | ⟨2, _⟩ => show k.val - 512 = 128 * (k.val % 512 / 128) + k.val % 128; omega

end Cert.Proof.FinalRef
-- ==== Proof.FinalEq.lean ====
/-
  The last call's result is the reference's: row by row the same sums, where the per-layer term's arrays are finite. The call halves the two
  weight arrays and writes the logistic function by the hyperbolic tangent.
-/
module

public import proofs.«01_k».proof.Proof.FinalRun
public import proofs.«01_k».proof.Proof.FinalRef
public import proofs.«01_k».proof.Proof.MoeIdeal
public import proofs.«01_k».proof.Pre_finite
public import proofs.«01_k».proof.Proof.Gen.Pre_finite

@[expose] public section

noncomputable section

namespace Cert.Proof.Final

open Idealize.ShloMosaic Idealize.ShloMosaic.TcCoe
open scoped BigOperators

/-! ## The sums -/

/-- A half of a sum is the sum of the halves. -/
theorem half_sum {n : ℕ} (f : Fin n → EReal) : (((1 : ℝ) / 2 : ℝ) : EReal) * ∑ u, f u = ∑ u, (((1 : ℝ) / 2 : ℝ) : EReal) * f u := by
  refine Finset.induction_on (Finset.univ : Finset (Fin n)) (by simp) fun a s ha ih => ?_
  rw [Finset.sum_insert ha, Finset.sum_insert ha, EReal.left_distrib_of_nonneg_of_ne_top (EReal.coe_nonneg.2 (by norm_num)) (EReal.coe_ne_top _), ih]

theorem half_dot {n : ℕ} (x w : Fin n → EReal) : ∑ u, x u * ((((1 : ℝ) / 2 : ℝ) : EReal) * w u) = (((1 : ℝ) / 2 : ℝ) : EReal) * ∑ u, x u * w u := by
  rw [half_sum]
  exact Finset.sum_congr rfl fun u _ => mul_left_comm _ _ _

/-- A sum of products of reals is real. -/
theorem dot_real {n : ℕ} (x w : Fin n → EReal) (hx : ∀ u, ∃ r : ℝ, x u = r) (hw : ∀ u, ∃ r : ℝ, w u = r) : ∃ r : ℝ, ∑ u, x u * w u = (r : EReal) := by
  refine Finset.sum_induction (fun u => x u * w u) (fun z => ∃ r : ℝ, z = (r : EReal)) ?_ ⟨0, rfl⟩ fun u _ => ?_
  · rintro _ _ ⟨a, rfl⟩ ⟨b, rfl⟩
    exact ⟨a + b, (EReal.coe_add a b).symm⟩
  · obtain ⟨a, ha⟩ := hx u
    obtain ⟨b, hb⟩ := hw u
    exact ⟨a * b, by show x u * w u = _; rw [ha, hb, EReal.coe_mul]⟩

theorem tanh_real (z : EReal) : ∃ r : ℝ, Ideal.tanh z = r := by
  induction z with
  | bot => exact ⟨-1, by rw [Ideal.tanh_bot, EReal.coe_neg, EReal.coe_one]⟩
  | top => exact ⟨1, by rw [Ideal.tanh_top, EReal.coe_one]⟩
  | coe x => exact ⟨_, Ideal.tanh_coe x⟩

/-- The gated term from the halves. -/
theorem gated (P G : EReal) (hP : ∃ r : ℝ, P = r) :
    (((1 : ℝ) / 2 : ℝ) : EReal) * P + (((1 : ℝ) / 2 : ℝ) : EReal) * P * Ideal.tanh ((((1 : ℝ) / 2 : ℝ) : EReal) * G) = P * Ideal.div 1 (1 + Ideal.exp (-G)) := by
  rw [← Moe.logistic_tanh]
  obtain ⟨r, rfl⟩ := hP
  obtain ⟨t, ht⟩ := tanh_real ((((1 : ℝ) / 2 : ℝ) : EReal) * G)
  rw [ht]
  simp only [← EReal.coe_mul, ← EReal.coe_add]
  congr 1
  ring

/-- A row's sum as the reference writes it. -/
def rowSum (x : Fin 1024 → EReal) (p : Fin 256 → EReal) (w : Fin 256 → Fin 1024 → EReal) (wg : Fin 1024 → Fin 1024 → EReal) (r2 r3 : EReal)
    (a b : Fin 4 → Fin 128 → BitVec 32) (t : Fin 1024) : EReal :=
  Ideal.ofBits .f32 0x3F9837F0#32 * x t + (r2 * unpackVal a t + r3 * unpackVal b t)
    + (∑ u, p u * w u t) * Ideal.div 1 (1 + Ideal.exp (-∑ u, x u * wg u t))

theorem sums_eq (x : Fin 1024 → EReal) (p : Fin 256 → EReal) (w : Fin 256 → Fin 1024 → EReal) (wg : Fin 1024 → Fin 1024 → EReal) (r2 r3 : EReal)
    (a b : Fin 4 → Fin 128 → BitVec 32) (hp : ∀ u, ∃ r : ℝ, p u = r) (hw : ∀ u t, ∃ r : ℝ, w u t = r) :
    sums x p (fun u t => Ideal.ofBits .f32 0x3F000000#32 * w u t) (fun u t => Ideal.ofBits .f32 0x3F000000#32 * wg u t) r2 r3 a b = rowSum x p w wg r2 r3 a b := by
  funext t
  unfold sums rowSum
  simp only [Moe.half_bits]
  rw [half_dot p (fun u => w u t), half_dot x (fun u => wg u t), ← gated _ _ (dot_real p (fun u => w u t) hp (fun u => hw u t))]
  simp only [add_assoc]

/-! ## The precondition -/

theorem real_of_lt (a z : EReal) (h : Ideal.cmp .olt (max a (-a)) z = 1#1) : ∃ r : ℝ, a = r := by
  have hl : max a (-a) < z := by
    by_contra hn
    have e : Ideal.cmp .olt (max a (-a)) z = 0#1 := by
      show BitVec.ofBool (decide (max a (-a) < z)) = 0#1
      rw [decide_eq_false hn]; rfl
    rw [e] at h
    exact absurd h (by decide)
  induction a with
  | bot => exact absurd hl (by rw [EReal.neg_bot, max_eq_right bot_le]; exact not_top_lt)
  | top => exact absurd hl (by rw [EReal.neg_top, max_eq_left bot_le]; exact not_top_lt)
  | coe r => exact ⟨r, rfl⟩

open Cert.Pre_finite in
theorem finite_of_pre (y : IVec S4096x32x128 32) (x : FVec Ideal S16384x1024 .f32) (p : FVec Ideal S1x8x2048x256 .f32) (r : FVec Ideal S8x16384 .f32)
    (w : FVec Ideal S1x256x1024 .f32) (wg : FVec Ideal S1x1024x1024 .f32) (g h : FVec Ideal S1x1024 .f32)
    (e : (Cert.Pre_finite.fn (F := Ideal) y x p r w wg g h).1 = (fun _ => 1#1) ∧ (Cert.Pre_finite.fn (F := Ideal) y x p r w wg g h).2 = (fun _ => 1#1)) :
    (∀ i, ∃ a : ℝ, p i = (a : EReal)) ∧ (∀ i, ∃ a : ℝ, w i = (a : EReal)) :=
  ⟨fun i => real_of_lt _ _ (congrFun e.1 i), fun i => real_of_lt _ _ (congrFun e.2 i)⟩

/-! ## The two results -/

section

open Cert.Reference3Ideal Cert.Reference3Ideal.Gen

theorem ref_words (y : Vec Ideal S4096x32x128 .i32) (e : Fin 2) (n : Fin 16384) (j : Fin 4) (l : Fin 128) :
    FinalRef.words y (ix3 e n ⟨128 * j.val + l.val, by omega⟩) = y (ix3 ⟨2048 * e.val + n.val / 8, by omega⟩ ⟨8 * j.val + n.val % 8, by omega⟩ l) := by
  rw [FinalRef.words_at]
  refine congrArg y (ext3 rfl ?_ ?_)
  · show 8 * ((128 * j.val + l.val) / 128) + n.val % 8 = 8 * j.val + n.val % 8; omega
  · show (128 * j.val + l.val) % 128 = l.val; omega

theorem total_at (y : Vec Ideal S4096x32x128 .i32) (x : FVec Ideal S16384x1024 .f32) (p : FVec Ideal S1x8x2048x256 .f32) (r : FVec Ideal S8x16384 .f32)
    (w : FVec Ideal S1x256x1024 .f32) (wg : FVec Ideal S1x1024x1024 .f32) (n : Fin 16384) (t : Fin 1024) :
    FinalRef.total y x p r w wg (ix2 n t)
      = rowSum (fun u => x (ix2 n u)) (fun u => p (ix4 0 ⟨n.val / 2048, by omega⟩ ⟨n.val % 2048, by omega⟩ u)) (fun u t => w (ix3 0 u t)) (fun u t => wg (ix3 0 u t))
          (r (ix2 2 n)) (r (ix2 3 n)) (fun j l => y (ix3 ⟨n.val / 8, by omega⟩ ⟨8 * j.val + n.val % 8, by omega⟩ l))
          (fun j l => y (ix3 ⟨n.val / 8 + 2048, by omega⟩ ⟨8 * j.val + n.val % 8, by omega⟩ l)) t := by
  have e : FinalRef.total y x p r w wg (ix2 n t) = ((FinalRef.resid x (ix2 n t) : EReal) + (FinalRef.first (FinalRef.rowsOf (FinalRef.words y)) r (ix2 n t)
      + FinalRef.second (FinalRef.rowsOf (FinalRef.words y)) r (ix2 n t)) + FinalRef.plin p w (ix2 n t) * FinalRef.gate x wg (ix2 n t) : EReal) := rfl
  rw [e, FinalRef.resid_at, FinalRef.first_at, FinalRef.second_at, FinalRef.plin_at, FinalRef.gate_at, FinalRef.rowsOf_at, FinalRef.rowsOf_at]
  have h0 : (fun (j : Fin 4) (l : Fin 128) => FinalRef.words y (ix3 0 n ⟨128 * j.val + l.val, by omega⟩)) = fun j l => y (ix3 ⟨n.val / 8, by omega⟩ ⟨8 * j.val + n.val % 8, by omega⟩ l) :=
    funext fun j => funext fun l => (ref_words y 0 n j l).trans (congrArg y (ext3 (by show 2048 * 0 + n.val / 8 = n.val / 8; omega) rfl rfl))
  have h1 : (fun (j : Fin 4) (l : Fin 128) => FinalRef.words y (ix3 1 n ⟨128 * j.val + l.val, by omega⟩)) = fun j l => y (ix3 ⟨n.val / 8 + 2048, by omega⟩ ⟨8 * j.val + n.val % 8, by omega⟩ l) :=
    funext fun j => funext fun l => (ref_words y 1 n j l).trans (congrArg y (ext3 (by show 2048 * 1 + n.val / 8 = n.val / 8 + 2048; omega) rfl rfl))
  rw [h0, h1]
  rfl

end

/-- The call's array is the reference's, where the per-layer term's arrays are finite. -/
theorem out_ref (m : (ℓ : Loc Cert.Kernel3Ideal.nD Cert.Kernel3Ideal.τ Cert.Kernel3Ideal.sig) → Buf (Elt Ideal) ℓ) (c : Dev Cert.Kernel3Ideal.nD)
    (y : Vec Ideal Cert.Reference3Ideal.S4096x32x128 .i32) (x : FVec Ideal Cert.Reference3Ideal.S16384x1024 .f32) (p : FVec Ideal Cert.Reference3Ideal.S1x8x2048x256 .f32)
    (r : FVec Ideal Cert.Reference3Ideal.S8x16384 .f32) (w : FVec Ideal Cert.Reference3Ideal.S1x256x1024 .f32) (wg : FVec Ideal Cert.Reference3Ideal.S1x1024x1024 .f32)
    (g h : FVec Ideal Cert.Reference3Ideal.S1x1024 .f32)
    (ey : m ((c.tc : Thread Cert.Kernel3Ideal.nD Cert.Kernel3Ideal.τ).loc Cert.Kernel3Ideal.main_arg0) = y) (ex : m ((c.tc : Thread Cert.Kernel3Ideal.nD Cert.Kernel3Ideal.τ).loc Cert.Kernel3Ideal.main_arg1) = x)
    (ep : m ((c.tc : Thread Cert.Kernel3Ideal.nD Cert.Kernel3Ideal.τ).loc Cert.Kernel3Ideal.main_arg2) = p) (er : m ((c.tc : Thread Cert.Kernel3Ideal.nD Cert.Kernel3Ideal.τ).loc Cert.Kernel3Ideal.main_arg3) = r)
    (ew : m ((c.tc : Thread Cert.Kernel3Ideal.nD Cert.Kernel3Ideal.τ).loc Cert.Kernel3Ideal.main_arg4) = w) (ewg : m ((c.tc : Thread Cert.Kernel3Ideal.nD Cert.Kernel3Ideal.τ).loc Cert.Kernel3Ideal.main_arg5) = wg)
    (eg : m ((c.tc : Thread Cert.Kernel3Ideal.nD Cert.Kernel3Ideal.τ).loc Cert.Kernel3Ideal.main_arg6) = g) (eh : m ((c.tc : Thread Cert.Kernel3Ideal.nD Cert.Kernel3Ideal.τ).loc Cert.Kernel3Ideal.main_arg7) = h)
    (hp : ∀ i, ∃ a : ℝ, p i = (a : EReal)) (hw : ∀ i, ∃ a : ℝ, w i = (a : EReal)) (n : Fin 16384) (k : Fin 1024) :
    outOf m c (ix2 n k) = FinalRef.norm (FinalRef.total y x p r w wg) g h (ix2 n k) := by
  rw [FinalRef.norm_at]
  show entry _ _ _ _ _ _ _ _ n k = _
  unfold entry
  have hP : (fun t => (Cert.Kernel3Ideal.Gen.V m c Cert.Kernel3Ideal.main_v1 : Vec Ideal Cert.Kernel3Ideal.S16384x256 .f32) (ix2 n t)) = fun u => p (ix4 0 ⟨n.val / 2048, by omega⟩ ⟨n.val % 2048, by omega⟩ u) :=
    funext fun u => (host_p m c n u).trans (congrFun ep _)
  have hW : (fun u t => (Cert.Kernel3Ideal.Gen.V m c Cert.Kernel3Ideal.main_v5 : Vec Ideal Cert.Kernel3Ideal.S256x1024 .bf16) (ix2 u t)) = fun u t => Ideal.ofBits .f32 0x3F000000#32 * w (ix3 0 u t) :=
    funext fun u => funext fun t => (host_wp m c u t).trans (congrArg (fun z : EReal => Ideal.ofBits .f32 0x3F000000#32 * z) (congrFun ew _))
  have hG : (fun u t => (Cert.Kernel3Ideal.Gen.V m c Cert.Kernel3Ideal.main_v9 : Vec Ideal Cert.Kernel3Ideal.S1024x1024 .bf16) (ix2 u t)) = fun u t => Ideal.ofBits .f32 0x3F000000#32 * wg (ix3 0 u t) :=
    funext fun u => funext fun t => (host_wg m c u t).trans (congrArg (fun z : EReal => Ideal.ofBits .f32 0x3F000000#32 * z) (congrFun ewg _))
  have hS : (fun t => FinalRef.total y x p r w wg (ix2 n t)) = _ := funext fun t => total_at y x p r w wg n t
  rw [hS, hP, hW, hG, sums_eq _ _ _ _ _ _ _ _ (fun u => hp _) (fun u t => hw _), Cert.Kernel3Ideal.Gen.V_main_arg0, Cert.Kernel3Ideal.Gen.V_main_arg1,
    Cert.Kernel3Ideal.Gen.V_main_arg3, Cert.Kernel3Ideal.Gen.V_main_arg6, Cert.Kernel3Ideal.Gen.V_main_arg7, ey, ex, er, eg, eh]

end Cert.Proof.Final
-- ==== Proof.AttnTile.lean ====
/-
  What a grid point of the attention leaves in its blocks of the two results: for each of its eight residues, four stores of two heads
  each, every one the same function of the residue's own columns, and one store of the eight heads' log-sums.
-/
module

public import proofs.«01_k».proof.Proof.Gen.Kernel4Ideal.Value
public import Idealize.ShloMosaic.Lib.Pointwise.ShapeOps
public import Idealize.ShloMosaic.Lib.Pointwise.Contract
public import Idealize.ShloMosaic.Lib.Pointwise.ElementwiseCore

@[expose] public section

noncomputable section

namespace Cert.Proof.Attn

open Cert.Kernel4Ideal Cert.Kernel4Ideal.Gen
open Idealize.ShloMosaic Idealize.ShloMosaic.TcCoe

variable {F : FTy → Type} [FloatOps F] [Named F]

abbrev Cols (F : FTy → Type) := Vec F S1x1x128x128 .bf16

/-- The scores of two heads, one above the other, from their queries and keys. -/
def score (q k : Cols F) : FVec F S256x128 .f32 := k0_pay7 k0_pay1 k0_pay3 k0_pay4 (k0_pay5 q) k

/-- Two heads' outputs side by side. -/
def pairOut (q k v : Cols F) : FVec F S1x128x128 .bf16 := k0_pay33 k0_pay1 (k0_pay6 v) (k0_pay18 (score q k)) (k0_pay19 (score q k))

/-- The two heads' log-sums over those of earlier heads: `n` and `n + 1` name their groups of 16 lanes. -/
def putLse (n n' : BitVec 32) (s : FVec F S256x128 .f32) (below : FVec F S128x128 .f32) : FVec F S128x128 .f32 :=
  have l : FVec F S256x1 .f32 := addf (k0_pay16 s) (log (k0_pay18 s))
  select (cmpi .eq k0_pay2 (broadcast S128x128 n))
    (broadcastTo S128x128 (shapeCast S128x1 (extractStridedSlice S128x1 ![0, 0] l slices_S256x1_o0_0_S128x1) shapeCasts_S128x1_S128x1) broadcasts_S128x1_S128x128)
    (select (cmpi .eq k0_pay2 (broadcast S128x128 n'))
      (broadcastTo S128x128 (shapeCast S128x1 (extractStridedSlice S128x1 ![128, 0] l slices_S256x1_o128_0_S128x1) shapeCasts_S128x1_S128x1) broadcasts_S128x1_S128x128)
      below)

/-- The eight heads' log-sums, 16 lanes each. -/
def lseTile (q k : Fin 4 → Cols F) : FVec F S1x128x128 .f32 :=
  shapeCast S1x128x128 (putLse 6#32 7#32 (score (q 3) (k 3)) (putLse 4#32 5#32 (score (q 2) (k 2)) (putLse 2#32 3#32 (score (q 1) (k 1))
    (putLse 0#32 1#32 (score (q 0) (k 0)) (broadcast S128x128 (Scalar.ofBits .f32 0x00000000#32)))))) shapeCasts_S128x128_S1x128x128

/-- Residue `s`, columns 128 p to 128 p + 128 of the block a point reads. -/
def part (x : Vec F S1x8x128x1536 .bf16) (s : Fin 8) (p : Fin 12) : Cols F := fun i =>
  x (ix4 0 s (i 2) ⟨128 * p.val + (i 3).val, by have : (i 3).val < 128 := (i 3).isLt; omega⟩)

theorem hz4 : ∀ i : S1x1x128x128.Idx, (i 0).val = 0 ∧ (i 1).val = 0 := fun i => by
  have h0 : (i 0).val < 1 := (i 0).isLt
  have h1 : (i 1).val < 1 := (i 1).isLt
  omega

theorem ld_part (x : Vec F S1x8x128x1536 .bf16) (s : Fin 8) (p : Fin 12) {n m : ℕ} (hn : n = s.val) (hm : m = 128 * p.val)
    (inb : ∀ a, (![0, n, 0, m] : Fin 4 → ℕ) a + S1x1x128x128.size a ≤ S1x8x128x1536.size a) :
    View.ld x (Rect.unit (s := S1x8x128x1536) ![0, n, 0, m] S1x1x128x128.size inb) = part x s p := by
  subst hn hm
  funext i
  obtain ⟨h0, h1⟩ := hz4 i
  refine congrArg x (funext fun d => Fin.ext ?_)
  match d with
  | ⟨0, _⟩ => show 0 + 1 * (i 0).val = 0; omega
  | ⟨1, _⟩ => show s.val + 1 * (i 1).val = s.val; omega
  | ⟨2, _⟩ => show 0 + 1 * (i 2).val = (i 2).val; omega
  | ⟨3, _⟩ => show 128 * p.val + 1 * (i 3).val = 128 * p.val + (i 3).val; omega

/-! ## The stores as pieces -/

theorem pieces1 (x : Vec F S1x8x128x1536 .bf16) : out0_1 x = View.canon [
    ⟨r0_134, pairOut (View.ld x r0_128) (View.ld x r0_129) (View.ld x r0_130)⟩,
    ⟨r0_133, pairOut (View.ld x r0_125) (View.ld x r0_126) (View.ld x r0_127)⟩,
    ⟨r0_132, pairOut (View.ld x r0_122) (View.ld x r0_123) (View.ld x r0_124)⟩,
    ⟨r0_131, pairOut (View.ld x r0_119) (View.ld x r0_120) (View.ld x r0_121)⟩,
    ⟨r0_117, pairOut (View.ld x r0_111) (View.ld x r0_112) (View.ld x r0_113)⟩,
    ⟨r0_116, pairOut (View.ld x r0_108) (View.ld x r0_109) (View.ld x r0_110)⟩,
    ⟨r0_115, pairOut (View.ld x r0_105) (View.ld x r0_106) (View.ld x r0_107)⟩,
    ⟨r0_114, pairOut (View.ld x r0_102) (View.ld x r0_103) (View.ld x r0_104)⟩,
    ⟨r0_100, pairOut (View.ld x r0_94) (View.ld x r0_95) (View.ld x r0_96)⟩,
    ⟨r0_99, pairOut (View.ld x r0_91) (View.ld x r0_92) (View.ld x r0_93)⟩,
    ⟨r0_98, pairOut (View.ld x r0_88) (View.ld x r0_89) (View.ld x r0_90)⟩,
    ⟨r0_97, pairOut (View.ld x r0_85) (View.ld x r0_86) (View.ld x r0_87)⟩,
    ⟨r0_83, pairOut (View.ld x r0_77) (View.ld x r0_78) (View.ld x r0_79)⟩,
    ⟨r0_82, pairOut (View.ld x r0_74) (View.ld x r0_75) (View.ld x r0_76)⟩,
    ⟨r0_81, pairOut (View.ld x r0_71) (View.ld x r0_72) (View.ld x r0_73)⟩,
    ⟨r0_80, pairOut (View.ld x r0_68) (View.ld x r0_69) (View.ld x r0_70)⟩,
    ⟨r0_66, pairOut (View.ld x r0_60) (View.ld x r0_61) (View.ld x r0_62)⟩,
    ⟨r0_65, pairOut (View.ld x r0_57) (View.ld x r0_58) (View.ld x r0_59)⟩,
    ⟨r0_64, pairOut (View.ld x r0_54) (View.ld x r0_55) (View.ld x r0_56)⟩,
    ⟨r0_63, pairOut (View.ld x r0_51) (View.ld x r0_52) (View.ld x r0_53)⟩,
    ⟨r0_49, pairOut (View.ld x r0_43) (View.ld x r0_44) (View.ld x r0_45)⟩,
    ⟨r0_48, pairOut (View.ld x r0_40) (View.ld x r0_41) (View.ld x r0_42)⟩,
    ⟨r0_47, pairOut (View.ld x r0_37) (View.ld x r0_38) (View.ld x r0_39)⟩,
    ⟨r0_46, pairOut (View.ld x r0_34) (View.ld x r0_35) (View.ld x r0_36)⟩,
    ⟨r0_32, pairOut (View.ld x r0_26) (View.ld x r0_27) (View.ld x r0_28)⟩,
    ⟨r0_31, pairOut (View.ld x r0_23) (View.ld x r0_24) (View.ld x r0_25)⟩,
    ⟨r0_30, pairOut (View.ld x r0_20) (View.ld x r0_21) (View.ld x r0_22)⟩,
    ⟨r0_29, pairOut (View.ld x r0_17) (View.ld x r0_18) (View.ld x r0_19)⟩,
    ⟨r0_15, pairOut (View.ld x r0_9) (View.ld x r0_10) (View.ld x r0_11)⟩,
    ⟨r0_14, pairOut (View.ld x r0_6) (View.ld x r0_7) (View.ld x r0_8)⟩,
    ⟨r0_13, pairOut (View.ld x r0_3) (View.ld x r0_4) (View.ld x r0_5)⟩,
    ⟨r0_12, pairOut (View.ld x r0_0) (View.ld x r0_1) (View.ld x r0_2)⟩] := by
  unfold out0_1
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))))))))))))))))))))))))))))))
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl
  · rfl

theorem pieces2 (x : Vec F S1x8x128x1536 .bf16) : out0_2 x = View.canon [
    ⟨r0_135, lseTile ![(View.ld x r0_119), (View.ld x r0_122), (View.ld x r0_125), (View.ld x r0_128)] ![(View.ld x r0_120), (View.ld x r0_123), (View.ld x r0_126), (View.ld x r0_129)]⟩,
    ⟨r0_118, lseTile ![(View.ld x r0_102), (View.ld x r0_105), (View.ld x r0_108), (View.ld x r0_111)] ![(View.ld x r0_103), (View.ld x r0_106), (View.ld x r0_109), (View.ld x r0_112)]⟩,
    ⟨r0_101, lseTile ![(View.ld x r0_85), (View.ld x r0_88), (View.ld x r0_91), (View.ld x r0_94)] ![(View.ld x r0_86), (View.ld x r0_89), (View.ld x r0_92), (View.ld x r0_95)]⟩,
    ⟨r0_84, lseTile ![(View.ld x r0_68), (View.ld x r0_71), (View.ld x r0_74), (View.ld x r0_77)] ![(View.ld x r0_69), (View.ld x r0_72), (View.ld x r0_75), (View.ld x r0_78)]⟩,
    ⟨r0_67, lseTile ![(View.ld x r0_51), (View.ld x r0_54), (View.ld x r0_57), (View.ld x r0_60)] ![(View.ld x r0_52), (View.ld x r0_55), (View.ld x r0_58), (View.ld x r0_61)]⟩,
    ⟨r0_50, lseTile ![(View.ld x r0_34), (View.ld x r0_37), (View.ld x r0_40), (View.ld x r0_43)] ![(View.ld x r0_35), (View.ld x r0_38), (View.ld x r0_41), (View.ld x r0_44)]⟩,
    ⟨r0_33, lseTile ![(View.ld x r0_17), (View.ld x r0_20), (View.ld x r0_23), (View.ld x r0_26)] ![(View.ld x r0_18), (View.ld x r0_21), (View.ld x r0_24), (View.ld x r0_27)]⟩,
    ⟨r0_16, lseTile ![(View.ld x r0_0), (View.ld x r0_3), (View.ld x r0_6), (View.ld x r0_9)] ![(View.ld x r0_1), (View.ld x r0_4), (View.ld x r0_7), (View.ld x r0_10)]⟩] := by
  unfold out0_2
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))))))
  · rfl
  · rfl
  · rfl
  · rfl
  · rfl
  · rfl
  · rfl
  · rfl

end Cert.Proof.Attn
-- ==== Proof.AttnSoft.lean ====
/-
  A causal softmax's row over the extended reals: the weighted values divided by the weights' sum are the values weighted by `exp (s - lse)`.
-/
module

public import Idealize.ShloMosaic.PureOps.Ideal.Laws

@[expose] public section

noncomputable section

namespace Cert.Proof.Soft

open Idealize.ShloMosaic
open scoped BigOperators

theorem below : ∀ i c : Fin 128, IntOp.cmpi .sle (BitVec.ofNat 32 c.val) (BitVec.ofNat 32 i.val) = if c.val ≤ i.val then 1#1 else 0#1 := by decide +kernel
theorem below' (i c : Fin 128) {n m : Nat} (hm : m = c.val) (hn : n = i.val) :
    IntOp.cmpi .sle (BitVec.ofNat 32 m) (BitVec.ofNat 32 n) = if c.val ≤ i.val then 1#1 else 0#1 := by subst hm; subst hn; exact below i c

theorem sel {α : Type} (p : Prop) [Decidable p] (a b : α) : Scalar.select (if p then 1#1 else 0#1) a b = if p then a else b := by
  split <;> rfl

theorem wide : ¬ (128 = 1) := by decide

/-- A row's largest score. -/
def mx (s : Fin 128 → EReal) : EReal := Finset.univ.fold max (Ideal.ofBits .f32 0xFF800000#32) s
/-- The sum of a row's weights below its largest score. -/
def sm (s : Fin 128 → EReal) : EReal := ∑ c, Ideal.exp (s c - mx s)
def lse (s : Fin 128 → EReal) : EReal := mx s + Ideal.log (sm s)
/-- The weighted values over the weights' sum. -/
def over (s v : Fin 128 → EReal) : EReal := (∑ k, Ideal.exp (s k - mx s) * v k) * Ideal.div (Ideal.ofBits .f32 0x3F800000#32) (sm s)

/-- A real score where the key is at or before the query, `-∞` after it. -/
def masked (i : Fin 128) (R : Fin 128 → ℝ) (c : Fin 128) : EReal := if c ≤ i then (R c : EReal) else ⊥

theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem neg_inf : Ideal.ofBits .f32 0xFF800000#32 = (⊥ : EReal) := by
  simp [Ideal.ofBits, Ideal.ieee]

theorem one_f32 : Ideal.ofBits .f32 0x3F800000#32 = ((1 : ℝ) : EReal) := by
  simp [Ideal.ofBits, Ideal.ieee, -EReal.coe_mul]; norm_num

/-- The score's scale, one eighth, at both widths. -/
theorem eighth_f32 : Ideal.ofBits .f32 0x3E000000#32 = (((1 : ℝ) / 8 : ℝ) : EReal) := by
  simp [Ideal.ofBits, Ideal.ieee, -EReal.coe_mul]; norm_num
theorem eighth_bf16 : Ideal.ofBits .bf16 0x3E00#16 = (((1 : ℝ) / 8 : ℝ) : EReal) := by
  simp [Ideal.ofBits, Ideal.ieee, -EReal.coe_mul]; norm_num

theorem mx_masked (i : Fin 128) (R : Fin 128 → ℝ) : ∃ M : ℝ, mx (masked i R) = (M : EReal) := by
  have hlo : (R i : EReal) ≤ mx (masked i R) :=
    (Finset.le_fold_max _).2 (Or.inr ⟨i, Finset.mem_univ _, by unfold masked; rw [if_pos le_rfl]⟩)
  have hhi : mx (masked i R) < ⊤ := by
    refine (Finset.fold_max_lt _).2 ⟨by rw [neg_inf]; exact bot_lt_top, fun c _ => ?_⟩
    unfold masked
    split
    · exact EReal.coe_lt_top _
    · exact bot_lt_top
  exact ⟨(mx (masked i R)).toReal, (EReal.coe_toReal hhi.ne (ne_of_gt ((EReal.bot_lt_coe _).trans_le hlo))).symm⟩

theorem exp_masked (i : Fin 128) (R : Fin 128 → ℝ) (L : ℝ) (c : Fin 128) :
    Ideal.exp (masked i R c - (L : EReal)) = ((if c ≤ i then Real.exp (R c - L) else 0 : ℝ) : EReal) := by
  unfold masked
  split
  · rw [← EReal.coe_sub]; rfl
  · rw [EReal.bot_sub]; rfl

/-- A nonnegative real weight distributes over any sum. -/
theorem sum_mul_real {ι : Type} (t : Finset ι) (f : ι → EReal) {c : ℝ} (hc : 0 ≤ c) : (∑ k ∈ t, f k) * (c : EReal) = ∑ k ∈ t, f k * (c : EReal) := by
  classical
  induction t using Finset.induction_on with
  | empty => simp
  | insert a t ha ih =>
    rw [Finset.sum_insert ha, Finset.sum_insert ha, EReal.right_distrib_of_nonneg_of_ne_top (EReal.coe_nonneg.mpr hc) (EReal.coe_ne_top c), ih]

theorem over_eq (i : Fin 128) (R : Fin 128 → ℝ) (v : Fin 128 → EReal) :
    over (masked i R) v = ∑ k, v k * Ideal.exp (masked i R k - lse (masked i R)) := by
  obtain ⟨M, hM⟩ := mx_masked i R
  have hS : sm (masked i R) = ((∑ c, if c ≤ i then Real.exp (R c - M) else 0 : ℝ) : EReal) := by
    unfold sm; rw [coe_sum]; exact Finset.sum_congr rfl fun c _ => by rw [hM, exp_masked]
  have hpos : 0 < ∑ c, (if c ≤ i then Real.exp (R c - M) else 0 : ℝ) :=
    Finset.sum_pos' (fun c _ => by split <;> positivity) ⟨i, Finset.mem_univ _, by rw [if_pos le_rfl]; positivity⟩
  have hL : lse (masked i R) = ((M + Real.log (∑ c, if c ≤ i then Real.exp (R c - M) else 0) : ℝ) : EReal) := by
    unfold lse; rw [hM, hS, EReal.coe_add]
    refine congrArg (fun z => (M : EReal) + z) ?_
    show (if _ ≤ (0:ℝ) then (⊥ : EReal) else _) = _
    rw [if_neg hpos.not_ge]
  generalize (∑ c, if c ≤ i then Real.exp (R c - M) else 0 : ℝ) = S at hS hpos hL
  unfold over
  rw [hS, hL, one_f32, Ideal.div_coe hpos.ne', ← EReal.coe_mul, sum_mul_real _ _ (by positivity)]
  refine Finset.sum_congr rfl fun k _ => ?_
  rw [hM, exp_masked, exp_masked, mul_comm _ (v k), mul_assoc, ← EReal.coe_mul]
  refine congrArg (fun z : ℝ => v k * (z : EReal)) ?_
  split
  · rw [← sub_sub, Real.exp_sub (R k - M), Real.exp_log hpos]; field_simp
  · ring

/-- The half of the lanes that belongs to head `a`, scaled before the product, against the head's own lanes scaled after it. -/
theorem half_dot (a : Fin 2) (q k : Fin 128 → EReal) (z : EReal) (hq : ∀ x, ∃ r : ℝ, q x = (r : EReal)) (hk : ∀ x, ∃ r : ℝ, k x = (r : EReal))
    (hz : ∃ r : ℝ, z = (r : EReal)) :
    ∑ x : Fin 128, (if (x.val < 64 ↔ a = 0) then q x * z else 0) * k x
      = (∑ d : Fin 64, q ⟨64 * a.val + d.val, by omega⟩ * k ⟨64 * a.val + d.val, by omega⟩) * z := by
  choose q' hq using hq
  choose k' hk using hk
  obtain ⟨z', rfl⟩ := hz
  have e : ∀ x : Fin 128, (if (x.val < 64 ↔ a = 0) then q x * (z' : EReal) else 0) * k x = (((if (x.val < 64 ↔ a = 0) then q' x * z' else 0) * k' x : ℝ) : EReal) := fun x => by
    rw [hq, hk]; split
    · rw [EReal.coe_mul, EReal.coe_mul]
    · rw [EReal.coe_mul, EReal.coe_zero]
  rw [Finset.sum_congr rfl fun x _ => e x, Finset.sum_congr rfl fun d _ => (by rw [hq, hk, ← EReal.coe_mul] : q ⟨64 * a.val + (d : Fin 64).val, by omega⟩ * k ⟨64 * a.val + d.val, by omega⟩ = ((q' ⟨64 * a.val + (d : Fin 64).val, by omega⟩ * k' ⟨64 * a.val + d.val, by omega⟩ : ℝ) : EReal)),
    ← coe_sum, ← coe_sum, ← EReal.coe_mul, Finset.sum_mul]
  refine congrArg _ ?_
  rw [show (∑ x : Fin 128, (if (x.val < 64 ↔ a = 0) then q' x * z' else 0) * k' x) = _ from Fin.sum_univ_add (a := 64) (b := 64) fun x : Fin (64 + 64) => (if (x.val < 64 ↔ a = 0) then q' x * z' else 0) * k' x]
  fin_cases a
  · refine (congrArg₂ (· + ·) (Finset.sum_congr rfl fun d _ => ?_) (Finset.sum_eq_zero fun d _ => ?_)).trans (add_zero _)
    · show (if ((d : Fin 64).val < 64 ↔ (0 : Fin 2) = 0) then _ else _) * _ = _
      rw [if_pos (by simp)]
      have : (⟨64 * 0 + d.val, by omega⟩ : Fin 128) = Fin.castAdd 64 d := Fin.ext (by simp)
      show q' (Fin.castAdd 64 d) * z' * k' (Fin.castAdd 64 d) = q' ⟨64 * 0 + d.val, _⟩ * k' ⟨64 * 0 + d.val, _⟩ * z'
      rw [this]; ring
    · show (if (64 + (d : Fin 64).val < 64 ↔ (0 : Fin 2) = 0) then _ else _) * _ = _
      rw [if_neg (by simp)]; ring
  · refine (congrArg₂ (· + ·) (Finset.sum_eq_zero fun d _ => ?_) (Finset.sum_congr rfl fun d _ => ?_)).trans (zero_add _)
    · show (if ((d : Fin 64).val < 64 ↔ (1 : Fin 2) = 0) then _ else _) * _ = _
      rw [if_neg (by simp)]; ring
    · show (if (64 + (d : Fin 64).val < 64 ↔ (1 : Fin 2) = 0) then _ else _) * _ = _
      rw [if_pos (by simp)]
      show q' (Fin.natAdd 64 d) * z' * k' (Fin.natAdd 64 d) = q' (Fin.natAdd 64 d) * k' (Fin.natAdd 64 d) * z'
      ring

end Cert.Proof.Soft
-- ==== Proof.AttnIdeal.lean ====
/-
  A pair of heads over the extended reals.
-/
module

public import proofs.«01_k».proof.Proof.AttnTile
public import proofs.«01_k».proof.Proof.AttnSoft
public import Idealize.ShloMosaic.Lib.IdealHost
public import Idealize.ShloMosaic.Lib.Pointwise.Reduce
public import Idealize.ShloMosaic.Lib.Pointwise.ReduceUnfold
public import Idealize.ShloMosaic.Lib.Pointwise.Reshape
public import Idealize.ShloMosaic.Lib.Pointwise.SelectCore
public import Idealize.ShloMosaic.Lib.Pointwise.Index
public import Idealize.ShloMosaic.PureOps.Ideal.Laws

@[expose] public section

noncomputable section

namespace Cert.Proof.Attn

open Cert.Kernel4Ideal Cert.Kernel4Ideal.Gen
open Idealize.ShloMosaic Idealize.ShloMosaic.TcCoe
open Cert.Proof.Soft
open scoped BigOperators

/-- Row `i` of head `a` of a pair. -/
abbrev row (a : Fin 2) (i : Fin 128) : Fin 256 := ⟨128 * a.val + i.val, by omega⟩

theorem lane_lo : ∀ t : Fin 128, k0_pay1 (ix2 0 t) = if t.val < 64 then 1#1 else 0#1 := by decide +kernel
theorem group : ∀ t : Fin 128, k0_pay2 (ix2 0 t) = BitVec.ofNat 32 (t.val / 16) := by decide +kernel
theorem group_eq : ∀ (g n : Fin 8), IntOp.cmpi .eq (BitVec.ofNat 32 g.val) (BitVec.ofNat 32 n.val) = if g = n then 1#1 else 0#1 := by decide +kernel

theorem pay1_apply (i t : Fin 128) : k0_pay1 (ix2 i t) = if t.val < 64 then 1#1 else 0#1 := (show k0_pay1 (ix2 i t) = k0_pay1 (ix2 0 t) from rfl).trans (lane_lo t)
theorem pay2_apply (i t : Fin 128) : k0_pay2 (ix2 i t) = BitVec.ofNat 32 (t.val / 16) := (show k0_pay2 (ix2 i t) = k0_pay2 (ix2 0 t) from rfl).trans (group t)

theorem pay3_apply (a : Fin 2) (i c : Fin 128) : k0_pay3 (F := Ideal) (ix2 (row a i) c) = if c.val ≤ i.val then (0 : EReal) else ⊥ := by
  simp only [k0_pay3, pointwise]
  fin_cases a
  · refine (dif_pos (by show 128 * 0 + i.val < 128; omega)).trans ?_
    rw [below' i c (by simp) (by simp), sel]
    split
    · exact Ideal.ofBits_zero_f32
    · rfl
  · refine (dif_neg (by show ¬ 128 * 1 + i.val < 128; omega)).trans ?_
    rw [below' i c (by simp) (by simp), sel]
    split
    · exact Ideal.ofBits_zero_f32
    · rfl

/-- A query's scores against the keys of its residue, by head of the pair. -/
def pairScore (q k : Cols Ideal) (a : Fin 2) (i c : Fin 128) : EReal :=
  (∑ x : Fin 128, (if (x.val < 64 ↔ a = 0) then q (ix4 0 0 i x) * Ideal.ofBits .bf16 0x3E00#16 else 0) * k (ix4 0 0 c x)) + if c.val ≤ i.val then (0 : EReal) else ⊥

theorem score_apply (q k : Cols Ideal) (a : Fin 2) (i c : Fin 128) : score q k (ix2 (row a i) c) = pairScore q k a i c := by
  simp only [score, k0_pay7, k0_pay5, k0_pay4, pointwise, pay1_apply, sel]
  refine congrArg₂ (fun y z : EReal => y + z) (((congrArg (· + _) Ideal.ofBits_zero_f32).trans (zero_add _)).trans (Finset.sum_congr rfl fun x _ => congrArg (fun z : EReal => z * k (ix4 0 0 c x)) ?_)) (pay3_apply a i c)
  fin_cases a
  · refine (dif_pos (by show 128 * 0 + i.val < 128; omega)).trans ?_
    by_cases hx : x.val < 64
    · refine (if_pos hx).trans (Eq.trans ?_ (if_pos (by simp [hx])).symm)
      exact congrArg (fun z : Fin 128 => q (ix4 0 0 z x) * Ideal.ofBits .bf16 0x3E00#16) (Fin.ext (by show 128 * 0 + i.val = i.val; omega))
    · refine (if_neg hx).trans (Eq.trans ?_ (if_neg (by simp [hx])).symm)
      exact Ideal.ofBits_zero_bf16
  · refine (dif_neg (by show ¬ 128 * 1 + i.val < 128; omega)).trans ?_
    by_cases hx : x.val < 64
    · refine (if_pos hx).trans (Eq.trans ?_ (if_neg (by simp [hx])).symm)
      exact Ideal.ofBits_zero_bf16
    · refine (if_neg hx).trans (Eq.trans ?_ (if_pos (by simp [hx])).symm)
      exact congrArg (fun z : Fin 128 => q (ix4 0 0 z x) * Ideal.ofBits .bf16 0x3E00#16) (Fin.ext (by show 128 * 1 + i.val - 128 = i.val; omega))

theorem up0 (i : Fin 128) (h) : (⟨![0, 0] 0 + i.val, h⟩ : Fin 256) = row 0 i := Fin.ext (by show 0 + i.val = 128 * 0 + i.val; omega)
theorem up1 (i : Fin 128) (h) : (⟨![128, 0] 0 + i.val, h⟩ : Fin 256) = row 1 i := Fin.ext (by show 128 + i.val = 128 * 1 + i.val; omega)
theorem same0 (d : Fin 128) (h) : (⟨![0, 0] 1 + d.val, h⟩ : Fin 128) = d := Fin.ext (by show 0 + d.val = d.val; omega)
theorem same1 (d : Fin 128) (h) : (⟨![128, 0] 1 + d.val, h⟩ : Fin 128) = d := Fin.ext (by show 0 + d.val = d.val; omega)

theorem pay16_apply (s : FVec Ideal S256x128 .f32) (r : Fin 256) : k0_pay16 s (ix2 r 0) = mx fun k => s (ix2 r k) := by
  simp only [k0_pay16, pointwise]
  rfl

theorem pay17_apply (s : FVec Ideal S256x128 .f32) (r : Fin 256) (c : Fin 128) :
    k0_pay17 s (ix2 r c) = Ideal.exp ((s (ix2 r c) : EReal) - mx fun k => s (ix2 r k)) := by
  rw [← pay16_apply]
  simp only [k0_pay17, pointwise]
  rfl

theorem pay18_apply (s : FVec Ideal S256x128 .f32) (r : Fin 256) : k0_pay18 s (ix2 r 0) = sm fun k => s (ix2 r k) := by
  simp only [k0_pay18, pointwise, Ideal.reduceAdd_def]
  exact Finset.sum_congr rfl fun k _ => pay17_apply s r k

theorem pay19_apply (s : FVec Ideal S256x128 .f32) (r : Fin 256) (c : Fin 128) :
    k0_pay19 s (ix2 r c) = Ideal.exp ((s (ix2 r c) : EReal) - mx fun k => s (ix2 r k)) := pay17_apply s r c

theorem pay33_apply (v : FVec Ideal S128x128 .bf16) (w : FVec Ideal S256x1 .f32) (p : FVec Ideal S256x128 .bf16) (i d : Fin 128) :
    k0_pay33 k0_pay1 v w p (ix3 0 i d) = (∑ k, (p (ix2 (row (if d.val < 64 then 0 else 1) i) k) * v (ix2 k d) : EReal)) * Ideal.div (Ideal.ofBits .f32 0x3F800000#32) (w (ix2 (row (if d.val < 64 then 0 else 1) i) 0)) := by
  simp only [k0_pay33, pointwise, pay1_apply, sel]
  split
  · simp only [dif_neg wide, up0, same0]
    exact congrArg (fun z : EReal => z * _) ((congrArg (· + _) Ideal.ofBits_zero_f32).trans (zero_add _))
  · simp only [dif_neg wide, up1, same1]
    exact congrArg (fun z : EReal => z * _) ((congrArg (· + _) Ideal.ofBits_zero_f32).trans (zero_add _))

theorem putLse_apply (n n' : Fin 8) (s : FVec Ideal S256x128 .f32) (b : FVec Ideal S128x128 .f32) (i d : Fin 128) :
    putLse (BitVec.ofNat 32 n.val) (BitVec.ofNat 32 n'.val) s b (ix2 i d)
      = if (⟨d.val / 16, by omega⟩ : Fin 8) = n then lse fun k => s (ix2 (row 0 i) k)
        else if (⟨d.val / 16, by omega⟩ : Fin 8) = n' then lse fun k => s (ix2 (row 1 i) k) else b (ix2 i d) := by
  simp only [putLse, pointwise, pay2_apply]
  have h := fun n : Fin 8 => group_eq ⟨d.val / 16, by omega⟩ n
  simp only at h
  rw [h, h, sel, sel]
  simp only [dif_neg wide, up0, up1, pay16_apply, pay18_apply]
  rfl

/-- A pair's block: head `d / 64`'s values over its weights' sum. -/
theorem pairOut_apply (q k v : Cols Ideal) (i d : Fin 128) :
    pairOut q k v (ix3 0 i d) = over (pairScore q k (if d.val < 64 then 0 else 1) i) (fun c => v (ix4 0 0 c d)) := by
  unfold pairOut
  rw [pay33_apply, pay18_apply]
  simp only [pay19_apply, score_apply]
  refine congrArg (fun z : EReal => z * _) (Finset.sum_congr rfl fun c _ => ?_)
  have e : k0_pay6 v (ix2 c d) = v (ix4 0 0 c d) := by simp only [k0_pay6, pointwise]
  exact congrArg (fun z : EReal => Ideal.exp _ * z) e

/-- The lane of a log-sum-exp tile belongs to pair `d / 32`, head `d / 16 % 2` of it. -/
theorem lseTile_apply (q k : Fin 4 → Cols Ideal) (i d : Fin 128) :
    lseTile q k (ix3 0 i d) = lse (pairScore (q ⟨d.val / 32, by omega⟩) (k ⟨d.val / 32, by omega⟩) ⟨d.val / 16 % 2, by omega⟩ i) := by
  unfold lseTile
  simp only [pointwise]
  have h := fun (n n' : Fin 8) s b => putLse_apply n n' s b i d
  have h67 : ∀ (s : FVec Ideal S256x128 .f32) (below : FVec Ideal S128x128 .f32), putLse 6#32 7#32 s below (ix2 i d) = if (⟨d.val / 16, by omega⟩ : Fin 8) = 6 then lse fun k => s (ix2 (row 0 i) k)
      else if (⟨d.val / 16, by omega⟩ : Fin 8) = 7 then lse fun k => s (ix2 (row 1 i) k) else below (ix2 i d) := h 6 7
  have h45 : ∀ (s : FVec Ideal S256x128 .f32) (below : FVec Ideal S128x128 .f32), putLse 4#32 5#32 s below (ix2 i d) = if (⟨d.val / 16, by omega⟩ : Fin 8) = 4 then lse fun k => s (ix2 (row 0 i) k)
      else if (⟨d.val / 16, by omega⟩ : Fin 8) = 5 then lse fun k => s (ix2 (row 1 i) k) else below (ix2 i d) := h 4 5
  have h23 : ∀ (s : FVec Ideal S256x128 .f32) (below : FVec Ideal S128x128 .f32), putLse 2#32 3#32 s below (ix2 i d) = if (⟨d.val / 16, by omega⟩ : Fin 8) = 2 then lse fun k => s (ix2 (row 0 i) k)
      else if (⟨d.val / 16, by omega⟩ : Fin 8) = 3 then lse fun k => s (ix2 (row 1 i) k) else below (ix2 i d) := h 2 3
  have h01 : ∀ (s : FVec Ideal S256x128 .f32) (below : FVec Ideal S128x128 .f32), putLse 0#32 1#32 s below (ix2 i d) = if (⟨d.val / 16, by omega⟩ : Fin 8) = 0 then lse fun k => s (ix2 (row 0 i) k)
      else if (⟨d.val / 16, by omega⟩ : Fin 8) = 1 then lse fun k => s (ix2 (row 1 i) k) else below (ix2 i d) := h 0 1
  simp only [h67, h45, h23, h01, score_apply]
  obtain ⟨g, hg⟩ : ∃ g : Fin 8, (⟨d.val / 16, by omega⟩ : Fin 8) = g := ⟨_, rfl⟩
  have hv : d.val / 16 = g.val := congrArg Fin.val hg
  have e1 : (⟨d.val / 32, by omega⟩ : Fin 4) = ⟨g.val / 2, by omega⟩ := Fin.ext (by show d.val / 32 = g.val / 2; omega)
  have e2 : (⟨d.val / 16 % 2, by omega⟩ : Fin 2) = ⟨g.val % 2, by omega⟩ := Fin.ext (by show d.val / 16 % 2 = g.val % 2; omega)
  rw [e1, e2, hg]
  clear e1 e2 h h67 h45 h23 h01
  fin_cases g <;> rfl

end Cert.Proof.Attn
-- ==== Proof.AttnRun.lean ====
/-
  The two arrays after the attention's run, over the extended reals: every entry a function of its residue's own columns.
-/
module

public import proofs.«01_k».proof.Proof.AttnIdeal

@[expose] public section

noncomputable section

namespace Cert.Proof.Attn

open Cert.Kernel4Ideal Cert.Kernel4Ideal.Gen Cert.Kernel4Ideal.Value
open Idealize.ShloMosaic Idealize.ShloMosaic.TcCoe Idealize.SL.Sem

/-! ## A point's blocks -/

def outBlock (x : Vec Ideal S1x8x128x1536 .bf16) : Vec Ideal S1x128x4096 .bf16 := fun y =>
  have h : (y 2).val < 4096 := (y 2).isLt
  pairOut (part x ⟨(y 2).val / 512, by omega⟩ ⟨(y 2).val / 128 % 4, by omega⟩) (part x ⟨(y 2).val / 512, by omega⟩ ⟨4 + (y 2).val / 128 % 4, by omega⟩)
    (part x ⟨(y 2).val / 512, by omega⟩ ⟨8 + (y 2).val / 128 % 4, by omega⟩) (ix3 0 (y 1) ⟨(y 2).val % 128, by omega⟩)

def lseBlock (x : Vec Ideal S1x8x128x1536 .bf16) : Vec Ideal S1x128x1024 .f32 := fun y =>
  have h : (y 2).val < 1024 := (y 2).isLt
  lseTile (fun j => part x ⟨(y 2).val / 128, by omega⟩ ⟨j.val, by omega⟩) (fun j => part x ⟨(y 2).val / 128, by omega⟩ ⟨4 + j.val, by omega⟩)
    (ix3 0 (y 1) ⟨(y 2).val % 128, by omega⟩)

theorem ext3' {n₀ n₁ n₂ : ℕ} {i j : (⟨3, ![n₀, n₁, n₂]⟩ : Shape).Idx} (h0 : (i 0).val = (j 0).val) (h1 : (i 1).val = (j 1).val) (h2 : (i 2).val = (j 2).val) : i = j :=
  funext fun d => Fin.ext (match d with
    | ⟨0, _⟩ => h0
    | ⟨1, _⟩ => h1
    | ⟨2, _⟩ => h2)

theorem piece1 (x : Vec Ideal S1x8x128x1536 .bf16) (s : Fin 8) (j : Fin 4) {q k v : Cols Ideal}
    (hq : q = part x s ⟨j.val, by omega⟩) (hk : k = part x s ⟨4 + j.val, by omega⟩) (hv : v = part x s ⟨8 + j.val, by omega⟩)
    (i : S1x128x128.Idx) (y : S1x128x4096.Idx) (h1 : (y 1).val = (i 1).val) (h2 : (y 2).val = 512 * s.val + 128 * j.val + (i 2).val) :
    pairOut q k v i = outBlock x y := by
  subst hq hk hv
  have hi0 : (i 0).val < 1 := (i 0).isLt
  have hi : (i 2).val < 128 := (i 2).isLt
  have hy : (y 2).val < 4096 := (y 2).isLt
  unfold outBlock
  have es : (⟨(y 2).val / 512, by omega⟩ : Fin 8) = s := Fin.ext (by show (y 2).val / 512 = s.val; omega)
  have e0 : (⟨(y 2).val / 128 % 4, by omega⟩ : Fin 12) = ⟨j.val, by omega⟩ := Fin.ext (by show (y 2).val / 128 % 4 = j.val; omega)
  have e4 : (⟨4 + (y 2).val / 128 % 4, by omega⟩ : Fin 12) = ⟨4 + j.val, by omega⟩ := Fin.ext (by show 4 + (y 2).val / 128 % 4 = 4 + j.val; omega)
  have e8 : (⟨8 + (y 2).val / 128 % 4, by omega⟩ : Fin 12) = ⟨8 + j.val, by omega⟩ := Fin.ext (by show 8 + (y 2).val / 128 % 4 = 8 + j.val; omega)
  simp only [es, e0, e4, e8]
  exact congrArg (pairOut _ _ _) (ext3' (by show (i 0).val = 0; omega) h1.symm (by show (i 2).val = (y 2).val % 128; omega))

theorem piece2 (x : Vec Ideal S1x8x128x1536 .bf16) (s : Fin 8) {q k : Fin 4 → Cols Ideal}
    (hq : ∀ j, q j = part x s ⟨j.val, by omega⟩) (hk : ∀ j, k j = part x s ⟨4 + j.val, by omega⟩)
    (i : S1x128x128.Idx) (y : S1x128x1024.Idx) (h1 : (y 1).val = (i 1).val) (h2 : (y 2).val = 128 * s.val + (i 2).val) :
    lseTile q k i = lseBlock x y := by
  obtain rfl : q = _ := funext hq
  obtain rfl : k = _ := funext hk
  have hi0 : (i 0).val < 1 := (i 0).isLt
  have hi : (i 2).val < 128 := (i 2).isLt
  have hy : (y 2).val < 1024 := (y 2).isLt
  unfold lseBlock
  have es : (⟨(y 2).val / 128, by omega⟩ : Fin 8) = s := Fin.ext (by show (y 2).val / 128 = s.val; omega)
  simp only [es]
  exact congrArg (lseTile _ _) (ext3' (by show (i 0).val = 0; omega) h1.symm (by show (i 2).val = (y 2).val % 128; omega))

/-- Four rectangles' columns by the pair they are of. -/
theorem four {p : Fin 4 → Cols Ideal} {a b c d : Cols Ideal} (h0 : a = p 0) (h1 : b = p 1) (h2 : c = p 2) (h3 : d = p 3) : ∀ j, (![a, b, c, d] : Fin 4 → Cols Ideal) j = p j := by
  intro j
  match j with
  | 0 => exact h0
  | 1 => exact h1
  | 2 => exact h2
  | 3 => exact h3

theorem out1_eq (x : Vec Ideal S1x8x128x1536 .bf16) : out0_1 x = outBlock x := by
  rw [pieces1]
  funext y
  have hy0 : (y 0).val < 1 := (y 0).isLt
  have hy1 : (y 1).val < 128 := (y 1).isLt
  have hy : (y 2).val < 4096 := (y 2).isLt
  refine View.canon_apply_of_pieces (outBlock x) _ ?_ y ?_
  · intro p hp k
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact piece1 x 7 3 (ld_part x 7 3 rfl rfl _) (ld_part x 7 7 rfl rfl _) (ld_part x 7 11 rfl rfl _) k _ (by show 0 + 1 * (k 1).val = (k 1).val; omega) (by show 3968 + 1 * (k 2).val = 512 * 7 + 128 * 3 + (k 2).val; omega)
    · exact piece1 x 7 2 (ld_part x 7 2 rfl rfl _) (ld_part x 7 6 rfl rfl _) (ld_part x 7 10 rfl rfl _) k _ (by show 0 + 1 * (k 1).val = (k 1).val; omega) (by show 3840 + 1 * (k 2).val = 512 * 7 + 128 * 2 + (k 2).val; omega)
    · exact piece1 x 7 1 (ld_part x 7 1 rfl rfl _) (ld_part x 7 5 rfl rfl _) (ld_part x 7 9 rfl rfl _) k _ (by show 0 + 1 * (k 1).val = (k 1).val; omega) (by show 3712 + 1 * (k 2).val = 512 * 7 + 128 * 1 + (k 2).val; omega)
    · exact piece1 x 7 0 (ld_part x 7 0 rfl rfl _) (ld_part x 7 4 rfl rfl _) (ld_part x 7 8 rfl rfl _) k _ (by show 0 + 1 * (k 1).val = (k 1).val; omega) (by show 3584 + 1 * (k 2).val = 512 * 7 + 128 * 0 + (k 2).val; omega)
    · exact piece1 x 6 3 (ld_part x 6 3 rfl rfl _) (ld_part x 6 7 rfl rfl _) (ld_part x 6 11 rfl rfl _) k _ (by show 0 + 1 * (k 1).val = (k 1).val; omega) (by show 3456 + 1 * (k 2).val = 512 * 6 + 128 * 3 + (k 2).val; omega)
    · exact piece1 x 6 2 (ld_part x 6 2 rfl rfl _) (ld_part x 6 6 rfl rfl _) (ld_part x 6 10 rfl rfl _) k _ (by show 0 + 1 * (k 1).val = (k 1).val; omega) (by show 3328 + 1 * (k 2).val = 512 * 6 + 128 * 2 + (k 2).val; omega)
    · exact piece1 x 6 1 (ld_part x 6 1 rfl rfl _) (ld_part x 6 5 rfl rfl _) (ld_part x 6 9 rfl rfl _) k _ (by show 0 + 1 * (k 1).val = (k 1).val; omega) (by show 3200 + 1 * (k 2).val = 512 * 6 + 128 * 1 + (k 2).val; omega)
    · exact piece1 x 6 0 (ld_part x 6 0 rfl rfl _) (ld_part x 6 4 rfl rfl _) (ld_part x 6 8 rfl rfl _) k _ (by show 0 + 1 * (k 1).val = (k 1).val; omega) (by show 3072 + 1 * (k 2).val = 512 * 6 + 128 * 0 + (k 2).val; omega)
    · exact piece1 x 5 3 (ld_part x 5 3 rfl rfl _) (ld_part x 5 7 rfl rfl _) (ld_part x 5 11 rfl rfl _) k _ (by show 0 + 1 * (k 1).val = (k 1).val; omega) (by show 2944 + 1 * (k 2).val = 512 * 5 + 128 * 3 + (k 2).val; omega)
    · exact piece1 x 5 2 (ld_part x 5 2 rfl rfl _) (ld_part x 5 6 rfl rfl _) (ld_part x 5 10 rfl rfl _) k _ (by show 0 + 1 * (k 1).val = (k 1).val; omega) (by show 2816 + 1 * (k 2).val = 512 * 5 + 128 * 2 + (k 2).val; omega)
    · exact piece1 x 5 1 (ld_part x 5 1 rfl rfl _) (ld_part x 5 5 rfl rfl _) (ld_part x 5 9 rfl rfl _) k _ (by show 0 + 1 * (k 1).val = (k 1).val; omega) (by show 2688 + 1 * (k 2).val = 512 * 5 + 128 * 1 + (k 2).val; omega)
    · exact piece1 x 5 0 (ld_part x 5 0 rfl rfl _) (ld_part x 5 4 rfl rfl _) (ld_part x 5 8 rfl rfl _) k _ (by show 0 + 1 * (k 1).val = (k 1).val; omega) (by show 2560 + 1 * (k 2).val = 512 * 5 + 128 * 0 + (k 2).val; omega)
    · exact piece1 x 4 3 (ld_part x 4 3 rfl rfl _) (ld_part x 4 7 rfl rfl _) (ld_part x 4 11 rfl rfl _) k _ (by show 0 + 1 * (k 1).val = (k 1).val; omega) (by show 2432 + 1 * (k 2).val = 512 * 4 + 128 * 3 + (k 2).val; omega)
    · exact piece1 x 4 2 (ld_part x 4 2 rfl rfl _) (ld_part x 4 6 rfl rfl _) (ld_part x 4 10 rfl rfl _) k _ (by show 0 + 1 * (k 1).val = (k 1).val; omega) (by show 2304 + 1 * (k 2).val = 512 * 4 + 128 * 2 + (k 2).val; omega)
    · exact piece1 x 4 1 (ld_part x 4 1 rfl rfl _) (ld_part x 4 5 rfl rfl _) (ld_part x 4 9 rfl rfl _) k _ (by show 0 + 1 * (k 1).val = (k 1).val; omega) (by show 2176 + 1 * (k 2).val = 512 * 4 + 128 * 1 + (k 2).val; omega)
    · exact piece1 x 4 0 (ld_part x 4 0 rfl rfl _) (ld_part x 4 4 rfl rfl _) (ld_part x 4 8 rfl rfl _) k _ (by show 0 + 1 * (k 1).val = (k 1).val; omega) (by show 2048 + 1 * (k 2).val = 512 * 4 + 128 * 0 + (k 2).val; omega)
    · exact piece1 x 3 3 (ld_part x 3 3 rfl rfl _) (ld_part x 3 7 rfl rfl _) (ld_part x 3 11 rfl rfl _) k _ (by show 0 + 1 * (k 1).val = (k 1).val; omega) (by show 1920 + 1 * (k 2).val = 512 * 3 + 128 * 3 + (k 2).val; omega)
    · exact piece1 x 3 2 (ld_part x 3 2 rfl rfl _) (ld_part x 3 6 rfl rfl _) (ld_part x 3 10 rfl rfl _) k _ (by show 0 + 1 * (k 1).val = (k 1).val; omega) (by show 1792 + 1 * (k 2).val = 512 * 3 + 128 * 2 + (k 2).val; omega)
    · exact piece1 x 3 1 (ld_part x 3 1 rfl rfl _) (ld_part x 3 5 rfl rfl _) (ld_part x 3 9 rfl rfl _) k _ (by show 0 + 1 * (k 1).val = (k 1).val; omega) (by show 1664 + 1 * (k 2).val = 512 * 3 + 128 * 1 + (k 2).val; omega)
    · exact piece1 x 3 0 (ld_part x 3 0 rfl rfl _) (ld_part x 3 4 rfl rfl _) (ld_part x 3 8 rfl rfl _) k _ (by show 0 + 1 * (k 1).val = (k 1).val; omega) (by show 1536 + 1 * (k 2).val = 512 * 3 + 128 * 0 + (k 2).val; omega)
    · exact piece1 x 2 3 (ld_part x 2 3 rfl rfl _) (ld_part x 2 7 rfl rfl _) (ld_part x 2 11 rfl rfl _) k _ (by show 0 + 1 * (k 1).val = (k 1).val; omega) (by show 1408 + 1 * (k 2).val = 512 * 2 + 128 * 3 + (k 2).val; omega)
    · exact piece1 x 2 2 (ld_part x 2 2 rfl rfl _) (ld_part x 2 6 rfl rfl _) (ld_part x 2 10 rfl rfl _) k _ (by show 0 + 1 * (k 1).val = (k 1).val; omega) (by show 1280 + 1 * (k 2).val = 512 * 2 + 128 * 2 + (k 2).val; omega)
    · exact piece1 x 2 1 (ld_part x 2 1 rfl rfl _) (ld_part x 2 5 rfl rfl _) (ld_part x 2 9 rfl rfl _) k _ (by show 0 + 1 * (k 1).val = (k 1).val; omega) (by show 1152 + 1 * (k 2).val = 512 * 2 + 128 * 1 + (k 2).val; omega)
    · exact piece1 x 2 0 (ld_part x 2 0 rfl rfl _) (ld_part x 2 4 rfl rfl _) (ld_part x 2 8 rfl rfl _) k _ (by show 0 + 1 * (k 1).val = (k 1).val; omega) (by show 1024 + 1 * (k 2).val = 512 * 2 + 128 * 0 + (k 2).val; omega)
    · exact piece1 x 1 3 (ld_part x 1 3 rfl rfl _) (ld_part x 1 7 rfl rfl _) (ld_part x 1 11 rfl rfl _) k _ (by show 0 + 1 * (k 1).val = (k 1).val; omega) (by show 896 + 1 * (k 2).val = 512 * 1 + 128 * 3 + (k 2).val; omega)
    · exact piece1 x 1 2 (ld_part x 1 2 rfl rfl _) (ld_part x 1 6 rfl rfl _) (ld_part x 1 10 rfl rfl _) k _ (by show 0 + 1 * (k 1).val = (k 1).val; omega) (by show 768 + 1 * (k 2).val = 512 * 1 + 128 * 2 + (k 2).val; omega)
    · exact piece1 x 1 1 (ld_part x 1 1 rfl rfl _) (ld_part x 1 5 rfl rfl _) (ld_part x 1 9 rfl rfl _) k _ (by show 0 + 1 * (k 1).val = (k 1).val; omega) (by show 640 + 1 * (k 2).val = 512 * 1 + 128 * 1 + (k 2).val; omega)
    · exact piece1 x 1 0 (ld_part x 1 0 rfl rfl _) (ld_part x 1 4 rfl rfl _) (ld_part x 1 8 rfl rfl _) k _ (by show 0 + 1 * (k 1).val = (k 1).val; omega) (by show 512 + 1 * (k 2).val = 512 * 1 + 128 * 0 + (k 2).val; omega)
    · exact piece1 x 0 3 (ld_part x 0 3 rfl rfl _) (ld_part x 0 7 rfl rfl _) (ld_part x 0 11 rfl rfl _) k _ (by show 0 + 1 * (k 1).val = (k 1).val; omega) (by show 384 + 1 * (k 2).val = 512 * 0 + 128 * 3 + (k 2).val; omega)
    · exact piece1 x 0 2 (ld_part x 0 2 rfl rfl _) (ld_part x 0 6 rfl rfl _) (ld_part x 0 10 rfl rfl _) k _ (by show 0 + 1 * (k 1).val = (k 1).val; omega) (by show 256 + 1 * (k 2).val = 512 * 0 + 128 * 2 + (k 2).val; omega)
    · exact piece1 x 0 1 (ld_part x 0 1 rfl rfl _) (ld_part x 0 5 rfl rfl _) (ld_part x 0 9 rfl rfl _) k _ (by show 0 + 1 * (k 1).val = (k 1).val; omega) (by show 128 + 1 * (k 2).val = 512 * 0 + 128 * 1 + (k 2).val; omega)
    · exact piece1 x 0 0 (ld_part x 0 0 rfl rfl _) (ld_part x 0 4 rfl rfl _) (ld_part x 0 8 rfl rfl _) k _ (by show 0 + 1 * (k 1).val = (k 1).val; omega) (by show 0 + 1 * (k 2).val = 512 * 0 + 128 * 0 + (k 2).val; omega)
  · simp only [List.mem_cons, List.not_mem_nil, or_false, exists_eq_or_imp, exists_eq_left, Rect.mem_set_unit]
    have key : ∀ n : ℕ, n ≤ (y 2).val → (y 2).val < n + 128 → ∀ a, (![0, 0, n] : Fin 3 → ℕ) a ≤ (y a).val ∧ (y a).val < (![0, 0, n] : Fin 3 → ℕ) a + S1x128x128.size a := by
      intro n h1 h2 a
      match a with
      | 0 => exact ⟨Nat.zero_le _, by show (y 0).val < 0 + 1; omega⟩
      | 1 => exact ⟨Nat.zero_le _, by show (y 1).val < 0 + 128; omega⟩
      | 2 => exact ⟨h1, h2⟩
    by_cases h31 : 3968 ≤ (y 2).val
    · exact .inl (key _ h31 (by omega))
    refine .inr ?_
    by_cases h30 : 3840 ≤ (y 2).val
    · exact .inl (key _ h30 (by omega))
    refine .inr ?_
    by_cases h29 : 3712 ≤ (y 2).val
    · exact .inl (key _ h29 (by omega))
    refine .inr ?_
    by_cases h28 : 3584 ≤ (y 2).val
    · exact .inl (key _ h28 (by omega))
    refine .inr ?_
    by_cases h27 : 3456 ≤ (y 2).val
    · exact .inl (key _ h27 (by omega))
    refine .inr ?_
    by_cases h26 : 3328 ≤ (y 2).val
    · exact .inl (key _ h26 (by omega))
    refine .inr ?_
    by_cases h25 : 3200 ≤ (y 2).val
    · exact .inl (key _ h25 (by omega))
    refine .inr ?_
    by_cases h24 : 3072 ≤ (y 2).val
    · exact .inl (key _ h24 (by omega))
    refine .inr ?_
    by_cases h23 : 2944 ≤ (y 2).val
    · exact .inl (key _ h23 (by omega))
    refine .inr ?_
    by_cases h22 : 2816 ≤ (y 2).val
    · exact .inl (key _ h22 (by omega))
    refine .inr ?_
    by_cases h21 : 2688 ≤ (y 2).val
    · exact .inl (key _ h21 (by omega))
    refine .inr ?_
    by_cases h20 : 2560 ≤ (y 2).val
    · exact .inl (key _ h20 (by omega))
    refine .inr ?_
    by_cases h19 : 2432 ≤ (y 2).val
    · exact .inl (key _ h19 (by omega))
    refine .inr ?_
    by_cases h18 : 2304 ≤ (y 2).val
    · exact .inl (key _ h18 (by omega))
    refine .inr ?_
    by_cases h17 : 2176 ≤ (y 2).val
    · exact .inl (key _ h17 (by omega))
    refine .inr ?_
    by_cases h16 : 2048 ≤ (y 2).val
    · exact .inl (key _ h16 (by omega))
    refine .inr ?_
    by_cases h15 : 1920 ≤ (y 2).val
    · exact .inl (key _ h15 (by omega))
    refine .inr ?_
    by_cases h14 : 1792 ≤ (y 2).val
    · exact .inl (key _ h14 (by omega))
    refine .inr ?_
    by_cases h13 : 1664 ≤ (y 2).val
    · exact .inl (key _ h13 (by omega))
    refine .inr ?_
    by_cases h12 : 1536 ≤ (y 2).val
    · exact .inl (key _ h12 (by omega))
    refine .inr ?_
    by_cases h11 : 1408 ≤ (y 2).val
    · exact .inl (key _ h11 (by omega))
    refine .inr ?_
    by_cases h10 : 1280 ≤ (y 2).val
    · exact .inl (key _ h10 (by omega))
    refine .inr ?_
    by_cases h9 : 1152 ≤ (y 2).val
    · exact .inl (key _ h9 (by omega))
    refine .inr ?_
    by_cases h8 : 1024 ≤ (y 2).val
    · exact .inl (key _ h8 (by omega))
    refine .inr ?_
    by_cases h7 : 896 ≤ (y 2).val
    · exact .inl (key _ h7 (by omega))
    refine .inr ?_
    by_cases h6 : 768 ≤ (y 2).val
    · exact .inl (key _ h6 (by omega))
    refine .inr ?_
    by_cases h5 : 640 ≤ (y 2).val
    · exact .inl (key _ h5 (by omega))
    refine .inr ?_
    by_cases h4 : 512 ≤ (y 2).val
    · exact .inl (key _ h4 (by omega))
    refine .inr ?_
    by_cases h3 : 384 ≤ (y 2).val
    · exact .inl (key _ h3 (by omega))
    refine .inr ?_
    by_cases h2 : 256 ≤ (y 2).val
    · exact .inl (key _ h2 (by omega))
    refine .inr ?_
    by_cases h1 : 128 ≤ (y 2).val
    · exact .inl (key _ h1 (by omega))
    refine .inr ?_
    exact key _ (Nat.zero_le _) (by omega)

theorem out2_eq (x : Vec Ideal S1x8x128x1536 .bf16) : out0_2 x = lseBlock x := by
  rw [pieces2]
  funext y
  have hy0 : (y 0).val < 1 := (y 0).isLt
  have hy1 : (y 1).val < 128 := (y 1).isLt
  have hy : (y 2).val < 1024 := (y 2).isLt
  refine View.canon_apply_of_pieces (lseBlock x) _ ?_ y ?_
  · intro p hp k
    simp only [List.mem_cons, List.not_mem_nil, or_false] at hp
    rcases hp with rfl | rfl | rfl | rfl | rfl | rfl | rfl | rfl
    · exact piece2 x 7 (four (ld_part x 7 0 rfl rfl _) (ld_part x 7 1 rfl rfl _) (ld_part x 7 2 rfl rfl _) (ld_part x 7 3 rfl rfl _)) (four (ld_part x 7 4 rfl rfl _) (ld_part x 7 5 rfl rfl _) (ld_part x 7 6 rfl rfl _) (ld_part x 7 7 rfl rfl _)) k _ (by show 0 + 1 * (k 1).val = (k 1).val; omega) (by show 896 + 1 * (k 2).val = 128 * 7 + (k 2).val; omega)
    · exact piece2 x 6 (four (ld_part x 6 0 rfl rfl _) (ld_part x 6 1 rfl rfl _) (ld_part x 6 2 rfl rfl _) (ld_part x 6 3 rfl rfl _)) (four (ld_part x 6 4 rfl rfl _) (ld_part x 6 5 rfl rfl _) (ld_part x 6 6 rfl rfl _) (ld_part x 6 7 rfl rfl _)) k _ (by show 0 + 1 * (k 1).val = (k 1).val; omega) (by show 768 + 1 * (k 2).val = 128 * 6 + (k 2).val; omega)
    · exact piece2 x 5 (four (ld_part x 5 0 rfl rfl _) (ld_part x 5 1 rfl rfl _) (ld_part x 5 2 rfl rfl _) (ld_part x 5 3 rfl rfl _)) (four (ld_part x 5 4 rfl rfl _) (ld_part x 5 5 rfl rfl _) (ld_part x 5 6 rfl rfl _) (ld_part x 5 7 rfl rfl _)) k _ (by show 0 + 1 * (k 1).val = (k 1).val; omega) (by show 640 + 1 * (k 2).val = 128 * 5 + (k 2).val; omega)
    · exact piece2 x 4 (four (ld_part x 4 0 rfl rfl _) (ld_part x 4 1 rfl rfl _) (ld_part x 4 2 rfl rfl _) (ld_part x 4 3 rfl rfl _)) (four (ld_part x 4 4 rfl rfl _) (ld_part x 4 5 rfl rfl _) (ld_part x 4 6 rfl rfl _) (ld_part x 4 7 rfl rfl _)) k _ (by show 0 + 1 * (k 1).val = (k 1).val; omega) (by show 512 + 1 * (k 2).val = 128 * 4 + (k 2).val; omega)
    · exact piece2 x 3 (four (ld_part x 3 0 rfl rfl _) (ld_part x 3 1 rfl rfl _) (ld_part x 3 2 rfl rfl _) (ld_part x 3 3 rfl rfl _)) (four (ld_part x 3 4 rfl rfl _) (ld_part x 3 5 rfl rfl _) (ld_part x 3 6 rfl rfl _) (ld_part x 3 7 rfl rfl _)) k _ (by show 0 + 1 * (k 1).val = (k 1).val; omega) (by show 384 + 1 * (k 2).val = 128 * 3 + (k 2).val; omega)
    · exact piece2 x 2 (four (ld_part x 2 0 rfl rfl _) (ld_part x 2 1 rfl rfl _) (ld_part x 2 2 rfl rfl _) (ld_part x 2 3 rfl rfl _)) (four (ld_part x 2 4 rfl rfl _) (ld_part x 2 5 rfl rfl _) (ld_part x 2 6 rfl rfl _) (ld_part x 2 7 rfl rfl _)) k _ (by show 0 + 1 * (k 1).val = (k 1).val; omega) (by show 256 + 1 * (k 2).val = 128 * 2 + (k 2).val; omega)
    · exact piece2 x 1 (four (ld_part x 1 0 rfl rfl _) (ld_part x 1 1 rfl rfl _) (ld_part x 1 2 rfl rfl _) (ld_part x 1 3 rfl rfl _)) (four (ld_part x 1 4 rfl rfl _) (ld_part x 1 5 rfl rfl _) (ld_part x 1 6 rfl rfl _) (ld_part x 1 7 rfl rfl _)) k _ (by show 0 + 1 * (k 1).val = (k 1).val; omega) (by show 128 + 1 * (k 2).val = 128 * 1 + (k 2).val; omega)
    · exact piece2 x 0 (four (ld_part x 0 0 rfl rfl _) (ld_part x 0 1 rfl rfl _) (ld_part x 0 2 rfl rfl _) (ld_part x 0 3 rfl rfl _)) (four (ld_part x 0 4 rfl rfl _) (ld_part x 0 5 rfl rfl _) (ld_part x 0 6 rfl rfl _) (ld_part x 0 7 rfl rfl _)) k _ (by show 0 + 1 * (k 1).val = (k 1).val; omega) (by show 0 + 1 * (k 2).val = 128 * 0 + (k 2).val; omega)
  · simp only [List.mem_cons, List.not_mem_nil, or_false, exists_eq_or_imp, exists_eq_left, Rect.mem_set_unit]
    have key : ∀ n : ℕ, n ≤ (y 2).val → (y 2).val < n + 128 → ∀ a, (![0, 0, n] : Fin 3 → ℕ) a ≤ (y a).val ∧ (y a).val < (![0, 0, n] : Fin 3 → ℕ) a + S1x128x128.size a := by
      intro n h1 h2 a
      match a with
      | 0 => exact ⟨Nat.zero_le _, by show (y 0).val < 0 + 1; omega⟩
      | 1 => exact ⟨Nat.zero_le _, by show (y 1).val < 0 + 128; omega⟩
      | 2 => exact ⟨h1, h2⟩
    by_cases h7 : 896 ≤ (y 2).val
    · exact .inl (key _ h7 (by omega))
    refine .inr ?_
    by_cases h6 : 768 ≤ (y 2).val
    · exact .inl (key _ h6 (by omega))
    refine .inr ?_
    by_cases h5 : 640 ≤ (y 2).val
    · exact .inl (key _ h5 (by omega))
    refine .inr ?_
    by_cases h4 : 512 ≤ (y 2).val
    · exact .inl (key _ h4 (by omega))
    refine .inr ?_
    by_cases h3 : 384 ≤ (y 2).val
    · exact .inl (key _ h3 (by omega))
    refine .inr ?_
    by_cases h2 : 256 ≤ (y 2).val
    · exact .inl (key _ h2 (by omega))
    refine .inr ?_
    by_cases h1 : 128 ≤ (y 2).val
    · exact .inl (key _ h1 (by omega))
    refine .inr ?_
    exact key _ (Nat.zero_le _) (by omega)

/-! ## The arrays -/

/-- Columns 128 p to 128 p + 128 of batch `b`, residue `r`. -/
def cols (x : Vec Ideal S8x16x128x1536 .bf16) (b : Fin 8) (r : Fin 16) (p : Fin 12) : Cols Ideal := fun i =>
  x (ix4 b r (i 2) ⟨128 * p.val + (i 3).val, by have : (i 3).val < 128 := (i 3).isLt; omega⟩)

def outArr (x : Vec Ideal S8x16x128x1536 .bf16) : Vec Ideal S8x128x8192 .bf16 := fun y =>
  have h : (y 2).val < 8192 := (y 2).isLt
  pairOut (cols x (y 0) ⟨(y 2).val / 512, by omega⟩ ⟨(y 2).val / 128 % 4, by omega⟩) (cols x (y 0) ⟨(y 2).val / 512, by omega⟩ ⟨4 + (y 2).val / 128 % 4, by omega⟩)
    (cols x (y 0) ⟨(y 2).val / 512, by omega⟩ ⟨8 + (y 2).val / 128 % 4, by omega⟩) (ix3 0 (y 1) ⟨(y 2).val % 128, by omega⟩)

def lseArr (x : Vec Ideal S8x16x128x1536 .bf16) : Vec Ideal S8x128x2048 .f32 := fun y =>
  have h : (y 2).val < 2048 := (y 2).isLt
  lseTile (fun j => cols x (y 0) ⟨(y 2).val / 128, by omega⟩ ⟨j.val, by omega⟩) (fun j => cols x (y 0) ⟨(y 2).val / 128, by omega⟩ ⟨4 + j.val, by omega⟩)
    (ix3 0 (y 1) ⟨(y 2).val % 128, by omega⟩)

variable (m : (ℓ : Loc nD τ sig) → Buf (Elt Ideal) ℓ) (ρ : Dev nD → PrngReg)

theorem idx0 : ∀ t : Fin cfg0.N, win0_0.index t (0 : Fin 4) = t.val / 2 ∧ win0_0.index t (1 : Fin 4) = t.val % 2 ∧ win0_0.index t (2 : Fin 4) = 0 ∧ win0_0.index t (3 : Fin 4) = 0 :=
  (by decide +kernel : ∀ t : Fin grid0.N, _)
theorem idx1 : ∀ t : Fin cfg0.N, win0_1.index t (0 : Fin 3) = t.val / 2 ∧ win0_1.index t (1 : Fin 3) = 0 ∧ win0_1.index t (2 : Fin 3) = t.val % 2 :=
  (by decide +kernel : ∀ t : Fin grid0.N, _)
theorem idx2 : ∀ t : Fin cfg0.N, win0_2.index t (0 : Fin 3) = t.val / 2 ∧ win0_2.index t (1 : Fin 3) = 0 ∧ win0_2.index t (2 : Fin 3) = t.val % 2 :=
  (by decide +kernel : ∀ t : Fin grid0.N, _)

theorem pt_lt (t : Fin cfg0.N) : t.val < 16 := t.isLt.trans_eq N_0

/-- Point `t` reads batch `t / 2`, the eight residues of half `t % 2`. -/
theorem part_block (c : Dev nD) (t : Fin cfg0.N) (s : Fin 8) (p : Fin 12) :
    part (iblk m c 0 t) s p = cols (V m c main_arg0) ⟨t.val / 2, by have := pt_lt t; omega⟩ ⟨8 * (t.val % 2) + s.val, by omega⟩ p := by
  obtain ⟨e0, e1, e2, e3⟩ := idx0 t
  funext i
  refine congrArg (V m c main_arg0) (funext fun d => Fin.ext ?_)
  match d with
  | ⟨0, _⟩ => show win0_0.index t (0 : Fin 4) * 1 + 1 * 0 = t.val / 2; omega
  | ⟨1, _⟩ => show win0_0.index t (1 : Fin 4) * 8 + 1 * s.val = 8 * (t.val % 2) + s.val; omega
  | ⟨2, _⟩ => show win0_0.index t (2 : Fin 4) * 128 + 1 * (i 2).val = (i 2).val; omega
  | ⟨3, _⟩ => show win0_0.index t (3 : Fin 4) * 1536 + 1 * (128 * p.val + (i 3).val) = 128 * p.val + (i 3).val; omega

theorem emb1 (t : Fin cfg0.N) (j : S1x128x4096.Idx) :
    ((cfg0.win 1).blk t).view.emb j = (ix3 ⟨t.val / 2, by have := pt_lt t; omega⟩ (j 1) ⟨4096 * (t.val % 2) + (j 2).val, by have : (j 2).val < 4096 := (j 2).isLt; omega⟩ : S8x128x8192.Idx) := by
  obtain ⟨e0, e1, e2⟩ := idx1 t
  have hj : (j 0).val < 1 := (j 0).isLt
  refine ext3' ?_ ?_ ?_
  · show win0_1.index t (0 : Fin 3) * 1 + 1 * (j 0).val = t.val / 2; omega
  · show win0_1.index t (1 : Fin 3) * 128 + 1 * (j 1).val = (j 1).val; omega
  · show win0_1.index t (2 : Fin 3) * 4096 + 1 * (j 2).val = 4096 * (t.val % 2) + (j 2).val; omega

theorem emb2 (t : Fin cfg0.N) (j : S1x128x1024.Idx) :
    ((cfg0.win 2).blk t).view.emb j = (ix3 ⟨t.val / 2, by have := pt_lt t; omega⟩ (j 1) ⟨1024 * (t.val % 2) + (j 2).val, by have : (j 2).val < 1024 := (j 2).isLt; omega⟩ : S8x128x2048.Idx) := by
  obtain ⟨e0, e1, e2⟩ := idx2 t
  have hj : (j 0).val < 1 := (j 0).isLt
  refine ext3' ?_ ?_ ?_
  · show win0_2.index t (0 : Fin 3) * 1 + 1 * (j 0).val = t.val / 2; omega
  · show win0_2.index t (1 : Fin 3) * 128 + 1 * (j 1).val = (j 1).val; omega
  · show win0_2.index t (2 : Fin 3) * 1024 + 1 * (j 2).val = 1024 * (t.val % 2) + (j 2).val; omega

theorem cols_congr (x : Vec Ideal S8x16x128x1536 .bf16) (b : Fin 8) {r r' : Fin 16} {p p' : Fin 12} (hr : r.val = r'.val) (hp : p.val = p'.val) :
    cols x b r p = cols x b r' p' := by
  rw [Fin.ext hr, Fin.ext hp]

theorem outBlock_eq (c : Dev nD) (t : Fin cfg0.N) (j : S1x128x4096.Idx) :
    outBlock (iblk m c 0 t) j = outArr (V m c main_arg0) (ix3 ⟨t.val / 2, by have := pt_lt t; omega⟩ (j 1) ⟨4096 * (t.val % 2) + (j 2).val, by have : (j 2).val < 4096 := (j 2).isLt; omega⟩) := by
  have hj : (j 2).val < 4096 := (j 2).isLt
  unfold outBlock outArr
  simp only [part_block]
  have e1 : 8 * (t.val % 2) + (j 2).val / 512 = (4096 * (t.val % 2) + (j 2).val) / 512 := by omega
  have e2 : (j 2).val / 128 % 4 = (4096 * (t.val % 2) + (j 2).val) / 128 % 4 := by omega
  have e3 : (j 2).val % 128 = (4096 * (t.val % 2) + (j 2).val) % 128 := by omega
  have ex : (ix3 0 (j 1) ⟨(j 2).val % 128, by omega⟩ : S1x128x128.Idx) = ix3 0 (j 1) ⟨(4096 * (t.val % 2) + (j 2).val) % 128, by omega⟩ := ext3' rfl rfl e3
  rw [ex]
  refine congrFun ?_ _
  congr 1
  · exact cols_congr _ _ e1 e2
  · exact cols_congr _ _ e1 (congrArg (4 + ·) e2)
  · exact cols_congr _ _ e1 (congrArg (8 + ·) e2)

theorem lseBlock_eq (c : Dev nD) (t : Fin cfg0.N) (j : S1x128x1024.Idx) :
    lseBlock (iblk m c 0 t) j = lseArr (V m c main_arg0) (ix3 ⟨t.val / 2, by have := pt_lt t; omega⟩ (j 1) ⟨1024 * (t.val % 2) + (j 2).val, by have : (j 2).val < 1024 := (j 2).isLt; omega⟩) := by
  have hj : (j 2).val < 1024 := (j 2).isLt
  unfold lseBlock lseArr
  simp only [part_block]
  have e1 : 8 * (t.val % 2) + (j 2).val / 128 = (1024 * (t.val % 2) + (j 2).val) / 128 := by omega
  have e3 : (j 2).val % 128 = (1024 * (t.val % 2) + (j 2).val) % 128 := by omega
  have ex : (ix3 0 (j 1) ⟨(j 2).val % 128, by omega⟩ : S1x128x128.Idx) = ix3 0 (j 1) ⟨(1024 * (t.val % 2) + (j 2).val) % 128, by omega⟩ := ext3' rfl rfl e3
  rw [ex]
  refine congrFun ?_ _
  congr 1
  · funext p; exact cols_congr _ _ e1 rfl
  · funext p; exact cols_congr _ _ e1 rfl

theorem flushed_out (c : Dev nD) (t : Fin cfg0.N) :
    (dats m 0 c).flushed 1 t = ((cfg0.win 1).blk t).view.read (Elt Ideal) (outArr (V m c main_arg0)) := by
  rw [flushed1, out1_eq]
  funext j
  exact (outBlock_eq m c t j).trans (congrArg (outArr (V m c main_arg0)) (emb1 t j)).symm

theorem flushed_lse (c : Dev nD) (t : Fin cfg0.N) :
    (dats m 0 c).flushed 2 t = ((cfg0.win 2).blk t).view.read (Elt Ideal) (lseArr (V m c main_arg0)) := by
  rw [flushed2, out2_eq]
  funext j
  exact (lseBlock_eq m c t j).trans (congrArg (lseArr (V m c main_arg0)) (emb2 t j)).symm

theorem covered1 (i : S8x128x8192.Idx) : ∃ t : Fin cfg0.N, (cfg0.win 1).flush t = true ∧ i ∈ ((cfg0.win 1).blk t).view.set := by
  have h0 : (i 0).val < 8 := (i 0).isLt
  have h2 : (i 2).val < 8192 := (i 2).isLt
  have ht : 2 * (i 0).val + (i 2).val / 4096 < cfg0.N := by rw [show cfg0.N = 16 from N_0]; omega
  have h := ((cfg0.win 1).blk ⟨2 * (i 0).val + (i 2).val / 4096, ht⟩).view.emb_mem_set (ix3 0 (i 1) ⟨(i 2).val % 4096, by omega⟩ : S1x128x4096.Idx)
  rw [emb1] at h
  refine ⟨_, flush0_1 _, (congrArg (· ∈ _) (ext3' ?_ ?_ ?_)).mp h⟩
  · show (2 * (i 0).val + (i 2).val / 4096) / 2 = (i 0).val; omega
  · rfl
  · show 4096 * ((2 * (i 0).val + (i 2).val / 4096) % 2) + (i 2).val % 4096 = (i 2).val; omega

theorem covered2 (i : S8x128x2048.Idx) : ∃ t : Fin cfg0.N, (cfg0.win 2).flush t = true ∧ i ∈ ((cfg0.win 2).blk t).view.set := by
  have h0 : (i 0).val < 8 := (i 0).isLt
  have h2 : (i 2).val < 2048 := (i 2).isLt
  have ht : 2 * (i 0).val + (i 2).val / 1024 < cfg0.N := by rw [show cfg0.N = 16 from N_0]; omega
  have h := ((cfg0.win 2).blk ⟨2 * (i 0).val + (i 2).val / 1024, ht⟩).view.emb_mem_set (ix3 0 (i 1) ⟨(i 2).val % 1024, by omega⟩ : S1x128x1024.Idx)
  rw [emb2] at h
  refine ⟨_, flush0_2 _, (congrArg (· ∈ _) (ext3' ?_ ?_ ?_)).mp h⟩
  · show (2 * (i 0).val + (i 2).val / 1024) / 2 = (i 0).val; omega
  · rfl
  · show 1024 * ((2 * (i 0).val + (i 2).val / 1024) % 2) + (i 2).val % 1024 = (i 2).val; omega

theorem final1 (c : Dev nD) : (dats m 0 c).arrAt 1 cfg0.N = outArr (V m c main_arg0) :=
  (dats m 0 c).arrAt_eq_of_cover 1 (outArr (V m c main_arg0)) (fun t _ => flushed_out m c t) covered1

theorem final2 (c : Dev nD) : (dats m 0 c).arrAt 2 cfg0.N = lseArr (V m c main_arg0) :=
  (dats m 0 c).arrAt_eq_of_cover 2 (lseArr (V m c main_arg0)) (fun t _ => flushed_lse m c t) covered2

end Cert.Proof.Attn
-- ==== Proof.AttnRef.lean ====
/-
  The reference's attention over the extended reals.
-/
module

public import proofs.«01_k».proof.Proof.AttnSoft
public import proofs.«01_k».proof.Proof.Gen.Reference4Ideal.Run
public import Idealize.ShloMosaic.Lib.IdealHost
public import Idealize.ShloMosaic.Lib.Pointwise.Contract
public import Idealize.ShloMosaic.Lib.Pointwise.ElementwiseCore
public import Idealize.ShloMosaic.Lib.Pointwise.ShapeOps
public import Idealize.ShloMosaic.Lib.Pointwise.Reduce
public import Idealize.ShloMosaic.Lib.Pointwise.ReduceUnfold
public import Idealize.ShloMosaic.Lib.Pointwise.Reshape
public import Idealize.ShloMosaic.Lib.Pointwise.SelectCore
public import Idealize.ShloMosaic.Lib.Pointwise.Index
public import Idealize.ShloMosaic.PureOps.Ideal.Laws

@[expose] public section

noncomputable section

namespace Cert.Proof.AttnRef

open Cert.Reference4Ideal Cert.Reference4Ideal.Gen Cert.Reference4Ideal.Value
open Idealize.ShloMosaic Idealize.ShloMosaic.TcCoe Idealize.SL.Sem
open Cert.Proof.Soft
open scoped BigOperators

abbrev Arr := FVec Ideal S8x16x128x1536 .bf16

def heads (x : Arr) : FVec Ideal S8x16x128x24x64 .f32 := shapeCast S8x16x128x24x64 (extf .f32 x bitsLt_bf16_f32) shapeCasts_S8x16x128x1536_S8x16x128x24x64

def dots (x : Arr) : FVec Ideal S8x16x8x128x128 .f32 :=
  Host.dotGeneral dot_S8x16x128x8x64_S8x16x128x8x64_S8x16x8x128x128_4_4_2_2_013_013 none
    (extractStridedSlice S8x16x128x8x64 ![0, 0, 0, 0, 0] (heads x) slices_S8x16x128x24x64_S8x16x128x8x64_0_0_0_0_0)
    (extractStridedSlice S8x16x128x8x64 ![0, 0, 0, 8, 0] (heads x) slices_S8x16x128x24x64_S8x16x128x8x64_0_0_0_8_0)

def scores (x : Arr) : FVec Ideal S8x16x8x128x128 .f32 :=
  select (broadcastInDim S8x16x8x128x128 ![3, 4] bcast_S128x128_S8x16x8x128x128_3_4 (cmpi .sle (broadcastInDim S128x128 ![0, 1] bcast_S1x128_S128x128_0_1 (broadcastInDim S1x128 ![1] bcast_S128_S1x128_1 (iotaInDim S128 32 0))) (broadcastInDim S128x128 ![0, 1] bcast_S128x1_S128x128_0_1 (broadcastInDim S128x1 ![0] bcast_S128_S128x1_0 (iotaInDim S128 32 0)))))
    (mulf (dots x) (broadcastInDim S8x16x8x128x128 ![] bcast_S_S8x16x8x128x128 (constant S_ .f32 0x3E000000#32)))
    (broadcastInDim S8x16x8x128x128 ![] bcast_S_S8x16x8x128x128 (id (constant S_ .f32 0xFF800000#32)))

def tops (s : FVec Ideal S8x16x8x128x128 .f32) : FVec Ideal S8x16x8x128x1 .f32 :=
  broadcastInDim S8x16x8x128x1 ![0, 1, 2, 3] bcast_S8x16x8x128_S8x16x8x128x1_0_1_2_3 (Host.reduce FloatOps.maximumf s (constant S_ .f32 0xFF800000#32) reducesTo_S8x16x8x128x128_S8x16x8x128_d4 h_S_)

def spread (t : FVec Ideal S8x16x8x128x1 .f32) : FVec Ideal S8x16x8x128x128 .f32 :=
  broadcastInDim S8x16x8x128x128 ![0, 1, 2, 3, 4] bcast_S8x16x8x128x1_S8x16x8x128x128_0_1_2_3_4 t

def sums (e : FVec Ideal S8x16x8x128x128 .f32) : FVec Ideal S8x16x8x128x1 .f32 :=
  broadcastInDim S8x16x8x128x1 ![0, 1, 2, 3] bcast_S8x16x8x128_S8x16x8x128x1_0_1_2_3 (Host.reduceAdd e (constant S_ .f32 0x00000000#32) reducesTo_S8x16x8x128x128_S8x16x8x128_d4 h_S_)

def lses (s : FVec Ideal S8x16x8x128x128 .f32) : FVec Ideal S8x16x8x128x1 .f32 :=
  addf (tops s) (Host.log (sums (Host.exp (subf s (spread (tops s))))))

def weights (x : Arr) : FVec Ideal S8x16x8x128x128 .f32 := Host.exp (subf (scores x) (spread (lses (scores x))))

def outs (x : Arr) : FVec Ideal S8x16x8x64x128 .f32 :=
  Host.dotGeneral dot_S8x16x128x8x64_S8x16x8x128x128_S8x16x8x64x128_2_4_4_3_013_012 none
    (extractStridedSlice S8x16x128x8x64 ![0, 0, 0, 16, 0] (heads x) slices_S8x16x128x24x64_S8x16x128x8x64_0_0_0_16_0)
    (weights x)

def ref0 (x : Arr) : FVec Ideal S8x128x8192 .bf16 :=
  truncf .bf16 (shapeCast S8x128x8192 (transpose S8x128x16x8x64 [0, 4, 1, 2, 3] (outs x) transposes_S8x16x8x64x128_S8x128x16x8x64_0_4_1_2_3) shapeCasts_S8x128x16x8x64_S8x128x8192) bitsLt_bf16_f32

def ref1 (x : Arr) : FVec Ideal S8x128x2048 .f32 :=
  shapeCast S8x128x2048 (broadcastInDim S8x128x16x8x16 ![0, 1, 2, 3, 4] bcast_S8x128x16x8x1_S8x128x16x8x16_0_1_2_3_4 (transpose S8x128x16x8x1 [0, 3, 1, 2, 4] (lses (scores x)) transposes_S8x16x8x128x1_S8x128x16x8x1_0_3_1_2_4)) shapeCasts_S8x128x16x8x16_S8x128x2048

theorem res1_eq (m : (ℓ : Loc nD τ sig) → Buf (Elt Ideal) ℓ) (c : Dev nD) : res_main_v34 m c = ref1 (m ((c.tc : Thread nD τ).loc main_arg0)) := rfl
theorem res0_eq (m : (ℓ : Loc nD τ sig) → Buf (Elt Ideal) ℓ) (c : Dev nD) : res_main_v31 m c = ref0 (m ((c.tc : Thread nD τ).loc main_arg0)) := rfl

/-- Column `64 h + d` of a residue's row. -/
abbrev col (h : Fin 24) (d : Fin 64) : Fin 1536 := ⟨64 * h.val + d.val, by omega⟩

theorem head_at (x : Arr) (b : Fin 8) (r : Fin 16) (i : Fin 128) (h : Fin 24) (d : Fin 64) : heads x (ix5 b r i h d) = x (ix4 b r i (col h d)) := by
  simp only [heads, pointwise]
  exact congrArg (fun z => x (ix4 b r i z)) (Fin.ext (by show h.val * 64 + d.val = 64 * h.val + d.val; omega))

theorem head_at' (x : Arr) (b : Fin 8) (r : Fin 16) (i : Fin 128) (h : Fin 24) (d : Fin 64) (b' : Fin 8) (r' : Fin 16) (i' : Fin 128) (h' : Fin 24) (d' : Fin 64)
    (eb : b'.val = b.val) (er : r'.val = r.val) (ei : i'.val = i.val) (eh : h'.val = h.val) (ed : d'.val = d.val) :
    heads x (ix5 b' r' i' h' d') = x (ix4 b r i (col h d)) := by
  obtain rfl := Fin.ext eb; obtain rfl := Fin.ext er; obtain rfl := Fin.ext ei; obtain rfl := Fin.ext eh; obtain rfl := Fin.ext ed
  exact head_at ..

theorem dots_apply (x : Arr) (b : Fin 8) (r : Fin 16) (h : Fin 8) (i k : Fin 128) :
    dots x (ix5 b r h i k) = ∑ d : Fin 64, (x (ix4 b r i (col ⟨h.val, by omega⟩ d)) * x (ix4 b r k (col ⟨8 + h.val, by omega⟩ d)) : EReal) := by
  simp only [dots, pointwise]
  refine (zero_add _).trans (Finset.sum_congr rfl fun d _ => congrArg₂ (fun y z : EReal => y * z) ?_ ?_)
  · exact head_at' x b r i ⟨h.val, by omega⟩ d _ _ _ _ _ (Nat.zero_add _) (Nat.zero_add _) (Nat.zero_add _) (Nat.zero_add _) (Nat.zero_add _)
  · exact head_at' x b r k ⟨8 + h.val, by omega⟩ d _ _ _ _ _ (Nat.zero_add _) (Nat.zero_add _) (Nat.zero_add _) rfl (Nat.zero_add _)

/-- A head's scores of a query against the keys of its residue. -/
def refScore (x : Arr) (b : Fin 8) (r : Fin 16) (h : Fin 8) (i k : Fin 128) : EReal :=
  if k.val ≤ i.val then (∑ d : Fin 64, (x (ix4 b r i (col ⟨h.val, by omega⟩ d)) * x (ix4 b r k (col ⟨8 + h.val, by omega⟩ d)) : EReal)) * Ideal.ofBits .f32 0x3E000000#32 else ⊥

theorem scores_apply (x : Arr) (b : Fin 8) (r : Fin 16) (h : Fin 8) (i k : Fin 128) : scores x (ix5 b r h i k) = refScore x b r h i k := by
  simp only [scores, pointwise]
  refine (congrArg (fun z => Scalar.select z _ _) (below' i k rfl rfl)).trans ?_
  rw [sel, dots_apply]
  unfold refScore
  split
  · rfl
  · exact neg_inf

theorem tops_apply (s : FVec Ideal S8x16x8x128x128 .f32) (b : Fin 8) (r : Fin 16) (h : Fin 8) (i : Fin 128) : tops s (ix5 b r h i 0) = mx fun k => s (ix5 b r h i k) := by
  unfold tops
  rw [show (FloatOps.maximumf : Ideal .f32 → Ideal .f32 → Ideal .f32) = max from rfl]
  simp only [pointwise]
  rfl

theorem spread_apply (t : FVec Ideal S8x16x8x128x1 .f32) (b : Fin 8) (r : Fin 16) (h : Fin 8) (i k : Fin 128) : spread t (ix5 b r h i k) = t (ix5 b r h i 0) := by
  refine congrArg t (funext fun d => ?_)
  match d with
  | ⟨0, _⟩ => rfl
  | ⟨1, _⟩ => rfl
  | ⟨2, _⟩ => rfl
  | ⟨3, _⟩ => rfl
  | ⟨4, _⟩ => rfl

theorem sums_apply (e : FVec Ideal S8x16x8x128x128 .f32) (b : Fin 8) (r : Fin 16) (h : Fin 8) (i : Fin 128) :
    sums e (ix5 b r h i 0) = ∑ k, (e (ix5 b r h i k) : EReal) := by
  have e1 : sums e (ix5 b r h i 0) = Host.reduceAdd e (constant S_ .f32 0x00000000#32) reducesTo_S8x16x8x128x128_S8x16x8x128_d4 h_S_ (ix4 b r h i) := by
    refine congrArg (Host.reduceAdd e (constant S_ .f32 0x00000000#32) reducesTo_S8x16x8x128x128_S8x16x8x128_d4 h_S_) (funext fun d => ?_)
    match d with
    | ⟨0, _⟩ => rfl
    | ⟨1, _⟩ => rfl
    | ⟨2, _⟩ => rfl
    | ⟨3, _⟩ => rfl
  refine e1.trans ?_
  simp only [pointwise, Ideal.hostReduceAdd_def]
  exact (congrArg (· + _) Ideal.ofBits_zero_f32).trans (zero_add _)

theorem add_log {t : Shape} (a b : FVec Ideal t .f32) (i : t.Idx) : addf a (Host.log b) i = (a i + Ideal.log (b i) : EReal) := rfl
theorem exp_sub {t : Shape} (a b : FVec Ideal t .f32) (i : t.Idx) : Host.exp (subf a b) i = Ideal.exp (a i - b i : EReal) := rfl

theorem lses_apply (s : FVec Ideal S8x16x8x128x128 .f32) (b : Fin 8) (r : Fin 16) (h : Fin 8) (i : Fin 128) : lses s (ix5 b r h i 0) = lse fun k => s (ix5 b r h i k) := by
  unfold lses lse sm
  rw [add_log, sums_apply, tops_apply]
  simp only [exp_sub, spread_apply, tops_apply]

theorem weights_apply (x : Arr) (b : Fin 8) (r : Fin 16) (h : Fin 8) (i k : Fin 128) :
    weights x (ix5 b r h i k) = Ideal.exp (refScore x b r h i k - lse (refScore x b r h i)) := by
  unfold weights
  rw [exp_sub, spread_apply, lses_apply, scores_apply]
  simp only [scores_apply]

theorem outs_apply (x : Arr) (b : Fin 8) (r : Fin 16) (h : Fin 8) (i : Fin 128) (d : Fin 64) :
    outs x (ix5 b r h d i) = ∑ k, (x (ix4 b r k (col ⟨16 + h.val, by omega⟩ d)) * Ideal.exp (refScore x b r h i k - lse (refScore x b r h i)) : EReal) := by
  simp only [outs, pointwise, weights_apply]
  refine (zero_add _).trans (Finset.sum_congr rfl fun k _ => congrArg (fun z : EReal => z * _) ?_)
  exact head_at' x b r k ⟨16 + h.val, by omega⟩ d _ _ _ _ _ (Nat.zero_add _) (Nat.zero_add _) (Nat.zero_add _) rfl (Nat.zero_add _)

theorem ref1_at (x : Arr) (b : Fin 8) (i : Fin 128) (n : Fin 2048) :
    ref1 x (ix3 b i n) = lse (refScore x b ⟨n.val / 128, by omega⟩ ⟨n.val / 16 % 8, by omega⟩ i) := by
  simp only [ref1, pointwise]
  refine (lses_apply (scores x) b ⟨n.val / 128, by omega⟩ ⟨n.val / 16 % 8, by omega⟩ i).trans ?_
  simp only [scores_apply]

theorem ref0_at (x : Arr) (b : Fin 8) (i : Fin 128) (n : Fin 8192) :
    ref0 x (ix3 b i n) = ∑ k, (x (ix4 b ⟨n.val / 512, by omega⟩ k (col ⟨16 + n.val / 64 % 8, by omega⟩ ⟨n.val % 64, by omega⟩))
      * Ideal.exp (refScore x b ⟨n.val / 512, by omega⟩ ⟨n.val / 64 % 8, by omega⟩ i k - lse (refScore x b ⟨n.val / 512, by omega⟩ ⟨n.val / 64 % 8, by omega⟩ i)) : EReal) := by
  simp only [ref0, pointwise, outs_apply]
  rfl

end Cert.Proof.AttnRef
-- ==== Proof.AttnEq.lean ====
/-
  The attention's arrays are the reference's, where the queries and keys are finite.
-/
module

public import proofs.«01_k».proof.Proof.AttnRun
public import proofs.«01_k».proof.Proof.AttnRef
public import proofs.«01_k».proof.Proof.FinalEq
public import proofs.«01_k».proof.Pre_finite_qk
public import proofs.«01_k».proof.Proof.Gen.Pre_finite_qk

@[expose] public section

noncomputable section

namespace Cert.Proof.Attn

open Idealize.ShloMosaic Idealize.ShloMosaic.TcCoe
open Cert.Proof.Soft
open Cert.Proof.AttnRef (refScore ref0 ref1 col)
open scoped BigOperators

variable (x : Vec Ideal Cert.Kernel4Ideal.S8x16x128x1536 .bf16)

/-- The head's score before the mask, a real number of the finite queries and keys. -/
def real (X : Fin 8 → Fin 16 → Fin 128 → Fin 1536 → ℝ) (b : Fin 8) (r : Fin 16) (h : Fin 8) (i k : Fin 128) : ℝ :=
  (∑ d : Fin 64, X b r i (col ⟨h.val, by omega⟩ d) * X b r k (col ⟨8 + h.val, by omega⟩ d)) * (1 / 8)

section

variable {x} {X : Fin 8 → Fin 16 → Fin 128 → Fin 1536 → ℝ} (hX : ∀ b r i n, n.val < 1024 → x (ix4 b r i n) = (X b r i n : EReal))

include hX

theorem ref_masked (b : Fin 8) (r : Fin 16) (h : Fin 8) (i : Fin 128) : refScore x b r h i = masked i (real X b r h i) := by
  funext k
  unfold refScore masked real
  by_cases hk : k ≤ i
  · rw [if_pos hk, if_pos (Fin.le_def.mp hk), eighth_f32, EReal.coe_mul, coe_sum]
    refine congrArg (fun z : EReal => z * _) (Finset.sum_congr rfl fun d _ => ?_)
    rw [hX _ _ _ _ (by show 64 * h.val + d.val < 1024; omega), hX _ _ _ _ (by show 64 * (8 + h.val) + d.val < 1024; omega), EReal.coe_mul]
  · rw [if_neg hk, if_neg (fun h => hk (Fin.le_def.mpr h))]

theorem pair_masked (b : Fin 8) (r : Fin 16) (p : Fin 4) (a : Fin 2) (h : Fin 8) (hh : h.val = 2 * p.val + a.val) (i : Fin 128) :
    pairScore (cols x b r ⟨p.val, by omega⟩) (cols x b r ⟨4 + p.val, by omega⟩) a i = masked i (real X b r h i) := by
  have hq : ∀ t : Fin 128, cols x b r ⟨p.val, by omega⟩ (ix4 0 0 i t) = (X b r i ⟨128 * p.val + t.val, by omega⟩ : EReal) := fun t => hX _ _ _ _ (by show 128 * p.val + t.val < 1024; omega)
  have hk : ∀ c t : Fin 128, cols x b r ⟨4 + p.val, by omega⟩ (ix4 0 0 c t) = (X b r c ⟨128 * (4 + p.val) + t.val, by omega⟩ : EReal) := fun c t => hX _ _ _ _ (by show 128 * (4 + p.val) + t.val < 1024; omega)
  funext c
  unfold pairScore
  rw [half_dot a (fun t => cols x b r ⟨p.val, by omega⟩ (ix4 0 0 i t)) (fun t => cols x b r ⟨4 + p.val, by omega⟩ (ix4 0 0 c t)) _ (fun t => ⟨_, hq t⟩) (fun t => ⟨_, hk c t⟩) ⟨_, eighth_bf16⟩]
  unfold masked real
  have e : (∑ d : Fin 64, (cols x b r ⟨p.val, by omega⟩ (ix4 0 0 i ⟨64 * a.val + d.val, by omega⟩) * cols x b r ⟨4 + p.val, by omega⟩ (ix4 0 0 c ⟨64 * a.val + d.val, by omega⟩) : EReal)) * Ideal.ofBits .bf16 0x3E00#16
      = (((∑ d : Fin 64, X b r i (col ⟨h.val, by omega⟩ d) * X b r c (col ⟨8 + h.val, by omega⟩ d)) * (1 / 8) : ℝ) : EReal) := by
    rw [eighth_bf16, EReal.coe_mul, coe_sum]
    refine congrArg (fun z : EReal => z * _) (Finset.sum_congr rfl fun d _ => ?_)
    rw [hq, hk, ← EReal.coe_mul]
    have e1 : (⟨128 * p.val + (64 * a.val + d.val), by omega⟩ : Fin 1536) = col ⟨h.val, by omega⟩ d := Fin.ext (by show 128 * p.val + (64 * a.val + d.val) = 64 * h.val + d.val; omega)
    have e2 : (⟨128 * (4 + p.val) + (64 * a.val + d.val), by omega⟩ : Fin 1536) = col ⟨8 + h.val, by omega⟩ d := Fin.ext (by show 128 * (4 + p.val) + (64 * a.val + d.val) = 64 * (8 + h.val) + d.val; omega)
    rw [e1, e2]
  refine (congrArg (fun z : EReal => z + _) e).trans ?_
  by_cases hc : c ≤ i
  · rw [if_pos hc, if_pos (Fin.le_def.mp hc), add_zero]
  · rw [if_neg hc, if_neg (fun h => hc (Fin.le_def.mpr h)), EReal.add_bot]

theorem lse_ref (b : Fin 8) (i : Fin 128) (n : Fin 2048) : lseArr x (ix3 b i n) = ref1 x (ix3 b i n) := by
  rw [Cert.Proof.AttnRef.ref1_at, ref_masked hX]
  refine (lseTile_apply (fun j => cols x b ⟨n.val / 128, by omega⟩ ⟨j.val, by omega⟩) (fun j => cols x b ⟨n.val / 128, by omega⟩ ⟨4 + j.val, by omega⟩) i ⟨n.val % 128, by omega⟩).trans ?_
  exact congrArg lse (pair_masked hX b ⟨n.val / 128, by omega⟩ ⟨n.val % 128 / 32, by omega⟩ ⟨n.val % 128 / 16 % 2, by omega⟩ ⟨n.val / 16 % 8, by omega⟩
    (by show n.val / 16 % 8 = 2 * (n.val % 128 / 32) + n.val % 128 / 16 % 2; omega) i)

theorem out_ref (b : Fin 8) (i : Fin 128) (n : Fin 8192) : outArr x (ix3 b i n) = ref0 x (ix3 b i n) := by
  rw [Cert.Proof.AttnRef.ref0_at, ref_masked hX]
  refine (pairOut_apply (cols x b ⟨n.val / 512, by omega⟩ ⟨n.val / 128 % 4, by omega⟩) (cols x b ⟨n.val / 512, by omega⟩ ⟨4 + n.val / 128 % 4, by omega⟩)
    (cols x b ⟨n.val / 512, by omega⟩ ⟨8 + n.val / 128 % 4, by omega⟩) i ⟨n.val % 128, by omega⟩).trans ?_
  have es := pair_masked hX b ⟨n.val / 512, by omega⟩ ⟨n.val / 128 % 4, by omega⟩ (if n.val % 128 < 64 then 0 else 1) ⟨n.val / 64 % 8, by omega⟩
    (by
      by_cases h : n.val % 128 < 64
      · rw [if_pos h]; show n.val / 64 % 8 = 2 * (n.val / 128 % 4) + 0; omega
      · rw [if_neg h]; show n.val / 64 % 8 = 2 * (n.val / 128 % 4) + 1; omega) i
  have ev : (fun c => cols x b ⟨n.val / 512, by omega⟩ ⟨8 + n.val / 128 % 4, by omega⟩ (ix4 0 0 c ⟨n.val % 128, by omega⟩))
      = fun c => x (ix4 b ⟨n.val / 512, by omega⟩ c (col ⟨16 + n.val / 64 % 8, by omega⟩ ⟨n.val % 64, by omega⟩)) := by
    funext c
    refine congrArg (fun z => x (ix4 b ⟨n.val / 512, by omega⟩ c z)) (Fin.ext ?_)
    show 128 * (8 + n.val / 128 % 4) + n.val % 128 = 64 * (16 + n.val / 64 % 8) + n.val % 64; omega
  exact (congrArg₂ over es ev).trans (over_eq i _ _)

end

theorem finite_of_pre (e : Cert.Pre_finite_qk.fn (F := Ideal) x = fun _ => 1#1) :
    ∃ X : Fin 8 → Fin 16 → Fin 128 → Fin 1536 → ℝ, ∀ b r i n, n.val < 1024 → x (ix4 b r i n) = (X b r i n : EReal) := by
  have h : ∀ b r i (n : Fin 1536), ∃ a : ℝ, n.val < 1024 → x (ix4 b r i n) = (a : EReal) := fun b r i n => by
    by_cases hn : n.val < 1024
    · obtain ⟨a, ha⟩ := Final.real_of_lt _ _ (congrFun e (ix4 b r i ⟨n.val, hn⟩))
      refine ⟨a, fun _ => Eq.trans (congrArg x (funext fun d => Fin.ext ?_)) ha⟩
      match d with
      | ⟨0, _⟩ => show b.val = 0 + b.val; omega
      | ⟨1, _⟩ => show r.val = 0 + r.val; omega
      | ⟨2, _⟩ => show i.val = 0 + i.val; omega
      | ⟨3, _⟩ => show n.val = 0 + n.val; omega
    · exact ⟨0, fun h => absurd h hn⟩
  choose X hX using h
  exact ⟨X, hX⟩

theorem outs_ref (e : Cert.Pre_finite_qk.fn (F := Ideal) x = fun _ => 1#1) : outArr x = ref0 x ∧ lseArr x = ref1 x := by
  obtain ⟨X, hX⟩ := finite_of_pre x e
  refine ⟨funext fun y => ?_, funext fun y => ?_⟩
  · obtain ⟨b, i, n, rfl⟩ : ∃ (b : Fin 8) (i : Fin 128) (n : Fin 8192), y = ix3 b i n := ⟨y 0, y 1, y 2, ext3' rfl rfl rfl⟩
    exact out_ref hX b i n
  · obtain ⟨b, i, n, rfl⟩ : ∃ (b : Fin 8) (i : Fin 128) (n : Fin 2048), y = ix3 b i n := ⟨y 0, y 1, y 2, ext3' rfl rfl rfl⟩
    exact lse_ref hX b i n

end Cert.Proof.Attn
-- ==== Proof.lean ====
/-
  The claims of Defs.lean. The gather's run is proved once, over any float values (Proof/Run.lean): both frames and both
  value claims are read from it. The reference's run is generated; that its indexing is the gather is Proof/Ref.lean.
  The expert layer's run is proved once too (Proof/MoeRun.lean); that its result over the extended reals is the reference's,
  on the rows of the tiles in use, is Proof/MoeIdeal.lean, and what its precondition says Proof/MoeRef.lean.
  The last call's frame and its blocks are generated; its array over the extended reals is Proof/FinalRun.lean, and that the array is the
  reference's Proof/FinalEq.lean.  The attention's likewise: its arrays are Proof/AttnRun.lean, and that they are the reference's Proof/AttnEq.lean.
-/
module

public import proofs.«01_k».proof.Proof.Gen.Kernel3Ideal.Value
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Pre_finite
public import proofs.«01_k».proof.Proof.Gen.Reference3Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_in_range
public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tables_agree
public import proofs.«01_k».proof.Proof.Gen.On_rows_of_tiles
public import proofs.«01_k».proof.Proof.Ref
public import proofs.«01_k».proof.Proof.MoeRun
public import proofs.«01_k».proof.Proof.MoeRef
public import proofs.«01_k».proof.Proof.FinalEq
public import proofs.«01_k».proof.Proof.AttnEq
public import proofs.«01_k».proof.Proof.Gen.Pre_finite_qk
public import Idealize.ShloMosaic.Adequacy
public import Idealize.ShloMosaic.Init

@[expose] public section

noncomputable section

namespace Cert.Proof

open Idealize.ShloMosaic Idealize.SL.Sem

/-- The precondition, elementwise on the row numbers: each is in range. -/
theorem in_range (w : BitVec 32) (e : IntOp.andi (IntOp.cmpi .sge w 0#32) (IntOp.cmpi .slt w 196608#32) = 1#1) : w.toNat < 196608 := by
  have hand (p q : Bool) : IntOp.andi (BitVec.ofBool p) (BitVec.ofBool q) = BitVec.ofBool (p && q) := by cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at e
  omega

theorem range_of_pre {F : FTy → Type} [FloatOps F] (tbl : Cert.Pre_rows_in_range.S196608x128.Idx → Elt F .i32) (a : Cert.Pre_rows_in_range.S2x65536.Idx → Elt F .i32)
    (h : Cert.Pre_rows_in_range.fn (F := F) tbl a = fun _ => 1#1) (j : Cert.Pre_rows_in_range.S2x65536.Idx) : (a j : BitVec 32).toNat < 196608 :=
  in_range _ (congrFun h j)

theorem frame_kernel : Cert.quiescent_Kernel := fun m ρ hpre =>
  (θ_run Cert.KernelIdeal.defs _ _).mono (fun _ h => ⟨fun c => ⟨(h.1 c).1, (h.1 c).2.1⟩, h.2⟩)
    (Gather.run_main (F := Bits) m ρ fun d j => range_of_pre _ _ (hpre d) j)

theorem frame_ideal : Cert.quiescent_KernelIdeal := fun m ρ hpre =>
  (θ_run Cert.KernelIdeal.defs _ _).mono (fun _ h => ⟨fun c => ⟨(h.1 c).1, (h.1 c).2.1⟩, h.2⟩)
    (Gather.run_main (F := Ideal) m ρ fun d j => range_of_pre _ _ (hpre d) j)

theorem algebraic : Cert.algebraic_KernelIdeal_ReferenceIdeal := by
  intro m ρ m' ρ' hpre hagree
  have hr : Gather.InRange (F := Ideal) m := fun d j => range_of_pre _ _ (hpre d) j
  refine ⟨fun c => Gather.gath (Gather.tblOf m c) (Gather.ixOf m c), ?_, ?_⟩
  · exact (θ_run Cert.KernelIdeal.defs _ _).mono (fun _ h c => ⟨(h.1 c).2.2, (h.1 c).1, (h.1 c).2.1⟩) (Gather.run_main (F := Ideal) m ρ hr)
  · refine (θ_run Cert.ReferenceIdeal.defs _ _).mono (fun _ h c => ⟨(h c).1.trans ?_, (h c).2⟩) (Cert.ReferenceIdeal.Value.run (F := Ideal) m' ρ')
    rw [(hagree c).1, (hagree c).2]
    exact Gather.taken_eq _ _ (hr c)

theorem bitexact : Cert.bitexact_Kernel_Reference := by
  intro m ρ m' ρ' hpre hagree
  have hr : Gather.InRange (F := Bits) m := fun d j => range_of_pre _ _ (hpre d) j
  refine ⟨fun c => Gather.gath (Gather.tblOf (F := Bits) m c) (Gather.ixOf (F := Bits) m c), ?_, ?_⟩
  · exact (θ_run Cert.KernelIdeal.defs _ _).mono (fun _ h c => ⟨(h.1 c).2.2, (h.1 c).1, (h.1 c).2.1⟩) (Gather.run_main (F := Bits) m ρ hr)
  · refine (θ_run Cert.Reference.defs _ _).mono (fun _ h c => ⟨(h c).1.trans ?_, (h c).2⟩) (Cert.Reference.Value.run (F := Bits) m' ρ')
    rw [(hagree c).1, (hagree c).2]
    exact Gather.taken_eq _ _ (hr c)

/-- The reference declares no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The reference declares no semaphore. -/
theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

/-! ## The expert layer -/

theorem frame_kernel2 : Cert.quiescent_Kernel2 := fun m ρ hpre =>
  (θ_run Cert.Kernel2Ideal.defs _ _).mono (fun _ h => ⟨fun c => (h.1 c).1, h.2⟩)
    (Moe.run_main (F := Bits) m ρ fun c => Moe.good_of_pre _ _ _ _ _ (hpre c))

theorem frame_ideal2 : Cert.quiescent_Kernel2Ideal := fun m ρ hpre =>
  (θ_run Cert.Kernel2Ideal.defs _ _).mono (fun _ h => ⟨fun c => (h.1 c).1, h.2⟩)
    (Moe.run_main (F := Ideal) m ρ fun c => Moe.good_of_pre _ _ _ _ _ (hpre c))

/-- The reference declares no semaphore. -/
theorem frame_reference_ideal2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem algebraic2 : Cert.algebraic_Kernel2Ideal_Reference2Ideal_on_rows_of_tiles := by
  intro m ρ m' ρ' hpre hagree
  have hg : ∀ c, Moe.Good (Moe.tbOf (F := Ideal) m c) := fun c => Moe.good_of_pre _ _ _ _ _ (hpre c)
  refine ⟨fun c => Moe.outOf (F := Ideal) m c, ?_, ?_⟩
  · exact (θ_run Cert.Kernel2Ideal.defs _ _).mono (fun _ h c => ⟨fun i _ => congrFun (h.1 c).2 i, (h.1 c).1⟩) (Moe.run_main (F := Ideal) m ρ hg)
  · refine (θ_run Cert.Reference2Ideal.defs _ _).mono (fun _ h c => ⟨fun i hi => (congrFun (h c).1 i).trans ?_, (h c).2⟩) (Cert.Reference2Ideal.Value.run (F := Ideal) m' ρ')
    rw [(hagree c).1, (hagree c).2.1, (hagree c).2.2.1, (hagree c).2.2.2.1, (hagree c).2.2.2.2]
    obtain ⟨n, k, rfl⟩ : ∃ (n : Fin 49152) (k : Fin 1024), i = ix2 n k := ⟨i 0, i 1, Moe.ext2 rfl rfl⟩
    exact (Moe.res_ref (Moe.tbOf (F := Ideal) m c) (hg c) _ _ _ _ (Moe.yOf (F := Ideal) m c) n k (Moe.used_of_on _ _ _ _ _ n k hi)).symm

/-! ## The last call -/

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_ideal3_finite : Cert.quiescent_Kernel3Ideal_pre_finite := fun m ρ _ => Cert.Kernel3Ideal.Gen.frame (F := Ideal) m ρ

/-- The reference declares no semaphore. -/
theorem frame_reference_ideal3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem frame_reference_ideal3_finite : Cert.quiescent_Reference3Ideal_pre_finite := fun m ρ _ => frame_reference_ideal3 m ρ trivial

theorem algebraic3 : Cert.algebraic_Kernel3Ideal_Reference3Ideal_pre_finite := by
  intro m ρ m' ρ' hpre hagree
  refine ⟨fun c => Final.outOf m c, ?_, ?_⟩
  · exact (θ_run Cert.Kernel3Ideal.defs _ _).mono (fun _ h c => ⟨(h c).1.trans (Final.final m c), (h c).2⟩) (Cert.Kernel3Ideal.Value.run_blocks (F := Ideal) m ρ)
  · refine (θ_run Cert.Reference3Ideal.defs _ _).mono (fun _ h c => ⟨((h c).1.trans (FinalRef.res_eq m' c)).trans ?_, (h c).2⟩) (Cert.Reference3Ideal.Value.run (F := Ideal) m' ρ')
    obtain ⟨e0, e1, e2, e3, e4, e5, e6, e7⟩ := hagree c
    obtain ⟨hp, hw⟩ := Final.finite_of_pre _ _ _ _ _ _ _ _ (hpre c)
    funext i
    obtain ⟨n, k, rfl⟩ : ∃ (n : Fin 16384) (k : Fin 1024), i = ix2 n k := ⟨i 0, i 1, Final.ext2 rfl rfl⟩
    exact (Final.out_ref m c _ _ _ _ _ _ _ _ e0.symm e1.symm e2.symm e3.symm e4.symm e5.symm e6.symm e7.symm
      (fun i => (congrArg (fun f => ∃ a : ℝ, f i = (a : EReal)) e2).mpr (hp i)) (fun i => (congrArg (fun f => ∃ a : ℝ, f i = (a : EReal)) e4).mpr (hw i)) n k).symm

/-! ## The attention of the group with dilation 16 -/

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_ideal4_finite : Cert.quiescent_Kernel4Ideal_pre_finite_qk := fun m ρ _ => Cert.Kernel4Ideal.Gen.frame (F := Ideal) m ρ

/-- The reference declares no semaphore. -/
theorem frame_reference_ideal4 : Cert.quiescent_Reference4Ideal := fun m ρ _ =>
  (θ_run Cert.Reference4Ideal.defs _ _).mono (fun r h => ⟨fun c => (h c).2.2, sem_eq_zero_of_no_sems (by decide) r.2⟩) (Cert.Reference4Ideal.Value.run (F := Ideal) m ρ)

theorem frame_reference_ideal4_finite : Cert.quiescent_Reference4Ideal_pre_finite_qk := fun m ρ _ => frame_reference_ideal4 m ρ trivial

theorem algebraic4 : Cert.algebraic_Kernel4Ideal_Reference4Ideal_pre_finite_qk := by
  intro m ρ m' ρ' hpre hagree
  have hv : ∀ c, (Cert.Kernel4Ideal.Gen.V m c Cert.Kernel4Ideal.main_arg0 : Vec Ideal Cert.Kernel4Ideal.S8x16x128x1536 .bf16) = m' ((c.tc : Thread Cert.Reference4Ideal.nD Cert.Reference4Ideal.τ).loc Cert.Reference4Ideal.main_arg0) :=
    fun c => (Cert.Kernel4Ideal.Gen.V_main_arg0 m c).trans (hagree c).symm
  refine ⟨fun c => AttnRef.ref0 (m' ((c.tc : Thread Cert.Reference4Ideal.nD Cert.Reference4Ideal.τ).loc Cert.Reference4Ideal.main_arg0)),
    fun c => AttnRef.ref1 (m' ((c.tc : Thread Cert.Reference4Ideal.nD Cert.Reference4Ideal.τ).loc Cert.Reference4Ideal.main_arg0)), ?_, ?_⟩
  · refine (θ_run Cert.Kernel4Ideal.defs _ _).mono (fun _ h c => ?_) (Cert.Kernel4Ideal.Value.run_blocks (F := Ideal) m ρ)
    obtain ⟨e0, e1⟩ := Attn.outs_ref _ ((congrArg (fun x => Cert.Pre_finite_qk.fn (F := Ideal) x) (hagree c)).trans (hpre c))
    exact ⟨(h c).1.trans ((Attn.final1 m c).trans ((congrArg Attn.outArr (hv c)).trans e0)),
      (h c).2.1.trans ((Attn.final2 m c).trans ((congrArg Attn.lseArr (hv c)).trans e1)), (h c).2.2⟩
  · exact (θ_run Cert.Reference4Ideal.defs _ _).mono (fun _ h c => ⟨(h c).1.trans (AttnRef.res0_eq m' c), (h c).2.1.trans (AttnRef.res1_eq m' c), (h c).2.2⟩)
      (Cert.Reference4Ideal.Value.run (F := Ideal) m' ρ')

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_rows_in_range.Gen.facts, Cert.Pre_tables_agree.Gen.facts, Cert.Pre_finite.Gen.facts, Cert.Pre_finite_qk.Gen.facts, Cert.On_rows_of_tiles.Gen.facts,
  frame_kernel, frame_ideal, frame_reference_ideal, frame_reference, frame_kernel2, frame_ideal2, frame_reference_ideal2,
  frame_kernel3, frame_ideal3, frame_ideal3_finite, frame_reference_ideal3, frame_reference_ideal3_finite,
  frame_kernel4, frame_ideal4, frame_ideal4_finite, frame_reference_ideal4, frame_reference_ideal4_finite,
  trivial, algebraic, bitexact, trivial, algebraic2, trivial, algebraic3, IdealRules.named_const.statement Cert.Kernel4Ideal.κ "mask" .f32 0xF149F2CA#32 ⊥ rfl, algebraic4⟩

end Cert.Proof

end
